-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v6_0)) (v1 : (c : Dev Cert.Kernel17Ideal.nD) → Buf (Elt Ideal) ((c.tc : Thread Cert.Kernel17Ideal.nD Cert.Kernel17Ideal.τ).loc Cert.Kernel17Ideal.main_v6_1)) (v2 : (c : Dev Cert.Kernel17Ideal.nD) → Buf (Elt Ideal) ((c.tc : Thread Cert.Kernel17Ideal.nD Cert.Kernel17Ideal.τ).loc Cert.Kernel17Ideal.main_v6_2)) (v3 : (c : Dev Cert.Kernel17Ideal.nD) → Buf (Elt Ideal) ((c.tc : Thread Cert.Kernel17Ideal.nD Cert.Kernel17Ideal.τ).loc Cert.Kernel17Ideal.main_v6_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6_0) = v0 c
          ∧ r.2.mem ((c.tc : Thread Cert.Kernel17Ideal.nD Cert.Kernel17Ideal.τ).loc Cert.Kernel17Ideal.main_v6_1) = v1 c
          ∧ r.2.mem ((c.tc : Thread Cert.Kernel17Ideal.nD Cert.Kernel17Ideal.τ).loc Cert.Kernel17Ideal.main_v6_2) = v2 c
          ∧ r.2.mem ((c.tc : Thread Cert.Kernel17Ideal.nD Cert.Kernel17Ideal.τ).loc Cert.Kernel17Ideal.main_v6_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v28) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v32) = v2 c
          ∧ r.2.mem ((c.tc : Thread Cert.Reference17Ideal.nD Cert.Reference17Ideal.τ).loc Cert.Reference17Ideal.main_v34) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v19) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v14) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v35) = v0 c
          ∧ r.2.mem ((c.tc : Thread Cert.Reference27Ideal.nD Cert.Reference27Ideal.τ).loc Cert.Reference27Ideal.main_v38) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S2048x6144 : Shape := ⟨2, ![2048, 6144]⟩
abbrev S2048x14336 : Shape := ⟨2, ![2048, 14336]⟩
abbrev S2048x4096 : Shape := ⟨2, ![2048, 4096]⟩
abbrev S_ : Shape := ⟨0, ![]⟩
abbrev S2048x3072 : Shape := ⟨2, ![2048, 3072]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  slices_S2048x14336_S2048x3072_0_6144 : S2048x14336.Slices ![0, 6144] S2048x3072
  bcast_S_S2048x3072 : S_.BroadcastsInDim S2048x3072 (![] : Fin 0 → Fin S2048x3072.rank)
  reducesTo_S2048x3072_S_d0_1 : S2048x3072.ReducesTo [0, 1] S_
  slices_S2048x4096_S2048x3072_0_0 : S2048x4096.Slices ![0, 0] S2048x3072

variable [Facts]

def fn {F : FTy → Type} [FloatOps F] (main_arg0 : FVec F S2048x6144 .bf16) (main_arg1 : FVec F S2048x14336 .f32) (main_arg2 : FVec F S2048x4096 .f32) (main_arg3 : FVec F S2048x14336 .f32) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S2048x3072 .f32 := (extractStridedSlice S2048x3072 ![0, 6144] · slices_S2048x14336_S2048x3072_0_6144) main_arg1
  let main_v6 : FVec F S2048x3072 .f32 := Host.absf main_v5
  let main_cst_0 : FVec F S_ .f32 := constant S_ .f32 0x7F800000#32
  let main_v7 : FVec F S2048x3072 .f32 := broadcastInDim S2048x3072 ![] bcast_S_S2048x3072 main_cst_0
  let main_v8 : IVec S2048x3072 1 := cmpf .olt main_v6 main_v7
  let main_c_1 : IVec S_ 1 := constantI S_ 1 1#1
  let main_v9 : IVec S_ 1 := (fun x v => Host.reduce IntOp.andi x v reducesTo_S2048x3072_S_d0_1 h_S_) main_v8 main_c_1
  let main_v10 : IVec S_ 1 := andi main_v4 main_v9
  let main_v11 : FVec F S2048x3072 .f32 := (extractStridedSlice S2048x3072 ![0, 0] · slices_S2048x4096_S2048x3072_0_0) main_arg2
  let main_v12 : FVec F S2048x3072 .f32 := Host.absf main_v11
  let main_cst_2 : FVec F S_ .f32 := constant S_ .f32 0x7F800000#32
  let main_v13 : FVec F S2048x3072 .f32 := broadcastInDim S2048x3072 ![] bcast_S_S2048x3072 main_cst_2
  let main_v14 : IVec S2048x3072 1 := cmpf .olt main_v12 main_v13
  let main_c_3 : IVec S_ 1 := constantI S_ 1 1#1
  let main_v15 : IVec S_ 1 := (fun x v => Host.reduce IntOp.andi x v reducesTo_S2048x3072_S_d0_1 h_S_) main_v14 main_c_3
  let main_v16 : IVec S_ 1 := andi main_v10 main_v15
  main_v16
-- ==== Kernel.lean ====
abbrev S2048x6144 : Shape := ⟨2, ![2048, 6144]⟩
abbrev S2048x14336 : Shape := ⟨2, ![2048, 14336]⟩
abbrev S2048x4096 : Shape := ⟨2, ![2048, 4096]⟩
abbrev S2048x3072 : Shape := ⟨2, ![2048, 3072]⟩
abbrev S2048x24x128 : Shape := ⟨3, ![2048, 24, 128]⟩
abbrev S24x2048x2048 : Shape := ⟨3, ![24, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S24x2048 : Shape := ⟨2, ![24, 2048]⟩
abbrev S24x2048x1 : Shape := ⟨3, ![24, 2048, 1]⟩
abbrev S256x128 : Shape := ⟨2, ![256, 128]⟩
abbrev S2048x128 : Shape := ⟨2, ![2048, 128]⟩
abbrev S1x256x1 : Shape := ⟨3, ![1, 256, 1]⟩
abbrev S256x1 : Shape := ⟨2, ![256, 1]⟩
abbrev S256x256 : Shape := ⟨2, ![256, 256]⟩
abbrev S256 : Shape := ⟨1, ![256]⟩

abbrev nBuf : Space → Nat
  | .hbm => 51
  | .vmem => 16
  | .smem => 0
  | _ => 0

abbrev bufTy : (tb : Table) → Fin (tcTables nBuf tb) → BufTy
  | .hbm, ⟨0, _⟩ => ⟨S2048x6144, .bf16⟩
  | .hbm, ⟨1, _⟩ => ⟨S2048x14336, .f32⟩
  | .hbm, ⟨2, _⟩ => ⟨S2048x4096, .f32⟩
  | .hbm, ⟨3, _⟩ => ⟨S2048x14336, .f32⟩
  | .hbm, ⟨4, _⟩ => ⟨S2048x3072, .bf16⟩
  | .hbm, ⟨5, _⟩ => ⟨S2048x3072, .f32⟩
  | .hbm, ⟨6, _⟩ => ⟨S2048x24x128, .f32⟩
  | .hbm, ⟨7, _⟩ => ⟨S2048x3072, .bf16⟩
  | .hbm, ⟨8, _⟩ => ⟨S2048x3072, .f32⟩
  | .hbm, ⟨9, _⟩ => ⟨S2048x24x128, .f32⟩
  | .hbm, ⟨10, _⟩ => ⟨S24x2048x2048, .f32⟩
  | .hbm, ⟨11, _⟩ => ⟨S_, .f32⟩
  | .hbm, ⟨12, _⟩ => ⟨S24x2048x2048, .f32⟩
  | .hbm, ⟨13, _⟩ => ⟨S24x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S24x2048x2048, .f32⟩
  | .hbm, ⟨22, _⟩ => ⟨S24x2048x2048, .f32⟩
  | .hbm, ⟨23, _⟩ => ⟨S_, .f32⟩
  | .hbm, ⟨24, _⟩ => ⟨S24x2048x2048, .f32⟩
  | .hbm, ⟨25, _⟩ => ⟨S24x2048x2048, .f32⟩
  | .hbm, ⟨26, _⟩ => ⟨S24x2048x2048, .f32⟩
  | .hbm, ⟨27, _⟩ => ⟨S24x2048x2048, .f32⟩
  | .hbm, ⟨28, _⟩ => ⟨S24x2048x2048, .i1⟩
  | .hbm, ⟨29, _⟩ => ⟨S24x2048x2048, .f32⟩
  | .hbm, ⟨30, _⟩ => ⟨S24x2048x2048, .f32⟩
  | .hbm, ⟨31, _⟩ => ⟨S24x2048x2048, .f32⟩
  | .hbm, ⟨32, _⟩ => ⟨S24x2048x2048, .f32⟩
  | .hbm, ⟨33, _⟩ => ⟨S24x2048x2048, .f32⟩
  | .hbm, ⟨34, _⟩ => ⟨S24x2048x2048, .f32⟩
  | .hbm, ⟨35, _⟩ => ⟨S24x2048x2048, .f32⟩
  | .hbm, ⟨36, _⟩ => ⟨S24x2048x2048, .f32⟩
  | .hbm, ⟨37, _⟩ => ⟨S24x2048x2048, .f32⟩
  | .hbm, ⟨38, _⟩ => ⟨S_, .f32⟩
  | .hbm, ⟨39, _⟩ => ⟨S_, .f32⟩
  | .hbm, ⟨40, _⟩ => ⟨S24x2048x2048, .i1⟩
  | .hbm, ⟨41, _⟩ => ⟨S24x2048x2048, .f32⟩
  | .hbm, ⟨42, _⟩ => ⟨S24x2048x2048, .f32⟩
  | .hbm, ⟨43, _⟩ => ⟨S_, .f32⟩
  | .hbm, ⟨44, _⟩ => ⟨S24x2048, .f32⟩
  | .hbm, ⟨45, _⟩ => ⟨S24x2048x1, .f32⟩
  | .hbm, ⟨46, _⟩ => ⟨S2048x3072, .f32⟩
  | .hbm, ⟨47, _⟩ => ⟨S2048x3072, .bf16⟩
  | .hbm, ⟨48, _⟩ => ⟨S2048x3072, .f32⟩
  | .hbm, ⟨49, _⟩ => ⟨S2048x3072, .f32⟩
  | .hbm, ⟨50, _⟩ => ⟨S2048x14336, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S1x256x1, .f32⟩
  | .local _ .vmem, ⟨9, _⟩ => ⟨S1x256x1, .f32⟩
  | .local _ .vmem, ⟨10, _⟩ => ⟨S256x128, .f32⟩
  | .local _ .vmem, ⟨11, _⟩ => ⟨S256x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![24, 8], ![false, false]⟩

@[reducible] def k0_t1_loop (i : grid0.Coords) : Scf.Loop 32 :=
  let c0_i32_17 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_19 : BitVec 32 := 1#32
  ⟨c0_i32_17, v46, c1_i32_19⟩
def k0_mult1 (i : grid0.Coords) (k0_t1 : Fin (k0_t1_loop i).trips) : BitVec 32 :=
  let c0_i32_48 : BitVec 32 := 0#32
  let c0_i32_17 : BitVec 32 := 0#32
  let c1_i32_19 : BitVec 32 := 1#32
  let arg11 : BitVec 32 := Scf.iv c0_i32_17 c1_i32_19 k0_t1
  let c4_i32_47 : BitVec 32 := 4#32
  let v104 : BitVec 32 := Scalar.muli arg11 c4_i32_47
  let v105 : BitVec 32 := Scalar.addi c0_i32_48 v104
  let c0_i32_49 : BitVec 32 := 0#32
  let v106 : BitVec 32 := Scalar.addi v105 c0_i32_49
  let c256_i32 : BitVec 32 := 256#32
  let v110 : BitVec 32 := Scalar.muli v106 c256_i32
  v110
def k0_mult2 (i : grid0.Coords) (k0_t1 : Fin (k0_t1_loop i).trips) : BitVec 32 :=
  let c0_i32_48 : BitVec 32 := 0#32
  let c0_i32_17 : BitVec 32 := 0#32
  let c1_i32_19 : BitVec 32 := 1#32
  let arg11 : BitVec 32 := Scf.iv c0_i32_17 c1_i32_19 k0_t1
  let c4_i32_47 : BitVec 32 := 4#32
  let v104 : BitVec 32 := Scalar.muli arg11 c4_i32_47
  let v105 : BitVec 32 := Scalar.addi c0_i32_48 v104
  let c1_i32_50 : BitVec 32 := 1#32
  let v107 : BitVec 32 := Scalar.addi v105 c1_i32_50
  let c256_i32_52 : BitVec 32 := 256#32
  let v112 : BitVec 32 := Scalar.muli v107 c256_i32_52
  v112
def k0_mult3 (i : grid0.Coords) (k0_t1 : Fin (k0_t1_loop i).trips) : BitVec 32 :=
  let c0_i32_48 : BitVec 32 := 0#32
  let c0_i32_17 : BitVec 32 := 0#32
  let c1_i32_19 : BitVec 32 := 1#32
  let arg11 : BitVec 32 := Scf.iv c0_i32_17 c1_i32_19 k0_t1
  let c4_i32_47 : BitVec 32 := 4#32
  let v104 : BitVec 32 := Scalar.muli arg11 c4_i32_47
  let v105 : BitVec 32 := Scalar.addi c0_i32_48 v104
  let c2_i32_51 : BitVec 32 := 2#32
  let v108 : BitVec 32 := Scalar.addi v105 c2_i32_51
  let c256_i32_53 : BitVec 32 := 256#32
  let v114 : BitVec 32 := Scalar.muli v108 c256_i32_53
  v114
def k0_mult4 (i : grid0.Coords) (k0_t1 : Fin (k0_t1_loop i).trips) : BitVec 32 :=
  let c0_i32_48 : BitVec 32 := 0#32
  let c0_i32_17 : BitVec 32 := 0#32
  let c1_i32_19 : BitVec 32 := 1#32
  let arg11 : BitVec 32 := Scf.iv c0_i32_17 c1_i32_19 k0_t1
  let c4_i32_47 : BitVec 32 := 4#32
  let v104 : BitVec 32 := Scalar.muli arg11 c4_i32_47
  let v105 : BitVec 32 := Scalar.addi c0_i32_48 v104
  let c3_i32 : BitVec 32 := 3#32
  let v109 : BitVec 32 := Scalar.addi v105 c3_i32
  let c256_i32_54 : BitVec 32 := 256#32
  let v116 : BitVec 32 := Scalar.muli v109 c256_i32_54
  v116
def k0_off1 (i : grid0.Coords) (k0_t1 : Fin (k0_t1_loop i).trips) (c0_i32_49 : BitVec 32) : Fin 2 → Nat :=
  let c0_i32_48 : BitVec 32 := 0#32
  let c0_i32_17 : BitVec 32 := 0#32
  let c1_i32_19 : BitVec 32 := 1#32
  let arg11 : BitVec 32 := Scf.iv c0_i32_17 c1_i32_19 k0_t1
  let c4_i32_47 : BitVec 32 := 4#32
  let v104 : BitVec 32 := Scalar.muli arg11 c4_i32_47
  let v105 : BitVec 32 := Scalar.addi c0_i32_48 v104
  let v106 : BitVec 32 := Scalar.addi v105 c0_i32_49
  let c256_i32 : BitVec 32 := 256#32
  let v110 : BitVec 32 := Scalar.muli v106 c256_i32
  let v111 : BitVec 32 := v110
  let v118 : Index := Scalar.indexCast v111
  let c0_55 : Index := 0#32
  ![v118.toNat, 0]
@[reducible] def k0_t2_loop (i : grid0.Coords) : Scf.Loop 32 :=
  let c0_i32_17 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let v43 : BitVec 32 := Scalar.addi c0_i32_17 v42
  let c1_i32_20 : BitVec 32 := 1#32
  ⟨v46, v43, c1_i32_20⟩
def k0_mult5 (i : grid0.Coords) (k0_t2 : Fin (k0_t2_loop i).trips) : BitVec 32 :=
  let c0_i32_48 : BitVec 32 := 0#32
  let c0_i32_17 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c4_i32_47 : BitVec 32 := 4#32
  let v104 : BitVec 32 := Scalar.muli arg11 c4_i32_47
  let v105 : BitVec 32 := Scalar.addi c0_i32_48 v104
  let c0_i32_49 : BitVec 32 := 0#32
  let v106 : BitVec 32 := Scalar.addi v105 c0_i32_49
  let c256_i32 : BitVec 32 := 256#32
  let v110 : BitVec 32 := Scalar.muli v106 c256_i32
  v110
def k0_mult6 (i : grid0.Coords) (k0_t2 : Fin (k0_t2_loop i).trips) : BitVec 32 :=
  let c0_i32_48 : BitVec 32 := 0#32
  let c0_i32_17 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c4_i32_47 : BitVec 32 := 4#32
  let v104 : BitVec 32 := Scalar.muli arg11 c4_i32_47
  let v105 : BitVec 32 := Scalar.addi c0_i32_48 v104
  let c1_i32_50 : BitVec 32 := 1#32
  let v107 : BitVec 32 := Scalar.addi v105 c1_i32_50
  let c256_i32_52 : BitVec 32 := 256#32
  let v112 : BitVec 32 := Scalar.muli v107 c256_i32_52
  v112
def k0_mult7 (i : grid0.Coords) (k0_t2 : Fin (k0_t2_loop i).trips) : BitVec 32 :=
  let c0_i32_48 : BitVec 32 := 0#32
  let c0_i32_17 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c4_i32_47 : BitVec 32 := 4#32
  let v104 : BitVec 32 := Scalar.muli arg11 c4_i32_47
  let v105 : BitVec 32 := Scalar.addi c0_i32_48 v104
  let c2_i32_51 : BitVec 32 := 2#32
  let v108 : BitVec 32 := Scalar.addi v105 c2_i32_51
  let c256_i32_53 : BitVec 32 := 256#32
  let v114 : BitVec 32 := Scalar.muli v108 c256_i32_53
  v114
def k0_mult8 (i : grid0.Coords) (k0_t2 : Fin (k0_t2_loop i).trips) : BitVec 32 :=
  let c0_i32_48 : BitVec 32 := 0#32
  let c0_i32_17 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c4_i32_47 : BitVec 32 := 4#32
  let v104 : BitVec 32 := Scalar.muli arg11 c4_i32_47
  let v105 : BitVec 32 := Scalar.addi c0_i32_48 v104
  let c3_i32 : BitVec 32 := 3#32
  let v109 : BitVec 32 := Scalar.addi v105 c3_i32
  let c256_i32_54 : BitVec 32 := 256#32
  let v116 : BitVec 32 := Scalar.muli v109 c256_i32_54
  v116
def k0_off2 (i : grid0.Coords) (k0_t2 : Fin (k0_t2_loop i).trips) (c0_i32_49 : BitVec 32) : Fin 2 → Nat :=
  let c0_i32_48 : BitVec 32 := 0#32
  let c0_i32_17 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg11 : BitVec 32 := Scf.iv v46 c1_i32_20 k0_t2
  let c4_i32_47 : BitVec 32 := 4#32
  let v104 : BitVec 32 := Scalar.muli arg11 c4_i32_47
  let v105 : BitVec 32 := Scalar.addi c0_i32_48 v104
  let v106 : BitVec 32 := Scalar.addi v105 c0_i32_49
  let c256_i32 : BitVec 32 := 256#32
  let v110 : BitVec 32 := Scalar.muli v106 c256_i32
  let v111 : BitVec 32 := v110
  let v118 : Index := Scalar.indexCast v111
  let c0_55 : Index := 0#32
  ![v118.toNat, 0]
@[reducible] def k0_t3_loop (i : grid0.Coords) : Scf.Loop 32 :=
  let c0_i32_29 : BitVec 32 := 0#32
  let arg1 : BitVec 32 := BitVec.ofNat 32 (i 1).val
  let c1_i32 : BitVec 32 := 1#32
  let v22 : BitVec 32 := Scalar.addi arg1 c1_i32
  let c0_i32_22 : BitVec 32 := 0#32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_31 : BitVec 32 := 1#32
  ⟨c0_i32_29, v73, c1_i32_31⟩
def k0_mult9 (i : grid0.Coords) (k0_t3 : Fin (k0_t3_loop i).trips) : BitVec 32 :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let c0_i32_29 : BitVec 32 := 0#32
  let c1_i32_31 : BitVec 32 := 1#32
  let arg11 : BitVec 32 := Scf.iv c0_i32_29 c1_i32_31 k0_t3
  let c2_i32_47 : BitVec 32 := 2#32
  let v104 : BitVec 32 := Scalar.muli arg11 c2_i32_47
  let v105 : BitVec 32 := Scalar.addi v50 v104
  let c0_i32_48 : BitVec 32 := 0#32
  let v106 : BitVec 32 := Scalar.addi v105 c0_i32_48
  let c256_i32 : BitVec 32 := 256#32
  let v108 : BitVec 32 := Scalar.muli v106 c256_i32
  v108
def k0_mult10 (i : grid0.Coords) (k0_t3 : Fin (k0_t3_loop i).trips) : BitVec 32 :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let c0_i32_29 : BitVec 32 := 0#32
  let c1_i32_31 : BitVec 32 := 1#32
  let arg11 : BitVec 32 := Scf.iv c0_i32_29 c1_i32_31 k0_t3
  let c2_i32_47 : BitVec 32 := 2#32
  let v104 : BitVec 32 := Scalar.muli arg11 c2_i32_47
  let v105 : BitVec 32 := Scalar.addi v50 v104
  let c1_i32_49 : BitVec 32 := 1#32
  let v107 : BitVec 32 := Scalar.addi v105 c1_i32_49
  let c256_i32_50 : BitVec 32 := 256#32
  let v110 : BitVec 32 := Scalar.muli v107 c256_i32_50
  v110
def k0_off3 (i : grid0.Coords) (k0_t3 : Fin (k0_t3_loop i).trips) (c0_i32_48 : BitVec 32) : Fin 2 → Nat :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let c0_i32_29 : BitVec 32 := 0#32
  let c1_i32_31 : BitVec 32 := 1#32
  let arg11 : BitVec 32 := Scf.iv c0_i32_29 c1_i32_31 k0_t3
  let c2_i32_47 : BitVec 32 := 2#32
  let v104 : BitVec 32 := Scalar.muli arg11 c2_i32_47
  let v105 : BitVec 32 := Scalar.addi v50 v104
  let v106 : BitVec 32 := Scalar.addi v105 c0_i32_48
  let c256_i32 : BitVec 32 := 256#32
  let v108 : BitVec 32 := Scalar.muli v106 c256_i32
  let v109 : BitVec 32 := v108
  let v112 : Index := Scalar.indexCast v109
  let c0_51 : Index := 0#32
  ![v112.toNat, 0]
@[reducible] def k0_t4_loop (i : grid0.Coords) : Scf.Loop 32 :=
  let c0_i32_29 : BitVec 32 := 0#32
  let arg1 : BitVec 32 := BitVec.ofNat 32 (i 1).val
  let c1_i32 : BitVec 32 := 1#32
  let v22 : BitVec 32 := Scalar.addi arg1 c1_i32
  let c0_i32_22 : BitVec 32 := 0#32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let v70 : BitVec 32 := Scalar.addi c0_i32_29 v69
  let c1_i32_32 : BitVec 32 := 1#32
  ⟨v73, v70, c1_i32_32⟩
def k0_mult11 (i : grid0.Coords) (k0_t4 : Fin (k0_t4_loop i).trips) : BitVec 32 :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let c0_i32_29 : BitVec 32 := 0#32
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t4
  let c2_i32_47 : BitVec 32 := 2#32
  let v104 : BitVec 32 := Scalar.muli arg11 c2_i32_47
  let v105 : BitVec 32 := Scalar.addi v50 v104
  let c0_i32_48 : BitVec 32 := 0#32
  let v106 : BitVec 32 := Scalar.addi v105 c0_i32_48
  let c256_i32 : BitVec 32 := 256#32
  let v108 : BitVec 32 := Scalar.muli v106 c256_i32
  v108
def k0_mult12 (i : grid0.Coords) (k0_t4 : Fin (k0_t4_loop i).trips) : BitVec 32 :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let c0_i32_29 : BitVec 32 := 0#32
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t4
  let c2_i32_47 : BitVec 32 := 2#32
  let v104 : BitVec 32 := Scalar.muli arg11 c2_i32_47
  let v105 : BitVec 32 := Scalar.addi v50 v104
  let c1_i32_49 : BitVec 32 := 1#32
  let v107 : BitVec 32 := Scalar.addi v105 c1_i32_49
  let c256_i32_50 : BitVec 32 := 256#32
  let v110 : BitVec 32 := Scalar.muli v107 c256_i32_50
  v110
def k0_off4 (i : grid0.Coords) (k0_t4 : Fin (k0_t4_loop i).trips) (c0_i32_48 : BitVec 32) : Fin 2 → Nat :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let c0_i32_29 : BitVec 32 := 0#32
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t4
  let c2_i32_47 : BitVec 32 := 2#32
  let v104 : BitVec 32 := Scalar.muli arg11 c2_i32_47
  let v105 : BitVec 32 := Scalar.addi v50 v104
  let v106 : BitVec 32 := Scalar.addi v105 c0_i32_48
  let c256_i32 : BitVec 32 := 256#32
  let v108 : BitVec 32 := Scalar.muli v106 c256_i32
  let v109 : BitVec 32 := v108
  let v112 : Index := Scalar.indexCast v109
  let c0_51 : Index := 0#32
  ![v112.toNat, 0]
@[reducible] def k0_t5_loop (i : grid0.Coords) : Scf.Loop 32 :=
  let c0_i32_41 : BitVec 32 := 0#32
  let arg1 : BitVec 32 := BitVec.ofNat 32 (i 1).val
  let c1_i32 : BitVec 32 := 1#32
  let v22 : BitVec 32 := Scalar.addi arg1 c1_i32
  let c0_i32_22 : BitVec 32 := 0#32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let c2_i32_33 : BitVec 32 := 2#32
  let v76 : BitVec 32 := Scalar.muli v68 c2_i32_33
  let v77 : BitVec 32 := Scalar.addi v50 v76
  let v78 : BitVec 32 := Scalar.subi v22 v77
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c1_i32_34 : BitVec 32 := 1#32
  let c0_i32_37 : BitVec 32 := 0#32
  let v85 : BitVec 1 := Scalar.cmpi .sgt c1_i32_34 c0_i32_37
  let v86 : BitVec 32 := Scalar.extui v85
  let c0_i32_38 : BitVec 32 := 0#32
  let v87 : BitVec 1 := Scalar.cmpi .slt c1_i32_34 c0_i32_38
  let v88 : BitVec 32 := Scalar.extui v87
  let v89 : BitVec 32 := Scalar.subi v86 v88
  let v90 : BitVec 1 := Scalar.cmpi .ne v84 v89
  let v91 : BitVec 32 := Scalar.remsi v78 c1_i32_34
  let c0_i32_39 : BitVec 32 := 0#32
  let v92 : BitVec 1 := Scalar.cmpi .ne v91 c0_i32_39
  let v93 : BitVec 1 := Scalar.andi v90 v92
  let v79 : BitVec 32 := Scalar.divsi v78 c1_i32_34
  let c1_i32_40 : BitVec 32 := 1#32
  let v94 : BitVec 32 := Scalar.subi v79 c1_i32_40
  let v95 : BitVec 32 := Scalar.select v93 v94 v79
  let v96 : BitVec 32 := Scalar.subi v95 c0_i32_41
  let c1_i32_42 : BitVec 32 := 1#32
  let v98 : BitVec 32 := Scalar.divsi v96 c1_i32_42
  let v99 : BitVec 32 := Scalar.muli v98 c1_i32_42
  let v100 : BitVec 32 := Scalar.addi c0_i32_41 v99
  let c1_i32_43 : BitVec 32 := 1#32
  ⟨c0_i32_41, v100, c1_i32_43⟩
def k0_mult13 (i : grid0.Coords) (k0_t5 : Fin (k0_t5_loop i).trips) : BitVec 32 :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let c2_i32_33 : BitVec 32 := 2#32
  let v76 : BitVec 32 := Scalar.muli v68 c2_i32_33
  let v77 : BitVec 32 := Scalar.addi v50 v76
  let c0_i32_41 : BitVec 32 := 0#32
  let c1_i32_43 : BitVec 32 := 1#32
  let arg11 : BitVec 32 := Scf.iv c0_i32_41 c1_i32_43 k0_t5
  let c1_i32_47 : BitVec 32 := 1#32
  let v104 : BitVec 32 := Scalar.muli arg11 c1_i32_47
  let v105 : BitVec 32 := Scalar.addi v77 v104
  let c0_i32_48 : BitVec 32 := 0#32
  let v106 : BitVec 32 := Scalar.addi v105 c0_i32_48
  let c256_i32 : BitVec 32 := 256#32
  let v107 : BitVec 32 := Scalar.muli v106 c256_i32
  v107
def k0_off5 (i : grid0.Coords) (k0_t5 : Fin (k0_t5_loop i).trips) : Fin 2 → Nat :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let c2_i32_33 : BitVec 32 := 2#32
  let v76 : BitVec 32 := Scalar.muli v68 c2_i32_33
  let v77 : BitVec 32 := Scalar.addi v50 v76
  let c0_i32_41 : BitVec 32 := 0#32
  let c1_i32_43 : BitVec 32 := 1#32
  let arg11 : BitVec 32 := Scf.iv c0_i32_41 c1_i32_43 k0_t5
  let c1_i32_47 : BitVec 32 := 1#32
  let v104 : BitVec 32 := Scalar.muli arg11 c1_i32_47
  let v105 : BitVec 32 := Scalar.addi v77 v104
  let c0_i32_48 : BitVec 32 := 0#32
  let v106 : BitVec 32 := Scalar.addi v105 c0_i32_48
  let c256_i32 : BitVec 32 := 256#32
  let v107 : BitVec 32 := Scalar.muli v106 c256_i32
  let v108 : BitVec 32 := v107
  let v109 : Index := Scalar.indexCast v108
  let c0_49 : Index := 0#32
  ![v109.toNat, 0]
@[reducible] def k0_t6_loop (i : grid0.Coords) : Scf.Loop 32 :=
  let c0_i32_41 : BitVec 32 := 0#32
  let arg1 : BitVec 32 := BitVec.ofNat 32 (i 1).val
  let c1_i32 : BitVec 32 := 1#32
  let v22 : BitVec 32 := Scalar.addi arg1 c1_i32
  let c0_i32_22 : BitVec 32 := 0#32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let c2_i32_33 : BitVec 32 := 2#32
  let v76 : BitVec 32 := Scalar.muli v68 c2_i32_33
  let v77 : BitVec 32 := Scalar.addi v50 v76
  let v78 : BitVec 32 := Scalar.subi v22 v77
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c1_i32_34 : BitVec 32 := 1#32
  let c0_i32_37 : BitVec 32 := 0#32
  let v85 : BitVec 1 := Scalar.cmpi .sgt c1_i32_34 c0_i32_37
  let v86 : BitVec 32 := Scalar.extui v85
  let c0_i32_38 : BitVec 32 := 0#32
  let v87 : BitVec 1 := Scalar.cmpi .slt c1_i32_34 c0_i32_38
  let v88 : BitVec 32 := Scalar.extui v87
  let v89 : BitVec 32 := Scalar.subi v86 v88
  let v90 : BitVec 1 := Scalar.cmpi .ne v84 v89
  let v91 : BitVec 32 := Scalar.remsi v78 c1_i32_34
  let c0_i32_39 : BitVec 32 := 0#32
  let v92 : BitVec 1 := Scalar.cmpi .ne v91 c0_i32_39
  let v93 : BitVec 1 := Scalar.andi v90 v92
  let v79 : BitVec 32 := Scalar.divsi v78 c1_i32_34
  let c1_i32_40 : BitVec 32 := 1#32
  let v94 : BitVec 32 := Scalar.subi v79 c1_i32_40
  let v95 : BitVec 32 := Scalar.select v93 v94 v79
  let v96 : BitVec 32 := Scalar.subi v95 c0_i32_41
  let c1_i32_42 : BitVec 32 := 1#32
  let v98 : BitVec 32 := Scalar.divsi v96 c1_i32_42
  let v99 : BitVec 32 := Scalar.muli v98 c1_i32_42
  let v100 : BitVec 32 := Scalar.addi c0_i32_41 v99
  let v97 : BitVec 32 := Scalar.addi c0_i32_41 v96
  let c1_i32_44 : BitVec 32 := 1#32
  ⟨v100, v97, c1_i32_44⟩
def k0_mult14 (i : grid0.Coords) (k0_t6 : Fin (k0_t6_loop i).trips) : BitVec 32 :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let c2_i32_33 : BitVec 32 := 2#32
  let v76 : BitVec 32 := Scalar.muli v68 c2_i32_33
  let v77 : BitVec 32 := Scalar.addi v50 v76
  let c0_i32_41 : BitVec 32 := 0#32
  let v78 : BitVec 32 := Scalar.subi v22 v77
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c1_i32_34 : BitVec 32 := 1#32
  let c0_i32_37 : BitVec 32 := 0#32
  let v85 : BitVec 1 := Scalar.cmpi .sgt c1_i32_34 c0_i32_37
  let v86 : BitVec 32 := Scalar.extui v85
  let c0_i32_38 : BitVec 32 := 0#32
  let v87 : BitVec 1 := Scalar.cmpi .slt c1_i32_34 c0_i32_38
  let v88 : BitVec 32 := Scalar.extui v87
  let v89 : BitVec 32 := Scalar.subi v86 v88
  let v90 : BitVec 1 := Scalar.cmpi .ne v84 v89
  let v91 : BitVec 32 := Scalar.remsi v78 c1_i32_34
  let c0_i32_39 : BitVec 32 := 0#32
  let v92 : BitVec 1 := Scalar.cmpi .ne v91 c0_i32_39
  let v93 : BitVec 1 := Scalar.andi v90 v92
  let v79 : BitVec 32 := Scalar.divsi v78 c1_i32_34
  let c1_i32_40 : BitVec 32 := 1#32
  let v94 : BitVec 32 := Scalar.subi v79 c1_i32_40
  let v95 : BitVec 32 := Scalar.select v93 v94 v79
  let v96 : BitVec 32 := Scalar.subi v95 c0_i32_41
  let c1_i32_42 : BitVec 32 := 1#32
  let v98 : BitVec 32 := Scalar.divsi v96 c1_i32_42
  let v99 : BitVec 32 := Scalar.muli v98 c1_i32_42
  let v100 : BitVec 32 := Scalar.addi c0_i32_41 v99
  let c1_i32_44 : BitVec 32 := 1#32
  let arg11 : BitVec 32 := Scf.iv v100 c1_i32_44 k0_t6
  let c1_i32_47 : BitVec 32 := 1#32
  let v104 : BitVec 32 := Scalar.muli arg11 c1_i32_47
  let v105 : BitVec 32 := Scalar.addi v77 v104
  let c0_i32_48 : BitVec 32 := 0#32
  let v106 : BitVec 32 := Scalar.addi v105 c0_i32_48
  let c256_i32 : BitVec 32 := 256#32
  let v107 : BitVec 32 := Scalar.muli v106 c256_i32
  v107
def k0_off6 (i : grid0.Coords) (k0_t6 : Fin (k0_t6_loop i).trips) : Fin 2 → Nat :=
  let c0_i32_22 : BitVec 32 := 0#32
  let arg1 : BitVec 32 := BitVec.ofNat 32 (i 1).val
  let c1_i32 : BitVec 32 := 1#32
  let v22 : BitVec 32 := Scalar.addi arg1 c1_i32
  let c0_i32_10 : BitVec 32 := 0#32
  let v24 : BitVec 32 := Scalar.subi v22 c0_i32_10
  let c0_i32_11 : BitVec 32 := 0#32
  let v26 : BitVec 1 := Scalar.cmpi .sgt v24 c0_i32_11
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c4_i32 : BitVec 32 := 4#32
  let c0_i32_13 : BitVec 32 := 0#32
  let v31 : BitVec 1 := Scalar.cmpi .sgt c4_i32 c0_i32_13
  let v32 : BitVec 32 := Scalar.extui v31
  let c0_i32_14 : BitVec 32 := 0#32
  let v33 : BitVec 1 := Scalar.cmpi .slt c4_i32 c0_i32_14
  let v34 : BitVec 32 := Scalar.extui v33
  let v35 : BitVec 32 := Scalar.subi v32 v34
  let v36 : BitVec 1 := Scalar.cmpi .ne v30 v35
  let v37 : BitVec 32 := Scalar.remsi v24 c4_i32
  let c0_i32_15 : BitVec 32 := 0#32
  let v38 : BitVec 1 := Scalar.cmpi .ne v37 c0_i32_15
  let v39 : BitVec 1 := Scalar.andi v36 v38
  let v25 : BitVec 32 := Scalar.divsi v24 c4_i32
  let c1_i32_16 : BitVec 32 := 1#32
  let v40 : BitVec 32 := Scalar.subi v25 c1_i32_16
  let v41 : BitVec 32 := Scalar.select v39 v40 v25
  let c4_i32_21 : BitVec 32 := 4#32
  let v49 : BitVec 32 := Scalar.muli v41 c4_i32_21
  let v50 : BitVec 32 := Scalar.addi c0_i32_22 v49
  let v51 : BitVec 32 := Scalar.subi v22 v50
  let c0_i32_23 : BitVec 32 := 0#32
  let v53 : BitVec 1 := Scalar.cmpi .sgt v51 c0_i32_23
  let v54 : BitVec 32 := Scalar.extui v53
  let c0_i32_24 : BitVec 32 := 0#32
  let v55 : BitVec 1 := Scalar.cmpi .slt v51 c0_i32_24
  let v56 : BitVec 32 := Scalar.extui v55
  let v57 : BitVec 32 := Scalar.subi v54 v56
  let c2_i32 : BitVec 32 := 2#32
  let c0_i32_25 : BitVec 32 := 0#32
  let v58 : BitVec 1 := Scalar.cmpi .sgt c2_i32 c0_i32_25
  let v59 : BitVec 32 := Scalar.extui v58
  let c0_i32_26 : BitVec 32 := 0#32
  let v60 : BitVec 1 := Scalar.cmpi .slt c2_i32 c0_i32_26
  let v61 : BitVec 32 := Scalar.extui v60
  let v62 : BitVec 32 := Scalar.subi v59 v61
  let v63 : BitVec 1 := Scalar.cmpi .ne v57 v62
  let v64 : BitVec 32 := Scalar.remsi v51 c2_i32
  let c0_i32_27 : BitVec 32 := 0#32
  let v65 : BitVec 1 := Scalar.cmpi .ne v64 c0_i32_27
  let v66 : BitVec 1 := Scalar.andi v63 v65
  let v52 : BitVec 32 := Scalar.divsi v51 c2_i32
  let c1_i32_28 : BitVec 32 := 1#32
  let v67 : BitVec 32 := Scalar.subi v52 c1_i32_28
  let v68 : BitVec 32 := Scalar.select v66 v67 v52
  let c2_i32_33 : BitVec 32 := 2#32
  let v76 : BitVec 32 := Scalar.muli v68 c2_i32_33
  let v77 : BitVec 32 := Scalar.addi v50 v76
  let c0_i32_41 : BitVec 32 := 0#32
  let v78 : BitVec 32 := Scalar.subi v22 v77
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c1_i32_34 : BitVec 32 := 1#32
  let c0_i32_37 : BitVec 32 := 0#32
  let v85 : BitVec 1 := Scalar.cmpi .sgt c1_i32_34 c0_i32_37
  let v86 : BitVec 32 := Scalar.extui v85
  let c0_i32_38 : BitVec 32 := 0#32
  let v87 : BitVec 1 := Scalar.cmpi .slt c1_i32_34 c0_i32_38
  let v88 : BitVec 32 := Scalar.extui v87
  let v89 : BitVec 32 := Scalar.subi v86 v88
  let v90 : BitVec 1 := Scalar.cmpi .ne v84 v89
  let v91 : BitVec 32 := Scalar.remsi v78 c1_i32_34
  let c0_i32_39 : BitVec 32 := 0#32
  let v92 : BitVec 1 := Scalar.cmpi .ne v91 c0_i32_39
  let v93 : BitVec 1 := Scalar.andi v90 v92
  let v79 : BitVec 32 := Scalar.divsi v78 c1_i32_34
  let c1_i32_40 : BitVec 32 := 1#32
  let v94 : BitVec 32 := Scalar.subi v79 c1_i32_40
  let v95 : BitVec 32 := Scalar.select v93 v94 v79
  let v96 : BitVec 32 := Scalar.subi v95 c0_i32_41
  let c1_i32_42 : BitVec 32 := 1#32
  let v98 : BitVec 32 := Scalar.divsi v96 c1_i32_42
  let v99 : BitVec 32 := Scalar.muli v98 c1_i32_42
  let v100 : BitVec 32 := Scalar.addi c0_i32_41 v99
  let c1_i32_44 : BitVec 32 := 1#32
  let arg11 : BitVec 32 := Scf.iv v100 c1_i32_44 k0_t6
  let c1_i32_47 : BitVec 32 := 1#32
  let v104 : BitVec 32 := Scalar.muli arg11 c1_i32_47
  let v105 : BitVec 32 := Scalar.addi v77 v104
  let c0_i32_48 : BitVec 32 := 0#32
  let v106 : BitVec 32 := Scalar.addi v105 c0_i32_48
  let c256_i32 : BitVec 32 := 256#32
  let v107 : BitVec 32 := Scalar.muli v106 c256_i32
  let v108 : BitVec 32 := v107
  let v109 : Index := Scalar.indexCast v108
  let c0_49 : Index := 0#32
  ![v109.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x6144 : Shape := ⟨2, ![2048, 6144]⟩
abbrev S2048x14336 : Shape := ⟨2, ![2048, 14336]⟩
abbrev S2048x4096 : Shape := ⟨2, ![2048, 4096]⟩
abbrev S2048x3072 : Shape := ⟨2, ![2048, 3072]⟩
abbrev S2048x24x128 : Shape := ⟨3, ![2048, 24, 128]⟩
abbrev S24x2048x128 : Shape := ⟨3, ![24, 2048, 128]⟩
abbrev S24x2048x2048 : Shape := ⟨3, ![24, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S24x128x2048 : Shape := ⟨3, ![24, 128, 2048]⟩
abbrev S2048x5120 : Shape := ⟨2, ![2048, 5120]⟩

abbrev nBuf : Space → Nat
  | .hbm => 186
  | .vmem => 0
  | .smem => 0
  | _ => 0

abbrev hbmTy0_0 (i : Nat) : BufTy := match i % 128 with
  | 0 => ⟨S2048x6144, .bf16⟩
  | 1 => ⟨S2048x14336, .f32⟩
  | 2 => ⟨S2048x4096, .f32⟩
  | 3 => ⟨S2048x14336, .f32⟩
  | 4 => ⟨S2048x3072, .bf16⟩
  | 5 => ⟨S2048x3072, .f32⟩
  | 6 => ⟨S2048x3072, .bf16⟩
  | 7 => ⟨S2048x3072, .f32⟩
  | 8 => ⟨S2048x3072, .f32⟩
  | 9 => ⟨S2048x24x128, .f32⟩
  | 10 => ⟨S24x2048x128, .f32⟩
  | 11 => ⟨S2048x24x128, .f32⟩
  | 12 => ⟨S24x2048x128, .f32⟩
  | 13 => ⟨S2048x24x128, .f32⟩
  | 14 => ⟨S24x2048x128, .f32⟩
  | 15 => ⟨S24x2048x2048, .f32⟩
  | 16 => ⟨S_, .f32⟩
  | 17 => ⟨S24x2048x2048, .f32⟩
  | 18 => ⟨S24x2048x2048, .f32⟩
  | 19 => ⟨S2048, .i32⟩
  | 20 => ⟨S1x2048, .i32⟩
  | 21 => ⟨S2048, .i32⟩
  | 22 => ⟨S2048x1, .i32⟩
  | 23 => ⟨S2048x2048, .i32⟩
  | 24 => ⟨S2048x2048, .i32⟩
  | 25 => ⟨S2048x2048, .i1⟩
  | 26 => ⟨S24x2048x2048, .f32⟩
  | 27 => ⟨S24x2048x2048, .f32⟩
  | 28 => ⟨S_, .f32⟩
  | 29 => ⟨S24x2048x2048, .f32⟩
  | 30 => ⟨S24x2048x2048, .f32⟩
  | 31 => ⟨S24x2048x2048, .f32⟩
  | 32 => ⟨S24x2048x2048, .f32⟩
  | 33 => ⟨S24x2048x2048, .i1⟩
  | 34 => ⟨S24x2048x2048, .f32⟩
  | 35 => ⟨S24x2048x2048, .f32⟩
  | 36 => ⟨S24x2048x2048, .f32⟩
  | 37 => ⟨S24x2048x2048, .f32⟩
  | 38 => ⟨S24x2048x2048, .f32⟩
  | 39 => ⟨S24x2048x2048, .f32⟩
  | 40 => ⟨S24x2048x2048, .f32⟩
  | 41 => ⟨S24x2048x2048, .f32⟩
  | 42 => ⟨S_, .f32⟩
  | 43 => ⟨S24x2048x2048, .f32⟩
  | 44 => ⟨S24x2048x2048, .i1⟩
  | 45 => ⟨S_, .f32⟩
  | 46 => ⟨S24x2048x2048, .f32⟩
  | 47 => ⟨S24x2048x2048, .f32⟩
  | 48 => ⟨S_, .f32⟩
  | 49 => ⟨S24x2048x2048, .f32⟩
  | 50 => ⟨S24x2048x2048, .i1⟩
  | 51 => ⟨S_, .f32⟩
  | 52 => ⟨S24x2048x2048, .f32⟩
  | 53 => ⟨S24x2048x2048, .f32⟩
  | 54 => ⟨S24x2048x2048, .f32⟩
  | 55 => ⟨S24x2048x2048, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S24x2048x2048, .f32⟩
  | 64 => ⟨S24x2048x2048, .i1⟩
  | 65 => ⟨S_, .f32⟩
  | 66 => ⟨S24x2048x2048, .f32⟩
  | 67 => ⟨S24x2048x2048, .f32⟩
  | 68 => ⟨S24x2048x2048, .f32⟩
  | 69 => ⟨S24x2048x2048, .f32⟩
  | 70 => ⟨S24x2048x2048, .f32⟩
  | 71 => ⟨S_, .f32⟩
  | 72 => ⟨S24x2048x2048, .f32⟩
  | 73 => ⟨S24x2048x2048, .f32⟩
  | 74 => ⟨S24x2048x2048, .f32⟩
  | 75 => ⟨S_, .f32⟩
  | 76 => ⟨S_, .f32⟩
  | 77 => ⟨S24x2048x2048, .i1⟩
  | 78 => ⟨S24x2048x2048, .f32⟩
  | 79 => ⟨S24x2048x2048, .f32⟩
  | 80 => ⟨S_, .f32⟩
  | 81 => ⟨S24x2048x2048, .f32⟩
  | 82 => ⟨S_, .f32⟩
  | 83 => ⟨S_, .f32⟩
  | 84 => ⟨S24x2048x2048, .f32⟩
  | 85 => ⟨S24x2048x2048, .f32⟩
  | 86 => ⟨S24x2048x2048, .f32⟩
  | 87 => ⟨S_, .f32⟩
  | 88 => ⟨S24x2048x2048, .f32⟩
  | 89 => ⟨S24x2048x2048, .f32⟩
  | 90 => ⟨S24x2048x2048, .f32⟩
  | 91 => ⟨S24x2048x2048, .f32⟩
  | 92 => ⟨S24x2048x2048, .i1⟩
  | 93 => ⟨S24x2048x2048, .f32⟩
  | 94 => ⟨S24x2048x2048, .f32⟩
  | 95 => ⟨S24x2048x2048, .f32⟩
  | 96 => ⟨S24x2048x2048, .f32⟩
  | 97 => ⟨S24x2048x2048, .f32⟩
  | 98 => ⟨S24x2048x2048, .f32⟩
  | 99 => ⟨S24x2048x2048, .f32⟩
  | 100 => ⟨S24x2048x2048, .f32⟩
  | 101 => ⟨S_, .f32⟩
  | 102 => ⟨S24x2048x2048, .f32⟩
  | 103 => ⟨S24x2048x2048, .i1⟩
  | 104 => ⟨S_, .f32⟩
  | 105 => ⟨S24x2048x2048, .f32⟩
  | 106 => ⟨S24x2048x2048, .f32⟩
  | 107 => ⟨S_, .f32⟩
  | 108 => ⟨S24x2048x2048, .f32⟩
  | 109 => ⟨S24x2048x2048, .i1⟩
  | 110 => ⟨S_, .f32⟩
  | 111 => ⟨S24x2048x2048, .f32⟩
  | 112 => ⟨S24x2048x2048, .f32⟩
  | 113 => ⟨S24x2048x2048, .f32⟩
  | 114 => ⟨S24x2048x2048, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S24x2048x2048, .f32⟩
  | 123 => ⟨S24x2048x2048, .i1⟩
  | 124 => ⟨S_, .f32⟩
  | 125 => ⟨S24x2048x2048, .f32⟩
  | 126 => ⟨S24x2048x2048, .f32⟩
  | 127 => ⟨S24x2048x2048, .f32⟩
  | _ => ⟨S2048x6144, .bf16⟩

abbrev hbmTy0_1 (i : Nat) : BufTy := match i % 128 with
  | 0 => ⟨S24x2048x2048, .f32⟩
  | 1 => ⟨S24x2048x2048, .f32⟩
  | 2 => ⟨S_, .f32⟩
  | 3 => ⟨S24x2048x2048, .f32⟩
  | 4 => ⟨S24x2048x2048, .f32⟩
  | 5 => ⟨S24x2048x2048, .f32⟩
  | 6 => ⟨S24x2048x2048, .f32⟩
  | 7 => ⟨S24x2048x2048, .f32⟩
  | 8 => ⟨S_, .f32⟩
  | 9 => ⟨S_, .f32⟩
  | 10 => ⟨S24x2048x2048, .i1⟩
  | 11 => ⟨S24x2048x2048, .f32⟩
  | 12 => ⟨S24x2048x2048, .f32⟩
  | 13 => ⟨S_, .f32⟩
  | 14 => ⟨S24x2048x2048, .f32⟩
  | 15 => ⟨S24x2048x128, .f32⟩
  | 16 => ⟨S2048x24x128, .f32⟩
  | 17 => ⟨S2048x3072, .f32⟩
  | 18 => ⟨S2048x3072, .f32⟩
  | 19 => ⟨S2048x24x128, .f32⟩
  | 20 => ⟨S24x2048x128, .f32⟩
  | 21 => ⟨S24x128x2048, .f32⟩
  | 22 => ⟨S24x2048x128, .f32⟩
  | 23 => ⟨S24x2048x2048, .f32⟩
  | 24 => ⟨S_, .f32⟩
  | 25 => ⟨S24x2048x2048, .f32⟩
  | 26 => ⟨S24x2048x2048, .f32⟩
  | 27 => ⟨S24x2048x2048, .f32⟩
  | 28 => ⟨S24x2048x2048, .f32⟩
  | 29 => ⟨S24x2048x2048, .f32⟩
  | 30 => ⟨S24x2048x2048, .f32⟩
  | 31 => ⟨S24x2048x2048, .f32⟩
  | 32 => ⟨S_, .f32⟩
  | 33 => ⟨S_, .f32⟩
  | 34 => ⟨S24x2048x2048, .f32⟩
  | 35 => ⟨S24x2048x2048, .f32⟩
  | 36 => ⟨S_, .f32⟩
  | 37 => ⟨S24x2048x2048, .f32⟩
  | 38 => ⟨S24x2048x2048, .f32⟩
  | 39 => ⟨S24x2048x2048, .f32⟩
  | 40 => ⟨S24x2048x2048, .f32⟩
  | 41 => ⟨S24x2048x2048, .f32⟩
  | 42 => ⟨S24x2048x2048, .f32⟩
  | 43 => ⟨S24x2048x2048, .f32⟩
  | 44 => ⟨S_, .f32⟩
  | 45 => ⟨S24x2048x2048, .f32⟩
  | 46 => ⟨S24x2048x2048, .f32⟩
  | 47 => ⟨S24x2048x128, .f32⟩
  | 48 => ⟨S24x2048x128, .f32⟩
  | 49 => ⟨S2048x24x128, .f32⟩
  | 50 => ⟨S2048x3072, .f32⟩
  | 51 => ⟨S2048x24x128, .f32⟩
  | 52 => ⟨S2048x3072, .f32⟩
  | 53 => ⟨S2048x24x128, .f32⟩
  | 54 => ⟨S2048x3072, .f32⟩
  | 55 => ⟨S2048x6144, .f32⟩
  | 56 => ⟨S2048x5120, .f32⟩
  | 57 => ⟨S2048x14336, .f32⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1_0 : Ref sig .tc := ⟨.hbm, 41, rfl⟩
abbrev main_call0_call0_cst_0 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst_1 : Ref sig .tc := ⟨.hbm, 45, rfl⟩
abbrev main_call0_call0_v15 : Ref sig .tc := ⟨.hbm, 46, rfl⟩
abbrev main_call0_call0_v16 : Ref sig .tc := ⟨.hbm, 47, rfl⟩
abbrev main_call0_call0_cst_2 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_cst_3 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_v21 : Ref sig .tc := ⟨.hbm, 54, rfl⟩
abbrev main_v22_1 : Ref sig .tc := ⟨.hbm, 55, rfl⟩
abbrev main_call0_call0_cst_4 : Ref sig .tc := ⟨.hbm, 56, rfl⟩
abbrev main_call0_call0_cst_5 : Ref sig .tc := ⟨.hbm, 57, rfl⟩
abbrev main_call0_call0_v23 : Ref sig .tc := ⟨.hbm, 58, rfl⟩
abbrev main_call0_call0_cst_6 : Ref sig .tc := ⟨.hbm, 59, rfl⟩
abbrev main_call0_call0_cst_7 : Ref sig .tc := ⟨.hbm, 60, rfl⟩
abbrev main_call0_call0_v24 : Ref sig .tc := ⟨.hbm, 61, rfl⟩
abbrev main_call0_call0_cst_8 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_cst_9 : Ref sig .tc := ⟨.hbm, 65, rfl⟩
abbrev main_call0_call0_v27 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_cst_10 : Ref sig .tc := ⟨.hbm, 71, rfl⟩
abbrev main_call0_call0_v32 : Ref sig .tc := ⟨.hbm, 72, rfl⟩
abbrev main_v22_2 : Ref sig .tc := ⟨.hbm, 73, rfl⟩
abbrev main_v22_0 : Ref sig .tc := ⟨.hbm, 74, rfl⟩
abbrev main_cst_0 : Ref sig .tc := ⟨.hbm, 75, rfl⟩
abbrev main_call1_v0 : Ref sig .tc := ⟨.hbm, 76, rfl⟩
abbrev main_v23_1 : Ref sig .tc := ⟨.hbm, 77, rfl⟩
abbrev main_call1_v2 : Ref sig .tc := ⟨.hbm, 78, rfl⟩
abbrev main_v23_0 : Ref sig .tc := ⟨.hbm, 79, rfl⟩
abbrev main_call1_cst : Ref sig .tc := ⟨.hbm, 80, rfl⟩
abbrev main_v23_2 : Ref sig .tc := ⟨.hbm, 81, rfl⟩
abbrev main_call2_cst : Ref sig .tc := ⟨.hbm, 82, rfl⟩
abbrev main_call2_v0 : Ref sig .tc := ⟨.hbm, 83, rfl⟩
abbrev main_v24 : Ref sig .tc := ⟨.hbm, 84, rfl⟩
abbrev main_v25 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1_0 : Ref sig .tc := ⟨.hbm, 100, rfl⟩
abbrev main_call3_call0_cst_0 : Ref sig .tc := ⟨.hbm, 101, rfl⟩
abbrev main_call3_call0_v13 : Ref sig .tc := ⟨.hbm, 102, rfl⟩
abbrev main_call3_call0_v14 : Ref sig .tc := ⟨.hbm, 103, rfl⟩
abbrev main_call3_call0_cst_1 : Ref sig .tc := ⟨.hbm, 104, rfl⟩
abbrev main_call3_call0_v15 : Ref sig .tc := ⟨.hbm, 105, rfl⟩
abbrev main_call3_call0_v16 : Ref sig .tc := ⟨.hbm, 106, rfl⟩
abbrev main_call3_call0_cst_2 : Ref sig .tc := ⟨.hbm, 107, rfl⟩
abbrev main_call3_call0_v17 : Ref sig .tc := ⟨.hbm, 108, rfl⟩
abbrev main_call3_call0_v18 : Ref sig .tc := ⟨.hbm, 109, rfl⟩
abbrev main_call3_call0_cst_3 : Ref sig .tc := ⟨.hbm, 110, rfl⟩
abbrev main_call3_call0_v19 : Ref sig .tc := ⟨.hbm, 111, rfl⟩
abbrev main_call3_call0_v20 : Ref sig .tc := ⟨.hbm, 112, rfl⟩
abbrev main_call3_call0_v21 : Ref sig .tc := ⟨.hbm, 113, rfl⟩
abbrev main_v26_1 : Ref sig .tc := ⟨.hbm, 114, rfl⟩
abbrev main_call3_call0_cst_4 : Ref sig .tc := ⟨.hbm, 115, rfl⟩
abbrev main_call3_call0_cst_5 : Ref sig .tc := ⟨.hbm, 116, rfl⟩
abbrev main_call3_call0_v23 : Ref sig .tc := ⟨.hbm, 117, rfl⟩
abbrev main_call3_call0_cst_6 : Ref sig .tc := ⟨.hbm, 118, rfl⟩
abbrev main_call3_call0_cst_7 : Ref sig .tc := ⟨.hbm, 119, rfl⟩
abbrev main_call3_call0_v24 : Ref sig .tc := ⟨.hbm, 120, rfl⟩
abbrev main_call3_call0_cst_8 : Ref sig .tc := ⟨.hbm, 121, rfl⟩
abbrev main_call3_call0_v25 : Ref sig .tc := ⟨.hbm, 122, rfl⟩
abbrev main_call3_call0_v26 : Ref sig .tc := ⟨.hbm, 123, rfl⟩
abbrev main_call3_call0_cst_9 : Ref sig .tc := ⟨.hbm, 124, rfl⟩
abbrev main_call3_call0_v27 : Ref sig .tc := ⟨.hbm, 125, rfl⟩
abbrev main_call3_call0_v28 : Ref sig .tc := ⟨.hbm, 126, rfl⟩
abbrev main_call3_call0_v29 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_cst_10 : Ref sig .tc := ⟨.hbm, 130, rfl⟩
abbrev main_call3_call0_v32 : Ref sig .tc := ⟨.hbm, 131, rfl⟩
abbrev main_v26_2 : Ref sig .tc := ⟨.hbm, 132, rfl⟩
abbrev main_v26_0 : Ref sig .tc := ⟨.hbm, 133, rfl⟩
abbrev main_v27 : Ref sig .tc := ⟨.hbm, 134, rfl⟩
abbrev main_v28 : Ref sig .tc := ⟨.hbm, 135, rfl⟩
abbrev main_cst_1 : Ref sig .tc := ⟨.hbm, 136, rfl⟩
abbrev main_call4_v0 : Ref sig .tc := ⟨.hbm, 137, rfl⟩
abbrev main_v29_1 : Ref sig .tc := ⟨.hbm, 138, rfl⟩
abbrev main_call4_v2 : Ref sig .tc := ⟨.hbm, 139, rfl⟩
abbrev main_v29_0 : Ref sig .tc := ⟨.hbm, 140, rfl⟩
abbrev main_call4_cst : Ref sig .tc := ⟨.hbm, 141, rfl⟩
abbrev main_v29_2 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call5_cst : Ref sig .tc := ⟨.hbm, 152, rfl⟩
abbrev main_call5_v0 : Ref sig .tc := ⟨.hbm, 153, rfl⟩
abbrev main_v39 : Ref sig .tc := ⟨.hbm, 154, rfl⟩
abbrev main_v40 : Ref sig .tc := ⟨.hbm, 155, rfl⟩
abbrev main_call6_v0 : Ref sig .tc := ⟨.hbm, 156, rfl⟩
abbrev main_call6_v1 : Ref sig .tc := ⟨.hbm, 157, rfl⟩
abbrev main_v41 : Ref sig .tc := ⟨.hbm, 158, rfl⟩
abbrev main_v42 : Ref sig .tc := ⟨.hbm, 159, rfl⟩
abbrev main_call7_cst : Ref sig .tc := ⟨.hbm, 160, rfl⟩
abbrev main_call7_v0 : Ref sig .tc := ⟨.hbm, 161, rfl⟩
abbrev main_v43 : Ref sig .tc := ⟨.hbm, 162, rfl⟩
abbrev main_v44 : Ref sig .tc := ⟨.hbm, 163, rfl⟩
abbrev main_call8_cst : Ref sig .tc := ⟨.hbm, 164, rfl⟩
abbrev main_call8_v0 : Ref sig .tc := ⟨.hbm, 165, rfl⟩
abbrev main_v45 : Ref sig .tc := ⟨.hbm, 166, rfl⟩
abbrev main_call9_v0 : Ref sig .tc := ⟨.hbm, 167, rfl⟩
abbrev main_call9_v1 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_cst_2 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩

abbrev nD : Nat := 1
abbrev τ : Topo := Topo.v7x

variable {F : FTy → Type} [FloatOps F]
-- ==== Kernel2.lean ====
abbrev S2048x2048 : Shape := ⟨2, ![2048, 2048]⟩
abbrev S2048x14336 : Shape := ⟨2, ![2048, 14336]⟩
abbrev S8x2048x1792 : Shape := ⟨3, ![8, 2048, 1792]⟩
abbrev S1024x2048 : Shape := ⟨2, ![1024, 2048]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .f32⟩
  | .hbm, ⟨2, _⟩ => ⟨S2048x2048, .bf16⟩
  | .hbm, ⟨3, _⟩ => ⟨S8x2048x1792, .bf16⟩
  | .local _ .vmem, ⟨0, _⟩ => ⟨S1024x2048, .bf16⟩
  | .local _ .vmem, ⟨1, _⟩ => ⟨S1024x2048, .bf16⟩
  | .local _ .vmem, ⟨2, _⟩ => ⟨S2048x896, .f32⟩
  | .local _ .vmem, ⟨3, _⟩ => ⟨S2048x896, .f32⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x14336 : Shape := ⟨2, ![2048, 14336]⟩
abbrev S_ : Shape := ⟨0, ![]⟩
abbrev S14336x2048 : Shape := ⟨2, ![14336, 2048]⟩
abbrev S2048x8x1792 : Shape := ⟨3, ![2048, 8, 1792]⟩
abbrev S8x2048x1792 : Shape := ⟨3, ![8, 2048, 1792]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .f32⟩
  | .hbm, ⟨2, _⟩ => ⟨S_, .f32⟩
  | .hbm, ⟨3, _⟩ => ⟨S2048x14336, .f32⟩
  | .hbm, ⟨4, _⟩ => ⟨S2048x2048, .f32⟩
  | .hbm, ⟨5, _⟩ => ⟨S2048x14336, .f32⟩
  | .hbm, ⟨6, _⟩ => ⟨S14336x2048, .f32⟩
  | .hbm, ⟨7, _⟩ => ⟨S2048x14336, .f32⟩
  | .hbm, ⟨8, _⟩ => ⟨S2048x8x1792, .f32⟩
  | .hbm, ⟨9, _⟩ => ⟨S8x2048x1792, .f32⟩
  | .hbm, ⟨10, _⟩ => ⟨S8x2048x1792, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S2048x14336 : Shape := ⟨2, ![2048, 14336]⟩
abbrev S2048x8x1792 : Shape := ⟨3, ![2048, 8, 1792]⟩
abbrev S8x2048x1792 : Shape := ⟨3, ![8, 2048, 1792]⟩
abbrev S2048x2048 : Shape := ⟨2, ![2048, 2048]⟩
abbrev S1024x1792 : Shape := ⟨2, ![1024, 1792]⟩
abbrev S1x1024x1792 : Shape := ⟨3, ![1, 1024, 1792]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x14336, .f32⟩
  | .hbm, ⟨1, _⟩ => ⟨S2048x14336, .f32⟩
  | .hbm, ⟨2, _⟩ => ⟨S2048x8x1792, .f32⟩
  | .hbm, ⟨3, _⟩ => ⟨S8x2048x1792, .f32⟩
  | .hbm, ⟨4, _⟩ => ⟨S8x2048x1792, .bf16⟩
  | .hbm, ⟨5, _⟩ => ⟨S2048x2048, .f32⟩
  | .local _ .vmem, ⟨0, _⟩ => ⟨S1024x1792, .f32⟩
  | .local _ .vmem, ⟨1, _⟩ => ⟨S1024x1792, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x14336 : Shape := ⟨2, ![2048, 14336]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x14336, .f32⟩
  | .hbm, ⟨1, _⟩ => ⟨S2048x14336, .f32⟩
  | .hbm, ⟨2, _⟩ => ⟨S_, .f32⟩
  | .hbm, ⟨3, _⟩ => ⟨S2048x2048, .f32⟩
  | .hbm, ⟨4, _⟩ => ⟨S2048x14336, .f32⟩
  | .hbm, ⟨5, _⟩ => ⟨S2048x2048, .f32⟩
  | _, _ => ⟨S2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2048x2048 : Shape := ⟨2, ![2048, 2048]⟩
abbrev S2048x14336 : Shape := ⟨2, ![2048, 14336]⟩
abbrev S2048x8x1792 : Shape := ⟨3, ![2048, 8, 1792]⟩
abbrev S8x2048x1792 : Shape := ⟨3, ![8, 2048, 1792]⟩
abbrev S1x2048x896 : Shape := ⟨3, ![1, 2048, 896]⟩
abbrev S2048x896 : Shape := ⟨2, ![2048, 896]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .f32⟩
  | .hbm, ⟨2, _⟩ => ⟨S2048x8x1792, .f32⟩
  | .hbm, ⟨3, _⟩ => ⟨S8x2048x1792, .f32⟩
  | .hbm, ⟨4, _⟩ => ⟨S8x2048x1792, .bf16⟩
  | .hbm, ⟨5, _⟩ => ⟨S2048x14336, .f32⟩
  | .local _ .vmem, ⟨0, _⟩ => ⟨S2048x2048, .bf16⟩
  | .local _ .vmem, ⟨1, _⟩ => ⟨S1x2048x896, .bf16⟩
  | .local _ .vmem, ⟨2, _⟩ => ⟨S1x2048x896, .bf16⟩
  | .local _ .vmem, ⟨3, _⟩ => ⟨S2048x896, .f32⟩
  | .local _ .vmem, ⟨4, _⟩ => ⟨S2048x896, .f32⟩
  | .local _ .vmem, ⟨5, _⟩ => ⟨S2048x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x14336 : Shape := ⟨2, ![2048, 14336]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x14336, .f32⟩
  | .hbm, ⟨2, _⟩ => ⟨S2048x2048, .f32⟩
  | .hbm, ⟨3, _⟩ => ⟨S2048x14336, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S2048x2048 : Shape := ⟨2, ![2048, 2048]⟩
abbrev S2048x11520 : Shape := ⟨2, ![2048, 11520]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11520, .f32⟩
  | .hbm, ⟨2, _⟩ => ⟨S2048x2048, .bf16⟩
  | .hbm, ⟨3, _⟩ => ⟨S2048x11520, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1152, .f32⟩
  | .local _ .vmem, ⟨3, _⟩ => ⟨S2048x1152, .f32⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x11520 : Shape := ⟨2, ![2048, 11520]⟩
abbrev S_ : Shape := ⟨0, ![]⟩
abbrev S11520x2048 : Shape := ⟨2, ![11520, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11520, .f32⟩
  | .hbm, ⟨2, _⟩ => ⟨S_, .f32⟩
  | .hbm, ⟨3, _⟩ => ⟨S2048x11520, .f32⟩
  | .hbm, ⟨4, _⟩ => ⟨S2048x2048, .f32⟩
  | .hbm, ⟨5, _⟩ => ⟨S2048x11520, .f32⟩
  | .hbm, ⟨6, _⟩ => ⟨S11520x2048, .f32⟩
  | .hbm, ⟨7, _⟩ => ⟨S2048x11520, .f32⟩
  | .hbm, ⟨8, _⟩ => ⟨S2048x11520, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x4096 : Shape := ⟨2, ![2048, 4096]⟩
abbrev S2048x2048 : Shape := ⟨2, ![2048, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S2048x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩
abbrev S_ : Shape := ⟨0, ![]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x4096 : Shape := ⟨2, ![2048, 4096]⟩
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S2048x2048, .f32⟩
  | .hbm, ⟨3, _⟩ => ⟨S4096x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S2048x2048, .f32⟩
  | .hbm, ⟨3, _⟩ => ⟨S2048x4096, .f32⟩
  | .hbm, ⟨4, _⟩ => ⟨S2048x2048, .f32⟩
  | .hbm, ⟨5, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S_, .i32⟩
  | .hbm, ⟨6, _⟩ => ⟨S_, .f32⟩
  | .hbm, ⟨7, _⟩ => ⟨S8x2048, .f32⟩
  | .hbm, ⟨8, _⟩ => ⟨S2048x2048, .f32⟩
  | .hbm, ⟨9, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S7x2048 : Shape := ⟨2, ![7, 2048]⟩
abbrev S8x2048 : Shape := ⟨2, ![8, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | .hbm, ⟨51, _⟩ => ⟨S_, .f32⟩
  | .hbm, ⟨52, _⟩ => ⟨S7x2048, .f32⟩
  | .hbm, ⟨53, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel10.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S2048x2048, .bf16⟩
  | .hbm, ⟨3, _⟩ => ⟨S256x2048, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S256x2048 : Shape := ⟨2, ![256, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S256x2048 : Shape := ⟨2, ![256, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x2048 : Shape := ⟨2, ![2048, 2048]⟩
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x2048, .bf16⟩
  | .hbm, ⟨3, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S256x2048 : Shape := ⟨2, ![256, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S_, .f32⟩
  | .hbm, ⟨3, _⟩ => ⟨S256x2048, .f32⟩
  | .hbm, ⟨4, _⟩ => ⟨S256x2048, .f32⟩
  | .hbm, ⟨5, _⟩ => ⟨S256x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .bf16⟩
  | .hbm, ⟨4, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2048 : Shape := ⟨2, ![2048, 2048]⟩
abbrev S256x2048 : Shape := ⟨2, ![256, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S_, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel14.lean ====
abbrev S4x1x2048x1792 : Shape := ⟨4, ![4, 1, 2048, 1792]⟩
abbrev S1x2048x1792 : Shape := ⟨3, ![1, 2048, 1792]⟩
abbrev S4x1x256x1792 : Shape := ⟨4, ![4, 1, 256, 1792]⟩
abbrev S1x256x1792 : Shape := ⟨3, ![1, 256, 1792]⟩
abbrev S1x1x256x1792 : Shape := ⟨4, ![1, 1, 256, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S4x1x2048x1792, .bf16⟩
  | .hbm, ⟨1, _⟩ => ⟨S1x2048x1792, .f32⟩
  | .hbm, ⟨2, _⟩ => ⟨S1x2048x1792, .f32⟩
  | .hbm, ⟨3, _⟩ => ⟨S1x2048x1792, .f32⟩
  | .hbm, ⟨4, _⟩ => ⟨S1x2048x1792, .f32⟩
  | .hbm, ⟨5, _⟩ => ⟨S1x2048x1792, .f32⟩
  | .hbm, ⟨6, _⟩ => ⟨S1x2048x1792, .f32⟩
  | .hbm, ⟨7, _⟩ => ⟨S1x2048x1792, .f32⟩
  | .local _ .vmem, ⟨0, _⟩ => ⟨S4x1x256x1792, .bf16⟩
  | .local _ .vmem, ⟨1, _⟩ => ⟨S4x1x256x1792, .bf16⟩
  | .local _ .vmem, ⟨2, _⟩ => ⟨S1x256x1792, .f32⟩
  | .local _ .vmem, ⟨3, _⟩ => ⟨S1x256x1792, .f32⟩
  | .local _ .vmem, ⟨4, _⟩ => ⟨S1x256x1792, .f32⟩
  | .local _ .vmem, ⟨5, _⟩ => ⟨S1x256x1792, .f32⟩
  | .local _ .vmem, ⟨6, _⟩ => ⟨S1x256x1792, .f32⟩
  | .local _ .vmem, ⟨7, _⟩ => ⟨S1x256x1792, .f32⟩
  | .local _ .vmem, ⟨8, _⟩ => ⟨S1x256x1792, .f32⟩
  | .local _ .vmem, ⟨9, _⟩ => ⟨S1x256x1792, .f32⟩
  | .local _ .vmem, ⟨10, _⟩ => ⟨S1x256x1792, .f32⟩
  | .local _ .vmem, ⟨11, _⟩ => ⟨S1x256x1792, .f32⟩
  | .local _ .vmem, ⟨12, _⟩ => ⟨S1x256x1792, .f32⟩
  | .local _ .vmem, ⟨13, _⟩ => ⟨S1x256x1792, .f32⟩
  | .local _ .vmem, ⟨14, _⟩ => ⟨S1x256x1792, .f32⟩
  | .local _ .vmem, ⟨15, _⟩ => ⟨S1x256x1792, .f32⟩
  | _, _ => ⟨S4x1x2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S4x1x2048x1792 : Shape := ⟨4, ![4, 1, 2048, 1792]⟩
abbrev S1x2048x1792 : Shape := ⟨3, ![1, 2048, 1792]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1x2048x1792, .bf16⟩
  | .hbm, ⟨1, _⟩ => ⟨S1x2048x1792, .f32⟩
  | .hbm, ⟨2, _⟩ => ⟨S1x2048x1792, .f32⟩
  | .hbm, ⟨3, _⟩ => ⟨S1x2048x1792, .f32⟩
  | .hbm, ⟨4, _⟩ => ⟨S4x1x2048x1792, .f32⟩
  | .hbm, ⟨5, _⟩ => ⟨S_, .f32⟩
  | .hbm, ⟨6, _⟩ => ⟨S1x2048x1792, .f32⟩
  | .hbm, ⟨7, _⟩ => ⟨S_, .f32⟩
  | .hbm, ⟨8, _⟩ => ⟨S1x2048x1792, .f32⟩
  | .hbm, ⟨9, _⟩ => ⟨S1x2048x1792, .f32⟩
  | .hbm, ⟨10, _⟩ => ⟨S_, .f32⟩
  | .hbm, ⟨11, _⟩ => ⟨S1x2048x1792, .f32⟩
  | .hbm, ⟨12, _⟩ => ⟨S1x2048x1792, .f32⟩
  | .hbm, ⟨13, _⟩ => ⟨S1x2048x1792, .f32⟩
  | .hbm, ⟨14, _⟩ => ⟨S_, .f32⟩
  | .hbm, ⟨15, _⟩ => ⟨S1x2048x1792, .f32⟩
  | .hbm, ⟨16, _⟩ => ⟨S1x2048x1792, .f32⟩
  | .hbm, ⟨17, _⟩ => ⟨S1x2048x1792, .f32⟩
  | .hbm, ⟨18, _⟩ => ⟨S_, .f32⟩
  | .hbm, ⟨19, _⟩ => ⟨S1x2048x1792, .f32⟩
  | .hbm, ⟨20, _⟩ => ⟨S1x2048x1792, .f32⟩
  | .hbm, ⟨21, _⟩ => ⟨S1x2048x1792, .f32⟩
  | .hbm, ⟨22, _⟩ => ⟨S_, .f32⟩
  | .hbm, ⟨23, _⟩ => ⟨S1x2048x1792, .f32⟩
  | .hbm, ⟨24, _⟩ => ⟨S1x2048x1792, .f32⟩
  | .hbm, ⟨25, _⟩ => ⟨S_, .f32⟩
  | .hbm, ⟨26, _⟩ => ⟨S1x2048x1792, .f32⟩
  | .hbm, ⟨27, _⟩ => ⟨S1x2048x1792, .f32⟩
  | .hbm, ⟨28, _⟩ => ⟨S1x2048x1792, .f32⟩
  | .hbm, ⟨29, _⟩ => ⟨S_, .f32⟩
  | .hbm, ⟨30, _⟩ => ⟨S1x2048x1792, .f32⟩
  | .hbm, ⟨31, _⟩ => ⟨S1x2048x1792, .f32⟩
  | .hbm, ⟨32, _⟩ => ⟨S1x2048x1792, .f32⟩
  | .hbm, ⟨33, _⟩ => ⟨S_, .f32⟩
  | .hbm, ⟨34, _⟩ => ⟨S1x2048x1792, .f32⟩
  | .hbm, ⟨35, _⟩ => ⟨S1x2048x1792, .f32⟩
  | .hbm, ⟨36, _⟩ => ⟨S1x2048x1792, .f32⟩
  | .hbm, ⟨37, _⟩ => ⟨S_, .f32⟩
  | .hbm, ⟨38, _⟩ => ⟨S1x2048x1792, .f32⟩
  | .hbm, ⟨39, _⟩ => ⟨S1x2048x1792, .f32⟩
  | _, _ => ⟨S4x1x2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S4x2x512x2048 : Shape := ⟨4, ![4, 2, 512, 2048]⟩
abbrev S2x512x2048 : Shape := ⟨3, ![2, 512, 2048]⟩
abbrev S4x1x256x2048 : Shape := ⟨4, ![4, 1, 256, 2048]⟩
abbrev S1x256x2048 : Shape := ⟨3, ![1, 256, 2048]⟩
abbrev S1x1x256x2048 : Shape := ⟨4, ![1, 1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x2x512x2048, .bf16⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .local _ .vmem, ⟨0, _⟩ => ⟨S4x1x256x2048, .bf16⟩
  | .local _ .vmem, ⟨1, _⟩ => ⟨S4x1x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S4x2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S4x2x512x2048 : Shape := ⟨4, ![4, 2, 512, 2048]⟩
abbrev S2x512x2048 : Shape := ⟨3, ![2, 512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2x512x2048, .bf16⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S4x2x512x2048, .f32⟩
  | .hbm, ⟨5, _⟩ => ⟨S_, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S_, .f32⟩
  | .hbm, ⟨11, _⟩ => ⟨S2x512x2048, .f32⟩
  | .hbm, ⟨12, _⟩ => ⟨S2x512x2048, .f32⟩
  | .hbm, ⟨13, _⟩ => ⟨S2x512x2048, .f32⟩
  | .hbm, ⟨14, _⟩ => ⟨S_, .f32⟩
  | .hbm, ⟨15, _⟩ => ⟨S2x512x2048, .f32⟩
  | .hbm, ⟨16, _⟩ => ⟨S2x512x2048, .f32⟩
  | .hbm, ⟨17, _⟩ => ⟨S2x512x2048, .f32⟩
  | .hbm, ⟨18, _⟩ => ⟨S_, .f32⟩
  | .hbm, ⟨19, _⟩ => ⟨S2x512x2048, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S_, .f32⟩
  | .hbm, ⟨26, _⟩ => ⟨S2x512x2048, .f32⟩
  | .hbm, ⟨27, _⟩ => ⟨S2x512x2048, .f32⟩
  | .hbm, ⟨28, _⟩ => ⟨S2x512x2048, .f32⟩
  | .hbm, ⟨29, _⟩ => ⟨S_, .f32⟩
  | .hbm, ⟨30, _⟩ => ⟨S2x512x2048, .f32⟩
  | .hbm, ⟨31, _⟩ => ⟨S2x512x2048, .f32⟩
  | .hbm, ⟨32, _⟩ => ⟨S2x512x2048, .f32⟩
  | .hbm, ⟨33, _⟩ => ⟨S_, .f32⟩
  | .hbm, ⟨34, _⟩ => ⟨S2x512x2048, .f32⟩
  | .hbm, ⟨35, _⟩ => ⟨S2x512x2048, .f32⟩
  | .hbm, ⟨36, _⟩ => ⟨S2x512x2048, .f32⟩
  | .hbm, ⟨37, _⟩ => ⟨S_, .f32⟩
  | .hbm, ⟨38, _⟩ => ⟨S2x512x2048, .f32⟩
  | .hbm, ⟨39, _⟩ => ⟨S2x512x2048, .f32⟩
  | _, _ => ⟨S4x2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S4x2x256x2048 : Shape := ⟨4, ![4, 2, 256, 2048]⟩
abbrev S2x256x2048 : Shape := ⟨3, ![2, 256, 2048]⟩
abbrev S4x1x256x2048 : Shape := ⟨4, ![4, 1, 256, 2048]⟩
abbrev S1x256x2048 : Shape := ⟨3, ![1, 256, 2048]⟩
abbrev S1x1x256x2048 : Shape := ⟨4, ![1, 1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x2x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .local _ .vmem, ⟨0, _⟩ => ⟨S4x1x256x2048, .bf16⟩
  | .local _ .vmem, ⟨1, _⟩ => ⟨S4x1x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S4x2x256x2048 : Shape := ⟨4, ![4, 2, 256, 2048]⟩
abbrev S2x256x2048 : Shape := ⟨3, ![2, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S4x2x256x2048, .f32⟩
  | .hbm, ⟨5, _⟩ => ⟨S_, .f32⟩
  | .hbm, ⟨6, _⟩ => ⟨S2x256x2048, .f32⟩
  | .hbm, ⟨7, _⟩ => ⟨S_, .f32⟩
  | .hbm, ⟨8, _⟩ => ⟨S2x256x2048, .f32⟩
  | .hbm, ⟨9, _⟩ => ⟨S2x256x2048, .f32⟩
  | .hbm, ⟨10, _⟩ => ⟨S_, .f32⟩
  | .hbm, ⟨11, _⟩ => ⟨S2x256x2048, .f32⟩
  | .hbm, ⟨12, _⟩ => ⟨S2x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S2x256x2048, .f32⟩
  | .hbm, ⟨18, _⟩ => ⟨S_, .f32⟩
  | .hbm, ⟨19, _⟩ => ⟨S2x256x2048, .f32⟩
  | .hbm, ⟨20, _⟩ => ⟨S2x256x2048, .f32⟩
  | .hbm, ⟨21, _⟩ => ⟨S2x256x2048, .f32⟩
  | .hbm, ⟨22, _⟩ => ⟨S_, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S2x256x2048, .f32⟩
  | .hbm, ⟨33, _⟩ => ⟨S_, .f32⟩
  | .hbm, ⟨34, _⟩ => ⟨S2x256x2048, .f32⟩
  | .hbm, ⟨35, _⟩ => ⟨S2x256x2048, .f32⟩
  | .hbm, ⟨36, _⟩ => ⟨S2x256x2048, .f32⟩
  | .hbm, ⟨37, _⟩ => ⟨S_, .f32⟩
  | .hbm, ⟨38, _⟩ => ⟨S2x256x2048, .f32⟩
  | .hbm, ⟨39, _⟩ => ⟨S2x256x2048, .f32⟩
  | _, _ => ⟨S4x2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S4x1x2048x1536 : Shape := ⟨4, ![4, 1, 2048, 1536]⟩
abbrev S1x2048x1414 : Shape := ⟨3, ![1, 2048, 1414]⟩
abbrev S2048x1414 : Shape := ⟨2, ![2048, 1414]⟩
abbrev S1414x2048 : Shape := ⟨2, ![1414, 2048]⟩
abbrev S4x1x256x1536 : Shape := ⟨4, ![4, 1, 256, 1536]⟩
abbrev S1414x256 : Shape := ⟨2, ![1414, 256]⟩
abbrev S1x1x256x1536 : Shape := ⟨4, ![1, 1, 256, 1536]⟩
abbrev S256x1536 : Shape := ⟨2, ![256, 1536]⟩
abbrev S1536x256 : Shape := ⟨2, ![1536, 256]⟩

abbrev nBuf : Space → Nat
  | .hbm => 14
  | .vmem => 16
  | .smem => 0
  | _ => 0

abbrev bufTy : (tb : Table) → Fin (tcTables nBuf tb) → BufTy
  | .hbm, ⟨0, _⟩ => ⟨S4x1x2048x1536, .bf16⟩
  | .hbm, ⟨1, _⟩ => ⟨S1x2048x1414, .f32⟩
  | .hbm, ⟨2, _⟩ => ⟨S1x2048x1414, .f32⟩
  | .hbm, ⟨3, _⟩ => ⟨S1x2048x1414, .f32⟩
  | .hbm, ⟨4, _⟩ => ⟨S2048x1414, .f32⟩
  | .hbm, ⟨5, _⟩ => ⟨S1414x2048, .f32⟩
  | .hbm, ⟨6, _⟩ => ⟨S2048x1414, .f32⟩
  | .hbm, ⟨7, _⟩ => ⟨S1414x2048, .f32⟩
  | .hbm, ⟨8, _⟩ => ⟨S2048x1414, .f32⟩
  | .hbm, ⟨9, _⟩ => ⟨S1414x2048, .f32⟩
  | .hbm, ⟨10, _⟩ => ⟨S1414x2048, .f32⟩
  | .hbm, ⟨11, _⟩ => ⟨S1414x2048, .f32⟩
  | .hbm, ⟨12, _⟩ => ⟨S1414x2048, .f32⟩
  | .hbm, ⟨13, _⟩ => ⟨S1414x2048, .f32⟩
  | .local _ .vmem, ⟨0, _⟩ => ⟨S4x1x256x1536, .bf16⟩
  | .local _ .vmem, ⟨1, _⟩ => ⟨S4x1x256x1536, .bf16⟩
  | .local _ .vmem, ⟨2, _⟩ => ⟨S1414x256, .f32⟩
  | .local _ .vmem, ⟨3, _⟩ => ⟨S1414x256, .f32⟩
  | .local _ .vmem, ⟨4, _⟩ => ⟨S1414x256, .f32⟩
  | .local _ .vmem, ⟨5, _⟩ => ⟨S1414x256, .f32⟩
  | .local _ .vmem, ⟨6, _⟩ => ⟨S1414x256, .f32⟩
  | .local _ .vmem, ⟨7, _⟩ => ⟨S1414x256, .f32⟩
  | .local _ .vmem, ⟨8, _⟩ => ⟨S1414x256, .f32⟩
  | .local _ .vmem, ⟨9, _⟩ => ⟨S1414x256, .f32⟩
  | .local _ .vmem, ⟨10, _⟩ => ⟨S1414x256, .f32⟩
  | .local _ .vmem, ⟨11, _⟩ => ⟨S1414x256, .f32⟩
  | .local _ .vmem, ⟨12, _⟩ => ⟨S1414x256, .f32⟩
  | .local _ .vmem, ⟨13, _⟩ => ⟨S1414x256, .f32⟩
  | .local _ .vmem, ⟨14, _⟩ => ⟨S1414x256, .f32⟩
  | .local _ .vmem, ⟨15, _⟩ => ⟨S1414x256, .f32⟩
  | _, _ => ⟨S4x1x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1414x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1414x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1414x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1414x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1414x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1414x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1414x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S4x1x2048x1536 : Shape := ⟨4, ![4, 1, 2048, 1536]⟩
abbrev S1x2048x1414 : Shape := ⟨3, ![1, 2048, 1414]⟩
abbrev S_ : Shape := ⟨0, ![]⟩
abbrev S1x2048x1536 : Shape := ⟨3, ![1, 2048, 1536]⟩
abbrev S2048x1414 : Shape := ⟨2, ![2048, 1414]⟩
abbrev S1414x2048 : Shape := ⟨2, ![1414, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x1x2048x1536, .bf16⟩
  | .hbm, ⟨1, _⟩ => ⟨S1x2048x1414, .f32⟩
  | .hbm, ⟨2, _⟩ => ⟨S1x2048x1414, .f32⟩
  | .hbm, ⟨3, _⟩ => ⟨S1x2048x1414, .f32⟩
  | .hbm, ⟨4, _⟩ => ⟨S4x1x2048x1536, .f32⟩
  | .hbm, ⟨5, _⟩ => ⟨S_, .f32⟩
  | .hbm, ⟨6, _⟩ => ⟨S1x2048x1536, .f32⟩
  | .hbm, ⟨7, _⟩ => ⟨S1x2048x1414, .f32⟩
  | .hbm, ⟨8, _⟩ => ⟨S_, .f32⟩
  | .hbm, ⟨9, _⟩ => ⟨S1x2048x1414, .f32⟩
  | .hbm, ⟨10, _⟩ => ⟨S1x2048x1414, .f32⟩
  | .hbm, ⟨11, _⟩ => ⟨S_, .f32⟩
  | .hbm, ⟨12, _⟩ => ⟨S1x2048x1414, .f32⟩
  | .hbm, ⟨13, _⟩ => ⟨S1x2048x1414, .f32⟩
  | .hbm, ⟨14, _⟩ => ⟨S1x2048x1414, .f32⟩
  | .hbm, ⟨15, _⟩ => ⟨S_, .f32⟩
  | .hbm, ⟨16, _⟩ => ⟨S1x2048x1414, .f32⟩
  | .hbm, ⟨17, _⟩ => ⟨S1x2048x1414, .f32⟩
  | .hbm, ⟨18, _⟩ => ⟨S1x2048x1414, .f32⟩
  | .hbm, ⟨19, _⟩ => ⟨S_, .f32⟩
  | .hbm, ⟨20, _⟩ => ⟨S1x2048x1414, .f32⟩
  | .hbm, ⟨21, _⟩ => ⟨S1x2048x1414, .f32⟩
  | .hbm, ⟨22, _⟩ => ⟨S1x2048x1414, .f32⟩
  | .hbm, ⟨23, _⟩ => ⟨S_, .f32⟩
  | .hbm, ⟨24, _⟩ => ⟨S1x2048x1414, .f32⟩
  | .hbm, ⟨25, _⟩ => ⟨S1x2048x1414, .f32⟩
  | .hbm, ⟨26, _⟩ => ⟨S_, .f32⟩
  | .hbm, ⟨27, _⟩ => ⟨S1x2048x1414, .f32⟩
  | .hbm, ⟨28, _⟩ => ⟨S1x2048x1414, .f32⟩
  | .hbm, ⟨29, _⟩ => ⟨S1x2048x1414, .f32⟩
  | .hbm, ⟨30, _⟩ => ⟨S_, .f32⟩
  | .hbm, ⟨31, _⟩ => ⟨S1x2048x1414, .f32⟩
  | .hbm, ⟨32, _⟩ => ⟨S1x2048x1414, .f32⟩
  | .hbm, ⟨33, _⟩ => ⟨S1x2048x1414, .f32⟩
  | .hbm, ⟨34, _⟩ => ⟨S_, .f32⟩
  | .hbm, ⟨35, _⟩ => ⟨S1x2048x1414, .f32⟩
  | .hbm, ⟨36, _⟩ => ⟨S1x2048x1414, .f32⟩
  | .hbm, ⟨37, _⟩ => ⟨S1x2048x1414, .f32⟩
  | .hbm, ⟨38, _⟩ => ⟨S_, .f32⟩
  | .hbm, ⟨39, _⟩ => ⟨S1x2048x1414, .f32⟩
  | .hbm, ⟨40, _⟩ => ⟨S1x2048x1414, .f32⟩
  | .hbm, ⟨41, _⟩ => ⟨S2048x1414, .f32⟩
  | .hbm, ⟨42, _⟩ => ⟨S1414x2048, .f32⟩
  | .hbm, ⟨43, _⟩ => ⟨S2048x1414, .f32⟩
  | .hbm, ⟨44, _⟩ => ⟨S1414x2048, .f32⟩
  | .hbm, ⟨45, _⟩ => ⟨S2048x1414, .f32⟩
  | .hbm, ⟨46, _⟩ => ⟨S1414x2048, .f32⟩
  | .hbm, ⟨47, _⟩ => ⟨S2048x1414, .f32⟩
  | .hbm, ⟨48, _⟩ => ⟨S1414x2048, .f32⟩
  | _, _ => ⟨S4x1x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel18.lean ====
abbrev S24x2048 : Shape := ⟨2, ![24, 2048]⟩

abbrev nBuf : Space → Nat
  | .hbm => 7
  | .vmem => 7
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S24x2048, .f32⟩
  | .hbm, ⟨4, _⟩ => ⟨S24x2048, .f32⟩
  | .hbm, ⟨5, _⟩ => ⟨S24x2048, .f32⟩
  | .hbm, ⟨6, _⟩ => ⟨S24x2048, .f32⟩
  | .local _ .vmem, ⟨0, _⟩ => ⟨S24x2048, .f32⟩
  | .local _ .vmem, ⟨1, _⟩ => ⟨S24x2048, .f32⟩
  | .local _ .vmem, ⟨2, _⟩ => ⟨S24x2048, .f32⟩
  | .local _ .vmem, ⟨3, _⟩ => ⟨S24x2048, .f32⟩
  | .local _ .vmem, ⟨4, _⟩ => ⟨S24x2048, .f32⟩
  | .local _ .vmem, ⟨5, _⟩ => ⟨S24x2048, .f32⟩
  | .local _ .vmem, ⟨6, _⟩ => ⟨S24x2048, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference18Ideal.lean ====
abbrev S24x2048 : Shape := ⟨2, ![24, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S24x2048, .f32⟩
  | .hbm, ⟨4, _⟩ => ⟨S_, .f32⟩
  | .hbm, ⟨5, _⟩ => ⟨S24x2048, .f32⟩
  | .hbm, ⟨6, _⟩ => ⟨S24x2048, .f32⟩
  | .hbm, ⟨7, _⟩ => ⟨S_, .f32⟩
  | .hbm, ⟨8, _⟩ => ⟨S24x2048, .f32⟩
  | .hbm, ⟨9, _⟩ => ⟨S24x2048, .f32⟩
  | .hbm, ⟨10, _⟩ => ⟨S24x2048, .f32⟩
  | .hbm, ⟨11, _⟩ => ⟨S_, .f32⟩
  | .hbm, ⟨12, _⟩ => ⟨S24x2048, .f32⟩
  | .hbm, ⟨13, _⟩ => ⟨S24x2048, .f32⟩
  | .hbm, ⟨14, _⟩ => ⟨S24x2048, .f32⟩
  | .hbm, ⟨15, _⟩ => ⟨S_, .f32⟩
  | .hbm, ⟨16, _⟩ => ⟨S24x2048, .f32⟩
  | .hbm, ⟨17, _⟩ => ⟨S24x2048, .f32⟩
  | .hbm, ⟨18, _⟩ => ⟨S24x2048, .f32⟩
  | .hbm, ⟨19, _⟩ => ⟨S_, .f32⟩
  | .hbm, ⟨20, _⟩ => ⟨S24x2048, .f32⟩
  | .hbm, ⟨21, _⟩ => ⟨S24x2048, .f32⟩
  | .hbm, ⟨22, _⟩ => ⟨S_, .f32⟩
  | .hbm, ⟨23, _⟩ => ⟨S24x2048, .f32⟩
  | .hbm, ⟨24, _⟩ => ⟨S24x2048, .f32⟩
  | .hbm, ⟨25, _⟩ => ⟨S24x2048, .f32⟩
  | .hbm, ⟨26, _⟩ => ⟨S_, .f32⟩
  | .hbm, ⟨27, _⟩ => ⟨S24x2048, .f32⟩
  | .hbm, ⟨28, _⟩ => ⟨S24x2048, .f32⟩
  | .hbm, ⟨29, _⟩ => ⟨S24x2048, .f32⟩
  | .hbm, ⟨30, _⟩ => ⟨S_, .f32⟩
  | .hbm, ⟨31, _⟩ => ⟨S24x2048, .f32⟩
  | .hbm, ⟨32, _⟩ => ⟨S24x2048, .f32⟩
  | .hbm, ⟨33, _⟩ => ⟨S24x2048, .f32⟩
  | .hbm, ⟨34, _⟩ => ⟨S_, .f32⟩
  | .hbm, ⟨35, _⟩ => ⟨S24x2048, .f32⟩
  | .hbm, ⟨36, _⟩ => ⟨S24x2048, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x2048 : Shape := ⟨2, ![2048, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S2048x2048 : Shape := ⟨2, ![2048, 2048]⟩
abbrev S_ : Shape := ⟨0, ![]⟩
abbrev S2048 : Shape := ⟨1, ![2048]⟩
abbrev S1x1 : Shape := ⟨2, ![1, 1]⟩
abbrev S1x127 : Shape := ⟨2, ![1, 127]⟩
abbrev S1x128 : Shape := ⟨2, ![1, 128]⟩
abbrev S7x128 : Shape := ⟨2, ![7, 128]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S1x1, .f32⟩
  | .hbm, ⟨26, _⟩ => ⟨S_, .f32⟩
  | .hbm, ⟨27, _⟩ => ⟨S1x127, .f32⟩
  | .hbm, ⟨28, _⟩ => ⟨S1x128, .f32⟩
  | .hbm, ⟨29, _⟩ => ⟨S_, .f32⟩
  | .hbm, ⟨30, _⟩ => ⟨S7x128, .f32⟩
  | .hbm, ⟨31, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_cst_8 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel22.lean ====
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2048x2048, .bf16⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel23.lean ====
abbrev S2048x4096 : Shape := ⟨2, ![2048, 4096]⟩
abbrev S2048x14336 : Shape := ⟨2, ![2048, 14336]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x14336, .f32⟩
  | .hbm, ⟨2, _⟩ => ⟨S2048x4096, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S2048x4096 : Shape := ⟨2, ![2048, 4096]⟩
abbrev S2048x14336 : Shape := ⟨2, ![2048, 14336]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x14336, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel25.lean ====
abbrev S256x2048 : Shape := ⟨2, ![256, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S256 : Shape := ⟨1, ![256]⟩
abbrev S256x1 : Shape := ⟨2, ![256, 1]⟩

abbrev nBuf : Space → Nat
  | .hbm => 7
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S256x2048, .bf16⟩
  | .local _ .vmem, ⟨0, _⟩ => ⟨S256x2048, .f32⟩
  | .local _ .vmem, ⟨1, _⟩ => ⟨S8x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference25Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel26.lean ====
abbrev S2048x4096 : Shape := ⟨2, ![2048, 4096]⟩
abbrev S2048x11520 : Shape := ⟨2, ![2048, 11520]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x11520, .f32⟩
  | .hbm, ⟨2, _⟩ => ⟨S2048x4096, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S2048x4096 : Shape := ⟨2, ![2048, 4096]⟩
abbrev S2048x11520 : Shape := ⟨2, ![2048, 11520]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x11520, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel27.lean ====
abbrev S256x2048 : Shape := ⟨2, ![256, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S256 : Shape := ⟨1, ![256]⟩
abbrev S256x1 : Shape := ⟨2, ![256, 1]⟩

abbrev nBuf : Space → Nat
  | .hbm => 9
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S1x2048, .f32⟩
  | .hbm, ⟨4, _⟩ => ⟨S_, .i32⟩
  | .hbm, ⟨5, _⟩ => ⟨S_, .f32⟩
  | .hbm, ⟨6, _⟩ => ⟨S8x2048, .f32⟩
  | .hbm, ⟨7, _⟩ => ⟨S256x2048, .f32⟩
  | .hbm, ⟨8, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S256x2048, .f32⟩
  | .local _ .vmem, ⟨4, _⟩ => ⟨S8x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference27Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S7x2048 : Shape := ⟨2, ![7, 2048]⟩
abbrev S8x2048 : Shape := ⟨2, ![8, 2048]⟩

abbrev nBuf : Space → Nat
  | .hbm => 52
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S1x2048, .f32⟩
  | .hbm, ⟨49, _⟩ => ⟨S_, .f32⟩
  | .hbm, ⟨50, _⟩ => ⟨S7x2048, .f32⟩
  | .hbm, ⟨51, _⟩ => ⟨S8x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.MatDwSb.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.StableHlo.ReadAt

/-! The gradient of the stick-breaking layer's projection matrix: each block the kernel writes is a block of `hᵀ · dproj`. -/

@[expose] public section

set_option maxRecDepth 16384
set_option maxHeartbeats 1000000

noncomputable section

namespace Cert.Proof.DwSb

open Cert.Kernel2Ideal Cert.Kernel2Ideal.Gen
open Idealize.ShloMosaic Idealize.ShloMosaic.Pipeline
open Idealize.ShloMosaic.TcCoe Idealize.ShloMosaic.Tactic
open scoped BigOperators

theorem block_at (c : Dev nD) (i : grid0.Coords) (arg3 : Memref sig .tc .vmem S1024x2048 .bf16) (harg3 : arg3.IsWhole) (arg4 : Memref sig .tc .vmem S2048x896 .f32) (harg4 : arg4.IsWhole) (arg5 : Memref sig .tc .vmem S1x1024x896 .bf16) (harg5 : arg5.IsWhole) (arg6 : Memref sig .tc .vmem S1024x896 .f32) (harg6 : arg6.IsWhole) (hc0 : cond0_0 i) (hc1 : cond0_1 i)
    (x0 : Vec Ideal S1024x2048 .bf16) (x1 : Vec Ideal S2048x896 .f32) (r : Fin 1024) (q : Fin 896) :
    out0_A_2 c i arg3 harg3 arg4 harg4 arg5 harg5 arg6 harg6 hc0 hc1 x0 x1 (ix3 0 r q) = ∑ k : Fin 2048, x0 (ix2 r k) * x1 (ix2 k q) := by
  frame_out
  unfold k0_pay3 k0_pay2 k0_pay1
  pointwise

/-- The gradient: column `q` of block `b` is column `1792 b + q` of `hᵀ · dproj`. -/
def grad (a0 : S2048x2048.Idx → EReal) (a1 : S2048x14336.Idx → EReal) (b : Fin 8) (r : Fin 2048) (q : Fin 1792) : EReal :=
  ∑ k : Fin 2048, a0 (ix2 k r) * a1 (ix2 k ⟨b.val * 1792 + q.val, by omega⟩)

/-- The gradient as an array. -/
def arr (a0 : S2048x2048.Idx → EReal) (a1 : S2048x14336.Idx → EReal) : S8x2048x1792.Idx → EReal := fun j => grad a0 a1 (j 0) (j 1) (j 2)

variable (m : (ℓ : Loc nD τ sig) → Buf (Elt Ideal) ℓ) (c : Dev nD)

theorem lhs_read (r k : Fin 2048) : V m c main_v0 (ix2 r k) = m ((c.tc : Thread nD τ).loc main_arg0) (ix2 k r) := by
  unfold V
  after_reads_at

theorem index_0 : ∀ t : Fin cfg0.N, win0_0.index t = ![t.val / 16, 0] := by decide +kernel
theorem index_1 : ∀ t : Fin cfg0.N, win0_1.index t = ![0, t.val % 16] := by decide +kernel
theorem index_2 : ∀ t : Fin cfg0.N, win0_2.index t = ![t.val % 16 / 2, t.val / 16, t.val % 2] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 32 := t.isLt
  blk_simp
  rw [after0_2]
  obtain ⟨r, q, rfl⟩ : ∃ (r : Fin 1024) (q : Fin 896), y = ix3 0 r q := ⟨y 1, y 2, by blk_ext⟩
  refine (block_at c _ _ _ _ _ _ _ _ _ _ _ _ _ r q).trans ?_
  have e : (win0_2.blk t).view.emb (ix3 0 r q) = ix3 (⟨t.val % 16 / 2, by omega⟩ : Fin 8) (⟨1024 * (t.val / 16) + r.val, by omega⟩ : Fin 2048) (⟨896 * (t.val % 2) + q.val, by omega⟩ : Fin 1792) := by
    blk_ext [index_2]
  have e2 : arr (m ((c.tc : Thread nD τ).loc main_arg0)) (m ((c.tc : Thread nD τ).loc main_arg1)) ((win0_2.blk t).view.emb (ix3 0 r q))
      = grad (m ((c.tc : Thread nD τ).loc main_arg0)) (m ((c.tc : Thread nD τ).loc main_arg1)) (⟨t.val % 16 / 2, by omega⟩ : Fin 8) (⟨1024 * (t.val / 16) + r.val, by omega⟩ : Fin 2048) (⟨896 * (t.val % 2) + q.val, by omega⟩ : Fin 1792) :=
    congrArg _ e
  refine Eq.trans ?_ e2.symm
  refine Finset.sum_congr rfl fun k _ => congrArg₂ _ ?_ ?_
  · rw [← lhs_read m c]
    blk_simp [iblk]
    congr 1
    blk_ext [index_0]
  · rw [← V_main_arg1 m c]
    blk_simp [iblk]
    congr 1
    blk_ext [index_1]

open Cert.Reference2Ideal.Read in
theorem reference_eq (a0 : S2048x2048.Idx → EReal) (a1 : S2048x14336.Idx → EReal) : val_main_v7 (F := Ideal) a0 a1 = arr a0 a1 := by
  funext j
  obtain ⟨b, r, q, rfl⟩ : ∃ (b : Fin 8) (r : Fin 2048) (q : Fin 1792), j = ix3 b r q := ⟨j 0, j 1, j 2, by blk_ext⟩
  unfold val_main_v7 val_main_v6 val_main_v5 val_main_v4 val_main_v3 val_main_v1 arr grad
  pointwise
  exact Finset.sum_congr rfl fun k _ => mul_comm _ _

end Cert.Proof.DwSb

end
-- ==== Proof.MatDhSb.lean ====
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.StableHlo.ReadAt

/-! The gradient of the stick-breaking layer's normalised input, `dproj · wᵀ`: eight partial products are summed in a buffer that is carried over the grid. -/

@[expose] public section

set_option maxRecDepth 16384
set_option maxHeartbeats 1000000

noncomputable section

namespace Cert.Proof.DhSb

open Cert.Kernel3Ideal Cert.Kernel3Ideal.Gen
open Idealize.ShloMosaic Idealize.ShloMosaic.Pipeline
open Idealize.ShloMosaic.TcCoe Idealize.ShloMosaic.Tactic
open scoped BigOperators

/-- The first step of a block leaves one partial product. -/
theorem first_at (c : Dev nD) (i : grid0.Coords) (arg3 : Memref sig .tc .vmem S1024x1792 .f32) (harg3 : arg3.IsWhole) (arg4 : Memref sig .tc .vmem S1x1024x1792 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec Ideal S1024x1792 .f32) (x1 : Vec Ideal S1x1024x1792 .bf16) (r q : Fin 1024) :
    sout0_A_0 c i arg3 harg3 arg4 harg4 arg5 harg5 arg6 harg6 hc0 hc1 x0 x1 (ix2 r q) = ∑ k : Fin 1792, x0 (ix2 r k) * x1 (ix3 0 q k) := by
  frame_out
  unfold k0_pay2 k0_pay1
  pointwise

/-- A later step adds one. -/
theorem next_at (c : Dev nD) (i : grid0.Coords) (arg3 : Memref sig .tc .vmem S1024x1792 .f32) (harg3 : arg3.IsWhole) (arg4 : Memref sig .tc .vmem S1x1024x1792 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec Ideal S1024x1792 .f32) (x1 : Vec Ideal S1x1024x1792 .bf16) (xs0 : Vec Ideal S1024x1024 .f32) (r q : Fin 1024) :
    sout0_B_0 c i arg3 harg3 arg4 harg4 arg5 harg5 arg6 harg6 hc0 hc1 x0 x1 xs0 (ix2 r q) = xs0 (ix2 r q) + ∑ k : Fin 1792, x0 (ix2 r k) * x1 (ix3 0 q k) := by
  frame_out
  unfold k0_pay2
  pointwise

/-- The last step adds one and writes the sum to the result. -/
theorem last_at (c : Dev nD) (i : grid0.Coords) (arg3 : Memref sig .tc .vmem S1024x1792 .f32) (harg3 : arg3.IsWhole) (arg4 : Memref sig .tc .vmem S1x1024x1792 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x1792 .f32) (x1 : Vec Ideal S1x1024x1792 .bf16) (xs0 : Vec Ideal S1024x1024 .f32) (r q : Fin 1024) :
    out0_C_2 c i arg3 harg3 arg4 harg4 arg5 harg5 arg6 harg6 hc0 hc1 x0 x1 xs0 (ix2 r q) = xs0 (ix2 r q) + ∑ k : Fin 1792, x0 (ix2 r k) * x1 (ix3 0 q k) := by
  frame_out
  unfold k0_pay2
  pointwise

/-- The term of the sum at column `k`, for any numbers. -/
def term (a0 a1 : S2048x14336.Idx → EReal) (r q k : ℕ) : EReal :=
  if h : r < 2048 ∧ q < 2048 ∧ k < 14336 then a1 (ix2 ⟨r, h.1⟩ ⟨k, h.2.2⟩) * a0 (ix2 ⟨q, h.2.1⟩ ⟨k, h.2.2⟩) else 0

theorem term_eq (a0 a1 : S2048x14336.Idx → EReal) (r q : Fin 2048) (k : Fin 14336) :
    term a0 a1 r.val q.val k.val = a1 (ix2 r k) * a0 (ix2 q k) := by
  unfold term
  exact dif_pos ⟨r.isLt, q.isLt, k.isLt⟩

/-- The result as an array. -/
def arr (a0 a1 : S2048x14336.Idx → EReal) : S2048x2048.Idx → EReal :=
  fun j => ∑ k ∈ Finset.range 14336, term a0 a1 (j 0).val (j 1).val k

variable (m : (ℓ : Loc nD τ sig) → Buf (Elt Ideal) ℓ) (c : Dev nD)

theorem rhs_read (b : Fin 8) (r : Fin 2048) (q : Fin 1792) :
    V m c main_v2 (ix3 b r q) = m ((c.tc : Thread nD τ).loc main_arg0) (ix2 r ⟨b.val * 1792 + q.val, by omega⟩) := by
  unfold V
  after_reads_at

theorem index_0 : ∀ t : Fin cfg0.N, win0_0.index t = ![t.val / 16, t.val % 8] := by decide +kernel
theorem index_1 : ∀ t : Fin cfg0.N, win0_1.index t = ![t.val % 8, t.val / 8 % 2, 0] := by decide +kernel
theorem index_2 : ∀ t : Fin cfg0.N, win0_2.index t = ![t.val / 16, t.val / 8 % 2] := by decide +kernel
theorem flush_2 : ∀ t : Fin cfg0.N, win0_2.flush t = true → t.val % 8 = 7 := by decide +kernel

/-- The partial product of a point. -/
theorem part_at (t : Fin cfg0.N) (x0 : Vec Ideal S1024x1792 .f32) (x1 : Vec Ideal S1x1024x1792 .bf16) (h0 : x0 = iblk m c 0 t) (h1 : x1 = iblk m c 1 t) (r q : Fin 1024) :
    ∑ k : Fin 1792, x0 (ix2 r k) * x1 (ix3 0 q k)
      = ∑ k ∈ Finset.range 1792, term (m ((c.tc : Thread nD τ).loc main_arg0)) (m ((c.tc : Thread nD τ).loc main_arg1)) (1024 * (t.val / 16) + r.val) (1024 * (t.val / 8 % 2) + q.val) (1792 * (t.val % 8) + k) := by
  have ht : t.val < 32 := t.isLt
  rw [Finset.sum_range]
  refine Finset.sum_congr rfl fun k _ => ?_
  have hp : 1024 * (t.val / 16) + r.val < 2048 ∧ 1024 * (t.val / 8 % 2) + q.val < 2048 ∧ 1792 * (t.val % 8) + k.val < 14336 := by omega
  rw [term, dif_pos hp]
  refine congrArg₂ _ ?_ ?_
  · rw [← V_main_arg1 m c, h0]
    blk_simp [iblk]
    congr 1
    blk_ext [index_0]
  · have e := rhs_read m c ⟨t.val % 8, by omega⟩ ⟨1024 * (t.val / 8 % 2) + q.val, hp.2.1⟩ k
    rw [show (⟨1792 * (t.val % 8) + k.val, hp.2.2⟩ : Fin 14336) = ⟨(⟨t.val % 8, by omega⟩ : Fin 8).val * 1792 + k.val, by dsimp only; omega⟩ from Fin.ext (by dsimp only; omega),
      ← e, h1]
    blk_simp [iblk]
    congr 1
    blk_ext [index_1]

/-- The first point of a block. -/
theorem first_pt (t : Fin cfg0.N) (h0 : t.val % 8 = 0) (h1 : ¬t.val % 8 = 7) (r q : Fin 1024) : (outsAt0 m c t.val t.isLt).2 (ix2 r q)
    = ∑ k ∈ Finset.range 1792, term (m ((c.tc : Thread nD τ).loc main_arg0)) (m ((c.tc : Thread nD τ).loc main_arg1)) (1024 * (t.val / 16) + r.val) (1024 * (t.val / 8 % 2) + q.val) (1792 * (t.val % 8) + k) := by
  rw [← part_at m c t (iblk m c 0 t) (iblk m c 1 t) rfl rfl r q, outsAt0_A m c t h0 h1]
  have e := first_at c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r q
  rw [← e]

/-- A point in the middle. -/
theorem next_pt (t : Fin cfg0.N) (h0 : ¬t.val % 8 = 0) (h1 : ¬t.val % 8 = 7) (r q : Fin 1024) : (outsAt0 m c t.val t.isLt).2 (ix2 r q)
    = (outsAt0 m c (t.val - 1) (Nat.lt_of_le_of_lt (Nat.sub_le _ _) t.isLt)).2 (ix2 r q) + ∑ k ∈ Finset.range 1792, term (m ((c.tc : Thread nD τ).loc main_arg0)) (m ((c.tc : Thread nD τ).loc main_arg1)) (1024 * (t.val / 16) + r.val) (1024 * (t.val / 8 % 2) + q.val) (1792 * (t.val % 8) + k) := by
  rw [← part_at m c t (iblk m c 0 t) (iblk m c 1 t) rfl rfl r q, outsAt0_B m c t h0 h1]
  generalize (outsAt0 m c (t.val - 1) (Nat.lt_of_le_of_lt (Nat.sub_le _ _) t.isLt)).2 = xs
  have e := next_at c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) xs r q
  rw [← e]

/-- The last point. -/
theorem last_pt (t : Fin cfg0.N) (h0 : ¬t.val % 8 = 0) (h1 : t.val % 8 = 7) (r q : Fin 1024) : (outsAt0 m c t.val t.isLt).1 (ix2 r q)
    = (outsAt0 m c (t.val - 1) (Nat.lt_of_le_of_lt (Nat.sub_le _ _) t.isLt)).2 (ix2 r q) + ∑ k ∈ Finset.range 1792, term (m ((c.tc : Thread nD τ).loc main_arg0)) (m ((c.tc : Thread nD τ).loc main_arg1)) (1024 * (t.val / 16) + r.val) (1024 * (t.val / 8 % 2) + q.val) (1792 * (t.val % 8) + k) := by
  rw [← part_at m c t (iblk m c 0 t) (iblk m c 1 t) rfl rfl r q, outsAt0_C m c t h0 h1]
  generalize (outsAt0 m c (t.val - 1) (Nat.lt_of_le_of_lt (Nat.sub_le _ _) t.isLt)).2 = xs
  have e := last_at c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) xs r q
  rw [← e]

/-- The first tile of a sum. -/
theorem first_tile (f : ℕ → EReal) (n : ℕ) (h : n = 0) :
    ∑ k ∈ Finset.range 1792, f (1792 * n + k) = ∑ k ∈ Finset.range (1792 * (n + 1)), f k := by
  subst h
  simp only [Nat.mul_zero, Nat.zero_add, Nat.mul_one]

/-- A sum over one more tile. -/
theorem add_tile (f : ℕ → EReal) (n n' : ℕ) (h : n' + 1 = n) :
    ∑ k ∈ Finset.range (1792 * (n' + 1)), f k + ∑ k ∈ Finset.range 1792, f (1792 * n + k) = ∑ k ∈ Finset.range (1792 * (n + 1)), f k := by
  subst h
  rw [show 1792 * (n' + 1 + 1) = 1792 * (n' + 1) + 1792 by omega, Finset.sum_range_add]

/-- What the carried buffer holds after a point that is not the last of its block. -/
theorem carried : ∀ (n : ℕ) (h : n < cfg0.N), n % 8 ≠ 7 → ∀ r q : Fin 1024, (outsAt0 m c n h).2 (ix2 r q)
    = ∑ k ∈ Finset.range (1792 * (n % 8 + 1)), term (m ((c.tc : Thread nD τ).loc main_arg0)) (m ((c.tc : Thread nD τ).loc main_arg1)) (1024 * (n / 16) + r.val) (1024 * (n / 8 % 2) + q.val) k := by
  intro n
  induction n with
  | zero =>
    intro h h7 r q
    exact (first_pt m c ⟨0, h⟩ rfl h7 r q).trans (first_tile _ _ rfl)
  | succ n ih =>
    intro h h7 r q
    by_cases h0 : (n + 1) % 8 = 0
    · exact (first_pt m c ⟨n + 1, h⟩ h0 h7 r q).trans (first_tile _ _ h0)
    · have ih' := ih (by omega) (by omega) r q
      rw [show n / 16 = (n + 1) / 16 by omega, show n / 8 % 2 = (n + 1) / 8 % 2 by omega] at ih'
      refine (next_pt m c ⟨n + 1, h⟩ h0 h7 r q).trans ?_
      refine (congrArg₂ (· + ·) ih' rfl).trans ?_
      exact add_tile _ _ _ (by dsimp only; omega)

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have h7 := flush_2 t hfl
  have ht : t.val < 32 := t.isLt
  blk_simp
  rw [after0_2]
  obtain ⟨r, q, rfl⟩ : ∃ (r q : Fin 1024), y = ix2 r q := ⟨y 0, y 1, by blk_ext⟩
  refine (last_pt m c t (by omega) h7 r q).trans ?_
  have e : (win0_2.blk t).view.emb (ix2 r q) = ix2 (⟨1024 * (t.val / 16) + r.val, by omega⟩ : Fin 2048) (⟨1024 * (t.val / 8 % 2) + q.val, by omega⟩ : Fin 2048) := by
    blk_ext [index_2]
  have e2 : arr (m ((c.tc : Thread nD τ).loc main_arg0)) (m ((c.tc : Thread nD τ).loc main_arg1)) ((win0_2.blk t).view.emb (ix2 r q))
      = ∑ k ∈ Finset.range (1792 * (7 + 1)), term (m ((c.tc : Thread nD τ).loc main_arg0)) (m ((c.tc : Thread nD τ).loc main_arg1)) (1024 * (t.val / 16) + r.val) (1024 * (t.val / 8 % 2) + q.val) k :=
    congrArg (arr (m ((c.tc : Thread nD τ).loc main_arg0)) (m ((c.tc : Thread nD τ).loc main_arg1))) e
  refine Eq.trans ?_ e2.symm
  have hc := carried m c (t.val - 1) (by omega) (by omega) r q
  rw [show (t.val - 1) / 16 = t.val / 16 by omega, show (t.val - 1) / 8 % 2 = t.val / 8 % 2 by omega] at hc
  rw [← h7]
  refine (congrArg₂ (· + ·) hc rfl).trans ?_
  exact add_tile _ _ _ (by omega)

open Cert.Reference3Ideal.Read in
theorem reference_eq (a0 a1 : S2048x14336.Idx → EReal) : val_main_v2 (F := Ideal) a0 a1 = arr a0 a1 := by
  funext j
  obtain ⟨r, q, rfl⟩ : ∃ (r : Fin 2048) (q : Fin 2048), j = ix2 r q := ⟨j 0, j 1, by blk_ext⟩
  unfold val_main_v2
  pointwise
  have e : arr a0 a1 (ix2 r q) = ∑ k ∈ Finset.range 14336, term a0 a1 r.val q.val k := rfl
  rw [e, Finset.sum_range]
  exact Finset.sum_congr rfl fun k _ => (term_eq a0 a1 r q k).symm

end Cert.Proof.DhSb

end
-- ==== Proof.MatProjSb.lean ====
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.StableHlo.ReadAt

/-! The projection of the stick-breaking layer: each block the kernel writes is a block of `h · w`, read from the blocks the weights come in. -/

@[expose] public section

set_option maxRecDepth 16384
set_option maxHeartbeats 1000000

noncomputable section

namespace Cert.Proof.ProjSb

open Cert.Kernel4Ideal Cert.Kernel4Ideal.Gen
open Idealize.ShloMosaic Idealize.ShloMosaic.Pipeline
open Idealize.ShloMosaic.TcCoe Idealize.ShloMosaic.Tactic
open scoped BigOperators

/-- A block of the result is the product of the two blocks read. -/
theorem block_at (c : Dev nD) (i : grid0.Coords) (arg3 : Memref sig .tc .vmem S2048x2048 .bf16) (harg3 : arg3.IsWhole) (arg4 : Memref sig .tc .vmem S1x2048x896 .bf16) (harg4 : arg4.IsWhole) (arg5 : Memref sig .tc .vmem S2048x896 .f32) (harg5 : arg5.IsWhole) (arg6 : Memref sig .tc .vmem S2048x896 .f32) (harg6 : arg6.IsWhole) (hc0 : cond0_0 i) (hc1 : cond0_1 i)
    (x0 : Vec Ideal S2048x2048 .bf16) (x1 : Vec Ideal S1x2048x896 .bf16) (r : Fin 2048) (q : Fin 896) :
    out0_A_2 c i arg3 harg3 arg4 harg4 arg5 harg5 arg6 harg6 hc0 hc1 x0 x1 (ix2 r q) = ∑ k : Fin 2048, x0 (ix2 r k) * x1 (ix3 0 k q) := by
  frame_out
  unfold k0_pay2 k0_pay1
  pointwise

/-- An element of the product. -/
def prod (a0 : S2048x2048.Idx → EReal) (a1 : S2048x14336.Idx → EReal) (r : Fin 2048) (q : Fin 14336) : EReal :=
  ∑ k : Fin 2048, a0 (ix2 r k) * a1 (ix2 k q)

/-- The result as an array. -/
def arr (a0 : S2048x2048.Idx → EReal) (a1 : S2048x14336.Idx → EReal) : S2048x14336.Idx → EReal := fun j => prod a0 a1 (j 0) (j 1)

variable (m : (ℓ : Loc nD τ sig) → Buf (Elt Ideal) ℓ) (c : Dev nD)

theorem rhs_read (b : Fin 8) (r : Fin 2048) (q : Fin 1792) :
    V m c main_v2 (ix3 b r q) = m ((c.tc : Thread nD τ).loc main_arg1) (ix2 r ⟨b.val * 1792 + q.val, by omega⟩) := by
  unfold V
  after_reads_at

theorem index_0 : ∀ t : Fin cfg0.N, win0_0.index t = ![0, 0] := by decide +kernel
theorem index_1 : ∀ t : Fin cfg0.N, win0_1.index t = ![t.val / 2, 0, t.val % 2] := by decide +kernel
theorem index_2 : ∀ t : Fin cfg0.N, win0_2.index t = ![0, t.val] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 16 := t.isLt
  blk_simp
  rw [after0_2]
  obtain ⟨r, q, rfl⟩ : ∃ (r : Fin 2048) (q : Fin 896), y = ix2 r q := ⟨y 0, y 1, by blk_ext⟩
  refine (block_at c _ _ _ _ _ _ _ _ _ _ _ _ _ r q).trans ?_
  have e : (win0_2.blk t).view.emb (ix2 r q) = ix2 (⟨r.val, by omega⟩ : Fin 2048) (⟨896 * t.val + q.val, by omega⟩ : Fin 14336) := by
    blk_ext [index_2]
  have e2 : arr (m ((c.tc : Thread nD τ).loc main_arg0)) (m ((c.tc : Thread nD τ).loc main_arg1)) ((win0_2.blk t).view.emb (ix2 r q))
      = prod (m ((c.tc : Thread nD τ).loc main_arg0)) (m ((c.tc : Thread nD τ).loc main_arg1)) (⟨r.val, by omega⟩ : Fin 2048) (⟨896 * t.val + q.val, by omega⟩ : Fin 14336) :=
    congrArg _ e
  refine Eq.trans ?_ e2.symm
  refine Finset.sum_congr rfl fun k _ => congrArg₂ _ ?_ ?_
  · rw [← V_main_arg0 m c]
    blk_simp [iblk]
    congr 1
    blk_ext [index_0]
  · rw [show (⟨896 * t.val + q.val, by omega⟩ : Fin 14336) = ⟨(⟨t.val / 2, by omega⟩ : Fin 8).val * 1792 + (⟨896 * (t.val % 2) + q.val, by omega⟩ : Fin 1792).val, by dsimp only; omega⟩ from Fin.ext (by dsimp only; omega), ← rhs_read m c]
    blk_simp [iblk]
    congr 1
    blk_ext [index_1]

open Cert.Reference4Ideal.Read in
theorem reference_eq (a0 : S2048x2048.Idx → EReal) (a1 : S2048x14336.Idx → EReal) : val_main_v1 (F := Ideal) a0 a1 = arr a0 a1 := by
  funext j
  obtain ⟨r, q, rfl⟩ : ∃ (r : Fin 2048) (q : Fin 14336), j = ix2 r q := ⟨j 0, j 1, by blk_ext⟩
  unfold val_main_v1 val_main_v0 arr prod
  pointwise

end Cert.Proof.ProjSb

end
-- ==== Proof.MatDwDn.lean ====
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.StableHlo.ReadAt

/-! The gradient of the delta-net layer's projection matrix: each block the kernel writes is a block of `hᵀ · dproj`. -/

@[expose] public section

set_option maxRecDepth 16384
set_option maxHeartbeats 1000000

noncomputable section

namespace Cert.Proof.DwDn

open Cert.Kernel5Ideal Cert.Kernel5Ideal.Gen
open Idealize.ShloMosaic Idealize.ShloMosaic.Pipeline
open Idealize.ShloMosaic.TcCoe Idealize.ShloMosaic.Tactic
open scoped BigOperators

/-- A block of the result is the product of the two blocks read. -/
theorem block_at (c : Dev nD) (i : grid0.Coords) (arg3 : Memref sig .tc .vmem S1024x2048 .bf16) (harg3 : arg3.IsWhole) (arg4 : Memref sig .tc .vmem S2048x1152 .f32) (harg4 : arg4.IsWhole) (arg5 : Memref sig .tc .vmem S1024x1152 .bf16) (harg5 : arg5.IsWhole) (arg6 : Memref sig .tc .vmem S1024x1152 .f32) (harg6 : arg6.IsWhole) (hc0 : cond0_0 i) (hc1 : cond0_1 i)
    (x0 : Vec Ideal S1024x2048 .bf16) (x1 : Vec Ideal S2048x1152 .f32) (r : Fin 1024) (q : Fin 1152) :
    out0_A_2 c i arg3 harg3 arg4 harg4 arg5 harg5 arg6 harg6 hc0 hc1 x0 x1 (ix2 r q) = ∑ k : Fin 2048, x0 (ix2 r k) * x1 (ix2 k q) := by
  frame_out
  unfold k0_pay3 k0_pay2 k0_pay1
  pointwise

/-- An element of the gradient. -/
def prod (a0 : S2048x2048.Idx → EReal) (a1 : S2048x11520.Idx → EReal) (r : Fin 2048) (q : Fin 11520) : EReal :=
  ∑ k : Fin 2048, a0 (ix2 k r) * a1 (ix2 k q)

/-- The result as an array. -/
def arr (a0 : S2048x2048.Idx → EReal) (a1 : S2048x11520.Idx → EReal) : S2048x11520.Idx → EReal := fun j => prod a0 a1 (j 0) (j 1)

variable (m : (ℓ : Loc nD τ sig) → Buf (Elt Ideal) ℓ) (c : Dev nD)

theorem lhs_read (r k : Fin 2048) : V m c main_v0 (ix2 r k) = m ((c.tc : Thread nD τ).loc main_arg0) (ix2 k r) := by
  unfold V
  after_reads_at

theorem index_0 : ∀ t : Fin cfg0.N, win0_0.index t = ![t.val / 10, 0] := by decide +kernel
theorem index_1 : ∀ t : Fin cfg0.N, win0_1.index t = ![0, t.val % 10] := by decide +kernel
theorem index_2 : ∀ t : Fin cfg0.N, win0_2.index t = ![t.val / 10, t.val % 10] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 20 := t.isLt
  blk_simp
  rw [after0_2]
  obtain ⟨r, q, rfl⟩ : ∃ (r : Fin 1024) (q : Fin 1152), y = ix2 r q := ⟨y 0, y 1, by blk_ext⟩
  refine (block_at c _ _ _ _ _ _ _ _ _ _ _ _ _ r q).trans ?_
  have e : (win0_2.blk t).view.emb (ix2 r q) = ix2 (⟨1024 * (t.val / 10) + r.val, by omega⟩ : Fin 2048) (⟨1152 * (t.val % 10) + q.val, by omega⟩ : Fin 11520) := by
    blk_ext [index_2]
  have e2 : arr (m ((c.tc : Thread nD τ).loc main_arg0)) (m ((c.tc : Thread nD τ).loc main_arg1)) ((win0_2.blk t).view.emb (ix2 r q))
      = prod (m ((c.tc : Thread nD τ).loc main_arg0)) (m ((c.tc : Thread nD τ).loc main_arg1)) (⟨1024 * (t.val / 10) + r.val, by omega⟩ : Fin 2048) (⟨1152 * (t.val % 10) + q.val, by omega⟩ : Fin 11520) :=
    congrArg _ e
  refine Eq.trans ?_ e2.symm
  refine Finset.sum_congr rfl fun k _ => congrArg₂ _ ?_ ?_
  · rw [← lhs_read m c]
    blk_simp [iblk]
    congr 1
    blk_ext [index_0]
  · rw [← V_main_arg1 m c]
    blk_simp [iblk]
    congr 1
    blk_ext [index_1]

open Cert.Reference5Ideal.Read in
theorem reference_eq (a0 : S2048x2048.Idx → EReal) (a1 : S2048x11520.Idx → EReal) : val_main_v5 (F := Ideal) a0 a1 = arr a0 a1 := by
  funext j
  obtain ⟨r, q, rfl⟩ : ∃ (r : Fin 2048) (q : Fin 11520), j = ix2 r q := ⟨j 0, j 1, by blk_ext⟩
  unfold val_main_v5 val_main_v4 val_main_v3 val_main_v1 arr prod
  pointwise
  exact Finset.sum_congr rfl fun k _ => mul_comm _ _

end Cert.Proof.DwDn

end
-- ==== Proof.MatDwOut.lean ====
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.StableHlo.ReadAt

/-! The gradient of an output projection's matrix: each block the kernel writes is a block of `yᵀ · dx`. -/

@[expose] public section

set_option maxRecDepth 16384
set_option maxHeartbeats 1000000

noncomputable section

namespace Cert.Proof.DwOut

open Cert.Kernel6Ideal Cert.Kernel6Ideal.Gen
open Idealize.ShloMosaic Idealize.ShloMosaic.Pipeline
open Idealize.ShloMosaic.TcCoe Idealize.ShloMosaic.Tactic
open scoped BigOperators

/-- A block of the result is the product of the two blocks read. -/
theorem block_at (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : cond0_1 i)
    (x0 : Vec Ideal S2048x1024 .bf16) (x1 : Vec Ideal S2048x1024 .f32) (r : Fin 1024) (q : Fin 1024) :
    out0_A_2 c i arg3 harg3 arg4 harg4 arg5 harg5 arg6 harg6 hc0 hc1 x0 x1 (ix2 r q) = ∑ k : Fin 2048, x0 (ix2 k r) * x1 (ix2 k q) := by
  frame_out
  unfold k0_pay3 k0_pay2 k0_pay1
  pointwise

/-- An element of the gradient. -/
def prod (a0 : S2048x4096.Idx → EReal) (a1 : S2048x2048.Idx → EReal) (r : Fin 4096) (q : Fin 2048) : EReal :=
  ∑ k : Fin 2048, a0 (ix2 k r) * a1 (ix2 k q)

/-- The result as an array. -/
def arr (a0 : S2048x4096.Idx → EReal) (a1 : S2048x2048.Idx → EReal) : S4096x2048.Idx → EReal := fun j => prod a0 a1 (j 0) (j 1)

variable (m : (ℓ : Loc nD τ sig) → Buf (Elt Ideal) ℓ) (c : Dev nD)

theorem index_0 : ∀ t : Fin cfg0.N, win0_0.index t = ![0, t.val / 2] := by decide +kernel
theorem index_1 : ∀ t : Fin cfg0.N, win0_1.index t = ![0, t.val % 2] := by decide +kernel
theorem index_2 : ∀ t : Fin cfg0.N, win0_2.index t = ![t.val / 2, t.val % 2] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 8 := t.isLt
  blk_simp
  rw [after0_2]
  obtain ⟨r, q, rfl⟩ : ∃ (r : Fin 1024) (q : Fin 1024), y = ix2 r q := ⟨y 0, y 1, by blk_ext⟩
  refine (block_at c _ _ _ _ _ _ _ _ _ _ _ _ _ r q).trans ?_
  have e : (win0_2.blk t).view.emb (ix2 r q) = ix2 (⟨1024 * (t.val / 2) + r.val, by omega⟩ : Fin 4096) (⟨1024 * (t.val % 2) + q.val, by omega⟩ : Fin 2048) := by
    blk_ext [index_2]
  have e2 : arr (m ((c.tc : Thread nD τ).loc main_arg0)) (m ((c.tc : Thread nD τ).loc main_arg1)) ((win0_2.blk t).view.emb (ix2 r q))
      = prod (m ((c.tc : Thread nD τ).loc main_arg0)) (m ((c.tc : Thread nD τ).loc main_arg1)) (⟨1024 * (t.val / 2) + r.val, by omega⟩ : Fin 4096) (⟨1024 * (t.val % 2) + q.val, by omega⟩ : Fin 2048) :=
    congrArg _ e
  refine Eq.trans ?_ e2.symm
  refine Finset.sum_congr rfl fun k _ => congrArg₂ _ ?_ ?_
  · rw [← V_main_arg0 m c]
    blk_simp [iblk]
    congr 1
    blk_ext [index_0]
  · rw [← V_main_arg1 m c]
    blk_simp [iblk]
    congr 1
    blk_ext [index_1]

open Cert.Reference6Ideal.Read in
theorem reference_eq (a0 : S2048x4096.Idx → EReal) (a1 : S2048x2048.Idx → EReal) : val_main_v5 (F := Ideal) a0 a1 = arr a0 a1 := by
  funext j
  obtain ⟨r, q, rfl⟩ : ∃ (r : Fin 4096) (q : Fin 2048), j = ix2 r q := ⟨j 0, j 1, by blk_ext⟩
  unfold val_main_v5 val_main_v4 val_main_v3 val_main_v1 arr prod
  pointwise
  exact Finset.sum_congr rfl fun k _ => mul_comm _ _

end Cert.Proof.DwOut

end
-- ==== Proof.MatDyOut.lean ====
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.StableHlo.ReadAt

/-! The gradient of an output projection's argument: each block the kernel writes is a block of `dx · wᵀ`. -/

@[expose] public section

set_option maxRecDepth 16384
set_option maxHeartbeats 1000000

noncomputable section

namespace Cert.Proof.DyOut

open Cert.Kernel7Ideal Cert.Kernel7Ideal.Gen
open Idealize.ShloMosaic Idealize.ShloMosaic.Pipeline
open Idealize.ShloMosaic.TcCoe Idealize.ShloMosaic.Tactic
open scoped BigOperators

/-- A block of the result is the product of the two blocks read. -/
theorem block_at (c : Dev nD) (i : grid0.Coords) (arg3 : Memref sig .tc .vmem S1024x2048 .f32) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : cond0_1 i)
    (x0 : Vec Ideal S1024x2048 .f32) (x1 : Vec Ideal S1024x2048 .bf16) (r : Fin 1024) (q : Fin 1024) :
    out0_A_2 c i arg3 harg3 arg4 harg4 arg5 harg5 arg6 harg6 hc0 hc1 x0 x1 (ix2 r q) = ∑ k : Fin 2048, x0 (ix2 r k) * x1 (ix2 q k) := by
  frame_out
  unfold k0_pay2 k0_pay1
  pointwise

/-- An element of the gradient. -/
def prod (a0 : S4096x2048.Idx → EReal) (a1 : S2048x2048.Idx → EReal) (r : Fin 2048) (q : Fin 4096) : EReal :=
  ∑ k : Fin 2048, a1 (ix2 r k) * a0 (ix2 q k)

/-- The result as an array. -/
def arr (a0 : S4096x2048.Idx → EReal) (a1 : S2048x2048.Idx → EReal) : S2048x4096.Idx → EReal := fun j => prod a0 a1 (j 0) (j 1)

variable (m : (ℓ : Loc nD τ sig) → Buf (Elt Ideal) ℓ) (c : Dev nD)

theorem rhs_read (q : Fin 4096) (k : Fin 2048) : V m c main_v0 (ix2 q k) = m ((c.tc : Thread nD τ).loc main_arg0) (ix2 q k) := by
  unfold V
  after_reads_at

theorem index_0 : ∀ t : Fin cfg0.N, win0_0.index t = ![t.val / 4, 0] := by decide +kernel
theorem index_1 : ∀ t : Fin cfg0.N, win0_1.index t = ![t.val % 4, 0] := by decide +kernel
theorem index_2 : ∀ t : Fin cfg0.N, win0_2.index t = ![t.val / 4, t.val % 4] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 8 := t.isLt
  blk_simp
  rw [after0_2]
  obtain ⟨r, q, rfl⟩ : ∃ (r : Fin 1024) (q : Fin 1024), y = ix2 r q := ⟨y 0, y 1, by blk_ext⟩
  refine (block_at c _ _ _ _ _ _ _ _ _ _ _ _ _ r q).trans ?_
  have e : (win0_2.blk t).view.emb (ix2 r q) = ix2 (⟨1024 * (t.val / 4) + r.val, by omega⟩ : Fin 2048) (⟨1024 * (t.val % 4) + q.val, by omega⟩ : Fin 4096) := by
    blk_ext [index_2]
  have e2 : arr (m ((c.tc : Thread nD τ).loc main_arg0)) (m ((c.tc : Thread nD τ).loc main_arg1)) ((win0_2.blk t).view.emb (ix2 r q))
      = prod (m ((c.tc : Thread nD τ).loc main_arg0)) (m ((c.tc : Thread nD τ).loc main_arg1)) (⟨1024 * (t.val / 4) + r.val, by omega⟩ : Fin 2048) (⟨1024 * (t.val % 4) + q.val, by omega⟩ : Fin 4096) :=
    congrArg _ e
  refine Eq.trans ?_ e2.symm
  refine Finset.sum_congr rfl fun k _ => congrArg₂ _ ?_ ?_
  · rw [← V_main_arg1 m c]
    blk_simp [iblk]
    congr 1
    blk_ext [index_0]
  · rw [← rhs_read m c]
    blk_simp [iblk]
    congr 1
    blk_ext [index_1]

open Cert.Reference7Ideal.Read in
theorem reference_eq (a0 : S4096x2048.Idx → EReal) (a1 : S2048x2048.Idx → EReal) : val_main_v2 (F := Ideal) a0 a1 = arr a0 a1 := by
  funext j
  obtain ⟨r, q, rfl⟩ : ∃ (r : Fin 2048) (q : Fin 4096), j = ix2 r q := ⟨j 0, j 1, by blk_ext⟩
  unfold val_main_v2 arr prod
  pointwise

end Cert.Proof.DyOut

end
-- ==== Proof.MatOutProj.lean ====
module

public import proofs.«01_k».proof.Defs
public import proofs.«01_k».proof.Proof.Gen.Kernel8Ideal.Value
public import proofs.«01_k».proof.Proof.Gen.Reference8Ideal.Read
public import Idealize.ShloMosaic.Lib.Pipeline.ValueKit
public import Idealize.ShloMosaic.Lib.StableHlo.ReadAt

/-! The output projection of the stick-breaking layer on the residual stream, `x + y · w`: two partial products are summed in a buffer that is carried over the grid. -/

@[expose] public section

set_option maxRecDepth 16384
set_option maxHeartbeats 1000000

noncomputable section

namespace Cert.Proof.OutProj

open Cert.Kernel8Ideal Cert.Kernel8Ideal.Gen
open Idealize.ShloMosaic Idealize.ShloMosaic.Pipeline
open Idealize.ShloMosaic.TcCoe Idealize.ShloMosaic.Tactic
open scoped BigOperators

/-- The first step of a block leaves one partial product. -/
theorem first_at (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec Ideal S1024x2048 .bf16) (x1 : Vec Ideal S2048x1024 .bf16) (x2 : Vec Ideal S1024x1024 .f32) (r q : Fin 1024) :
    sout0_A_0 c i arg3 harg3 arg4 harg4 arg5 harg5 arg6 harg6 arg7 harg7 hc0 hc1 x0 x1 x2 (ix2 r q) = ∑ k : Fin 2048, x0 (ix2 r k) * x1 (ix2 k q) := by
  frame_out
  unfold k0_pay2 k0_pay1
  pointwise

/-- The last step adds one and writes the sum and the residual to the result. -/
theorem last_at (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec Ideal S1024x2048 .bf16) (x1 : Vec Ideal S2048x1024 .bf16) (x2 : Vec Ideal S1024x1024 .f32) (xs0 : Vec Ideal S1024x1024 .f32) (r q : Fin 1024) :
    out0_B_3 c i arg3 harg3 arg4 harg4 arg5 harg5 arg6 harg6 arg7 harg7 hc0 hc1 x0 x1 x2 xs0 (ix2 r q) = (xs0 (ix2 r q) + ∑ k : Fin 2048, x0 (ix2 r k) * x1 (ix2 k q)) + x2 (ix2 r q) := by
  frame_out
  unfold k0_pay3 k0_pay2
  pointwise

/-- The term of the sum at column `k`, for any numbers. -/
def term (a0 : S2048x4096.Idx → EReal) (a1 : S4096x2048.Idx → EReal) (r q k : ℕ) : EReal :=
  if h : r < 2048 ∧ q < 2048 ∧ k < 4096 then a0 (ix2 ⟨r, h.1⟩ ⟨k, h.2.2⟩) * a1 (ix2 ⟨k, h.2.2⟩ ⟨q, h.2.1⟩) else 0

theorem term_eq (a0 : S2048x4096.Idx → EReal) (a1 : S4096x2048.Idx → EReal) (r q : Fin 2048) (k : Fin 4096) :
    term a0 a1 r.val q.val k.val = a0 (ix2 r k) * a1 (ix2 k q) := by
  unfold term
  exact dif_pos ⟨r.isLt, q.isLt, k.isLt⟩

/-- The result as an array. -/
def arr (a0 : S2048x4096.Idx → EReal) (a1 : S4096x2048.Idx → EReal) (a2 : S2048x2048.Idx → EReal) : S2048x2048.Idx → EReal :=
  fun j => (∑ k ∈ Finset.range 4096, term a0 a1 (j 0).val (j 1).val k) + a2 j

variable (m : (ℓ : Loc nD τ sig) → Buf (Elt Ideal) ℓ) (c : Dev nD)

theorem rhs_read (r : Fin 4096) (q : Fin 2048) :
    V m c main_v0 (ix2 r q) = m ((c.tc : Thread nD τ).loc main_arg1) (ix2 r q) := by
  unfold V
  after_reads_at

theorem index_0 : ∀ t : Fin cfg0.N, win0_0.index t = ![t.val / 4, t.val % 2] := by decide +kernel
theorem index_1 : ∀ t : Fin cfg0.N, win0_1.index t = ![t.val % 2, t.val / 2 % 2] := by decide +kernel
theorem index_2 : ∀ t : Fin cfg0.N, win0_2.index t = ![t.val / 4, t.val / 2 % 2] := by decide +kernel
theorem index_3 : ∀ t : Fin cfg0.N, win0_3.index t = ![t.val / 4, t.val / 2 % 2] := by decide +kernel
theorem flush_3 : ∀ t : Fin cfg0.N, win0_3.flush t = true → t.val % 2 = 1 := by decide +kernel

/-- The partial product of a point. -/
theorem part_at (t : Fin cfg0.N) (x0 : Vec Ideal S1024x2048 .bf16) (x1 : Vec Ideal S2048x1024 .bf16) (h0 : x0 = iblk m c 0 t) (h1 : x1 = iblk m c 1 t) (r q : Fin 1024) :
    ∑ k : Fin 2048, x0 (ix2 r k) * x1 (ix2 k q)
      = ∑ k ∈ Finset.range 2048, term (m ((c.tc : Thread nD τ).loc main_arg0)) (m ((c.tc : Thread nD τ).loc main_arg1)) (1024 * (t.val / 4) + r.val) (1024 * (t.val / 2 % 2) + q.val) (2048 * (t.val % 2) + k) := by
  have ht : t.val < 8 := t.isLt
  rw [Finset.sum_range]
  refine Finset.sum_congr rfl fun k _ => ?_
  have hp : 1024 * (t.val / 4) + r.val < 2048 ∧ 1024 * (t.val / 2 % 2) + q.val < 2048 ∧ 2048 * (t.val % 2) + k.val < 4096 := by omega
  rw [term, dif_pos hp]
  refine congrArg₂ _ ?_ ?_
  · rw [← V_main_arg0 m c, h0]
    blk_simp [iblk]
    congr 1
    blk_ext [index_0]
  · have e := rhs_read m c ⟨2048 * (t.val % 2) + k.val, hp.2.2⟩ ⟨1024 * (t.val / 2 % 2) + q.val, hp.2.1⟩
    rw [← e, h1]
    blk_simp [iblk]
    congr 1
    blk_ext [index_1]

/-- The residual block of a point. -/
theorem add_at (t : Fin cfg0.N) (x2 : Vec Ideal S1024x1024 .f32) (h2 : x2 = iblk m c 2 t) (r q : Fin 1024)
    (hr : 1024 * (t.val / 4) + r.val < 2048) (hq : 1024 * (t.val / 2 % 2) + q.val < 2048) :
    x2 (ix2 r q) = (m ((c.tc : Thread nD τ).loc main_arg2)) (ix2 ⟨1024 * (t.val / 4) + r.val, hr⟩ ⟨1024 * (t.val / 2 % 2) + q.val, hq⟩) := by
  rw [← V_main_arg2 m c, h2]
  blk_simp [iblk]
  congr 1
  blk_ext [index_2]

/-- The first point of a block. -/
theorem first_pt (t : Fin cfg0.N) (h0 : t.val % 2 = 0) (h1 : ¬t.val % 2 = 1) (r q : Fin 1024) : (outsAt0 m c t.val t.isLt).2 (ix2 r q)
    = ∑ k ∈ Finset.range 2048, term (m ((c.tc : Thread nD τ).loc main_arg0)) (m ((c.tc : Thread nD τ).loc main_arg1)) (1024 * (t.val / 4) + r.val) (1024 * (t.val / 2 % 2) + q.val) (2048 * (t.val % 2) + k) := by
  rw [← part_at m c t (iblk m c 0 t) (iblk m c 1 t) rfl rfl r q, outsAt0_A m c t h0 h1]
  have e := first_at c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) r q
  rw [← e]

/-- The last point. -/
theorem last_pt (t : Fin cfg0.N) (h0 : ¬t.val % 2 = 0) (h1 : t.val % 2 = 1) (r q : Fin 1024)
    (hr : 1024 * (t.val / 4) + r.val < 2048) (hq : 1024 * (t.val / 2 % 2) + q.val < 2048) : (outsAt0 m c t.val t.isLt).1 (ix2 r q)
    = ((outsAt0 m c (t.val - 1) (Nat.lt_of_le_of_lt (Nat.sub_le _ _) t.isLt)).2 (ix2 r q) + ∑ k ∈ Finset.range 2048, term (m ((c.tc : Thread nD τ).loc main_arg0)) (m ((c.tc : Thread nD τ).loc main_arg1)) (1024 * (t.val / 4) + r.val) (1024 * (t.val / 2 % 2) + q.val) (2048 * (t.val % 2) + k))
      + (m ((c.tc : Thread nD τ).loc main_arg2)) (ix2 ⟨1024 * (t.val / 4) + r.val, hr⟩ ⟨1024 * (t.val / 2 % 2) + q.val, hq⟩) := by
  rw [← part_at m c t (iblk m c 0 t) (iblk m c 1 t) rfl rfl r q, ← add_at m c t (iblk m c 2 t) rfl r q hr hq, outsAt0_B m c t h0 h1]
  generalize (outsAt0 m c (t.val - 1) (Nat.lt_of_le_of_lt (Nat.sub_le _ _) t.isLt)).2 = xs
  have e := last_at c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) xs r q
  rw [← e]

/-- The two halves of a sum. -/
theorem two_tiles (f : ℕ → EReal) (a b : ℕ) (ha : a = 0) (hb : b = 1) :
    ∑ k ∈ Finset.range 2048, f (2048 * a + k) + ∑ k ∈ Finset.range 2048, f (2048 * b + k) = ∑ k ∈ Finset.range 4096, f k := by
  subst ha hb
  rw [show 4096 = 2048 + 2048 from rfl, Finset.sum_range_add]
  simp only [Nat.mul_zero, Nat.zero_add, Nat.mul_one]

theorem final : (dats m 0 c).arrAt 3 cfg0.N = arr (m ((c.tc : Thread nD τ).loc main_arg0)) (m ((c.tc : Thread nD τ).loc main_arg1)) (m ((c.tc : Thread nD τ).loc main_arg2)) := by
  refine (dats m 0 c).arrAt_eq_of_covers 3 _ (by decide +kernel) fun t hfl y => ?_
  have h7 := flush_3 t hfl
  have ht : t.val < 8 := t.isLt
  blk_simp
  rw [after0_3]
  obtain ⟨r, q, rfl⟩ : ∃ (r q : Fin 1024), y = ix2 r q := ⟨y 0, y 1, by blk_ext⟩
  have hr : 1024 * (t.val / 4) + r.val < 2048 := by omega
  have hq : 1024 * (t.val / 2 % 2) + q.val < 2048 := by omega
  refine (last_pt m c t (by omega) h7 r q hr hq).trans ?_
  have e : (win0_3.blk t).view.emb (ix2 r q) = ix2 (⟨1024 * (t.val / 4) + r.val, hr⟩ : Fin 2048) (⟨1024 * (t.val / 2 % 2) + q.val, hq⟩ : Fin 2048) := by
    blk_ext [index_3]
  have e2 : arr (m ((c.tc : Thread nD τ).loc main_arg0)) (m ((c.tc : Thread nD τ).loc main_arg1)) (m ((c.tc : Thread nD τ).loc main_arg2)) ((win0_3.blk t).view.emb (ix2 r q))
      = ∑ k ∈ Finset.range 4096, term (m ((c.tc : Thread nD τ).loc main_arg0)) (m ((c.tc : Thread nD τ).loc main_arg1)) (1024 * (t.val / 4) + r.val) (1024 * (t.val / 2 % 2) + q.val) k + (m ((c.tc : Thread nD τ).loc main_arg2)) (ix2 ⟨1024 * (t.val / 4) + r.val, hr⟩ ⟨1024 * (t.val / 2 % 2) + q.val, hq⟩) :=
    congrArg (arr (m ((c.tc : Thread nD τ).loc main_arg0)) (m ((c.tc : Thread nD τ).loc main_arg1)) (m ((c.tc : Thread nD τ).loc main_arg2))) e
  refine Eq.trans ?_ e2.symm
  refine congrArg₂ (· + ·) ?_ rfl
  have hc := first_pt m c ⟨t.val - 1, by omega⟩ (by dsimp only; omega) (by dsimp only; omega) r q
  dsimp only at hc
  rw [show (t.val - 1) / 4 = t.val / 4 by omega, show (t.val - 1) / 2 % 2 = t.val / 2 % 2 by omega] at hc
  refine (congrArg₂ (· + ·) hc rfl).trans ?_
  exact two_tiles _ _ _ (by omega) h7

open Cert.Reference8Ideal.Read in
theorem reference_eq (a0 : S2048x4096.Idx → EReal) (a1 : S4096x2048.Idx → EReal) (a2 : S2048x2048.Idx → EReal) : val_main_v2 (F := Ideal) a0 a1 a2 = arr a0 a1 a2 := by
  funext j
  obtain ⟨r, q, rfl⟩ : ∃ (r : Fin 2048) (q : Fin 2048), j = ix2 r q := ⟨j 0, j 1, by blk_ext⟩
  unfold val_main_v2 val_main_v1 val_main_v0
  pointwise
  have e : arr a0 a1 a2 (ix2 r q) = (∑ k ∈ Finset.range 4096, term a0 a1 r.val q.val k) + a2 (ix2 r q) := rfl
  rw [e, Finset.sum_range, add_comm]
  exact congrArg₂ (· + ·) (Finset.sum_congr rfl fun k _ => (term_eq a0 a1 r q k).symm) rfl

end Cert.Proof.OutProj

end
-- ==== Proof.NormCore.lean ====
module

public import Idealize.ShloMosaic.Lib.Pipeline.ValueKit
public import Idealize.ShloMosaic.Lib.StableHlo.ReadAt
public import Idealize.ShloMosaic.Lib.WritesUnit

/-! The arithmetic of the gradient of a root-mean-square norm, for any extended real numbers: nothing is assumed finite. -/

@[expose] public section

noncomputable section

namespace Cert.Proof.NormCore

open Idealize.ShloMosaic
open scoped BigOperators

/-- A square is not negative. -/
theorem sq_nonneg' (x : EReal) : 0 ≤ x * x := by
  rcases le_total 0 x with h | h
  · exact mul_nonneg h h
  · have e : x * x = (-x) * (-x) := (neg_mul_neg x x).symm
    have h' : 0 ≤ -x := by rw [EReal.neg_nonneg]; exact h
    rw [e]
    exact mul_nonneg h' h'

/-- The word of the small constant that is added to the mean square is a positive real number. -/
theorem eps_pos : ∃ e : ℝ, 0 < e ∧ Ideal.ofBits .f32 0x358637BD#32 = (e : EReal) := by
  refine ⟨8796093 * 2 ^ (-43 : ℤ), by positivity, ?_⟩
  simp only [Ideal.ofBits, Ideal.ieee]
  rw [if_neg (by decide), if_neg (by decide)]
  norm_num [show (BitVec.extractLsb' 31 1 897988541#32 = 1#1) = False by decide, Nat.shiftRight_eq_div_pow]

theorem word_2048 : Ideal.ofBits .f32 0x45000000#32 = ((2048 : ℝ) : EReal) := by
  simp only [Ideal.ofBits, Ideal.ieee]
  rw [if_neg (by decide), if_neg (by decide)]
  norm_num [show (BitVec.extractLsb' 31 1 1157627904#32 = 1#1) = False by decide, Nat.shiftRight_eq_div_pow]

theorem word_128 : Ideal.ofBits .f32 0x43000000#32 = ((128 : ℝ) : EReal) := by
  simp only [Ideal.ofBits, Ideal.ieee]
  rw [if_neg (by decide), if_neg (by decide)]
  norm_num [show (BitVec.extractLsb' 31 1 1124073472#32 = 1#1) = False by decide, Nat.shiftRight_eq_div_pow]

theorem word_half : Ideal.ofBits .f32 0xBF000000#32 = ((-(1 / 2) : ℝ) : EReal) := by
  simp only [Ideal.ofBits, Ideal.ieee]
  rw [if_neg (by decide), if_neg (by decide)]
  norm_num [show (BitVec.extractLsb' 31 1 3204448256#32 = 1#1) = True by decide, Nat.shiftRight_eq_div_pow]

/-- The cube of the inverse root is the inverse root over the mean square: a real number in every case. -/
theorem cube (T : EReal) (hT : 0 ≤ T) (N E : EReal) (n e : ℝ) (hn : 0 < n) (he : 0 < e) (hN : N = (n : EReal)) (hE : E = (e : EReal)) :
    ∃ c : ℝ, 0 ≤ c ∧ Ideal.rsqrt (Ideal.div T N + E) * Ideal.rsqrt (Ideal.div T N + E) * Ideal.rsqrt (Ideal.div T N + E) = (c : EReal)
      ∧ Ideal.div (Ideal.rsqrt (Ideal.div T N + E)) (Ideal.div T N + E) = (c : EReal) := by
  subst hN hE
  rw [Ideal.div_coe hn.ne']
  induction T using EReal.rec with
  | bot => exact absurd hT (by simp)
  | top =>
    refine ⟨0, le_refl _, ?_, ?_⟩
    all_goals
      rw [EReal.top_mul_coe_of_pos (by positivity), EReal.top_add_coe]
      simp [Ideal.div]
  | coe t =>
    have ht : 0 ≤ t := by exact_mod_cast hT
    have hM : 0 < t * (1 / n) + e := by positivity
    have eM : (t : EReal) * ((1 / n : ℝ) : EReal) + (e : EReal) = ((t * (1 / n) + e : ℝ) : EReal) := by push_cast; rfl
    rw [eM]
    generalize t * (1 / n) + e = M at hM
    have hs : 0 < Real.sqrt M := Real.sqrt_pos.mpr hM
    have er : Ideal.rsqrt ((M : ℝ) : EReal) = (((Real.sqrt M)⁻¹ : ℝ) : EReal) := by
      rw [Ideal.rsqrt_coe, if_neg hM.not_gt, if_neg hM.ne']
    rw [er]
    refine ⟨(Real.sqrt M)⁻¹ * (1 / M), by positivity, ?_, ?_⟩
    · rw [← EReal.coe_mul, ← EReal.coe_mul]
      congr 1
      have h2 : Real.sqrt M * Real.sqrt M = M := Real.mul_self_sqrt hM.le
      rw [mul_comm ((Real.sqrt M)⁻¹ * (Real.sqrt M)⁻¹), ← mul_inv, h2, one_div]
    · rw [Ideal.div_coe hM.ne', ← EReal.coe_mul]

/-- Twice a number times half a factor that is not positive. -/
theorem twice (u : EReal) (k : ℝ) (hk : k ≤ 0) : u * (k : EReal) + u * (k : EReal) = u * ((2 * k : ℝ) : EReal) := by
  rcases hk.lt_or_eq with h | h
  · induction u using EReal.rec with
    | bot => rw [EReal.bot_mul_coe_of_neg h, EReal.bot_mul_coe_of_neg (by linarith)]; rfl
    | top => rw [EReal.top_mul_coe_of_neg h, EReal.top_mul_coe_of_neg (by linarith)]; rfl
    | coe r => rw [← EReal.coe_mul, ← EReal.coe_mul, ← EReal.coe_add]; congr 1; ring
  · subst h; simp

/-- The two forms of the gradient of the norm at one element: the kernel's, with the cube of the inverse root, and the one of differentiating the mean square. -/
theorem grad (T : EReal) (hT : 0 ≤ T) (N E H : EReal) (n e : ℝ) (hn : 0 < n) (he : 0 < e) (hN : N = (n : EReal)) (hE : E = (e : EReal)) (hH : H = ((-(1 / 2) : ℝ) : EReal)) (S x y : EReal) :
    Ideal.rsqrt (Ideal.div T N + E) * y
        - x * (Ideal.rsqrt (Ideal.div T N + E) * Ideal.rsqrt (Ideal.div T N + E) * Ideal.rsqrt (Ideal.div T N + E)) * Ideal.div S N
      = y * Ideal.rsqrt (Ideal.div T N + E)
        + x * Ideal.div (S * (H * Ideal.div (Ideal.rsqrt (Ideal.div T N + E)) (Ideal.div T N + E))) N
        + Ideal.div (S * (H * Ideal.div (Ideal.rsqrt (Ideal.div T N + E)) (Ideal.div T N + E))) N * x := by
  obtain ⟨c, hc, e1, e2⟩ := cube T hT N E n e hn he hN hE
  have eD : ∀ u : EReal, Ideal.div u N = u * ((1 / n : ℝ) : EReal) := fun u => by rw [hN, Ideal.div_coe hn.ne']
  rw [e1, e2, hH, eD S, eD (S * _)]
  rw [sub_eq_add_neg, mul_comm y, add_assoc]
  congr 1
  have ek : S * (((-(1 / 2) : ℝ) : EReal) * (c : EReal)) * ((1 / n : ℝ) : EReal) = S * ((-(1 / 2) * c * (1 / n) : ℝ) : EReal) := by
    rw [mul_assoc, EReal.coe_mul (-(1 / 2) * c), EReal.coe_mul (-(1 / 2))]
  rw [ek, mul_comm (S * _) x, ← mul_assoc x S, twice (x * S) _ (by
    have : 0 ≤ c * (1 / n) := by positivity
    linarith), show (2 * (-(1 / 2) * c * (1 / n)) : ℝ) = -(c * (1 / n)) by ring, EReal.coe_neg, mul_neg, EReal.coe_mul]
  congr 1
  rw [mul_assoc x (c : EReal), ← mul_assoc (c : EReal) S, mul_comm (c : EReal) S, mul_assoc S, ← mul_assoc x S]

/-! ## The first row of an eight-row array, to which sums are added -/

variable {n : ℕ}

/-- The eight-row shape. -/
abbrev S8 (n : ℕ) : Shape := ⟨2, ![8, n]⟩

theorem row_emb (inb : ∀ a : Fin 2, (![0, 0] : Fin 2 → ℕ) a + (![1, n] : Fin 2 → ℕ) a ≤ (S8 n).size a) (q : Fin n) :
    (Rect.unit (s := S8 n) ![0, 0] ![1, n] inb).emb (ix2 0 q) = ix2 0 q := by
  funext a
  match a with
  | ⟨0, _⟩ => exact Fin.ext rfl
  | ⟨1, _⟩ => exact Fin.ext (by show 0 + 1 * q.val = q.val; omega)

theorem row_not_mem (inb : ∀ a : Fin 2, (![0, 0] : Fin 2 → ℕ) a + (![1, n] : Fin 2 → ℕ) a ≤ (S8 n).size a) (r : Fin 8) (hr : r ≠ 0) (q : Fin n) :
    ix2 r q ∉ (Rect.unit (s := S8 n) ![0, 0] ![1, n] inb).set := by
  rw [Rect.mem_set_unit]
  intro h
  have h0 : r.val < 0 + 1 := (h 0).2
  exact hr (Fin.ext (by omega))

/-- Row 0 of what a store of the first row leaves is its payload; -/
theorem canon_row {e : EltTy} (inb : ∀ a : Fin 2, (![0, 0] : Fin 2 → ℕ) a + (![1, n] : Fin 2 → ℕ) a ≤ (S8 n).size a)
    (w : (Rect.unit (s := S8 n) ![0, 0] ![1, n] inb).shape.Idx → Elt Ideal e) (L : List (View.Piece (Elt Ideal) (S8 n) e)) (q : Fin n) :
    View.canon ((⟨Rect.unit ![0, 0] ![1, n] inb, w⟩ : View.Piece (Elt Ideal) (S8 n) e) :: L) (ix2 0 q) = w (ix2 0 q) := by
  have h := View.canon_cons_emb (Rect.unit (s := S8 n) ![0, 0] ![1, n] inb) w L (ix2 0 q)
  rw [row_emb] at h
  exact h

/-- the other rows are what the earlier stores left. -/
theorem canon_other {e : EltTy} (inb : ∀ a : Fin 2, (![0, 0] : Fin 2 → ℕ) a + (![1, n] : Fin 2 → ℕ) a ≤ (S8 n).size a)
    (w : (Rect.unit (s := S8 n) ![0, 0] ![1, n] inb).shape.Idx → Elt Ideal e) (L : List (View.Piece (Elt Ideal) (S8 n) e)) (r : Fin 8) (hr : r ≠ 0) (q : Fin n) :
    View.canon ((⟨Rect.unit ![0, 0] ![1, n] inb, w⟩ : View.Piece (Elt Ideal) (S8 n) e) :: L) (ix2 r q) = View.canon L (ix2 r q) :=
  View.canon_cons_of_not_mem _ L (row_not_mem inb r hr q)

theorem read_row {sig : RefSig} {κ : Kind} {sp : Space} {e : EltTy} (v : View sig κ sp (S8 n) e) (f : v.ty.Contents (Elt Ideal))
    (inb : ∀ a : Fin 2, (![0, 0] : Fin 2 → ℕ) a + (![1, n] : Fin 2 → ℕ) a ≤ (S8 n).size a)
    (w : (Rect.unit (s := S8 n) ![0, 0] ![1, n] inb).shape.Idx → Elt Ideal e) (q : Fin n) :
    v.read (Elt Ideal) (v.writes (Elt Ideal) f [(⟨Rect.unit ![0, 0] ![1, n] inb, w⟩ : View.Piece (Elt Ideal) (S8 n) e)]) (ix2 0 q) = w (ix2 0 q) :=
  View.read_writes_cons_unit_of_mem v f inb w [] (ix2 0 q) (ix2 0 q) rfl fun a => by
    match a with
    | ⟨0, _⟩ => rfl
    | ⟨1, _⟩ => show q.val = 0 + q.val; omega

theorem read_other {sig : RefSig} {κ : Kind} {sp : Space} {e : EltTy} (v : View sig κ sp (S8 n) e) (f : v.ty.Contents (Elt Ideal))
    (inb : ∀ a : Fin 2, (![0, 0] : Fin 2 → ℕ) a + (![1, n] : Fin 2 → ℕ) a ≤ (S8 n).size a)
    (w : (Rect.unit (s := S8 n) ![0, 0] ![1, n] inb).shape.Idx → Elt Ideal e) (r : Fin 8) (hr : r ≠ 0) (q : Fin n) :
    v.read (Elt Ideal) (v.writes (Elt Ideal) f [(⟨Rect.unit ![0, 0] ![1, n] inb, w⟩ : View.Piece (Elt Ideal) (S8 n) e)]) (ix2 r q) = v.read (Elt Ideal) f (ix2 r q) :=
  View.read_writes_cons_unit_of_not_mem v f inb w [] (ix2 r q) rfl 0 (.inr (by
    have : r.val ≠ 0 := fun h => hr (Fin.ext h)
    show 0 + 1 ≤ r.val; omega))

/-- A load of the first row. -/
theorem ld_row {e : EltTy} (X : (S8 n).Idx → Elt Ideal e) (inb : ∀ a : Fin 2, (![0, 0] : Fin 2 → ℕ) a + (![1, n] : Fin 2 → ℕ) a ≤ (S8 n).size a) (q : Fin n) :
    View.ld X (Rect.unit (s := S8 n) ![0, 0] ![1, n] inb) (ix2 0 q) = X (ix2 0 q) :=
  congrArg X (row_emb inb q)

/-- A load of the first row after a store of the whole array. -/
theorem readCov_row {sig : RefSig} {κ : Kind} {sp : Space} {e : EltTy} (v : View sig κ sp (S8 n) e)
    (inb' : ∀ a : Fin 2, (![0, 0] : Fin 2 → ℕ) a + (S8 n).size a ≤ (S8 n).size a)
    (inb : ∀ a : Fin 2, (![0, 0] : Fin 2 → ℕ) a + (![1, n] : Fin 2 → ℕ) a ≤ (S8 n).size a) (w : (S8 n).Idx → Elt Ideal e) (q : Fin n) :
    v.readCov [(⟨Rect.unit ![0, 0] (S8 n).size inb', w⟩ : View.Piece (Elt Ideal) (S8 n) e)] (Rect.unit (s := S8 n) ![0, 0] ![1, n] inb).toLoadRect (ix2 0 q) = w (ix2 0 q) := by
  have z : ∀ a : Fin 2, (![0, 0] : Fin 2 → ℕ) a = 0 := fun a => by fin_cases a <;> rfl
  rw [View.readCov_eq_canon_ld _ _ _ (fun y => ⟨_, List.mem_cons_self, by
    rw [Rect.mem_set_unit]; intro a; have := (y a).isLt; rw [z a]; omega⟩), View.canon_cons_unit_lit inb' w [] z]
  exact ld_row w inb q

end Cert.Proof.NormCore

end
-- ==== Proof.NormBwd.lean ====
module

public import proofs.«01_k».proof.Defs
public import proofs.«01_k».proof.Proof.Gen.Kernel9Ideal.Value
public import proofs.«01_k».proof.Proof.Gen.Reference9Ideal.Read
public import proofs.«01_k».proof.Proof.NormCore

/-! The gradient of the root-mean-square norm of a layer: the gradient of its input, added to the residual gradient, and the gradient of its gain, summed over the row blocks in the first row of the result. -/

@[expose] public section

set_option maxRecDepth 16384
set_option maxHeartbeats 1000000

noncomputable section

namespace Cert.Proof.NormBwd

open Cert.Kernel9Ideal Cert.Kernel9Ideal.Gen
open Idealize.ShloMosaic Idealize.ShloMosaic.Pipeline
open Idealize.ShloMosaic.TcCoe Idealize.ShloMosaic.Tactic
open scoped BigOperators

/-- The inverse root of the mean square of a row. -/
def inv (T : EReal) : EReal := Ideal.rsqrt (Ideal.div T (Ideal.ofBits .f32 0x45000000#32) + Ideal.ofBits .f32 0x358637BD#32)

/-- The gradient of the input at one element, from the sums over its row. -/
def dxAt (T S x y d : EReal) : EReal := inv T * y - x * (inv T * inv T * inv T) * Ideal.div S (Ideal.ofBits .f32 0x45000000#32) + d

theorem dx_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S8x2048 .f32) (harg6 : arg6.IsWhole) (hc0 : cond0_0 i)
    (x0 : Vec Ideal S256x2048 .f32) (x1 : Vec Ideal S256x2048 .f32) (x2 : Vec Ideal S8x2048 .f32) (x3 : Vec Ideal S256x2048 .f32) (r : Fin 256) (q : Fin 2048) :
    out0_A_4 c i arg1 harg1 arg2 harg2 arg3 harg3 arg4 harg4 arg5 harg5 arg6 harg6 hc0 x0 x1 x2 x3 (ix2 r q)
      = dxAt (∑ k : Fin 2048, x1 (ix2 r k) * x1 (ix2 r k)) (∑ k : Fin 2048, x0 (ix2 r k) * x2 (ix2 0 k) * x1 (ix2 r k)) (x1 (ix2 r q)) (x0 (ix2 r q) * x2 (ix2 0 q)) (x3 (ix2 r q)) := by
  unfold dxAt inv
  frame_out
  unfold k0_pay4 k0_pay3
  pointwise

theorem dx_B (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S8x2048 .f32) (harg6 : arg6.IsWhole) (hc0 : ¬cond0_0 i)
    (x0 : Vec Ideal S256x2048 .f32) (x1 : Vec Ideal S256x2048 .f32) (x2 : Vec Ideal S8x2048 .f32) (x3 : Vec Ideal S256x2048 .f32) (xo5 : Vec Ideal S8x2048 .f32) (r : Fin 256) (q : Fin 2048) :
    out0_B_4 c i arg1 harg1 arg2 harg2 arg3 harg3 arg4 harg4 arg5 harg5 arg6 harg6 hc0 x0 x1 x2 x3 xo5 (ix2 r q)
      = dxAt (∑ k : Fin 2048, x1 (ix2 r k) * x1 (ix2 r k)) (∑ k : Fin 2048, x0 (ix2 r k) * x2 (ix2 0 k) * x1 (ix2 r k)) (x1 (ix2 r q)) (x0 (ix2 r q) * x2 (ix2 0 q)) (x3 (ix2 r q)) := by
  unfold dxAt inv
  frame_out
  unfold k0_pay4 k0_pay3
  pointwise

theorem pay_at (p : Vec Ideal S1x2048 .f32) (x0 x1 : Vec Ideal S256x2048 .f32) (q : Fin 2048) :
    k0_pay1 (F := Ideal) (k0_pay5 p) (k0_pay6 x1 x0) (k0_pay7 x1) (ix2 0 q) = p (ix2 0 q) + ∑ k : Fin 256, x0 (ix2 k q) * x1 (ix2 k q) * inv (∑ l : Fin 2048, x1 (ix2 k l) * x1 (ix2 k l)) := by
  unfold inv k0_pay1 k0_pay5 k0_pay6 k0_pay7 k0_pay3
  pointwise

theorem dg_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S8x2048 .f32) (harg6 : arg6.IsWhole) (hc0 : cond0_0 i)
    (x0 : Vec Ideal S256x2048 .f32) (x1 : Vec Ideal S256x2048 .f32) (x2 : Vec Ideal S8x2048 .f32) (x3 : Vec Ideal S256x2048 .f32) (q : Fin 2048) :
    out0_A_5 c i arg1 harg1 arg2 harg2 arg3 harg3 arg4 harg4 arg5 harg5 arg6 harg6 hc0 x0 x1 x2 x3 (ix2 0 q) = ∑ k : Fin 256, x0 (ix2 k q) * x1 (ix2 k q) * inv (∑ l : Fin 2048, x1 (ix2 k l) * x1 (ix2 k l)) := by
  frame_out
  refine (NormCore.canon_row _ _ _ q).trans ((pay_at _ x0 x1 q).trans ?_)
  refine (congrArg (· + _) ((NormCore.readCov_row _ _ _ _ q).trans (?_ : _ = (0 : EReal)))).trans (zero_add _)
  unfold k0_pay2
  pointwise

theorem dg_A_other (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S8x2048 .f32) (harg6 : arg6.IsWhole) (hc0 : cond0_0 i)
    (x0 : Vec Ideal S256x2048 .f32) (x1 : Vec Ideal S256x2048 .f32) (x2 : Vec Ideal S8x2048 .f32) (x3 : Vec Ideal S256x2048 .f32) (r : Fin 8) (hr : r ≠ 0) (q : Fin 2048) :
    out0_A_5 c i arg1 harg1 arg2 harg2 arg3 harg3 arg4 harg4 arg5 harg5 arg6 harg6 hc0 x0 x1 x2 x3 (ix2 r q) = 0 := by
  frame_out
  refine (NormCore.canon_other _ _ _ r hr q).trans ?_
  refine (congrFun (View.canon_cons_unit_lit _ _ [] (fun a => by fin_cases a <;> rfl)) _).trans ?_
  unfold k0_pay2
  pointwise

theorem dg_B (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S8x2048 .f32) (harg6 : arg6.IsWhole) (hc0 : ¬cond0_0 i)
    (x0 : Vec Ideal S256x2048 .f32) (x1 : Vec Ideal S256x2048 .f32) (x2 : Vec Ideal S8x2048 .f32) (x3 : Vec Ideal S256x2048 .f32) (xo5 : Vec Ideal S8x2048 .f32) (q : Fin 2048) :
    out0_B_5 c i arg1 harg1 arg2 harg2 arg3 harg3 arg4 harg4 arg5 harg5 arg6 harg6 hc0 x0 x1 x2 x3 xo5 (ix2 0 q) = xo5 (ix2 0 q) + ∑ k : Fin 256, x0 (ix2 k q) * x1 (ix2 k q) * inv (∑ l : Fin 2048, x1 (ix2 k l) * x1 (ix2 k l)) := by
  frame_out
  refine (NormCore.read_row _ _ _ _ q).trans ((pay_at _ x0 x1 q).trans ?_)
  exact congrArg (· + _) (NormCore.ld_row xo5 _ q)

theorem dg_B_other (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S8x2048 .f32) (harg6 : arg6.IsWhole) (hc0 : ¬cond0_0 i)
    (x0 : Vec Ideal S256x2048 .f32) (x1 : Vec Ideal S256x2048 .f32) (x2 : Vec Ideal S8x2048 .f32) (x3 : Vec Ideal S256x2048 .f32) (xo5 : Vec Ideal S8x2048 .f32) (r : Fin 8) (hr : r ≠ 0) (q : Fin 2048) :
    out0_B_5 c i arg1 harg1 arg2 harg2 arg3 harg3 arg4 harg4 arg5 harg5 arg6 harg6 hc0 x0 x1 x2 x3 xo5 (ix2 r q) = xo5 (ix2 r q) := by
  frame_out
  refine (NormCore.read_other _ _ _ _ r hr q).trans ?_
  exact congrFun (harg6.read_unread xo5) _

/-! ## The results as arrays -/

/-- The sum of the squares of row `r`. -/
def sq (a1 : S2048x2048.Idx → EReal) (r : Fin 2048) : EReal := ∑ k : Fin 2048, a1 (ix2 r k) * a1 (ix2 r k)

/-- The gradient of the input with the residual gradient added. -/
def dxArr (a0 a1 : S2048x2048.Idx → EReal) (a2 : S2048.Idx → EReal) (a3 : S2048x2048.Idx → EReal) : S2048x2048.Idx → EReal := fun j =>
  dxAt (sq a1 (j 0)) (∑ k : Fin 2048, a0 (ix2 (j 0) k) * a2 (ix1 k) * a1 (ix2 (j 0) k)) (a1 (ix2 (j 0) (j 1))) (a0 (ix2 (j 0) (j 1)) * a2 (ix1 (j 1))) (a3 (ix2 (j 0) (j 1)))

/-- A row's term of the gradient of the gain, for any row number. -/
def term (a0 a1 : S2048x2048.Idx → EReal) (q : Fin 2048) (r : ℕ) : EReal :=
  if h : r < 2048 then a0 (ix2 ⟨r, h⟩ q) * a1 (ix2 ⟨r, h⟩ q) * inv (sq a1 ⟨r, h⟩) else 0

/-- The gradient of the gain in the first of eight rows. -/
def dgArr (a0 a1 : S2048x2048.Idx → EReal) : S8x2048.Idx → EReal := fun j =>
  if (j 0).val = 0 then ∑ r ∈ Finset.range 2048, term a0 a1 (j 1) r else 0

variable (m : (ℓ : Loc nD τ sig) → Buf (Elt Ideal) ℓ) (c : Dev nD)

theorem gain_read (q : Fin 2048) : V m c main_v1 (ix2 0 q) = m ((c.tc : Thread nD τ).loc main_arg2) (ix1 q) := by
  unfold V
  after_reads_at

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![0, 0] := by decide +kernel
theorem flush_5 : ∀ t : Fin cfg0.N, win0_5.flush t = true → t.val = 7 := by decide +kernel

/-- Row `256 t + r`. -/
abbrev rowOf (t : Fin cfg0.N) (r : Fin 256) : Fin 2048 := ⟨256 * t.val + r.val, by have : t.val < 8 := t.isLt; omega⟩

theorem blk_0 (t : Fin cfg0.N) (x : Vec Ideal S256x2048 .f32) (h : x = iblk m c 0 t) (r : Fin 256) (q : Fin 2048) :
    x (ix2 r q) = m ((c.tc : Thread nD τ).loc main_arg0) (ix2 (rowOf t r) q) := by
  rw [← V_main_arg0 m c, h]
  blk_simp [iblk]
  congr 1
  blk_ext [index_0]

theorem blk_1 (t : Fin cfg0.N) (x : Vec Ideal S256x2048 .f32) (h : x = iblk m c 1 t) (r : Fin 256) (q : Fin 2048) :
    x (ix2 r q) = m ((c.tc : Thread nD τ).loc main_arg1) (ix2 (rowOf t r) q) := by
  rw [← V_main_arg1 m c, h]
  blk_simp [iblk]
  congr 1
  blk_ext [index_1]

theorem blk_3 (t : Fin cfg0.N) (x : Vec Ideal S256x2048 .f32) (h : x = iblk m c 3 t) (r : Fin 256) (q : Fin 2048) :
    x (ix2 r q) = m ((c.tc : Thread nD τ).loc main_arg3) (ix2 (rowOf t r) q) := by
  rw [← V_main_arg3 m c, h]
  blk_simp [iblk]
  congr 1
  blk_ext [index_3]

theorem blk_2 (t : Fin cfg0.N) (x : Vec Ideal S8x2048 .f32) (h : x = iblk m c 2 t) (q : Fin 2048) :
    x (ix2 0 q) = m ((c.tc : Thread nD τ).loc main_arg2) (ix1 q) := by
  rw [← gain_read m c q, h]
  blk_simp [iblk]
  congr 1
  blk_ext [index_2]

/-- What a point writes of the gradient of the input, from its blocks. -/
theorem dx_at (t : Fin cfg0.N) (x0 : Vec Ideal S256x2048 .f32) (x1 : Vec Ideal S256x2048 .f32) (x2 : Vec Ideal S8x2048 .f32) (x3 : Vec Ideal S256x2048 .f32)
    (h0 : x0 = iblk m c 0 t) (h1 : x1 = iblk m c 1 t) (h2 : x2 = iblk m c 2 t) (h3 : x3 = iblk m c 3 t) (r : Fin 256) (q : Fin 2048) :
    dxAt (∑ k : Fin 2048, x1 (ix2 r k) * x1 (ix2 r k)) (∑ k : Fin 2048, x0 (ix2 r k) * x2 (ix2 0 k) * x1 (ix2 r k)) (x1 (ix2 r q)) (x0 (ix2 r q) * x2 (ix2 0 q)) (x3 (ix2 r q))
      = dxArr (m ((c.tc : Thread nD τ).loc main_arg0)) (m ((c.tc : Thread nD τ).loc main_arg1)) (m ((c.tc : Thread nD τ).loc main_arg2)) (m ((c.tc : Thread nD τ).loc main_arg3)) (ix2 (rowOf t r) q) := by
  simp only [blk_0 m c t x0 h0, blk_1 m c t x1 h1, blk_2 m c t x2 h2, blk_3 m c t x3 h3]
  rfl

/-- What a point adds to the gradient of the gain. -/
theorem part_at (t : Fin cfg0.N) (x0 x1 : Vec Ideal S256x2048 .f32) (h0 : x0 = iblk m c 0 t) (h1 : x1 = iblk m c 1 t) (q : Fin 2048) :
    ∑ k : Fin 256, x0 (ix2 k q) * x1 (ix2 k q) * inv (∑ l : Fin 2048, x1 (ix2 k l) * x1 (ix2 k l)) = ∑ k ∈ Finset.range 256, term (m ((c.tc : Thread nD τ).loc main_arg0)) (m ((c.tc : Thread nD τ).loc main_arg1)) q (256 * t.val + k) := by
  rw [Finset.sum_range]
  refine Finset.sum_congr rfl fun k _ => ?_
  have hk : 256 * t.val + k.val < 2048 := (rowOf t k).isLt
  rw [term, dif_pos hk]
  simp only [blk_0 m c t x0 h0, blk_1 m c t x1 h1]
  rfl

theorem dx_pt (t : Fin cfg0.N) (r : Fin 256) (q : Fin 2048) : (outsAt0 m c t.val t.isLt).1 (ix2 r q)
    = dxArr (m ((c.tc : Thread nD τ).loc main_arg0)) (m ((c.tc : Thread nD τ).loc main_arg1)) (m ((c.tc : Thread nD τ).loc main_arg2)) (m ((c.tc : Thread nD τ).loc main_arg3)) (ix2 (rowOf t r) q) := by
  rw [← dx_at m c t (iblk m c 0 t) (iblk m c 1 t) (iblk m c 2 t) (iblk m c 3 t) rfl rfl rfl rfl r q]
  by_cases h0 : t.val % 8 = 0
  · rw [outsAt0_A m c t h0]
    have e := dx_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) r q
    rw [← e]
  · rw [outsAt0_B m c t h0]
    generalize (outsAt0 m c (t.val - 1) (Nat.lt_of_le_of_lt (Nat.sub_le _ _) t.isLt)).2 = xs
    have e := dx_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) xs r q
    rw [← e]

theorem first_pt (t : Fin cfg0.N) (h0 : t.val % 8 = 0) (q : Fin 2048) : (outsAt0 m c t.val t.isLt).2 (ix2 0 q)
    = ∑ k ∈ Finset.range 256, term (m ((c.tc : Thread nD τ).loc main_arg0)) (m ((c.tc : Thread nD τ).loc main_arg1)) q (256 * t.val + k) := by
  rw [← part_at m c t (iblk m c 0 t) (iblk m c 1 t) rfl rfl q, outsAt0_A m c t h0]
  have e := dg_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) q
  rw [← e]

theorem first_other (t : Fin cfg0.N) (h0 : t.val % 8 = 0) (r : Fin 8) (hr : r ≠ 0) (q : Fin 2048) : (outsAt0 m c t.val t.isLt).2 (ix2 r q) = 0 := by
  rw [outsAt0_A m c t h0]
  have e := dg_A_other c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) r hr q
  rw [← e]

theorem next_pt (t : Fin cfg0.N) (h0 : ¬t.val % 8 = 0) (q : Fin 2048) : (outsAt0 m c t.val t.isLt).2 (ix2 0 q)
    = (outsAt0 m c (t.val - 1) (Nat.lt_of_le_of_lt (Nat.sub_le _ _) t.isLt)).2 (ix2 0 q) + ∑ k ∈ Finset.range 256, term (m ((c.tc : Thread nD τ).loc main_arg0)) (m ((c.tc : Thread nD τ).loc main_arg1)) q (256 * t.val + k) := by
  rw [← part_at m c t (iblk m c 0 t) (iblk m c 1 t) rfl rfl q, outsAt0_B m c t h0]
  generalize (outsAt0 m c (t.val - 1) (Nat.lt_of_le_of_lt (Nat.sub_le _ _) t.isLt)).2 = xs
  have e := dg_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) xs q
  rw [← e]

theorem next_other (t : Fin cfg0.N) (h0 : ¬t.val % 8 = 0) (r : Fin 8) (hr : r ≠ 0) (q : Fin 2048) : (outsAt0 m c t.val t.isLt).2 (ix2 r q)
    = (outsAt0 m c (t.val - 1) (Nat.lt_of_le_of_lt (Nat.sub_le _ _) t.isLt)).2 (ix2 r q) := by
  rw [outsAt0_B m c t h0]
  generalize (outsAt0 m c (t.val - 1) (Nat.lt_of_le_of_lt (Nat.sub_le _ _) t.isLt)).2 = xs
  have e := dg_B_other c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) xs r hr q
  rw [← e]

/-- What the gain's block holds after a point. -/
theorem carried : ∀ (n : ℕ) (h : n < cfg0.N) (q : Fin 2048), (outsAt0 m c n h).2 (ix2 0 q) = ∑ k ∈ Finset.range (256 * (n + 1)), term (m ((c.tc : Thread nD τ).loc main_arg0)) (m ((c.tc : Thread nD τ).loc main_arg1)) q k
    ∧ ∀ r : Fin 8, r ≠ 0 → (outsAt0 m c n h).2 (ix2 r q) = 0 := by
  intro n
  induction n with
  | zero =>
    intro h q
    refine ⟨(first_pt m c ⟨0, h⟩ rfl q).trans ?_, fun r hr => first_other m c ⟨0, h⟩ rfl r hr q⟩
    simp only [Nat.mul_zero, Nat.zero_add, Nat.mul_one]
  | succ n ih =>
    intro h q
    have hn : n + 1 < 8 := h
    have h0 : ¬(n + 1) % 8 = 0 := by omega
    obtain ⟨i0, i1⟩ := ih (by omega) q
    refine ⟨(next_pt m c ⟨n + 1, h⟩ h0 q).trans ((congrArg₂ (· + ·) i0 rfl).trans ?_), fun r hr => (next_other m c ⟨n + 1, h⟩ h0 r hr q).trans (i1 r hr)⟩
    show ∑ k ∈ Finset.range (256 * (n + 1)), term (m ((c.tc : Thread nD τ).loc main_arg0)) (m ((c.tc : Thread nD τ).loc main_arg1)) q k + ∑ k ∈ Finset.range 256, term (m ((c.tc : Thread nD τ).loc main_arg0)) (m ((c.tc : Thread nD τ).loc main_arg1)) q (256 * (n + 1) + k) = _
    rw [show 256 * (n + 1 + 1) = 256 * (n + 1) + 256 by omega, Finset.sum_range_add]

theorem final_4 : (dats m 0 c).arrAt 4 cfg0.N = dxArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hfl y => ?_
  blk_simp
  rw [after0_4]
  obtain ⟨r, q, rfl⟩ : ∃ (r : Fin 256) (q : Fin 2048), y = ix2 r q := ⟨y 0, y 1, by blk_ext⟩
  refine (dx_pt m c t r q).trans ?_
  have e : (win0_4.blk t).view.emb (ix2 r q) = ix2 (rowOf t r) q := by blk_ext [index_4]
  exact congrArg (dxArr (m ((c.tc : Thread nD τ).loc main_arg0)) (m ((c.tc : Thread nD τ).loc main_arg1)) (m ((c.tc : Thread nD τ).loc main_arg2)) (m ((c.tc : Thread nD τ).loc main_arg3))) e.symm

theorem final_5 : (dats m 0 c).arrAt 5 cfg0.N = dgArr (m ((c.tc : Thread nD τ).loc main_arg0)) (m ((c.tc : Thread nD τ).loc main_arg1)) := by
  refine (dats m 0 c).arrAt_eq_of_covers 5 _ (by decide +kernel) fun t hfl y => ?_
  have h7 := flush_5 t hfl
  blk_simp
  rw [after0_5]
  obtain ⟨r, q, rfl⟩ : ∃ (r : Fin 8) (q : Fin 2048), y = ix2 r q := ⟨y 0, y 1, by blk_ext⟩
  have e : (win0_5.blk t).view.emb (ix2 r q) = ix2 r q := by blk_ext [index_5]
  refine Eq.trans ?_ (congrArg (dgArr (m ((c.tc : Thread nD τ).loc main_arg0)) (m ((c.tc : Thread nD τ).loc main_arg1))) e.symm)
  obtain ⟨i0, i1⟩ := carried m c t.val t.isLt q
  by_cases hr : r = 0
  · subst hr
    refine i0.trans ?_
    rw [h7]
    rfl
  · refine (i1 r hr).trans ?_
    have hv : ¬r.val = 0 := fun h => hr (Fin.ext h)
    exact (if_neg hv).symm

/-! ## The reference -/

open Cert.Reference9Ideal.Read in
theorem ref_dx (a0 a1 : S2048x2048.Idx → EReal) (a2 : S2048.Idx → EReal) (a3 : S2048x2048.Idx → EReal) : val_main_v36 (F := Ideal) a0 a1 a2 a3 = dxArr a0 a1 a2 a3 := by
  funext j
  obtain ⟨r, q, rfl⟩ : ∃ (r : Fin 2048) (q : Fin 2048), j = ix2 r q := ⟨j 0, j 1, by blk_ext⟩
  unfold val_main_v36 val_main_v35 val_main_v34 val_main_v33 val_main_v32 val_main_v31 val_main_v30 val_main_v29 val_main_v28 val_main_v27 val_main_v26 val_main_v25 val_main_v24 val_main_v23 val_main_v22 val_main_v20 val_main_v19 val_main_v13 val_main_v10 val_main_v9 val_main_v8 val_main_v7 val_main_v6 val_main_v5 val_main_v4 val_main_v3 val_main_v2 val_main_v1 val_main_v0 val_main_cst val_main_cst_0 val_main_cst_1 val_main_cst_2 val_main_cst_5 val_main_cst_6 val_main_cst_7
  pointwise
  simp only [Finset.univ_unique, Finset.sum_const, Finset.card_singleton, one_smul]
  obtain ⟨e, he, hE⟩ := NormCore.eps_pos
  have hT : 0 ≤ ∑ x : Fin 2048, a1 (ix2 r x) * a1 (ix2 r x) := Finset.sum_nonneg fun x _ => NormCore.sq_nonneg' _
  have hS : ∑ x : Fin 2048, a1 (ix2 r x) * (a0 (ix2 r x) * a2 (ix1 x)) = ∑ x : Fin 2048, a0 (ix2 r x) * a2 (ix1 x) * a1 (ix2 r x) :=
    Finset.sum_congr rfl fun x _ => mul_comm _ _
  rw [hS, add_comm (a3 _)]
  refine (congrArg (· + a3 (ix2 r q)) (NormCore.grad _ hT _ _ _ 2048 e (by norm_num) he NormCore.word_2048 hE NormCore.word_half _ _ _)).symm.trans ?_
  rfl

open Cert.Reference9Ideal.Read in
theorem ref_dg (a0 a1 : S2048x2048.Idx → EReal) : val_main_v39 (F := Ideal) a0 a1 = dgArr a0 a1 := by
  funext j
  obtain ⟨r, q, rfl⟩ : ∃ (r : Fin 8) (q : Fin 2048), j = ix2 r q := ⟨j 0, j 1, by blk_ext⟩
  unfold val_main_v39 val_main_v38 val_main_v37 val_main_v21 val_main_v18 val_main_v17 val_main_v16 val_main_v12 val_main_v11 val_main_v7 val_main_v6 val_main_v5 val_main_v4 val_main_v3 val_main_v2 val_main_v1 val_main_v0 val_main_cst val_main_cst_0 val_main_cst_1 val_main_cst_3 val_main_cst_4 val_main_cst_8
  pointwise
  simp only [Finset.univ_unique, Finset.sum_const, Finset.card_singleton, one_smul]
  show _ = if r.val = 0 then ∑ k ∈ Finset.range 2048, term a0 a1 q k else 0
  by_cases hr : r.val = 0
  · rw [if_pos hr, dif_pos (show r.val < 1 by omega), Finset.sum_range]
    refine Finset.sum_congr rfl fun k _ => ?_
    rw [term, dif_pos k.isLt, mul_right_comm, mul_comm (a0 _)]
    rfl
  · rw [if_neg hr, dif_neg (show ¬r.val < 1 by omega)]

end Cert.Proof.NormBwd

end
-- ==== Proof.MatKv.lean ====
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.StableHlo.ReadAt

/-! The keys and values of the memory: each block the kernel writes is a block of `mem · w`. -/

@[expose] public section

set_option maxRecDepth 16384
set_option maxHeartbeats 1000000

noncomputable section

namespace Cert.Proof.Kv

open Cert.Kernel10Ideal Cert.Kernel10Ideal.Gen
open Idealize.ShloMosaic Idealize.ShloMosaic.Pipeline
open Idealize.ShloMosaic.TcCoe Idealize.ShloMosaic.Tactic
open scoped BigOperators

/-- A block of the result is the product of the two blocks read. -/
theorem block_at (c : Dev nD) (i : grid0.Coords) (arg3 : Memref sig .tc .vmem S256x2048 .bf16) (harg3 : arg3.IsWhole) (arg4 : Memref sig .tc .vmem S2048x1024 .bf16) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : cond0_1 i)
    (x0 : Vec Ideal S256x2048 .bf16) (x1 : Vec Ideal S2048x1024 .bf16) (r : Fin 256) (q : Fin 1024) :
    out0_A_2 c i arg3 harg3 arg4 harg4 arg5 harg5 arg6 harg6 hc0 hc1 x0 x1 (ix2 r q) = ∑ k : Fin 2048, x0 (ix2 r k) * x1 (ix2 k q) := by
  frame_out
  unfold k0_pay2 k0_pay1
  pointwise

/-- An element of the product. -/
def prod (a0 : S256x2048.Idx → EReal) (a1 : S2048x2048.Idx → EReal) (r : Fin 256) (q : Fin 2048) : EReal :=
  ∑ k : Fin 2048, a0 (ix2 r k) * a1 (ix2 k q)

/-- The result as an array. -/
def arr (a0 : S256x2048.Idx → EReal) (a1 : S2048x2048.Idx → EReal) : S256x2048.Idx → EReal := fun j => prod a0 a1 (j 0) (j 1)

variable (m : (ℓ : Loc nD τ sig) → Buf (Elt Ideal) ℓ) (c : Dev nD)

theorem rhs_read (k q : Fin 2048) : V m c main_v0 (ix2 k q) = m ((c.tc : Thread nD τ).loc main_arg1) (ix2 k q) := by
  unfold V
  after_reads_at

theorem index_0 : ∀ t : Fin cfg0.N, win0_0.index t = ![0, 0] := by decide +kernel
theorem index_1 : ∀ t : Fin cfg0.N, win0_1.index t = ![0, t.val] := by decide +kernel
theorem index_2 : ∀ t : Fin cfg0.N, win0_2.index t = ![0, t.val] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 2 := t.isLt
  blk_simp
  rw [after0_2]
  obtain ⟨r, q, rfl⟩ : ∃ (r : Fin 256) (q : Fin 1024), y = ix2 r q := ⟨y 0, y 1, by blk_ext⟩
  refine (block_at c _ _ _ _ _ _ _ _ _ _ _ _ _ r q).trans ?_
  have e : (win0_2.blk t).view.emb (ix2 r q) = ix2 (⟨r.val, by omega⟩ : Fin 256) (⟨1024 * t.val + q.val, by omega⟩ : Fin 2048) := by
    blk_ext [index_2]
  have e2 : arr (m ((c.tc : Thread nD τ).loc main_arg0)) (m ((c.tc : Thread nD τ).loc main_arg1)) ((win0_2.blk t).view.emb (ix2 r q))
      = prod (m ((c.tc : Thread nD τ).loc main_arg0)) (m ((c.tc : Thread nD τ).loc main_arg1)) (⟨r.val, by omega⟩ : Fin 256) (⟨1024 * t.val + q.val, by omega⟩ : Fin 2048) :=
    congrArg _ e
  refine Eq.trans ?_ e2.symm
  refine Finset.sum_congr rfl fun k _ => congrArg₂ _ ?_ ?_
  · rw [← V_main_arg0 m c]
    blk_simp [iblk]
    congr 1
    blk_ext [index_0]
  · rw [← rhs_read m c]
    blk_simp [iblk]
    congr 1
    blk_ext [index_1]

open Cert.Reference10Ideal.Read in
theorem reference_eq (a0 : S256x2048.Idx → EReal) (a1 : S2048x2048.Idx → EReal) : val_main_v1 (F := Ideal) a0 a1 = arr a0 a1 := by
  funext j
  obtain ⟨r, q, rfl⟩ : ∃ (r : Fin 256) (q : Fin 2048), j = ix2 r q := ⟨j 0, j 1, by blk_ext⟩
  unfold val_main_v1 val_main_v0 arr prod
  pointwise

end Cert.Proof.Kv

end
-- ==== Proof.MatDwKv.lean ====
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.StableHlo.ReadAt

/-! The gradient of the memory's projection matrix: each block the kernel writes is a block of `memᵀ · dkv`. -/

@[expose] public section

set_option maxRecDepth 16384
set_option maxHeartbeats 1000000

noncomputable section

namespace Cert.Proof.DwKv

open Cert.Kernel11Ideal Cert.Kernel11Ideal.Gen
open Idealize.ShloMosaic Idealize.ShloMosaic.Pipeline
open Idealize.ShloMosaic.TcCoe Idealize.ShloMosaic.Tactic
open scoped BigOperators

/-- A block of the result is the product of the two blocks read. -/
theorem block_at (c : Dev nD) (i : grid0.Coords) (arg3 : Memref sig .tc .vmem S256x1024 .bf16) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : cond0_1 i)
    (x0 : Vec Ideal S256x1024 .bf16) (x1 : Vec Ideal S256x1024 .f32) (r : Fin 1024) (q : Fin 1024) :
    out0_A_2 c i arg3 harg3 arg4 harg4 arg5 harg5 arg6 harg6 hc0 hc1 x0 x1 (ix2 r q) = ∑ k : Fin 256, x0 (ix2 k r) * x1 (ix2 k q) := by
  frame_out
  unfold k0_pay3 k0_pay2 k0_pay1
  pointwise

/-- An element of the gradient. -/
def prod (a0 : S256x2048.Idx → EReal) (a1 : S256x2048.Idx → EReal) (r : Fin 2048) (q : Fin 2048) : EReal :=
  ∑ k : Fin 256, a0 (ix2 k r) * a1 (ix2 k q)

/-- The result as an array. -/
def arr (a0 : S256x2048.Idx → EReal) (a1 : S256x2048.Idx → EReal) : S2048x2048.Idx → EReal := fun j => prod a0 a1 (j 0) (j 1)

variable (m : (ℓ : Loc nD τ sig) → Buf (Elt Ideal) ℓ) (c : Dev nD)

theorem index_0 : ∀ t : Fin cfg0.N, win0_0.index t = ![0, t.val / 2] := by decide +kernel
theorem index_1 : ∀ t : Fin cfg0.N, win0_1.index t = ![0, t.val % 2] := by decide +kernel
theorem index_2 : ∀ t : Fin cfg0.N, win0_2.index t = ![t.val / 2, t.val % 2] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 4 := t.isLt
  blk_simp
  rw [after0_2]
  obtain ⟨r, q, rfl⟩ : ∃ (r : Fin 1024) (q : Fin 1024), y = ix2 r q := ⟨y 0, y 1, by blk_ext⟩
  refine (block_at c _ _ _ _ _ _ _ _ _ _ _ _ _ r q).trans ?_
  have e : (win0_2.blk t).view.emb (ix2 r q) = ix2 (⟨1024 * (t.val / 2) + r.val, by omega⟩ : Fin 2048) (⟨1024 * (t.val % 2) + q.val, by omega⟩ : Fin 2048) := by
    blk_ext [index_2]
  have e2 : arr (m ((c.tc : Thread nD τ).loc main_arg0)) (m ((c.tc : Thread nD τ).loc main_arg1)) ((win0_2.blk t).view.emb (ix2 r q))
      = prod (m ((c.tc : Thread nD τ).loc main_arg0)) (m ((c.tc : Thread nD τ).loc main_arg1)) (⟨1024 * (t.val / 2) + r.val, by omega⟩ : Fin 2048) (⟨1024 * (t.val % 2) + q.val, by omega⟩ : Fin 2048) :=
    congrArg _ e
  refine Eq.trans ?_ e2.symm
  refine Finset.sum_congr rfl fun k _ => congrArg₂ _ ?_ ?_
  · rw [← V_main_arg0 m c]
    blk_simp [iblk]
    congr 1
    blk_ext [index_0]
  · rw [← V_main_arg1 m c]
    blk_simp [iblk]
    congr 1
    blk_ext [index_1]

open Cert.Reference11Ideal.Read in
theorem reference_eq (a0 : S256x2048.Idx → EReal) (a1 : S256x2048.Idx → EReal) : val_main_v5 (F := Ideal) a0 a1 = arr a0 a1 := by
  funext j
  obtain ⟨r, q, rfl⟩ : ∃ (r : Fin 2048) (q : Fin 2048), j = ix2 r q := ⟨j 0, j 1, by blk_ext⟩
  unfold val_main_v5 val_main_v4 val_main_v3 val_main_v1 arr prod
  pointwise
  exact Finset.sum_congr rfl fun k _ => mul_comm _ _

end Cert.Proof.DwKv

end
-- ==== Proof.MatDmemN.lean ====
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.StableHlo.ReadAt

/-! The gradient of the normalised memory: each block the kernel writes is a block of `dkv · wᵀ`. -/

@[expose] public section

set_option maxRecDepth 16384
set_option maxHeartbeats 1000000

noncomputable section

namespace Cert.Proof.DmemN

open Cert.Kernel12Ideal Cert.Kernel12Ideal.Gen
open Idealize.ShloMosaic Idealize.ShloMosaic.Pipeline
open Idealize.ShloMosaic.TcCoe Idealize.ShloMosaic.Tactic
open scoped BigOperators

/-- A block of the result is the product of the two blocks read. -/
theorem block_at (c : Dev nD) (i : grid0.Coords) (arg3 : Memref sig .tc .vmem S256x2048 .f32) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : cond0_1 i)
    (x0 : Vec Ideal S256x2048 .f32) (x1 : Vec Ideal S1024x2048 .bf16) (r : Fin 256) (q : Fin 1024) :
    out0_A_2 c i arg3 harg3 arg4 harg4 arg5 harg5 arg6 harg6 hc0 hc1 x0 x1 (ix2 r q) = ∑ k : Fin 2048, x0 (ix2 r k) * x1 (ix2 q k) := by
  frame_out
  unfold k0_pay2 k0_pay1
  pointwise

/-- An element of the gradient. -/
def prod (a0 : S2048x2048.Idx → EReal) (a1 : S256x2048.Idx → EReal) (r : Fin 256) (q : Fin 2048) : EReal :=
  ∑ k : Fin 2048, a1 (ix2 r k) * a0 (ix2 q k)

/-- The result as an array. -/
def arr (a0 : S2048x2048.Idx → EReal) (a1 : S256x2048.Idx → EReal) : S256x2048.Idx → EReal := fun j => prod a0 a1 (j 0) (j 1)

variable (m : (ℓ : Loc nD τ sig) → Buf (Elt Ideal) ℓ) (c : Dev nD)

theorem rhs_read (q k : Fin 2048) : V m c main_v0 (ix2 q k) = m ((c.tc : Thread nD τ).loc main_arg0) (ix2 q k) := by
  unfold V
  after_reads_at

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  have ht : t.val < 2 := t.isLt
  blk_simp
  rw [after0_2]
  obtain ⟨r, q, rfl⟩ : ∃ (r : Fin 256) (q : Fin 1024), y = ix2 r q := ⟨y 0, y 1, by blk_ext⟩
  refine (block_at c _ _ _ _ _ _ _ _ _ _ _ _ _ r q).trans ?_
  have e : (win0_2.blk t).view.emb (ix2 r q) = ix2 (⟨r.val, by omega⟩ : Fin 256) (⟨1024 * t.val + q.val, by omega⟩ : Fin 2048) := by
    blk_ext [index_2]
  have e2 : arr (m ((c.tc : Thread nD τ).loc main_arg0)) (m ((c.tc : Thread nD τ).loc main_arg1)) ((win0_2.blk t).view.emb (ix2 r q))
      = prod (m ((c.tc : Thread nD τ).loc main_arg0)) (m ((c.tc : Thread nD τ).loc main_arg1)) (⟨r.val, by omega⟩ : Fin 256) (⟨1024 * t.val + q.val, by omega⟩ : Fin 2048) :=
    congrArg _ e
  refine Eq.trans ?_ e2.symm
  refine Finset.sum_congr rfl fun k _ => congrArg₂ _ ?_ ?_
  · rw [← V_main_arg1 m c]
    blk_simp [iblk]
    congr 1
    blk_ext [index_0]
  · rw [← rhs_read m c]
    blk_simp [iblk]
    congr 1
    blk_ext [index_1]

open Cert.Reference12Ideal.Read in
theorem reference_eq (a0 : S2048x2048.Idx → EReal) (a1 : S256x2048.Idx → EReal) : val_main_v2 (F := Ideal) a0 a1 = arr a0 a1 := by
  funext j
  obtain ⟨r, q, rfl⟩ : ∃ (r : Fin 256) (q : Fin 2048), j = ix2 r q := ⟨j 0, j 1, by blk_ext⟩
  unfold val_main_v2 arr prod
  pointwise

end Cert.Proof.DmemN

end
-- ==== Proof.MatDmemN1.lean ====
module

public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.StableHlo.ReadAt

/-! The gradient of the normalised memory, the second term added to the first: each block the kernel writes is a block of `dkv · wᵀ` plus what is given. -/

@[expose] public section

set_option maxRecDepth 16384
set_option maxHeartbeats 1000000

noncomputable section

namespace Cert.Proof.DmemN1

open Cert.Kernel13Ideal Cert.Kernel13Ideal.Gen
open Idealize.ShloMosaic Idealize.ShloMosaic.Pipeline
open Idealize.ShloMosaic.TcCoe Idealize.ShloMosaic.Tactic
open scoped BigOperators

/-- A block of the result is the product of the two blocks read, plus the block of the third. -/
theorem block_at (c : Dev nD) (i : grid0.Coords) (arg3 : Memref sig .tc .vmem S256x2048 .f32) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : cond0_1 i)
    (x0 : Vec Ideal S256x2048 .f32) (x1 : Vec Ideal S1024x2048 .bf16) (x2 : Vec Ideal S256x1024 .f32) (r : Fin 256) (q : Fin 1024) :
    out0_A_3 c i arg3 harg3 arg4 harg4 arg5 harg5 arg6 harg6 arg7 harg7 hc0 hc1 x0 x1 x2 (ix2 r q) = ∑ k : Fin 2048, x0 (ix2 r k) * x1 (ix2 q k) + x2 (ix2 r q) := by
  frame_out
  unfold k0_pay3 k0_pay2 k0_pay1
  pointwise

/-- An element of the gradient. -/
def prod (a0 : S2048x2048.Idx → EReal) (a1 : S256x2048.Idx → EReal) (r : Fin 256) (q : Fin 2048) : EReal :=
  ∑ k : Fin 2048, a1 (ix2 r k) * a0 (ix2 q k)

/-- The result as an array. -/
def arr (a0 : S2048x2048.Idx → EReal) (a1 a2 : S256x2048.Idx → EReal) : S256x2048.Idx → EReal := fun j => prod a0 a1 (j 0) (j 1) + a2 j

variable (m : (ℓ : Loc nD τ sig) → Buf (Elt Ideal) ℓ) (c : Dev nD)

theorem rhs_read (q k : Fin 2048) : V m c main_v0 (ix2 q k) = m ((c.tc : Thread nD τ).loc main_arg0) (ix2 q k) := by
  unfold V
  after_reads_at

theorem index_0 : ∀ t : Fin cfg0.N, win0_0.index t = ![0, 0] := by decide +kernel
theorem index_1 : ∀ t : Fin cfg0.N, win0_1.index t = ![t.val, 0] := by decide +kernel
theorem index_2 : ∀ t : Fin cfg0.N, win0_2.index t = ![0, t.val] := by decide +kernel
theorem index_3 : ∀ t : Fin cfg0.N, win0_3.index t = ![0, t.val] := by decide +kernel

theorem final : (dats m 0 c).arrAt 3 cfg0.N = arr (m ((c.tc : Thread nD τ).loc main_arg0)) (m ((c.tc : Thread nD τ).loc main_arg1)) (m ((c.tc : Thread nD τ).loc main_arg2)) := by
  refine (dats m 0 c).arrAt_eq_of_covers 3 _ (by decide +kernel) fun t hfl y => ?_
  have ht : t.val < 2 := t.isLt
  blk_simp
  rw [after0_3]
  obtain ⟨r, q, rfl⟩ : ∃ (r : Fin 256) (q : Fin 1024), y = ix2 r q := ⟨y 0, y 1, by blk_ext⟩
  refine (block_at c _ _ _ _ _ _ _ _ _ _ _ _ _ _ _ _ r q).trans ?_
  have e : (win0_3.blk t).view.emb (ix2 r q) = ix2 (⟨r.val, by omega⟩ : Fin 256) (⟨1024 * t.val + q.val, by omega⟩ : Fin 2048) := by
    blk_ext [index_3]
  have e2 : arr (m ((c.tc : Thread nD τ).loc main_arg0)) (m ((c.tc : Thread nD τ).loc main_arg1)) (m ((c.tc : Thread nD τ).loc main_arg2)) ((win0_3.blk t).view.emb (ix2 r q))
      = prod (m ((c.tc : Thread nD τ).loc main_arg0)) (m ((c.tc : Thread nD τ).loc main_arg1)) (⟨r.val, by omega⟩ : Fin 256) (⟨1024 * t.val + q.val, by omega⟩ : Fin 2048) + (m ((c.tc : Thread nD τ).loc main_arg2)) (ix2 (⟨r.val, by omega⟩ : Fin 256) (⟨1024 * t.val + q.val, by omega⟩ : Fin 2048)) :=
    congrArg (arr (m ((c.tc : Thread nD τ).loc main_arg0)) (m ((c.tc : Thread nD τ).loc main_arg1)) (m ((c.tc : Thread nD τ).loc main_arg2))) e
  refine Eq.trans ?_ e2.symm
  refine congrArg₂ (· + ·) (Finset.sum_congr rfl fun k _ => congrArg₂ _ ?_ ?_) ?_
  rotate_left 2
  · rw [← V_main_arg2 m c]
    blk_simp [iblk]
    congr 1
    blk_ext [index_2]
  · rw [← V_main_arg1 m c]
    blk_simp [iblk]
    congr 1
    blk_ext [index_0]
  · rw [← rhs_read m c]
    blk_simp [iblk]
    congr 1
    blk_ext [index_1]

open Cert.Reference13Ideal.Read in
theorem reference_eq (a0 : S2048x2048.Idx → EReal) (a1 a2 : S256x2048.Idx → EReal) : val_main_v3 (F := Ideal) a0 a1 a2 = arr a0 a1 a2 := by
  funext j
  obtain ⟨r, q, rfl⟩ : ∃ (r : Fin 256) (q : Fin 2048), j = ix2 r q := ⟨j 0, j 1, by blk_ext⟩
  unfold val_main_v3 val_main_v2 arr prod
  pointwise
  exact add_comm _ _

end Cert.Proof.DmemN1

end
-- ==== Proof.AdamCore.lean ====
module

public import Idealize.ShloMosaic.Lib.Pipeline.ValueKit
public import Idealize.ShloMosaic.Lib.StableHlo.ReadAt

/-! One step of AdamW on one number: the new first moment, the new second moment and the change of the weight, with the float words of the decay rates, the bias corrections and the step size as both programs have them. -/

@[expose] public section

noncomputable section

namespace Cert.Proof.AdamCore

open Idealize.ShloMosaic
open scoped BigOperators

/-- The new first moment, from the gradient and the old one. -/
def newM (g m : EReal) : EReal :=
  Ideal.ofBits FTy.f32 0x3F666666#32 * m + Ideal.ofBits FTy.f32 0x3DCCCCCD#32 * g

/-- The new second moment. -/
def newV (g v : EReal) : EReal :=
  Ideal.ofBits FTy.f32 0x3F7FBE77#32 * v + Ideal.ofBits FTy.f32 0x3A83126F#32 * (g * g)

/-- The change of the weight. -/
def delta (w g m v : EReal) : EReal :=
  Ideal.ofBits FTy.f32 0xBA83126F#32 *
    (Ideal.div (Ideal.div (newM g m) (Ideal.ofBits FTy.f32 0x3F26BD02#32))
        (Ideal.sqrt (Ideal.div (newV g v) (Ideal.ofBits FTy.f32 0x3C231ACC#32)) + Ideal.ofBits FTy.f32 0x322BCC77#32)
      + Ideal.ofBits FTy.f32 0x3C23D70A#32 * w)

/-- The sum over four parts, written out. -/
theorem sum_four (f : Fin 4 → EReal) : f 0 + f 1 + f 2 + f 3 = ∑ s : Fin 4, f s := by
  rw [Fin.sum_univ_four]

end Cert.Proof.AdamCore

end
-- ==== Proof.AdamSb.lean ====
module

public import proofs.«01_k».proof.Defs
public import proofs.«01_k».proof.Proof.Gen.Kernel14Ideal.Value
public import proofs.«01_k».proof.Proof.Gen.Reference14Ideal.Read
public import proofs.«01_k».proof.Proof.AdamCore
public import Idealize.ShloMosaic.Lib.Pipeline.ValueKit
public import Idealize.ShloMosaic.Lib.StableHlo.ReadAt

/-! The optimiser's step on one device's part of the stick-breaking layer's projection matrix: the gradient is the sum of four received parts, and each of the four results is, block by block, the step on every number. -/

@[expose] public section

set_option maxRecDepth 16384
set_option maxHeartbeats 1000000

noncomputable section

namespace Cert.Proof.AdamSb

open Cert.Kernel14Ideal Cert.Kernel14Ideal.Gen Cert.Proof.AdamCore
open Idealize.ShloMosaic Idealize.ShloMosaic.Pipeline
open Idealize.ShloMosaic.TcCoe Idealize.ShloMosaic.Tactic
open scoped BigOperators

/-! ## What a block of each result is -/

theorem block_4 (x0 : Vec Ideal S4x1x256x1792 .bf16) (x1 x2 x3 : Vec Ideal S1x256x1792 .f32) (r : Fin 256) (q : Fin 1792) :
    out0_4 x0 x1 x2 x3 (ix3 0 r q) = x0 (ix4 0 0 r q) + x0 (ix4 1 0 r q) + x0 (ix4 2 0 r q) + x0 (ix4 3 0 r q) := by
  frame_out
  unfold k0_pay2 k0_pay6
  pointwise

theorem block_5 (x0 : Vec Ideal S4x1x256x1792 .bf16) (x1 x2 x3 : Vec Ideal S1x256x1792 .f32) (r : Fin 256) (q : Fin 1792) :
    out0_5 x0 x1 x2 x3 (ix3 0 r q) = delta (x1 (ix3 0 r q)) (x0 (ix4 0 0 r q) + x0 (ix4 1 0 r q) + x0 (ix4 2 0 r q) + x0 (ix4 3 0 r q)) (x2 (ix3 0 r q)) (x3 (ix3 0 r q)) := by
  frame_out
  unfold k0_pay3 k0_pay7 k0_pay1 k0_pay11 k0_pay12 k0_pay13 k0_pay8 k0_pay9 k0_pay10 k0_pay6
  unfold delta newM newV
  pointwise

theorem block_6 (x0 : Vec Ideal S4x1x256x1792 .bf16) (x1 x2 x3 : Vec Ideal S1x256x1792 .f32) (r : Fin 256) (q : Fin 1792) :
    out0_6 x0 x1 x2 x3 (ix3 0 r q) = newM (x0 (ix4 0 0 r q) + x0 (ix4 1 0 r q) + x0 (ix4 2 0 r q) + x0 (ix4 3 0 r q)) (x2 (ix3 0 r q)) := by
  frame_out
  unfold k0_pay4 k0_pay11 k0_pay8 k0_pay6
  unfold newM
  pointwise

theorem block_7 (x0 : Vec Ideal S4x1x256x1792 .bf16) (x1 x2 x3 : Vec Ideal S1x256x1792 .f32) (r : Fin 256) (q : Fin 1792) :
    out0_7 x0 x1 x2 x3 (ix3 0 r q) = newV (x0 (ix4 0 0 r q) + x0 (ix4 1 0 r q) + x0 (ix4 2 0 r q) + x0 (ix4 3 0 r q)) (x3 (ix3 0 r q)) := by
  frame_out
  unfold k0_pay5 k0_pay1 k0_pay12 k0_pay13 k0_pay9 k0_pay10 k0_pay6
  unfold newV
  pointwise

/-! ## The results as arrays -/

/-- The sum of the four parts. -/
def gradArr (a0 : S4x1x2048x1792.Idx → EReal) : S1x2048x1792.Idx → EReal := fun j => ∑ s : Fin 4, a0 (ix4 s (j 0) (j 1) (j 2))

/-- The change of the weights. -/
def deltaArr (a0 : S4x1x2048x1792.Idx → EReal) (a1 a2 a3 : S1x2048x1792.Idx → EReal) : S1x2048x1792.Idx → EReal :=
  fun j => delta (a1 j) (gradArr a0 j) (a2 j) (a3 j)

/-- The new first moments. -/
def mArr (a0 : S4x1x2048x1792.Idx → EReal) (a2 : S1x2048x1792.Idx → EReal) : S1x2048x1792.Idx → EReal := fun j => newM (gradArr a0 j) (a2 j)

/-- The new second moments. -/
def vArr (a0 : S4x1x2048x1792.Idx → EReal) (a3 : S1x2048x1792.Idx → EReal) : S1x2048x1792.Idx → EReal := fun j => newV (gradArr a0 j) (a3 j)

variable (m : (ℓ : Loc nD τ sig) → Buf (Elt Ideal) ℓ) (c : Dev nD)

theorem index_0 : ∀ t : Fin cfg0.N, win0_0.index t = ![0, 0, t.val % 8, 0] := by decide +kernel
theorem index_1 : ∀ t : Fin cfg0.N, win0_1.index t = ![0, t.val % 8, 0] := by decide +kernel
theorem index_2 : ∀ t : Fin cfg0.N, win0_2.index t = ![0, t.val % 8, 0] := by decide +kernel
theorem index_3 : ∀ t : Fin cfg0.N, win0_3.index t = ![0, t.val % 8, 0] := by decide +kernel
theorem index_4 : ∀ t : Fin cfg0.N, win0_4.index t = ![0, t.val % 8, 0] := by decide +kernel
theorem index_5 : ∀ t : Fin cfg0.N, win0_5.index t = ![0, t.val % 8, 0] := by decide +kernel
theorem index_6 : ∀ t : Fin cfg0.N, win0_6.index t = ![0, t.val % 8, 0] := by decide +kernel
theorem index_7 : ∀ t : Fin cfg0.N, win0_7.index t = ![0, t.val % 8, 0] := by decide +kernel

/-- The sum of the parts of a block. -/
theorem read_0 (t : Fin cfg0.N) (ht : t.val < 8) (x0 : Vec Ideal S4x1x256x1792 .bf16) (h0 : x0 = iblk m c 0 t) (r : Fin 256) (q : Fin 1792) :
    x0 (ix4 0 0 r q) + x0 (ix4 1 0 r q) + x0 (ix4 2 0 r q) + x0 (ix4 3 0 r q) = gradArr (m ((c.tc : Thread nD τ).loc main_arg0)) (ix3 (0 : Fin 1) (⟨256 * (t.val % 8) + r.val, by omega⟩ : Fin 2048) q) := by
  refine (sum_four fun s => x0 (ix4 s 0 r q)).trans (Finset.sum_congr rfl fun s _ => ?_)
  rw [h0, ← V_main_arg0 m c]
  blk_simp [iblk]
  congr 1
  blk_ext [index_0]

theorem read_1 (t : Fin cfg0.N) (ht : t.val < 8) (x : Vec Ideal S1x256x1792 .f32) (h : x = iblk m c 1 t) (r : Fin 256) (q : Fin 1792) :
    x (ix3 0 r q) = (m ((c.tc : Thread nD τ).loc main_arg1)) (ix3 (0 : Fin 1) (⟨256 * (t.val % 8) + r.val, by omega⟩ : Fin 2048) q) := by
  rw [h, ← V_main_arg1 m c]
  blk_simp [iblk]
  congr 1
  blk_ext [index_1]

theorem read_2 (t : Fin cfg0.N) (ht : t.val < 8) (x : Vec Ideal S1x256x1792 .f32) (h : x = iblk m c 2 t) (r : Fin 256) (q : Fin 1792) :
    x (ix3 0 r q) = (m ((c.tc : Thread nD τ).loc main_arg2)) (ix3 (0 : Fin 1) (⟨256 * (t.val % 8) + r.val, by omega⟩ : Fin 2048) q) := by
  rw [h, ← V_main_arg2 m c]
  blk_simp [iblk]
  congr 1
  blk_ext [index_2]

theorem read_3 (t : Fin cfg0.N) (ht : t.val < 8) (x : Vec Ideal S1x256x1792 .f32) (h : x = iblk m c 3 t) (r : Fin 256) (q : Fin 1792) :
    x (ix3 0 r q) = (m ((c.tc : Thread nD τ).loc main_arg3)) (ix3 (0 : Fin 1) (⟨256 * (t.val % 8) + r.val, by omega⟩ : Fin 2048) q) := by
  rw [h, ← V_main_arg3 m c]
  blk_simp [iblk]
  congr 1
  blk_ext [index_3]

theorem final_4 : (dats m 0 c).arrAt 4 cfg0.N = gradArr (m ((c.tc : Thread nD τ).loc main_arg0)) := by
  refine (dats m 0 c).arrAt_eq_of_covers 4 _ (by decide +kernel) fun t hfl y => ?_
  have ht : t.val < 8 := t.isLt
  blk_simp
  rw [after0_4]
  obtain ⟨r, q, rfl⟩ : ∃ (r : Fin 256) (q : Fin 1792), y = ix3 0 r q := ⟨y 1, y 2, by blk_ext⟩
  refine (block_4 (iblk m c 0 t) (iblk m c 1 t) (iblk m c 2 t) (iblk m c 3 t) r q).trans ?_
  have e : (win0_4.blk t).view.emb (ix3 0 r q) = ix3 (0 : Fin 1) (⟨256 * (t.val % 8) + r.val, by omega⟩ : Fin 2048) q := by
    blk_ext [index_4]
  refine Eq.trans ?_ (congrArg (gradArr (m ((c.tc : Thread nD τ).loc main_arg0))) e).symm
  rw [read_0 m c t ht (iblk m c 0 t) rfl r q]

theorem final_5 : (dats m 0 c).arrAt 5 cfg0.N = deltaArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hfl y => ?_
  have ht : t.val < 8 := t.isLt
  blk_simp
  rw [after0_5]
  obtain ⟨r, q, rfl⟩ : ∃ (r : Fin 256) (q : Fin 1792), y = ix3 0 r q := ⟨y 1, y 2, by blk_ext⟩
  refine (block_5 (iblk m c 0 t) (iblk m c 1 t) (iblk m c 2 t) (iblk m c 3 t) r q).trans ?_
  have e : (win0_5.blk t).view.emb (ix3 0 r q) = ix3 (0 : Fin 1) (⟨256 * (t.val % 8) + r.val, by omega⟩ : Fin 2048) q := by
    blk_ext [index_5]
  refine Eq.trans ?_ (congrArg (deltaArr (m ((c.tc : Thread nD τ).loc main_arg0)) (m ((c.tc : Thread nD τ).loc main_arg1)) (m ((c.tc : Thread nD τ).loc main_arg2)) (m ((c.tc : Thread nD τ).loc main_arg3))) e).symm
  rw [read_1 m c t ht (iblk m c 1 t) rfl r q, read_0 m c t ht (iblk m c 0 t) rfl r q, read_2 m c t ht (iblk m c 2 t) rfl r q, read_3 m c t ht (iblk m c 3 t) rfl r q]
  rfl

theorem final_6 : (dats m 0 c).arrAt 6 cfg0.N = mArr (m ((c.tc : Thread nD τ).loc main_arg0)) (m ((c.tc : Thread nD τ).loc main_arg2)) := by
  refine (dats m 0 c).arrAt_eq_of_covers 6 _ (by decide +kernel) fun t hfl y => ?_
  have ht : t.val < 8 := t.isLt
  blk_simp
  rw [after0_6]
  obtain ⟨r, q, rfl⟩ : ∃ (r : Fin 256) (q : Fin 1792), y = ix3 0 r q := ⟨y 1, y 2, by blk_ext⟩
  refine (block_6 (iblk m c 0 t) (iblk m c 1 t) (iblk m c 2 t) (iblk m c 3 t) r q).trans ?_
  have e : (win0_6.blk t).view.emb (ix3 0 r q) = ix3 (0 : Fin 1) (⟨256 * (t.val % 8) + r.val, by omega⟩ : Fin 2048) q := by
    blk_ext [index_6]
  refine Eq.trans ?_ (congrArg (mArr (m ((c.tc : Thread nD τ).loc main_arg0)) (m ((c.tc : Thread nD τ).loc main_arg2))) e).symm
  rw [read_0 m c t ht (iblk m c 0 t) rfl r q, read_2 m c t ht (iblk m c 2 t) rfl r q]
  rfl

theorem final_7 : (dats m 0 c).arrAt 7 cfg0.N = vArr (m ((c.tc : Thread nD τ).loc main_arg0)) (m ((c.tc : Thread nD τ).loc main_arg3)) := by
  refine (dats m 0 c).arrAt_eq_of_covers 7 _ (by decide +kernel) fun t hfl y => ?_
  have ht : t.val < 8 := t.isLt
  blk_simp
  rw [after0_7]
  obtain ⟨r, q, rfl⟩ : ∃ (r : Fin 256) (q : Fin 1792), y = ix3 0 r q := ⟨y 1, y 2, by blk_ext⟩
  refine (block_7 (iblk m c 0 t) (iblk m c 1 t) (iblk m c 2 t) (iblk m c 3 t) r q).trans ?_
  have e : (win0_7.blk t).view.emb (ix3 0 r q) = ix3 (0 : Fin 1) (⟨256 * (t.val % 8) + r.val, by omega⟩ : Fin 2048) q := by
    blk_ext [index_7]
  refine Eq.trans ?_ (congrArg (vArr (m ((c.tc : Thread nD τ).loc main_arg0)) (m ((c.tc : Thread nD τ).loc main_arg3))) e).symm
  rw [read_0 m c t ht (iblk m c 0 t) rfl r q, read_3 m c t ht (iblk m c 3 t) rfl r q]
  rfl

open Cert.Reference14Ideal.Read in
theorem ref_0 (a0 : S4x1x2048x1792.Idx → EReal) (a1 a2 a3 : S1x2048x1792.Idx → EReal) : val_main_v1 (F := Ideal) a0 = gradArr a0 := by
  funext j
  obtain ⟨l, r, q, rfl⟩ : ∃ (l : Fin 1) (r : Fin 2048) (q : Fin 1792), j = ix3 l r q := ⟨j 0, j 1, j 2, by blk_ext⟩
  obtain rfl : l = 0 := Subsingleton.elim _ _
  unfold val_main_v1 val_main_cst val_main_v0 gradArr
  pointwise

open Cert.Reference14Ideal.Read in
theorem ref_1 (a0 : S4x1x2048x1792.Idx → EReal) (a1 a2 a3 : S1x2048x1792.Idx → EReal) : val_main_v25 (F := Ideal) a0 a1 a2 a3 = deltaArr a0 a1 a2 a3 := by
  funext j
  obtain ⟨l, r, q, rfl⟩ : ∃ (l : Fin 1) (r : Fin 2048) (q : Fin 1792), j = ix3 l r q := ⟨j 0, j 1, j 2, by blk_ext⟩
  obtain rfl : l = 0 := Subsingleton.elim _ _
  unfold val_main_v25 val_main_v24 val_main_cst_8 val_main_v23 val_main_v22 val_main_v21 val_main_cst_7 val_main_v20 val_main_v19 val_main_v18 val_main_cst_6 val_main_v17 val_main_v16 val_main_v15 val_main_cst_5 val_main_v14 val_main_v13 val_main_cst_4 val_main_v12 val_main_v11 val_main_v10 val_main_cst_3 val_main_v9 val_main_v8 val_main_v7 val_main_cst_2 val_main_v6 val_main_v5 val_main_v4 val_main_cst_1 val_main_v3 val_main_v2 val_main_cst_0 val_main_v1 val_main_cst val_main_v0 deltaArr gradArr delta newM newV
  pointwise

open Cert.Reference14Ideal.Read in
theorem ref_2 (a0 : S4x1x2048x1792.Idx → EReal) (a1 a2 a3 : S1x2048x1792.Idx → EReal) : val_main_v6 (F := Ideal) a0 a2 = mArr a0 a2 := by
  funext j
  obtain ⟨l, r, q, rfl⟩ : ∃ (l : Fin 1) (r : Fin 2048) (q : Fin 1792), j = ix3 l r q := ⟨j 0, j 1, j 2, by blk_ext⟩
  obtain rfl : l = 0 := Subsingleton.elim _ _
  unfold val_main_v6 val_main_v5 val_main_v4 val_main_cst_1 val_main_v3 val_main_v2 val_main_cst_0 val_main_v1 val_main_cst val_main_v0 mArr gradArr newM
  pointwise

open Cert.Reference14Ideal.Read in
theorem ref_3 (a0 : S4x1x2048x1792.Idx → EReal) (a1 a2 a3 : S1x2048x1792.Idx → EReal) : val_main_v12 (F := Ideal) a0 a3 = vArr a0 a3 := by
  funext j
  obtain ⟨l, r, q, rfl⟩ : ∃ (l : Fin 1) (r : Fin 2048) (q : Fin 1792), j = ix3 l r q := ⟨j 0, j 1, j 2, by blk_ext⟩
  obtain rfl : l = 0 := Subsingleton.elim _ _
  unfold val_main_v12 val_main_v11 val_main_v10 val_main_cst_3 val_main_v9 val_main_v8 val_main_v7 val_main_cst_2 val_main_v1 val_main_cst val_main_v0 vArr gradArr newV
  pointwise

end Cert.Proof.AdamSb

end
-- ==== Proof.AdamOut.lean ====
module

public import proofs.«01_k».proof.Defs
public import proofs.«01_k».proof.Proof.Gen.Kernel15Ideal.Value
public import proofs.«01_k».proof.Proof.Gen.Reference15Ideal.Read
public import proofs.«01_k».proof.Proof.AdamCore
public import Idealize.ShloMosaic.Lib.Pipeline.ValueKit
public import Idealize.ShloMosaic.Lib.StableHlo.ReadAt

/-! The optimiser's step on one device's part of the output matrices: the gradient is the sum of four received parts, and each of the four results is, block by block, the step on every number. -/

@[expose] public section

set_option maxRecDepth 16384
set_option maxHeartbeats 1000000

noncomputable section

namespace Cert.Proof.AdamOut

open Cert.Kernel15Ideal Cert.Kernel15Ideal.Gen Cert.Proof.AdamCore
open Idealize.ShloMosaic Idealize.ShloMosaic.Pipeline
open Idealize.ShloMosaic.TcCoe Idealize.ShloMosaic.Tactic
open scoped BigOperators

/-! ## What a block of each result is -/

theorem block_4 (x0 : Vec Ideal S4x1x256x2048 .bf16) (x1 x2 x3 : Vec Ideal S1x256x2048 .f32) (r : Fin 256) (q : Fin 2048) :
    out0_4 x0 x1 x2 x3 (ix3 0 r q) = x0 (ix4 0 0 r q) + x0 (ix4 1 0 r q) + x0 (ix4 2 0 r q) + x0 (ix4 3 0 r q) := by
  frame_out
  unfold k0_pay2 k0_pay6
  pointwise

theorem block_5 (x0 : Vec Ideal S4x1x256x2048 .bf16) (x1 x2 x3 : Vec Ideal S1x256x2048 .f32) (r : Fin 256) (q : Fin 2048) :
    out0_5 x0 x1 x2 x3 (ix3 0 r q) = delta (x1 (ix3 0 r q)) (x0 (ix4 0 0 r q) + x0 (ix4 1 0 r q) + x0 (ix4 2 0 r q) + x0 (ix4 3 0 r q)) (x2 (ix3 0 r q)) (x3 (ix3 0 r q)) := by
  frame_out
  unfold k0_pay3 k0_pay7 k0_pay1 k0_pay11 k0_pay12 k0_pay13 k0_pay8 k0_pay9 k0_pay10 k0_pay6
  unfold delta newM newV
  pointwise

theorem block_6 (x0 : Vec Ideal S4x1x256x2048 .bf16) (x1 x2 x3 : Vec Ideal S1x256x2048 .f32) (r : Fin 256) (q : Fin 2048) :
    out0_6 x0 x1 x2 x3 (ix3 0 r q) = newM (x0 (ix4 0 0 r q) + x0 (ix4 1 0 r q) + x0 (ix4 2 0 r q) + x0 (ix4 3 0 r q)) (x2 (ix3 0 r q)) := by
  frame_out
  unfold k0_pay4 k0_pay11 k0_pay8 k0_pay6
  unfold newM
  pointwise

theorem block_7 (x0 : Vec Ideal S4x1x256x2048 .bf16) (x1 x2 x3 : Vec Ideal S1x256x2048 .f32) (r : Fin 256) (q : Fin 2048) :
    out0_7 x0 x1 x2 x3 (ix3 0 r q) = newV (x0 (ix4 0 0 r q) + x0 (ix4 1 0 r q) + x0 (ix4 2 0 r q) + x0 (ix4 3 0 r q)) (x3 (ix3 0 r q)) := by
  frame_out
  unfold k0_pay5 k0_pay1 k0_pay12 k0_pay13 k0_pay9 k0_pay10 k0_pay6
  unfold newV
  pointwise

/-! ## The results as arrays -/

/-- The sum of the four parts. -/
def gradArr (a0 : S4x2x512x2048.Idx → EReal) : S2x512x2048.Idx → EReal := fun j => ∑ s : Fin 4, a0 (ix4 s (j 0) (j 1) (j 2))

/-- The change of the weights. -/
def deltaArr (a0 : S4x2x512x2048.Idx → EReal) (a1 a2 a3 : S2x512x2048.Idx → EReal) : S2x512x2048.Idx → EReal :=
  fun j => delta (a1 j) (gradArr a0 j) (a2 j) (a3 j)

/-- The new first moments. -/
def mArr (a0 : S4x2x512x2048.Idx → EReal) (a2 : S2x512x2048.Idx → EReal) : S2x512x2048.Idx → EReal := fun j => newM (gradArr a0 j) (a2 j)

/-- The new second moments. -/
def vArr (a0 : S4x2x512x2048.Idx → EReal) (a3 : S2x512x2048.Idx → EReal) : S2x512x2048.Idx → EReal := fun j => newV (gradArr a0 j) (a3 j)

variable (m : (ℓ : Loc nD τ sig) → Buf (Elt Ideal) ℓ) (c : Dev nD)

theorem index_0 : ∀ t : Fin cfg0.N, win0_0.index t = ![0, t.val / 2, t.val % 2, 0] := by decide +kernel
theorem index_1 : ∀ t : Fin cfg0.N, win0_1.index t = ![t.val / 2, t.val % 2, 0] := by decide +kernel
theorem index_2 : ∀ t : Fin cfg0.N, win0_2.index t = ![t.val / 2, t.val % 2, 0] := by decide +kernel
theorem index_3 : ∀ t : Fin cfg0.N, win0_3.index t = ![t.val / 2, t.val % 2, 0] := by decide +kernel
theorem index_4 : ∀ t : Fin cfg0.N, win0_4.index t = ![t.val / 2, t.val % 2, 0] := by decide +kernel
theorem index_5 : ∀ t : Fin cfg0.N, win0_5.index t = ![t.val / 2, t.val % 2, 0] := by decide +kernel
theorem index_6 : ∀ t : Fin cfg0.N, win0_6.index t = ![t.val / 2, t.val % 2, 0] := by decide +kernel
theorem index_7 : ∀ t : Fin cfg0.N, win0_7.index t = ![t.val / 2, t.val % 2, 0] := by decide +kernel

/-- The sum of the parts of a block. -/
theorem read_0 (t : Fin cfg0.N) (ht : t.val < 4) (x0 : Vec Ideal S4x1x256x2048 .bf16) (h0 : x0 = iblk m c 0 t) (r : Fin 256) (q : Fin 2048) :
    x0 (ix4 0 0 r q) + x0 (ix4 1 0 r q) + x0 (ix4 2 0 r q) + x0 (ix4 3 0 r q) = gradArr (m ((c.tc : Thread nD τ).loc main_arg0)) (ix3 (⟨t.val / 2, by omega⟩ : Fin 2) (⟨256 * (t.val % 2) + r.val, by omega⟩ : Fin 512) q) := by
  refine (sum_four fun s => x0 (ix4 s 0 r q)).trans (Finset.sum_congr rfl fun s _ => ?_)
  rw [h0, ← V_main_arg0 m c]
  blk_simp [iblk]
  congr 1
  blk_ext [index_0]

theorem read_1 (t : Fin cfg0.N) (ht : t.val < 4) (x : Vec Ideal S1x256x2048 .f32) (h : x = iblk m c 1 t) (r : Fin 256) (q : Fin 2048) :
    x (ix3 0 r q) = (m ((c.tc : Thread nD τ).loc main_arg1)) (ix3 (⟨t.val / 2, by omega⟩ : Fin 2) (⟨256 * (t.val % 2) + r.val, by omega⟩ : Fin 512) q) := by
  rw [h, ← V_main_arg1 m c]
  blk_simp [iblk]
  congr 1
  blk_ext [index_1]

theorem read_2 (t : Fin cfg0.N) (ht : t.val < 4) (x : Vec Ideal S1x256x2048 .f32) (h : x = iblk m c 2 t) (r : Fin 256) (q : Fin 2048) :
    x (ix3 0 r q) = (m ((c.tc : Thread nD τ).loc main_arg2)) (ix3 (⟨t.val / 2, by omega⟩ : Fin 2) (⟨256 * (t.val % 2) + r.val, by omega⟩ : Fin 512) q) := by
  rw [h, ← V_main_arg2 m c]
  blk_simp [iblk]
  congr 1
  blk_ext [index_2]

theorem read_3 (t : Fin cfg0.N) (ht : t.val < 4) (x : Vec Ideal S1x256x2048 .f32) (h : x = iblk m c 3 t) (r : Fin 256) (q : Fin 2048) :
    x (ix3 0 r q) = (m ((c.tc : Thread nD τ).loc main_arg3)) (ix3 (⟨t.val / 2, by omega⟩ : Fin 2) (⟨256 * (t.val % 2) + r.val, by omega⟩ : Fin 512) q) := by
  rw [h, ← V_main_arg3 m c]
  blk_simp [iblk]
  congr 1
  blk_ext [index_3]

theorem final_4 : (dats m 0 c).arrAt 4 cfg0.N = gradArr (m ((c.tc : Thread nD τ).loc main_arg0)) := by
  refine (dats m 0 c).arrAt_eq_of_covers 4 _ (by decide +kernel) fun t hfl y => ?_
  have ht : t.val < 4 := t.isLt
  blk_simp
  rw [after0_4]
  obtain ⟨r, q, rfl⟩ : ∃ (r : Fin 256) (q : Fin 2048), y = ix3 0 r q := ⟨y 1, y 2, by blk_ext⟩
  refine (block_4 (iblk m c 0 t) (iblk m c 1 t) (iblk m c 2 t) (iblk m c 3 t) r q).trans ?_
  have e : (win0_4.blk t).view.emb (ix3 0 r q) = ix3 (⟨t.val / 2, by omega⟩ : Fin 2) (⟨256 * (t.val % 2) + r.val, by omega⟩ : Fin 512) q := by
    blk_ext [index_4]
  refine Eq.trans ?_ (congrArg (gradArr (m ((c.tc : Thread nD τ).loc main_arg0))) e).symm
  rw [read_0 m c t ht (iblk m c 0 t) rfl r q]

theorem final_5 : (dats m 0 c).arrAt 5 cfg0.N = deltaArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hfl y => ?_
  have ht : t.val < 4 := t.isLt
  blk_simp
  rw [after0_5]
  obtain ⟨r, q, rfl⟩ : ∃ (r : Fin 256) (q : Fin 2048), y = ix3 0 r q := ⟨y 1, y 2, by blk_ext⟩
  refine (block_5 (iblk m c 0 t) (iblk m c 1 t) (iblk m c 2 t) (iblk m c 3 t) r q).trans ?_
  have e : (win0_5.blk t).view.emb (ix3 0 r q) = ix3 (⟨t.val / 2, by omega⟩ : Fin 2) (⟨256 * (t.val % 2) + r.val, by omega⟩ : Fin 512) q := by
    blk_ext [index_5]
  refine Eq.trans ?_ (congrArg (deltaArr (m ((c.tc : Thread nD τ).loc main_arg0)) (m ((c.tc : Thread nD τ).loc main_arg1)) (m ((c.tc : Thread nD τ).loc main_arg2)) (m ((c.tc : Thread nD τ).loc main_arg3))) e).symm
  rw [read_1 m c t ht (iblk m c 1 t) rfl r q, read_0 m c t ht (iblk m c 0 t) rfl r q, read_2 m c t ht (iblk m c 2 t) rfl r q, read_3 m c t ht (iblk m c 3 t) rfl r q]
  rfl

theorem final_6 : (dats m 0 c).arrAt 6 cfg0.N = mArr (m ((c.tc : Thread nD τ).loc main_arg0)) (m ((c.tc : Thread nD τ).loc main_arg2)) := by
  refine (dats m 0 c).arrAt_eq_of_covers 6 _ (by decide +kernel) fun t hfl y => ?_
  have ht : t.val < 4 := t.isLt
  blk_simp
  rw [after0_6]
  obtain ⟨r, q, rfl⟩ : ∃ (r : Fin 256) (q : Fin 2048), y = ix3 0 r q := ⟨y 1, y 2, by blk_ext⟩
  refine (block_6 (iblk m c 0 t) (iblk m c 1 t) (iblk m c 2 t) (iblk m c 3 t) r q).trans ?_
  have e : (win0_6.blk t).view.emb (ix3 0 r q) = ix3 (⟨t.val / 2, by omega⟩ : Fin 2) (⟨256 * (t.val % 2) + r.val, by omega⟩ : Fin 512) q := by
    blk_ext [index_6]
  refine Eq.trans ?_ (congrArg (mArr (m ((c.tc : Thread nD τ).loc main_arg0)) (m ((c.tc : Thread nD τ).loc main_arg2))) e).symm
  rw [read_0 m c t ht (iblk m c 0 t) rfl r q, read_2 m c t ht (iblk m c 2 t) rfl r q]
  rfl

theorem final_7 : (dats m 0 c).arrAt 7 cfg0.N = vArr (m ((c.tc : Thread nD τ).loc main_arg0)) (m ((c.tc : Thread nD τ).loc main_arg3)) := by
  refine (dats m 0 c).arrAt_eq_of_covers 7 _ (by decide +kernel) fun t hfl y => ?_
  have ht : t.val < 4 := t.isLt
  blk_simp
  rw [after0_7]
  obtain ⟨r, q, rfl⟩ : ∃ (r : Fin 256) (q : Fin 2048), y = ix3 0 r q := ⟨y 1, y 2, by blk_ext⟩
  refine (block_7 (iblk m c 0 t) (iblk m c 1 t) (iblk m c 2 t) (iblk m c 3 t) r q).trans ?_
  have e : (win0_7.blk t).view.emb (ix3 0 r q) = ix3 (⟨t.val / 2, by omega⟩ : Fin 2) (⟨256 * (t.val % 2) + r.val, by omega⟩ : Fin 512) q := by
    blk_ext [index_7]
  refine Eq.trans ?_ (congrArg (vArr (m ((c.tc : Thread nD τ).loc main_arg0)) (m ((c.tc : Thread nD τ).loc main_arg3))) e).symm
  rw [read_0 m c t ht (iblk m c 0 t) rfl r q, read_3 m c t ht (iblk m c 3 t) rfl r q]
  rfl

open Cert.Reference15Ideal.Read in
theorem ref_0 (a0 : S4x2x512x2048.Idx → EReal) (a1 a2 a3 : S2x512x2048.Idx → EReal) : val_main_v1 (F := Ideal) a0 = gradArr a0 := by
  funext j
  obtain ⟨l, r, q, rfl⟩ : ∃ (l : Fin 2) (r : Fin 512) (q : Fin 2048), j = ix3 l r q := ⟨j 0, j 1, j 2, by blk_ext⟩
  unfold val_main_v1 val_main_cst val_main_v0 gradArr
  pointwise

open Cert.Reference15Ideal.Read in
theorem ref_1 (a0 : S4x2x512x2048.Idx → EReal) (a1 a2 a3 : S2x512x2048.Idx → EReal) : val_main_v25 (F := Ideal) a0 a1 a2 a3 = deltaArr a0 a1 a2 a3 := by
  funext j
  obtain ⟨l, r, q, rfl⟩ : ∃ (l : Fin 2) (r : Fin 512) (q : Fin 2048), j = ix3 l r q := ⟨j 0, j 1, j 2, by blk_ext⟩
  unfold val_main_v25 val_main_v24 val_main_cst_8 val_main_v23 val_main_v22 val_main_v21 val_main_cst_7 val_main_v20 val_main_v19 val_main_v18 val_main_cst_6 val_main_v17 val_main_v16 val_main_v15 val_main_cst_5 val_main_v14 val_main_v13 val_main_cst_4 val_main_v12 val_main_v11 val_main_v10 val_main_cst_3 val_main_v9 val_main_v8 val_main_v7 val_main_cst_2 val_main_v6 val_main_v5 val_main_v4 val_main_cst_1 val_main_v3 val_main_v2 val_main_cst_0 val_main_v1 val_main_cst val_main_v0 deltaArr gradArr delta newM newV
  pointwise

open Cert.Reference15Ideal.Read in
theorem ref_2 (a0 : S4x2x512x2048.Idx → EReal) (a1 a2 a3 : S2x512x2048.Idx → EReal) : val_main_v6 (F := Ideal) a0 a2 = mArr a0 a2 := by
  funext j
  obtain ⟨l, r, q, rfl⟩ : ∃ (l : Fin 2) (r : Fin 512) (q : Fin 2048), j = ix3 l r q := ⟨j 0, j 1, j 2, by blk_ext⟩
  unfold val_main_v6 val_main_v5 val_main_v4 val_main_cst_1 val_main_v3 val_main_v2 val_main_cst_0 val_main_v1 val_main_cst val_main_v0 mArr gradArr newM
  pointwise

open Cert.Reference15Ideal.Read in
theorem ref_3 (a0 : S4x2x512x2048.Idx → EReal) (a1 a2 a3 : S2x512x2048.Idx → EReal) : val_main_v12 (F := Ideal) a0 a3 = vArr a0 a3 := by
  funext j
  obtain ⟨l, r, q, rfl⟩ : ∃ (l : Fin 2) (r : Fin 512) (q : Fin 2048), j = ix3 l r q := ⟨j 0, j 1, j 2, by blk_ext⟩
  unfold val_main_v12 val_main_v11 val_main_v10 val_main_cst_3 val_main_v9 val_main_v8 val_main_v7 val_main_cst_2 val_main_v1 val_main_cst val_main_v0 vArr gradArr newV
  pointwise

end Cert.Proof.AdamOut

end
-- ==== Proof.AdamKv.lean ====
module

public import proofs.«01_k».proof.Defs
public import proofs.«01_k».proof.Proof.Gen.Kernel16Ideal.Value
public import proofs.«01_k».proof.Proof.Gen.Reference16Ideal.Read
public import proofs.«01_k».proof.Proof.AdamCore
public import Idealize.ShloMosaic.Lib.Pipeline.ValueKit
public import Idealize.ShloMosaic.Lib.StableHlo.ReadAt

/-! The optimiser's step on one device's part of the memory's projection matrices: the gradient is the sum of four received parts, and each of the four results is, block by block, the step on every number. -/

@[expose] public section

set_option maxRecDepth 16384
set_option maxHeartbeats 1000000

noncomputable section

namespace Cert.Proof.AdamKv

open Cert.Kernel16Ideal Cert.Kernel16Ideal.Gen Cert.Proof.AdamCore
open Idealize.ShloMosaic Idealize.ShloMosaic.Pipeline
open Idealize.ShloMosaic.TcCoe Idealize.ShloMosaic.Tactic
open scoped BigOperators

/-! ## What a block of each result is -/

theorem block_4 (x0 : Vec Ideal S4x1x256x2048 .bf16) (x1 x2 x3 : Vec Ideal S1x256x2048 .f32) (r : Fin 256) (q : Fin 2048) :
    out0_4 x0 x1 x2 x3 (ix3 0 r q) = x0 (ix4 0 0 r q) + x0 (ix4 1 0 r q) + x0 (ix4 2 0 r q) + x0 (ix4 3 0 r q) := by
  frame_out
  unfold k0_pay2 k0_pay6
  pointwise

theorem block_5 (x0 : Vec Ideal S4x1x256x2048 .bf16) (x1 x2 x3 : Vec Ideal S1x256x2048 .f32) (r : Fin 256) (q : Fin 2048) :
    out0_5 x0 x1 x2 x3 (ix3 0 r q) = delta (x1 (ix3 0 r q)) (x0 (ix4 0 0 r q) + x0 (ix4 1 0 r q) + x0 (ix4 2 0 r q) + x0 (ix4 3 0 r q)) (x2 (ix3 0 r q)) (x3 (ix3 0 r q)) := by
  frame_out
  unfold k0_pay3 k0_pay7 k0_pay1 k0_pay11 k0_pay12 k0_pay13 k0_pay8 k0_pay9 k0_pay10 k0_pay6
  unfold delta newM newV
  pointwise

theorem block_6 (x0 : Vec Ideal S4x1x256x2048 .bf16) (x1 x2 x3 : Vec Ideal S1x256x2048 .f32) (r : Fin 256) (q : Fin 2048) :
    out0_6 x0 x1 x2 x3 (ix3 0 r q) = newM (x0 (ix4 0 0 r q) + x0 (ix4 1 0 r q) + x0 (ix4 2 0 r q) + x0 (ix4 3 0 r q)) (x2 (ix3 0 r q)) := by
  frame_out
  unfold k0_pay4 k0_pay11 k0_pay8 k0_pay6
  unfold newM
  pointwise

theorem block_7 (x0 : Vec Ideal S4x1x256x2048 .bf16) (x1 x2 x3 : Vec Ideal S1x256x2048 .f32) (r : Fin 256) (q : Fin 2048) :
    out0_7 x0 x1 x2 x3 (ix3 0 r q) = newV (x0 (ix4 0 0 r q) + x0 (ix4 1 0 r q) + x0 (ix4 2 0 r q) + x0 (ix4 3 0 r q)) (x3 (ix3 0 r q)) := by
  frame_out
  unfold k0_pay5 k0_pay1 k0_pay12 k0_pay13 k0_pay9 k0_pay10 k0_pay6
  unfold newV
  pointwise

/-! ## The results as arrays -/

/-- The sum of the four parts. -/
def gradArr (a0 : S4x2x256x2048.Idx → EReal) : S2x256x2048.Idx → EReal := fun j => ∑ s : Fin 4, a0 (ix4 s (j 0) (j 1) (j 2))

/-- The change of the weights. -/
def deltaArr (a0 : S4x2x256x2048.Idx → EReal) (a1 a2 a3 : S2x256x2048.Idx → EReal) : S2x256x2048.Idx → EReal :=
  fun j => delta (a1 j) (gradArr a0 j) (a2 j) (a3 j)

/-- The new first moments. -/
def mArr (a0 : S4x2x256x2048.Idx → EReal) (a2 : S2x256x2048.Idx → EReal) : S2x256x2048.Idx → EReal := fun j => newM (gradArr a0 j) (a2 j)

/-- The new second moments. -/
def vArr (a0 : S4x2x256x2048.Idx → EReal) (a3 : S2x256x2048.Idx → EReal) : S2x256x2048.Idx → EReal := fun j => newV (gradArr a0 j) (a3 j)

variable (m : (ℓ : Loc nD τ sig) → Buf (Elt Ideal) ℓ) (c : Dev nD)

theorem index_0 : ∀ t : Fin cfg0.N, win0_0.index t = ![0, t.val / 1, t.val % 1, 0] := by decide +kernel
theorem index_1 : ∀ t : Fin cfg0.N, win0_1.index t = ![t.val / 1, t.val % 1, 0] := by decide +kernel
theorem index_2 : ∀ t : Fin cfg0.N, win0_2.index t = ![t.val / 1, t.val % 1, 0] := by decide +kernel
theorem index_3 : ∀ t : Fin cfg0.N, win0_3.index t = ![t.val / 1, t.val % 1, 0] := by decide +kernel
theorem index_4 : ∀ t : Fin cfg0.N, win0_4.index t = ![t.val / 1, t.val % 1, 0] := by decide +kernel
theorem index_5 : ∀ t : Fin cfg0.N, win0_5.index t = ![t.val / 1, t.val % 1, 0] := by decide +kernel
theorem index_6 : ∀ t : Fin cfg0.N, win0_6.index t = ![t.val / 1, t.val % 1, 0] := by decide +kernel
theorem index_7 : ∀ t : Fin cfg0.N, win0_7.index t = ![t.val / 1, t.val % 1, 0] := by decide +kernel

/-- The sum of the parts of a block. -/
theorem read_0 (t : Fin cfg0.N) (ht : t.val < 2) (x0 : Vec Ideal S4x1x256x2048 .bf16) (h0 : x0 = iblk m c 0 t) (r : Fin 256) (q : Fin 2048) :
    x0 (ix4 0 0 r q) + x0 (ix4 1 0 r q) + x0 (ix4 2 0 r q) + x0 (ix4 3 0 r q) = gradArr (m ((c.tc : Thread nD τ).loc main_arg0)) (ix3 (⟨t.val / 1, by omega⟩ : Fin 2) (⟨256 * (t.val % 1) + r.val, by omega⟩ : Fin 256) q) := by
  refine (sum_four fun s => x0 (ix4 s 0 r q)).trans (Finset.sum_congr rfl fun s _ => ?_)
  rw [h0, ← V_main_arg0 m c]
  blk_simp [iblk]
  congr 1
  blk_ext [index_0]

theorem read_1 (t : Fin cfg0.N) (ht : t.val < 2) (x : Vec Ideal S1x256x2048 .f32) (h : x = iblk m c 1 t) (r : Fin 256) (q : Fin 2048) :
    x (ix3 0 r q) = (m ((c.tc : Thread nD τ).loc main_arg1)) (ix3 (⟨t.val / 1, by omega⟩ : Fin 2) (⟨256 * (t.val % 1) + r.val, by omega⟩ : Fin 256) q) := by
  rw [h, ← V_main_arg1 m c]
  blk_simp [iblk]
  congr 1
  blk_ext [index_1]

theorem read_2 (t : Fin cfg0.N) (ht : t.val < 2) (x : Vec Ideal S1x256x2048 .f32) (h : x = iblk m c 2 t) (r : Fin 256) (q : Fin 2048) :
    x (ix3 0 r q) = (m ((c.tc : Thread nD τ).loc main_arg2)) (ix3 (⟨t.val / 1, by omega⟩ : Fin 2) (⟨256 * (t.val % 1) + r.val, by omega⟩ : Fin 256) q) := by
  rw [h, ← V_main_arg2 m c]
  blk_simp [iblk]
  congr 1
  blk_ext [index_2]

theorem read_3 (t : Fin cfg0.N) (ht : t.val < 2) (x : Vec Ideal S1x256x2048 .f32) (h : x = iblk m c 3 t) (r : Fin 256) (q : Fin 2048) :
    x (ix3 0 r q) = (m ((c.tc : Thread nD τ).loc main_arg3)) (ix3 (⟨t.val / 1, by omega⟩ : Fin 2) (⟨256 * (t.val % 1) + r.val, by omega⟩ : Fin 256) q) := by
  rw [h, ← V_main_arg3 m c]
  blk_simp [iblk]
  congr 1
  blk_ext [index_3]

theorem final_4 : (dats m 0 c).arrAt 4 cfg0.N = gradArr (m ((c.tc : Thread nD τ).loc main_arg0)) := by
  refine (dats m 0 c).arrAt_eq_of_covers 4 _ (by decide +kernel) fun t hfl y => ?_
  have ht : t.val < 2 := t.isLt
  blk_simp
  rw [after0_4]
  obtain ⟨r, q, rfl⟩ : ∃ (r : Fin 256) (q : Fin 2048), y = ix3 0 r q := ⟨y 1, y 2, by blk_ext⟩
  refine (block_4 (iblk m c 0 t) (iblk m c 1 t) (iblk m c 2 t) (iblk m c 3 t) r q).trans ?_
  have e : (win0_4.blk t).view.emb (ix3 0 r q) = ix3 (⟨t.val / 1, by omega⟩ : Fin 2) (⟨256 * (t.val % 1) + r.val, by omega⟩ : Fin 256) q := by
    blk_ext [index_4]
  refine Eq.trans ?_ (congrArg (gradArr (m ((c.tc : Thread nD τ).loc main_arg0))) e).symm
  rw [read_0 m c t ht (iblk m c 0 t) rfl r q]

theorem final_5 : (dats m 0 c).arrAt 5 cfg0.N = deltaArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hfl y => ?_
  have ht : t.val < 2 := t.isLt
  blk_simp
  rw [after0_5]
  obtain ⟨r, q, rfl⟩ : ∃ (r : Fin 256) (q : Fin 2048), y = ix3 0 r q := ⟨y 1, y 2, by blk_ext⟩
  refine (block_5 (iblk m c 0 t) (iblk m c 1 t) (iblk m c 2 t) (iblk m c 3 t) r q).trans ?_
  have e : (win0_5.blk t).view.emb (ix3 0 r q) = ix3 (⟨t.val / 1, by omega⟩ : Fin 2) (⟨256 * (t.val % 1) + r.val, by omega⟩ : Fin 256) q := by
    blk_ext [index_5]
  refine Eq.trans ?_ (congrArg (deltaArr (m ((c.tc : Thread nD τ).loc main_arg0)) (m ((c.tc : Thread nD τ).loc main_arg1)) (m ((c.tc : Thread nD τ).loc main_arg2)) (m ((c.tc : Thread nD τ).loc main_arg3))) e).symm
  rw [read_1 m c t ht (iblk m c 1 t) rfl r q, read_0 m c t ht (iblk m c 0 t) rfl r q, read_2 m c t ht (iblk m c 2 t) rfl r q, read_3 m c t ht (iblk m c 3 t) rfl r q]
  rfl

theorem final_6 : (dats m 0 c).arrAt 6 cfg0.N = mArr (m ((c.tc : Thread nD τ).loc main_arg0)) (m ((c.tc : Thread nD τ).loc main_arg2)) := by
  refine (dats m 0 c).arrAt_eq_of_covers 6 _ (by decide +kernel) fun t hfl y => ?_
  have ht : t.val < 2 := t.isLt
  blk_simp
  rw [after0_6]
  obtain ⟨r, q, rfl⟩ : ∃ (r : Fin 256) (q : Fin 2048), y = ix3 0 r q := ⟨y 1, y 2, by blk_ext⟩
  refine (block_6 (iblk m c 0 t) (iblk m c 1 t) (iblk m c 2 t) (iblk m c 3 t) r q).trans ?_
  have e : (win0_6.blk t).view.emb (ix3 0 r q) = ix3 (⟨t.val / 1, by omega⟩ : Fin 2) (⟨256 * (t.val % 1) + r.val, by omega⟩ : Fin 256) q := by
    blk_ext [index_6]
  refine Eq.trans ?_ (congrArg (mArr (m ((c.tc : Thread nD τ).loc main_arg0)) (m ((c.tc : Thread nD τ).loc main_arg2))) e).symm
  rw [read_0 m c t ht (iblk m c 0 t) rfl r q, read_2 m c t ht (iblk m c 2 t) rfl r q]
  rfl

theorem final_7 : (dats m 0 c).arrAt 7 cfg0.N = vArr (m ((c.tc : Thread nD τ).loc main_arg0)) (m ((c.tc : Thread nD τ).loc main_arg3)) := by
  refine (dats m 0 c).arrAt_eq_of_covers 7 _ (by decide +kernel) fun t hfl y => ?_
  have ht : t.val < 2 := t.isLt
  blk_simp
  rw [after0_7]
  obtain ⟨r, q, rfl⟩ : ∃ (r : Fin 256) (q : Fin 2048), y = ix3 0 r q := ⟨y 1, y 2, by blk_ext⟩
  refine (block_7 (iblk m c 0 t) (iblk m c 1 t) (iblk m c 2 t) (iblk m c 3 t) r q).trans ?_
  have e : (win0_7.blk t).view.emb (ix3 0 r q) = ix3 (⟨t.val / 1, by omega⟩ : Fin 2) (⟨256 * (t.val % 1) + r.val, by omega⟩ : Fin 256) q := by
    blk_ext [index_7]
  refine Eq.trans ?_ (congrArg (vArr (m ((c.tc : Thread nD τ).loc main_arg0)) (m ((c.tc : Thread nD τ).loc main_arg3))) e).symm
  rw [read_0 m c t ht (iblk m c 0 t) rfl r q, read_3 m c t ht (iblk m c 3 t) rfl r q]
  rfl

open Cert.Reference16Ideal.Read in
theorem ref_0 (a0 : S4x2x256x2048.Idx → EReal) (a1 a2 a3 : S2x256x2048.Idx → EReal) : val_main_v1 (F := Ideal) a0 = gradArr a0 := by
  funext j
  obtain ⟨l, r, q, rfl⟩ : ∃ (l : Fin 2) (r : Fin 256) (q : Fin 2048), j = ix3 l r q := ⟨j 0, j 1, j 2, by blk_ext⟩
  unfold val_main_v1 val_main_cst val_main_v0 gradArr
  pointwise

open Cert.Reference16Ideal.Read in
theorem ref_1 (a0 : S4x2x256x2048.Idx → EReal) (a1 a2 a3 : S2x256x2048.Idx → EReal) : val_main_v25 (F := Ideal) a0 a1 a2 a3 = deltaArr a0 a1 a2 a3 := by
  funext j
  obtain ⟨l, r, q, rfl⟩ : ∃ (l : Fin 2) (r : Fin 256) (q : Fin 2048), j = ix3 l r q := ⟨j 0, j 1, j 2, by blk_ext⟩
  unfold val_main_v25 val_main_v24 val_main_cst_8 val_main_v23 val_main_v22 val_main_v21 val_main_cst_7 val_main_v20 val_main_v19 val_main_v18 val_main_cst_6 val_main_v17 val_main_v16 val_main_v15 val_main_cst_5 val_main_v14 val_main_v13 val_main_cst_4 val_main_v12 val_main_v11 val_main_v10 val_main_cst_3 val_main_v9 val_main_v8 val_main_v7 val_main_cst_2 val_main_v6 val_main_v5 val_main_v4 val_main_cst_1 val_main_v3 val_main_v2 val_main_cst_0 val_main_v1 val_main_cst val_main_v0 deltaArr gradArr delta newM newV
  pointwise

open Cert.Reference16Ideal.Read in
theorem ref_2 (a0 : S4x2x256x2048.Idx → EReal) (a1 a2 a3 : S2x256x2048.Idx → EReal) : val_main_v6 (F := Ideal) a0 a2 = mArr a0 a2 := by
  funext j
  obtain ⟨l, r, q, rfl⟩ : ∃ (l : Fin 2) (r : Fin 256) (q : Fin 2048), j = ix3 l r q := ⟨j 0, j 1, j 2, by blk_ext⟩
  unfold val_main_v6 val_main_v5 val_main_v4 val_main_cst_1 val_main_v3 val_main_v2 val_main_cst_0 val_main_v1 val_main_cst val_main_v0 mArr gradArr newM
  pointwise

open Cert.Reference16Ideal.Read in
theorem ref_3 (a0 : S4x2x256x2048.Idx → EReal) (a1 a2 a3 : S2x256x2048.Idx → EReal) : val_main_v12 (F := Ideal) a0 a3 = vArr a0 a3 := by
  funext j
  obtain ⟨l, r, q, rfl⟩ : ∃ (l : Fin 2) (r : Fin 256) (q : Fin 2048), j = ix3 l r q := ⟨j 0, j 1, j 2, by blk_ext⟩
  unfold val_main_v12 val_main_v11 val_main_v10 val_main_cst_3 val_main_v9 val_main_v8 val_main_v7 val_main_cst_2 val_main_v1 val_main_cst val_main_v0 vArr gradArr newV
  pointwise

end Cert.Proof.AdamKv

end
-- ==== Proof.AdamDn.lean ====
module

public import proofs.«01_k».proof.Defs
public import proofs.«01_k».proof.Proof.Gen.Kernel17Ideal.Value
public import proofs.«01_k».proof.Proof.Gen.Reference17Ideal.Read
public import proofs.«01_k».proof.Proof.AdamCore
public import Idealize.ShloMosaic.Lib.Pipeline.ValueKit
public import Idealize.ShloMosaic.Lib.StableHlo.ReadAt

/-! The optimiser's step on one device's part of the delta-net layer's projection matrix, which is held transposed: the gradient is the sum of four received parts, of which the last columns are padding; each of the four results is, block by block, the step on every number. -/

@[expose] public section

set_option maxRecDepth 16384
set_option maxHeartbeats 1000000

noncomputable section

namespace Cert.Proof.AdamDn

open Cert.Kernel17Ideal Cert.Kernel17Ideal.Gen Cert.Proof.AdamCore
open Idealize.ShloMosaic Idealize.ShloMosaic.Pipeline
open Idealize.ShloMosaic.TcCoe Idealize.ShloMosaic.Tactic
open scoped BigOperators

/-! ## What a block of each result is -/

theorem block_4 (c : Dev nD) (i : grid0.Coords) (arg1 : Memref sig .tc .vmem S4x1x256x1536 .bf16) (harg1 : arg1.IsWhole) (arg2 : Memref sig .tc .vmem S1414x256 .f32) (harg2 : arg2.IsWhole) (arg3 : Memref sig .tc .vmem S1414x256 .f32) (harg3 : arg3.IsWhole) (arg4 : Memref sig .tc .vmem S1414x256 .f32) (harg4 : arg4.IsWhole) (arg5 : Memref sig .tc .vmem S1414x256 .f32) (harg5 : arg5.IsWhole) (arg6 : Memref sig .tc .vmem S1414x256 .f32) (harg6 : arg6.IsWhole) (arg7 : Memref sig .tc .vmem S1414x256 .f32) (harg7 : arg7.IsWhole) (arg8 : Memref sig .tc .vmem S1414x256 .f32) (harg8 : arg8.IsWhole)
    (x0 : Vec Ideal S4x1x256x1536 .bf16) (x1 x2 x3 : Vec Ideal S1414x256 .f32) (r : Fin 256) (q : Fin 1414) :
    out0_A_4 c i arg1 harg1 arg2 harg2 arg3 harg3 arg4 harg4 arg5 harg5 arg6 harg6 arg7 harg7 arg8 harg8 x0 x1 x2 x3 (ix2 q r) = x0 (ix4 0 0 r ⟨q.val, by omega⟩) + x0 (ix4 1 0 r ⟨q.val, by omega⟩) + x0 (ix4 2 0 r ⟨q.val, by omega⟩) + x0 (ix4 3 0 r ⟨q.val, by omega⟩) := by
  frame_out
  unfold k0_pay4
  pointwise

theorem block_5 (c : Dev nD) (i : grid0.Coords) (arg1 : Memref sig .tc .vmem S4x1x256x1536 .bf16) (harg1 : arg1.IsWhole) (arg2 : Memref sig .tc .vmem S1414x256 .f32) (harg2 : arg2.IsWhole) (arg3 : Memref sig .tc .vmem S1414x256 .f32) (harg3 : arg3.IsWhole) (arg4 : Memref sig .tc .vmem S1414x256 .f32) (harg4 : arg4.IsWhole) (arg5 : Memref sig .tc .vmem S1414x256 .f32) (harg5 : arg5.IsWhole) (arg6 : Memref sig .tc .vmem S1414x256 .f32) (harg6 : arg6.IsWhole) (arg7 : Memref sig .tc .vmem S1414x256 .f32) (harg7 : arg7.IsWhole) (arg8 : Memref sig .tc .vmem S1414x256 .f32) (harg8 : arg8.IsWhole)
    (x0 : Vec Ideal S4x1x256x1536 .bf16) (x1 x2 x3 : Vec Ideal S1414x256 .f32) (r : Fin 256) (q : Fin 1414) :
    out0_A_5 c i arg1 harg1 arg2 harg2 arg3 harg3 arg4 harg4 arg5 harg5 arg6 harg6 arg7 harg7 arg8 harg8 x0 x1 x2 x3 (ix2 q r) = delta (x1 (ix2 q r)) (x0 (ix4 0 0 r ⟨q.val, by omega⟩) + x0 (ix4 1 0 r ⟨q.val, by omega⟩) + x0 (ix4 2 0 r ⟨q.val, by omega⟩) + x0 (ix4 3 0 r ⟨q.val, by omega⟩)) (x2 (ix2 q r)) (x3 (ix2 q r)) := by
  frame_out
  unfold k0_pay3 k0_pay1 k0_pay2 k0_pay5 k0_pay7 k0_pay8 k0_pay9 k0_pay6 k0_pay4
  unfold delta newM newV
  pointwise

theorem block_6 (c : Dev nD) (i : grid0.Coords) (arg1 : Memref sig .tc .vmem S4x1x256x1536 .bf16) (harg1 : arg1.IsWhole) (arg2 : Memref sig .tc .vmem S1414x256 .f32) (harg2 : arg2.IsWhole) (arg3 : Memref sig .tc .vmem S1414x256 .f32) (harg3 : arg3.IsWhole) (arg4 : Memref sig .tc .vmem S1414x256 .f32) (harg4 : arg4.IsWhole) (arg5 : Memref sig .tc .vmem S1414x256 .f32) (harg5 : arg5.IsWhole) (arg6 : Memref sig .tc .vmem S1414x256 .f32) (harg6 : arg6.IsWhole) (arg7 : Memref sig .tc .vmem S1414x256 .f32) (harg7 : arg7.IsWhole) (arg8 : Memref sig .tc .vmem S1414x256 .f32) (harg8 : arg8.IsWhole)
    (x0 : Vec Ideal S4x1x256x1536 .bf16) (x1 x2 x3 : Vec Ideal S1414x256 .f32) (r : Fin 256) (q : Fin 1414) :
    out0_A_6 c i arg1 harg1 arg2 harg2 arg3 harg3 arg4 harg4 arg5 harg5 arg6 harg6 arg7 harg7 arg8 harg8 x0 x1 x2 x3 (ix2 q r) = newM (x0 (ix4 0 0 r ⟨q.val, by omega⟩) + x0 (ix4 1 0 r ⟨q.val, by omega⟩) + x0 (ix4 2 0 r ⟨q.val, by omega⟩) + x0 (ix4 3 0 r ⟨q.val, by omega⟩)) (x2 (ix2 q r)) := by
  frame_out
  unfold k0_pay1 k0_pay8 k0_pay9 k0_pay6 k0_pay4
  unfold newM
  pointwise

theorem block_7 (c : Dev nD) (i : grid0.Coords) (arg1 : Memref sig .tc .vmem S4x1x256x1536 .bf16) (harg1 : arg1.IsWhole) (arg2 : Memref sig .tc .vmem S1414x256 .f32) (harg2 : arg2.IsWhole) (arg3 : Memref sig .tc .vmem S1414x256 .f32) (harg3 : arg3.IsWhole) (arg4 : Memref sig .tc .vmem S1414x256 .f32) (harg4 : arg4.IsWhole) (arg5 : Memref sig .tc .vmem S1414x256 .f32) (harg5 : arg5.IsWhole) (arg6 : Memref sig .tc .vmem S1414x256 .f32) (harg6 : arg6.IsWhole) (arg7 : Memref sig .tc .vmem S1414x256 .f32) (harg7 : arg7.IsWhole) (arg8 : Memref sig .tc .vmem S1414x256 .f32) (harg8 : arg8.IsWhole)
    (x0 : Vec Ideal S4x1x256x1536 .bf16) (x1 x2 x3 : Vec Ideal S1414x256 .f32) (r : Fin 256) (q : Fin 1414) :
    out0_A_7 c i arg1 harg1 arg2 harg2 arg3 harg3 arg4 harg4 arg5 harg5 arg6 harg6 arg7 harg7 arg8 harg8 x0 x1 x2 x3 (ix2 q r) = newV (x0 (ix4 0 0 r ⟨q.val, by omega⟩) + x0 (ix4 1 0 r ⟨q.val, by omega⟩) + x0 (ix4 2 0 r ⟨q.val, by omega⟩) + x0 (ix4 3 0 r ⟨q.val, by omega⟩)) (x3 (ix2 q r)) := by
  frame_out
  unfold k0_pay2 k0_pay7 k0_pay6 k0_pay4
  unfold newV
  pointwise

/-! ## The results as arrays -/

/-- The sum of the four parts, transposed. -/
def gradArr (a0 : S4x1x2048x1536.Idx → EReal) : S1414x2048.Idx → EReal :=
  fun j => ∑ s : Fin 4, a0 (ix4 s 0 (j 1) ⟨(j 0).val, lt_trans (j 0).isLt (by decide)⟩)

/-- The change of the weights. -/
def deltaArr (a0 : S4x1x2048x1536.Idx → EReal) (a1 a2 a3 : S1x2048x1414.Idx → EReal) : S1414x2048.Idx → EReal :=
  fun j => delta (a1 (ix3 0 (j 1) (j 0))) (gradArr a0 j) (a2 (ix3 0 (j 1) (j 0))) (a3 (ix3 0 (j 1) (j 0)))

/-- The new first moments. -/
def mArr (a0 : S4x1x2048x1536.Idx → EReal) (a2 : S1x2048x1414.Idx → EReal) : S1414x2048.Idx → EReal := fun j => newM (gradArr a0 j) (a2 (ix3 0 (j 1) (j 0)))

/-- The new second moments. -/
def vArr (a0 : S4x1x2048x1536.Idx → EReal) (a3 : S1x2048x1414.Idx → EReal) : S1414x2048.Idx → EReal := fun j => newV (gradArr a0 j) (a3 (ix3 0 (j 1) (j 0)))

variable (m : (ℓ : Loc nD τ sig) → Buf (Elt Ideal) ℓ) (c : Dev nD)

theorem host_1 (q : Fin 1414) (r : Fin 2048) : V m c main_v1 (ix2 q r) = (m ((c.tc : Thread nD τ).loc main_arg1)) (ix3 0 r q) := by
  unfold V
  after_reads_at

theorem host_2 (q : Fin 1414) (r : Fin 2048) : V m c main_v3 (ix2 q r) = (m ((c.tc : Thread nD τ).loc main_arg2)) (ix3 0 r q) := by
  unfold V
  after_reads_at

theorem host_3 (q : Fin 1414) (r : Fin 2048) : V m c main_v5 (ix2 q r) = (m ((c.tc : Thread nD τ).loc main_arg3)) (ix3 0 r q) := by
  unfold V
  after_reads_at

theorem index_0 : ∀ t : Fin cfg0.N, win0_0.index t = ![0, 0, t.val, 0] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![0, t.val] := by decide +kernel
theorem index_4 : ∀ t : Fin cfg0.N, win0_4.index t = ![0, t.val] := by decide +kernel
theorem index_5 : ∀ t : Fin cfg0.N, win0_5.index t = ![0, t.val] := by decide +kernel
theorem index_6 : ∀ t : Fin cfg0.N, win0_6.index t = ![0, t.val] := by decide +kernel
theorem index_7 : ∀ t : Fin cfg0.N, win0_7.index t = ![0, t.val] := by decide +kernel

/-- The sum of the parts of a block. -/
theorem read_0 (t : Fin cfg0.N) (ht : t.val < 8) (x0 : Vec Ideal S4x1x256x1536 .bf16) (h0 : x0 = iblk m c 0 t) (r : Fin 256) (q : Fin 1414) :
    x0 (ix4 0 0 r ⟨q.val, by omega⟩) + x0 (ix4 1 0 r ⟨q.val, by omega⟩) + x0 (ix4 2 0 r ⟨q.val, by omega⟩) + x0 (ix4 3 0 r ⟨q.val, by omega⟩) = gradArr (m ((c.tc : Thread nD τ).loc main_arg0)) (ix2 q (⟨256 * t.val + r.val, by omega⟩ : Fin 2048)) := by
  refine (sum_four fun s => x0 (ix4 s 0 r ⟨q.val, by omega⟩)).trans (Finset.sum_congr rfl fun s _ => ?_)
  rw [h0, ← V_main_arg0 m c]
  blk_simp [iblk]
  congr 1
  blk_ext [index_0]

theorem read_1 (t : Fin cfg0.N) (ht : t.val < 8) (x : Vec Ideal S1414x256 .f32) (h : x = iblk m c 1 t) (r : Fin 256) (q : Fin 1414) :
    x (ix2 q r) = (m ((c.tc : Thread nD τ).loc main_arg1)) (ix3 0 (⟨256 * t.val + r.val, by omega⟩ : Fin 2048) q) := by
  rw [h, ← host_1 m c]
  blk_simp [iblk]
  congr 1
  blk_ext [index_1]

theorem read_2 (t : Fin cfg0.N) (ht : t.val < 8) (x : Vec Ideal S1414x256 .f32) (h : x = iblk m c 2 t) (r : Fin 256) (q : Fin 1414) :
    x (ix2 q r) = (m ((c.tc : Thread nD τ).loc main_arg2)) (ix3 0 (⟨256 * t.val + r.val, by omega⟩ : Fin 2048) q) := by
  rw [h, ← host_2 m c]
  blk_simp [iblk]
  congr 1
  blk_ext [index_2]

theorem read_3 (t : Fin cfg0.N) (ht : t.val < 8) (x : Vec Ideal S1414x256 .f32) (h : x = iblk m c 3 t) (r : Fin 256) (q : Fin 1414) :
    x (ix2 q r) = (m ((c.tc : Thread nD τ).loc main_arg3)) (ix3 0 (⟨256 * t.val + r.val, by omega⟩ : Fin 2048) q) := by
  rw [h, ← host_3 m c]
  blk_simp [iblk]
  congr 1
  blk_ext [index_3]

theorem final_4 : (dats m 0 c).arrAt 4 cfg0.N = gradArr (m ((c.tc : Thread nD τ).loc main_arg0)) := by
  refine (dats m 0 c).arrAt_eq_of_covers 4 _ (by decide +kernel) fun t hfl y => ?_
  have ht : t.val < 8 := t.isLt
  blk_simp
  rw [after0_4]
  unfold outsAt0
  dsimp only
  obtain ⟨q, r, rfl⟩ : ∃ (q : Fin 1414) (r : Fin 256), y = ix2 q r := ⟨y 0, y 1, by blk_ext⟩
  refine (block_4 c _ _ _ _ _ _ _ _ _ _ _ _ _ _ _ _ _ (iblk m c 0 t) (iblk m c 1 t) (iblk m c 2 t) (iblk m c 3 t) r q).trans ?_
  have e : (win0_4.blk t).view.emb (ix2 q r) = ix2 q (⟨256 * t.val + r.val, by omega⟩ : Fin 2048) := by
    blk_ext [index_4]
  refine Eq.trans ?_ (congrArg (gradArr (m ((c.tc : Thread nD τ).loc main_arg0))) e).symm
  rw [read_0 m c t ht (iblk m c 0 t) rfl r q]

theorem final_5 : (dats m 0 c).arrAt 5 cfg0.N = deltaArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hfl y => ?_
  have ht : t.val < 8 := t.isLt
  blk_simp
  rw [after0_5]
  unfold outsAt0
  dsimp only
  obtain ⟨q, r, rfl⟩ : ∃ (q : Fin 1414) (r : Fin 256), y = ix2 q r := ⟨y 0, y 1, by blk_ext⟩
  refine (block_5 c _ _ _ _ _ _ _ _ _ _ _ _ _ _ _ _ _ (iblk m c 0 t) (iblk m c 1 t) (iblk m c 2 t) (iblk m c 3 t) r q).trans ?_
  have e : (win0_5.blk t).view.emb (ix2 q r) = ix2 q (⟨256 * t.val + r.val, by omega⟩ : Fin 2048) := by
    blk_ext [index_5]
  refine Eq.trans ?_ (congrArg (deltaArr (m ((c.tc : Thread nD τ).loc main_arg0)) (m ((c.tc : Thread nD τ).loc main_arg1)) (m ((c.tc : Thread nD τ).loc main_arg2)) (m ((c.tc : Thread nD τ).loc main_arg3))) e).symm
  rw [read_1 m c t ht (iblk m c 1 t) rfl r q, read_0 m c t ht (iblk m c 0 t) rfl r q, read_2 m c t ht (iblk m c 2 t) rfl r q, read_3 m c t ht (iblk m c 3 t) rfl r q]
  rfl

theorem final_6 : (dats m 0 c).arrAt 6 cfg0.N = mArr (m ((c.tc : Thread nD τ).loc main_arg0)) (m ((c.tc : Thread nD τ).loc main_arg2)) := by
  refine (dats m 0 c).arrAt_eq_of_covers 6 _ (by decide +kernel) fun t hfl y => ?_
  have ht : t.val < 8 := t.isLt
  blk_simp
  rw [after0_6]
  unfold outsAt0
  dsimp only
  obtain ⟨q, r, rfl⟩ : ∃ (q : Fin 1414) (r : Fin 256), y = ix2 q r := ⟨y 0, y 1, by blk_ext⟩
  refine (block_6 c _ _ _ _ _ _ _ _ _ _ _ _ _ _ _ _ _ (iblk m c 0 t) (iblk m c 1 t) (iblk m c 2 t) (iblk m c 3 t) r q).trans ?_
  have e : (win0_6.blk t).view.emb (ix2 q r) = ix2 q (⟨256 * t.val + r.val, by omega⟩ : Fin 2048) := by
    blk_ext [index_6]
  refine Eq.trans ?_ (congrArg (mArr (m ((c.tc : Thread nD τ).loc main_arg0)) (m ((c.tc : Thread nD τ).loc main_arg2))) e).symm
  rw [read_0 m c t ht (iblk m c 0 t) rfl r q, read_2 m c t ht (iblk m c 2 t) rfl r q]
  rfl

theorem final_7 : (dats m 0 c).arrAt 7 cfg0.N = vArr (m ((c.tc : Thread nD τ).loc main_arg0)) (m ((c.tc : Thread nD τ).loc main_arg3)) := by
  refine (dats m 0 c).arrAt_eq_of_covers 7 _ (by decide +kernel) fun t hfl y => ?_
  have ht : t.val < 8 := t.isLt
  blk_simp
  rw [after0_7]
  unfold outsAt0
  dsimp only
  obtain ⟨q, r, rfl⟩ : ∃ (q : Fin 1414) (r : Fin 256), y = ix2 q r := ⟨y 0, y 1, by blk_ext⟩
  refine (block_7 c _ _ _ _ _ _ _ _ _ _ _ _ _ _ _ _ _ (iblk m c 0 t) (iblk m c 1 t) (iblk m c 2 t) (iblk m c 3 t) r q).trans ?_
  have e : (win0_7.blk t).view.emb (ix2 q r) = ix2 q (⟨256 * t.val + r.val, by omega⟩ : Fin 2048) := by
    blk_ext [index_7]
  refine Eq.trans ?_ (congrArg (vArr (m ((c.tc : Thread nD τ).loc main_arg0)) (m ((c.tc : Thread nD τ).loc main_arg3))) e).symm
  rw [read_0 m c t ht (iblk m c 0 t) rfl r q, read_3 m c t ht (iblk m c 3 t) rfl r q]
  rfl

open Cert.Reference17Ideal.Read in
theorem ref_0 (a0 : S4x1x2048x1536.Idx → EReal) (a1 a2 a3 : S1x2048x1414.Idx → EReal) : val_main_v28 (F := Ideal) a0 = gradArr a0 := by
  funext j
  obtain ⟨q, r, rfl⟩ : ∃ (q : Fin 1414) (r : Fin 2048), j = ix2 q r := ⟨j 0, j 1, by blk_ext⟩
  unfold val_main_v28 val_main_v27 val_main_v2 val_main_v1 val_main_cst val_main_v0 gradArr
  pointwise

open Cert.Reference17Ideal.Read in
theorem ref_1 (a0 : S4x1x2048x1536.Idx → EReal) (a1 a2 a3 : S1x2048x1414.Idx → EReal) : val_main_v30 (F := Ideal) a0 a1 a2 a3 = deltaArr a0 a1 a2 a3 := by
  funext j
  obtain ⟨q, r, rfl⟩ : ∃ (q : Fin 1414) (r : Fin 2048), j = ix2 q r := ⟨j 0, j 1, by blk_ext⟩
  unfold val_main_v30 val_main_v29 val_main_v26 val_main_v25 val_main_cst_8 val_main_v24 val_main_v23 val_main_v22 val_main_cst_7 val_main_v21 val_main_v20 val_main_v19 val_main_cst_6 val_main_v18 val_main_v17 val_main_v16 val_main_cst_5 val_main_v15 val_main_v14 val_main_cst_4 val_main_v13 val_main_v12 val_main_v11 val_main_cst_3 val_main_v10 val_main_v9 val_main_v8 val_main_cst_2 val_main_v7 val_main_v6 val_main_v5 val_main_cst_1 val_main_v4 val_main_v3 val_main_cst_0 val_main_v2 val_main_v1 val_main_cst val_main_v0 deltaArr gradArr delta newM newV
  pointwise

open Cert.Reference17Ideal.Read in
theorem ref_2 (a0 : S4x1x2048x1536.Idx → EReal) (a1 a2 a3 : S1x2048x1414.Idx → EReal) : val_main_v32 (F := Ideal) a0 a2 = mArr a0 a2 := by
  funext j
  obtain ⟨q, r, rfl⟩ : ∃ (q : Fin 1414) (r : Fin 2048), j = ix2 q r := ⟨j 0, j 1, by blk_ext⟩
  unfold val_main_v32 val_main_v31 val_main_v7 val_main_v6 val_main_v5 val_main_cst_1 val_main_v4 val_main_v3 val_main_cst_0 val_main_v2 val_main_v1 val_main_cst val_main_v0 mArr gradArr newM
  pointwise

open Cert.Reference17Ideal.Read in
theorem ref_3 (a0 : S4x1x2048x1536.Idx → EReal) (a1 a2 a3 : S1x2048x1414.Idx → EReal) : val_main_v34 (F := Ideal) a0 a3 = vArr a0 a3 := by
  funext j
  obtain ⟨q, r, rfl⟩ : ∃ (q : Fin 1414) (r : Fin 2048), j = ix2 q r := ⟨j 0, j 1, by blk_ext⟩
  unfold val_main_v34 val_main_v33 val_main_v13 val_main_v12 val_main_v11 val_main_cst_3 val_main_v10 val_main_v9 val_main_v8 val_main_cst_2 val_main_v2 val_main_v1 val_main_cst val_main_v0 vArr gradArr newV
  pointwise

end Cert.Proof.AdamDn

end
-- ==== Proof.AdamSmall.lean ====
module

public import proofs.«01_k».proof.Defs
public import proofs.«01_k».proof.Proof.Gen.Kernel18Ideal.Value
public import proofs.«01_k».proof.Proof.Gen.Reference18Ideal.Read
public import proofs.«01_k».proof.Proof.AdamCore
public import Idealize.ShloMosaic.Lib.Pipeline.ValueKit
public import Idealize.ShloMosaic.Lib.StableHlo.ReadAt

/-! The optimiser's step on the small parameters, packed in rows: each of the three results is the step on every number. -/

@[expose] public section

set_option maxRecDepth 16384
set_option maxHeartbeats 1000000

noncomputable section

namespace Cert.Proof.AdamSmall

open Cert.Kernel18Ideal Cert.Kernel18Ideal.Gen Cert.Proof.AdamCore
open Idealize.ShloMosaic Idealize.ShloMosaic.Pipeline
open Idealize.ShloMosaic.TcCoe Idealize.ShloMosaic.Tactic
open scoped BigOperators

/-- The change of the weights. -/
def deltaArr (a0 a1 a2 a3 : S24x2048.Idx → EReal) : S24x2048.Idx → EReal := fun j => delta (a1 j) (a0 j) (a2 j) (a3 j)

/-- The new first moments. -/
def mArr (a0 a2 : S24x2048.Idx → EReal) : S24x2048.Idx → EReal := fun j => newM (a0 j) (a2 j)

/-- The new second moments. -/
def vArr (a0 a3 : S24x2048.Idx → EReal) : S24x2048.Idx → EReal := fun j => newV (a0 j) (a3 j)

theorem block_4 (x0 x1 x2 x3 : Vec Ideal S24x2048 .f32) (r : Fin 24) (q : Fin 2048) :
    out0_4 x0 x1 x2 x3 (ix2 r q) = deltaArr x0 x1 x2 x3 (ix2 r q) := by
  frame_out
  unfold k0_pay3 k0_pay1 k0_pay2 deltaArr delta newM newV
  pointwise

theorem block_5 (x0 x1 x2 x3 : Vec Ideal S24x2048 .f32) (r : Fin 24) (q : Fin 2048) :
    out0_5 x0 x1 x2 x3 (ix2 r q) = mArr x0 x2 (ix2 r q) := by
  frame_out
  unfold k0_pay1 mArr newM
  pointwise

theorem block_6 (x0 x1 x2 x3 : Vec Ideal S24x2048 .f32) (r : Fin 24) (q : Fin 2048) :
    out0_6 x0 x1 x2 x3 (ix2 r q) = vArr x0 x3 (ix2 r q) := by
  frame_out
  unfold k0_pay2 vArr newV
  pointwise

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel

theorem read_0 (t : Fin cfg0.N) : iblk m c 0 t = (m ((c.tc : Thread nD τ).loc main_arg0)) := by
  funext y
  obtain ⟨r, q, rfl⟩ : ∃ (r : Fin 24) (q : Fin 2048), y = ix2 r q := ⟨y 0, y 1, by blk_ext⟩
  rw [← V_main_arg0 m c]
  blk_simp [iblk]
  congr 1
  blk_ext [index_0]

theorem read_1 (t : Fin cfg0.N) : iblk m c 1 t = (m ((c.tc : Thread nD τ).loc main_arg1)) := by
  funext y
  obtain ⟨r, q, rfl⟩ : ∃ (r : Fin 24) (q : Fin 2048), y = ix2 r q := ⟨y 0, y 1, by blk_ext⟩
  rw [← V_main_arg1 m c]
  blk_simp [iblk]
  congr 1
  blk_ext [index_1]

theorem read_2 (t : Fin cfg0.N) : iblk m c 2 t = (m ((c.tc : Thread nD τ).loc main_arg2)) := by
  funext y
  obtain ⟨r, q, rfl⟩ : ∃ (r : Fin 24) (q : Fin 2048), y = ix2 r q := ⟨y 0, y 1, by blk_ext⟩
  rw [← V_main_arg2 m c]
  blk_simp [iblk]
  congr 1
  blk_ext [index_2]

theorem read_3 (t : Fin cfg0.N) : iblk m c 3 t = (m ((c.tc : Thread nD τ).loc main_arg3)) := by
  funext y
  obtain ⟨r, q, rfl⟩ : ∃ (r : Fin 24) (q : Fin 2048), y = ix2 r q := ⟨y 0, y 1, by blk_ext⟩
  rw [← V_main_arg3 m c]
  blk_simp [iblk]
  congr 1
  blk_ext [index_3]

theorem final_4 : (dats m 0 c).arrAt 4 cfg0.N = deltaArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hfl y => ?_
  blk_simp
  rw [after0_4]
  obtain ⟨r, q, rfl⟩ : ∃ (r : Fin 24) (q : Fin 2048), y = ix2 r q := ⟨y 0, y 1, by blk_ext⟩
  refine (block_4 (iblk m c 0 t) (iblk m c 1 t) (iblk m c 2 t) (iblk m c 3 t) r q).trans ?_
  have e : (win0_4.blk t).view.emb (ix2 r q) = ix2 r q := by
    blk_ext [index_4]
  refine Eq.trans ?_ (congrArg (deltaArr (m ((c.tc : Thread nD τ).loc main_arg0)) (m ((c.tc : Thread nD τ).loc main_arg1)) (m ((c.tc : Thread nD τ).loc main_arg2)) (m ((c.tc : Thread nD τ).loc main_arg3))) e).symm
  rw [read_0 m c t, read_1 m c t, read_2 m c t, read_3 m c t]

theorem final_5 : (dats m 0 c).arrAt 5 cfg0.N = mArr (m ((c.tc : Thread nD τ).loc main_arg0)) (m ((c.tc : Thread nD τ).loc main_arg2)) := by
  refine (dats m 0 c).arrAt_eq_of_covers 5 _ (by decide +kernel) fun t hfl y => ?_
  blk_simp
  rw [after0_5]
  obtain ⟨r, q, rfl⟩ : ∃ (r : Fin 24) (q : Fin 2048), y = ix2 r q := ⟨y 0, y 1, by blk_ext⟩
  refine (block_5 (iblk m c 0 t) (iblk m c 1 t) (iblk m c 2 t) (iblk m c 3 t) r q).trans ?_
  have e : (win0_5.blk t).view.emb (ix2 r q) = ix2 r q := by
    blk_ext [index_5]
  refine Eq.trans ?_ (congrArg (mArr (m ((c.tc : Thread nD τ).loc main_arg0)) (m ((c.tc : Thread nD τ).loc main_arg2))) e).symm
  rw [read_0 m c t, read_2 m c t]

theorem final_6 : (dats m 0 c).arrAt 6 cfg0.N = vArr (m ((c.tc : Thread nD τ).loc main_arg0)) (m ((c.tc : Thread nD τ).loc main_arg3)) := by
  refine (dats m 0 c).arrAt_eq_of_covers 6 _ (by decide +kernel) fun t hfl y => ?_
  blk_simp
  rw [after0_6]
  obtain ⟨r, q, rfl⟩ : ∃ (r : Fin 24) (q : Fin 2048), y = ix2 r q := ⟨y 0, y 1, by blk_ext⟩
  refine (block_6 (iblk m c 0 t) (iblk m c 1 t) (iblk m c 2 t) (iblk m c 3 t) r q).trans ?_
  have e : (win0_6.blk t).view.emb (ix2 r q) = ix2 r q := by
    blk_ext [index_6]
  refine Eq.trans ?_ (congrArg (vArr (m ((c.tc : Thread nD τ).loc main_arg0)) (m ((c.tc : Thread nD τ).loc main_arg3))) e).symm
  rw [read_0 m c t, read_3 m c t]

open Cert.Reference18Ideal.Read in
theorem ref_0 (a0 a1 a2 a3 : S24x2048.Idx → EReal) : val_main_v23 (F := Ideal) a0 a1 a2 a3 = deltaArr a0 a1 a2 a3 := by
  funext j
  obtain ⟨r, q, rfl⟩ : ∃ (r : Fin 24) (q : Fin 2048), j = ix2 r q := ⟨j 0, j 1, by blk_ext⟩
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst deltaArr delta newM newV
  pointwise

open Cert.Reference18Ideal.Read in
theorem ref_1 (a0 a1 a2 a3 : S24x2048.Idx → EReal) : val_main_v4 (F := Ideal) a0 a2 = mArr a0 a2 := by
  funext j
  obtain ⟨r, q, rfl⟩ : ∃ (r : Fin 24) (q : Fin 2048), j = ix2 r q := ⟨j 0, j 1, by blk_ext⟩
  unfold val_main_v4 val_main_v3 val_main_v2 val_main_cst_0 val_main_v1 val_main_v0 val_main_cst mArr newM
  pointwise

open Cert.Reference18Ideal.Read in
theorem ref_2 (a0 a1 a2 a3 : S24x2048.Idx → EReal) : val_main_v10 (F := Ideal) a0 a3 = vArr a0 a3 := by
  funext j
  obtain ⟨r, q, rfl⟩ : ∃ (r : Fin 24) (q : Fin 2048), j = ix2 r q := ⟨j 0, j 1, by blk_ext⟩
  unfold val_main_v10 val_main_v9 val_main_v8 val_main_cst_2 val_main_v7 val_main_v6 val_main_v5 val_main_cst_1 vArr newV
  pointwise

end Cert.Proof.AdamSmall

end
-- ==== Proof.Loss.lean ====
module

public import proofs.«01_k».proof.Defs
public import proofs.«01_k».proof.Proof.Gen.Kernel19Ideal.Value
public import proofs.«01_k».proof.Proof.Gen.Reference19Ideal.Read
public import proofs.«01_k».proof.Proof.NormCore
public import Idealize.ShloMosaic.Lib.Pipeline.ValueKit
public import Idealize.ShloMosaic.Lib.StableHlo.ReadAt

/-! The squared error: half the sum over the rows of the mean squared error of a row, in the first element of an 8 by 128 array, and its gradient. -/

@[expose] public section

set_option maxRecDepth 16384
set_option maxHeartbeats 1000000

noncomputable section

namespace Cert.Proof.Loss

open Cert.Kernel19Ideal Cert.Kernel19Ideal.Gen
open Idealize.ShloMosaic Idealize.ShloMosaic.Pipeline
open Idealize.ShloMosaic.TcCoe Idealize.ShloMosaic.Tactic
open scoped BigOperators

/-- The choice of the first element of the array. -/
theorem pick (r : Fin 8) (q : Fin 128) (P : EReal) :
    Scalar.select (IntOp.andi (IntOp.cmpi CmpIPredicate.eq (BitVec.ofNat 32 r.val) 0#32) (IntOp.cmpi CmpIPredicate.eq (BitVec.ofNat 32 q.val) 0#32)) P (0 : EReal)
      = if r.val = 0 ∧ q.val = 0 then P else 0 := by
  have hc : ∀ (r : Fin 8) (q : Fin 128), IntOp.andi (IntOp.cmpi CmpIPredicate.eq (BitVec.ofNat 32 r.val) 0#32) (IntOp.cmpi CmpIPredicate.eq (BitVec.ofNat 32 q.val) 0#32)
      = if r.val = 0 ∧ q.val = 0 then 1#1 else 0#1 := by decide +kernel
  rw [hc]
  by_cases h : r.val = 0 ∧ q.val = 0
  · simp [Scalar.select, h]
  · simp [Scalar.select, h]

theorem dx_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x128 .f32) (harg3 : arg3.IsWhole) (arg4 : Memref sig .tc .vmem S256x2048 .f32) (harg4 : arg4.IsWhole) (hc0 : cond0_0 i)
    (x0 x1 : Vec Ideal S256x2048 .f32) (r : Fin 256) (q : Fin 2048) :
    out0_A_3 c i arg1 harg1 arg2 harg2 arg3 harg3 arg4 harg4 hc0 x0 x1 (ix2 r q) = (x0 (ix2 r q) - x1 (ix2 r q)) * Ideal.ofBits .f32 0x3A000000#32 := by
  frame_out
  unfold k0_pay3 k0_pay2
  pointwise

theorem loss_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x128 .f32) (harg3 : arg3.IsWhole) (arg4 : Memref sig .tc .vmem S256x2048 .f32) (harg4 : arg4.IsWhole) (hc0 : cond0_0 i)
    (x0 x1 : Vec Ideal S256x2048 .f32) (r : Fin 8) (q : Fin 128) :
    out0_A_2 c i arg1 harg1 arg2 harg2 arg3 harg3 arg4 harg4 hc0 x0 x1 (ix2 r q) = 0 + if r.val = 0 ∧ q.val = 0 then Ideal.ofBits .f32 0x3F000000#32 * ∑ k : Fin 256, Ideal.div (∑ l : Fin 2048, (x0 (ix2 k l) - x1 (ix2 k l)) * (x0 (ix2 k l) - x1 (ix2 k l))) (Ideal.ofBits .f32 0x45000000#32) else 0 := by
  frame_out
  unfold k0_pay4 k0_pay2 k0_pay1
  pointwise
  exact pick r q _

theorem dx_B (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x128 .f32) (harg3 : arg3.IsWhole) (arg4 : Memref sig .tc .vmem S256x2048 .f32) (harg4 : arg4.IsWhole) (hc0 : ¬cond0_0 i)
    (x0 x1 : Vec Ideal S256x2048 .f32) (xo2 : Vec Ideal S8x128 .f32) (r : Fin 256) (q : Fin 2048) :
    out0_B_3 c i arg1 harg1 arg2 harg2 arg3 harg3 arg4 harg4 hc0 x0 x1 xo2 (ix2 r q) = (x0 (ix2 r q) - x1 (ix2 r q)) * Ideal.ofBits .f32 0x3A000000#32 := by
  frame_out
  unfold k0_pay3 k0_pay2
  pointwise

theorem loss_B (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x128 .f32) (harg3 : arg3.IsWhole) (arg4 : Memref sig .tc .vmem S256x2048 .f32) (harg4 : arg4.IsWhole) (hc0 : ¬cond0_0 i)
    (x0 x1 : Vec Ideal S256x2048 .f32) (xo2 : Vec Ideal S8x128 .f32) (r : Fin 8) (q : Fin 128) :
    out0_B_2 c i arg1 harg1 arg2 harg2 arg3 harg3 arg4 harg4 hc0 x0 x1 xo2 (ix2 r q) = xo2 (ix2 r q) + if r.val = 0 ∧ q.val = 0 then Ideal.ofBits .f32 0x3F000000#32 * ∑ k : Fin 256, Ideal.div (∑ l : Fin 2048, (x0 (ix2 k l) - x1 (ix2 k l)) * (x0 (ix2 k l) - x1 (ix2 k l))) (Ideal.ofBits .f32 0x45000000#32) else 0 := by
  frame_out
  unfold k0_pay4 k0_pay2
  pointwise
  exact congrArg (xo2 (ix2 r q) + ·) (pick r q _)

/-! ## The results as arrays -/

/-- The mean squared error of a row, for any row number. -/
def row (a0 a1 : S2048x2048.Idx → EReal) (n : ℕ) : EReal :=
  if h : n < 2048 then Ideal.div (∑ l : Fin 2048, (a0 (ix2 ⟨n, h⟩ l) - a1 (ix2 ⟨n, h⟩ l)) * (a0 (ix2 ⟨n, h⟩ l) - a1 (ix2 ⟨n, h⟩ l))) (Ideal.ofBits .f32 0x45000000#32) else 0

/-- The loss in the first element. -/
def lossArr (a0 a1 : S2048x2048.Idx → EReal) : S8x128.Idx → EReal := fun j =>
  if (j 0).val = 0 ∧ (j 1).val = 0 then Ideal.ofBits .f32 0x3F000000#32 * ∑ n ∈ Finset.range 2048, row a0 a1 n else 0

/-- The gradient of the loss. -/
def dxArr (a0 a1 : S2048x2048.Idx → EReal) : S2048x2048.Idx → EReal := fun j => (a0 j - a1 j) * Ideal.ofBits .f32 0x3A000000#32

theorem word_half : Ideal.ofBits .f32 0x3F000000#32 = ((1 / 2 : ℝ) : EReal) := by
  simp only [Ideal.ofBits, Ideal.ieee]
  rw [if_neg (by decide), if_neg (by decide)]
  norm_num [show (BitVec.extractLsb' 31 1 1056964608#32 = 1#1) = False by decide, Nat.shiftRight_eq_div_pow]

theorem word_two : Ideal.ofBits .f32 0x40000000#32 = ((2 : ℝ) : EReal) := by
  simp only [Ideal.ofBits, Ideal.ieee]
  rw [if_neg (by decide), if_neg (by decide)]
  norm_num [show (BitVec.extractLsb' 31 1 1073741824#32 = 1#1) = False by decide, Nat.shiftRight_eq_div_pow]

theorem word_inv : Ideal.ofBits .f32 0x3A000000#32 = ((1 / 2048 : ℝ) : EReal) := by
  simp only [Ideal.ofBits, Ideal.ieee]
  rw [if_neg (by decide), if_neg (by decide)]
  norm_num [show (BitVec.extractLsb' 31 1 973078528#32 = 1#1) = False by decide, Nat.shiftRight_eq_div_pow]

/-- One half of a sum is the sum of the halves, at infinities too. -/
theorem half_add (x y : EReal) : Ideal.ofBits .f32 0x3F000000#32 * x + Ideal.ofBits .f32 0x3F000000#32 * y = Ideal.ofBits .f32 0x3F000000#32 * (x + y) := by
  rw [word_half]
  exact (EReal.left_distrib_of_nonneg_of_ne_top (by exact_mod_cast (by norm_num : (0 : ℝ) ≤ 1 / 2)) (EReal.coe_ne_top _) x y).symm

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![t.val, 0] := by decide +kernel
theorem flush_2 : ∀ t : Fin cfg0.N, win0_2.flush t = true → t.val = 7 := by decide +kernel

/-- Row `256 t + r`. -/
abbrev rowOf (t : Fin cfg0.N) (r : Fin 256) : Fin 2048 := ⟨256 * t.val + r.val, by have : t.val < 8 := t.isLt; omega⟩

theorem read_0 (t : Fin cfg0.N) (x : Vec Ideal S256x2048 .f32) (h : x = iblk m c 0 t) (r : Fin 256) (q : Fin 2048) :
    x (ix2 r q) = (m ((c.tc : Thread nD τ).loc main_arg0)) (ix2 (rowOf t r) q) := by
  rw [← V_main_arg0 m c, h]
  blk_simp [iblk]
  congr 1
  blk_ext [index_0]

theorem read_1 (t : Fin cfg0.N) (x : Vec Ideal S256x2048 .f32) (h : x = iblk m c 1 t) (r : Fin 256) (q : Fin 2048) :
    x (ix2 r q) = (m ((c.tc : Thread nD τ).loc main_arg1)) (ix2 (rowOf t r) q) := by
  rw [← V_main_arg1 m c, h]
  blk_simp [iblk]
  congr 1
  blk_ext [index_1]

/-- What a point adds to the loss. -/
theorem part_at (t : Fin cfg0.N) (x0 x1 : Vec Ideal S256x2048 .f32) (h0 : x0 = iblk m c 0 t) (h1 : x1 = iblk m c 1 t) :
    Ideal.ofBits .f32 0x3F000000#32 * ∑ k : Fin 256, Ideal.div (∑ l : Fin 2048, (x0 (ix2 k l) - x1 (ix2 k l)) * (x0 (ix2 k l) - x1 (ix2 k l))) (Ideal.ofBits .f32 0x45000000#32) = Ideal.ofBits .f32 0x3F000000#32 * ∑ k ∈ Finset.range 256, row (m ((c.tc : Thread nD τ).loc main_arg0)) (m ((c.tc : Thread nD τ).loc main_arg1)) (256 * t.val + k) := by
  rw [Finset.sum_range]
  congr 1
  refine Finset.sum_congr rfl fun k _ => ?_
  have hk : 256 * t.val + k.val < 2048 := (rowOf t k).isLt
  rw [row, dif_pos hk]
  simp only [read_0 m c t x0 h0, read_1 m c t x1 h1]

theorem dx_at (t : Fin cfg0.N) (x0 x1 : Vec Ideal S256x2048 .f32) (h0 : x0 = iblk m c 0 t) (h1 : x1 = iblk m c 1 t) (r : Fin 256) (q : Fin 2048) :
    (x0 (ix2 r q) - x1 (ix2 r q)) * Ideal.ofBits .f32 0x3A000000#32 = dxArr (m ((c.tc : Thread nD τ).loc main_arg0)) (m ((c.tc : Thread nD τ).loc main_arg1)) (ix2 (rowOf t r) q) := by
  rw [read_0 m c t x0 h0, read_1 m c t x1 h1]
  rfl

theorem dx_pt (t : Fin cfg0.N) (r : Fin 256) (q : Fin 2048) : (outsAt0 m c t.val t.isLt).2 (ix2 r q) = dxArr (m ((c.tc : Thread nD τ).loc main_arg0)) (m ((c.tc : Thread nD τ).loc main_arg1)) (ix2 (rowOf t r) q) := by
  rw [← dx_at m c t (iblk m c 0 t) (iblk m c 1 t) rfl rfl r q]
  by_cases h0 : t.val % 8 = 0
  · rw [outsAt0_A m c t h0]
    have e := dx_A c (grid0.coords t) (ms0_0 t) (hs0_0 t) (ms0_1 t) (hs0_1 t) (ms0_2 t) (hs0_2 t) (ms0_3 t) (hs0_3 t) ((hcond0_0 t).mpr h0) (iblk m c 0 t) (iblk m c 1 t) r q
    rw [← e]
  · rw [outsAt0_B m c t h0]
    generalize (outsAt0 m c (t.val - 1) (Nat.lt_of_le_of_lt (Nat.sub_le _ _) t.isLt)).1 = xs
    have e := dx_B c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) xs r q
    rw [← e]

theorem first_pt (t : Fin cfg0.N) (h0 : t.val % 8 = 0) (r : Fin 8) (q : Fin 128) : (outsAt0 m c t.val t.isLt).1 (ix2 r q)
    = 0 + if r.val = 0 ∧ q.val = 0 then Ideal.ofBits .f32 0x3F000000#32 * ∑ k ∈ Finset.range 256, row (m ((c.tc : Thread nD τ).loc main_arg0)) (m ((c.tc : Thread nD τ).loc main_arg1)) (256 * t.val + k) else 0 := by
  rw [← part_at m c t (iblk m c 0 t) (iblk m c 1 t) rfl rfl, outsAt0_A m c t h0]
  have e := loss_A c (grid0.coords t) (ms0_0 t) (hs0_0 t) (ms0_1 t) (hs0_1 t) (ms0_2 t) (hs0_2 t) (ms0_3 t) (hs0_3 t) ((hcond0_0 t).mpr h0) (iblk m c 0 t) (iblk m c 1 t) r q
  rw [← e]

theorem next_pt (t : Fin cfg0.N) (h0 : ¬t.val % 8 = 0) (r : Fin 8) (q : Fin 128) : (outsAt0 m c t.val t.isLt).1 (ix2 r q)
    = (outsAt0 m c (t.val - 1) (Nat.lt_of_le_of_lt (Nat.sub_le _ _) t.isLt)).1 (ix2 r q)
      + if r.val = 0 ∧ q.val = 0 then Ideal.ofBits .f32 0x3F000000#32 * ∑ k ∈ Finset.range 256, row (m ((c.tc : Thread nD τ).loc main_arg0)) (m ((c.tc : Thread nD τ).loc main_arg1)) (256 * t.val + k) else 0 := by
  rw [← part_at m c t (iblk m c 0 t) (iblk m c 1 t) rfl rfl, outsAt0_B m c t h0]
  generalize (outsAt0 m c (t.val - 1) (Nat.lt_of_le_of_lt (Nat.sub_le _ _) t.isLt)).1 = xs
  have e := loss_B c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) xs r q
  rw [← e]

/-- What the loss's block holds after a point. -/
theorem carried (r : Fin 8) (q : Fin 128) : ∀ (n : ℕ) (h : n < cfg0.N), (outsAt0 m c n h).1 (ix2 r q)
    = if r.val = 0 ∧ q.val = 0 then Ideal.ofBits .f32 0x3F000000#32 * ∑ k ∈ Finset.range (256 * (n + 1)), row (m ((c.tc : Thread nD τ).loc main_arg0)) (m ((c.tc : Thread nD τ).loc main_arg1)) k else 0 := by
  intro n
  induction n with
  | zero =>
    intro h
    refine (first_pt m c ⟨0, h⟩ rfl r q).trans ?_
    simp only [Nat.mul_zero, Nat.zero_add, Nat.mul_one, zero_add]
  | succ n ih =>
    intro h
    have hn : n + 1 < 8 := h
    have h0 : ¬(n + 1) % 8 = 0 := by omega
    refine (next_pt m c ⟨n + 1, h⟩ h0 r q).trans ((congrArg₂ (· + ·) (ih (by omega)) rfl).trans ?_)
    show (if r.val = 0 ∧ q.val = 0 then Ideal.ofBits .f32 0x3F000000#32 * ∑ k ∈ Finset.range (256 * (n + 1)), row (m ((c.tc : Thread nD τ).loc main_arg0)) (m ((c.tc : Thread nD τ).loc main_arg1)) k else 0)
      + (if r.val = 0 ∧ q.val = 0 then Ideal.ofBits .f32 0x3F000000#32 * ∑ k ∈ Finset.range 256, row (m ((c.tc : Thread nD τ).loc main_arg0)) (m ((c.tc : Thread nD τ).loc main_arg1)) (256 * (n + 1) + k) else 0) = _
    rw [show 256 * (n + 1 + 1) = 256 * (n + 1) + 256 by omega, Finset.sum_range_add]
    by_cases hz : r.val = 0 ∧ q.val = 0
    · rw [if_pos hz, if_pos hz, if_pos hz, half_add]
    · rw [if_neg hz, if_neg hz, if_neg hz, add_zero]

theorem final_2 : (dats m 0 c).arrAt 2 cfg0.N = lossArr (m ((c.tc : Thread nD τ).loc main_arg0)) (m ((c.tc : Thread nD τ).loc main_arg1)) := by
  refine (dats m 0 c).arrAt_eq_of_covers 2 _ (by decide +kernel) fun t hfl y => ?_
  have h7 := flush_2 t hfl
  blk_simp
  rw [after0_2]
  obtain ⟨r, q, rfl⟩ : ∃ (r : Fin 8) (q : Fin 128), y = ix2 r q := ⟨y 0, y 1, by blk_ext⟩
  have e : (win0_2.blk t).view.emb (ix2 r q) = ix2 r q := by blk_ext [index_2]
  refine Eq.trans ?_ (congrArg (lossArr (m ((c.tc : Thread nD τ).loc main_arg0)) (m ((c.tc : Thread nD τ).loc main_arg1))) e.symm)
  refine (carried m c r q t.val t.isLt).trans ?_
  rw [h7]
  rfl

theorem final_3 : (dats m 0 c).arrAt 3 cfg0.N = dxArr (m ((c.tc : Thread nD τ).loc main_arg0)) (m ((c.tc : Thread nD τ).loc main_arg1)) := by
  refine (dats m 0 c).arrAt_eq_of_covers 3 _ (by decide +kernel) fun t hfl y => ?_
  blk_simp
  rw [after0_3]
  obtain ⟨r, q, rfl⟩ : ∃ (r : Fin 256) (q : Fin 2048), y = ix2 r q := ⟨y 0, y 1, by blk_ext⟩
  refine (dx_pt m c t r q).trans ?_
  have e : (win0_3.blk t).view.emb (ix2 r q) = ix2 (rowOf t r) q := by blk_ext [index_3]
  exact congrArg (dxArr (m ((c.tc : Thread nD τ).loc main_arg0)) (m ((c.tc : Thread nD τ).loc main_arg1))) e.symm

/-! ## The reference -/

open Cert.Reference19Ideal.Read in
theorem ref_loss (a0 a1 : S2048x2048.Idx → EReal) : val_main_v19 (F := Ideal) a0 a1 = lossArr a0 a1 := by
  funext j
  obtain ⟨r, q, rfl⟩ : ∃ (r : Fin 8) (q : Fin 128), j = ix2 r q := ⟨j 0, j 1, by blk_ext⟩
  unfold val_main_v19 val_main_v18 val_main_cst_8 val_main_v17 val_main_v16 val_main_cst_7 val_main_v15 val_main_v8 val_main_cst_3 val_main_v7 val_main_cst_2 val_main_v6 val_main_v5 val_main_cst_1 val_main_v4 val_main_cst_0 val_main_v1 val_main_v0
  pointwise
  show _ = if r.val = 0 ∧ q.val = 0 then Ideal.ofBits .f32 0x3F000000#32 * ∑ n ∈ Finset.range 2048, row a0 a1 n else 0
  have hs : ∑ n ∈ Finset.range 2048, row a0 a1 n = ∑ k : Fin 2048, Ideal.div (∑ l : Fin 2048, (a0 (ix2 k l) - a1 (ix2 k l)) * (a0 (ix2 k l) - a1 (ix2 k l))) (Ideal.ofBits .f32 0x45000000#32) := by
    rw [Finset.sum_range]
    refine Finset.sum_congr rfl fun k _ => ?_
    rw [row, dif_pos k.isLt]
  rw [hs]
  by_cases hr : r.val = 0
  · rw [dif_pos (show r.val < 1 by omega)]
    by_cases hq : q.val = 0
    · rw [dif_pos (show q.val < 1 by omega), if_pos ⟨hr, hq⟩]
    · rw [dif_neg (show ¬q.val < 1 by omega), if_neg fun h => hq h.2]
  · rw [dif_neg (show ¬r.val < 1 by omega), if_neg fun h => hr h.1]

open Cert.Reference19Ideal.Read in
theorem ref_dx (a0 a1 : S2048x2048.Idx → EReal) : val_main_v14 (F := Ideal) a0 a1 = dxArr a0 a1 := by
  funext j
  obtain ⟨r, q, rfl⟩ : ∃ (r : Fin 2048) (q : Fin 2048), j = ix2 r q := ⟨j 0, j 1, by blk_ext⟩
  unfold val_main_v14 val_main_v13 val_main_v12 val_main_v11 val_main_cst_6 val_main_v10 val_main_v9 val_main_cst_5 val_main_cst_4 val_main_v3 val_main_v2 val_main_cst val_main_v0
  pointwise
  show _ = (a0 (ix2 r q) - a1 (ix2 r q)) * Ideal.ofBits .f32 0x3A000000#32
  rw [NormCore.word_2048, Ideal.div_coe (by norm_num), word_inv, word_half, word_two, ← mul_assoc, ← EReal.coe_mul, ← EReal.coe_mul, mul_comm]
  congr 2
  norm_num

end Cert.Proof.Loss

end
-- ==== Proof.RmsFwd.lean ====
module

public import proofs.«01_k».proof.Defs
public import proofs.«01_k».proof.Proof.Gen.Kernel22Ideal.Value
public import proofs.«01_k».proof.Proof.Gen.Reference22Ideal.Read
public import Idealize.ShloMosaic.Lib.Pipeline.ValueKit
public import Idealize.ShloMosaic.Lib.StableHlo.ReadAt

/-! The root-mean-square norm of a layer's input, and the same transposed. -/

@[expose] public section

set_option maxRecDepth 16384
set_option maxHeartbeats 1000000

noncomputable section

namespace Cert.Proof.RmsFwd

open Cert.Kernel22Ideal Cert.Kernel22Ideal.Gen
open Idealize.ShloMosaic Idealize.ShloMosaic.Pipeline
open Idealize.ShloMosaic.TcCoe Idealize.ShloMosaic.Tactic
open scoped BigOperators

/-- The norm at one element, from the sum of squares of its row. -/
def normAt (T x g : EReal) : EReal := x * Ideal.rsqrt (Ideal.div T (Ideal.ofBits .f32 0x45000000#32) + Ideal.ofBits .f32 0x358637BD#32) * g

theorem block_2 (x0 : Vec Ideal S256x2048 .f32) (x1 : Vec Ideal S8x2048 .f32) (r : Fin 256) (q : Fin 2048) :
    out0_2 x0 x1 (ix2 r q) = normAt (∑ k : Fin 2048, x0 (ix2 r k) * x0 (ix2 r k)) (x0 (ix2 r q)) (x1 (ix2 0 q)) := by
  frame_out
  unfold k0_pay2 k0_pay1 normAt
  pointwise

theorem block_3 (x0 : Vec Ideal S256x2048 .f32) (x1 : Vec Ideal S8x2048 .f32) (r : Fin 256) (q : Fin 2048) :
    out0_3 x0 x1 (ix2 q r) = normAt (∑ k : Fin 2048, x0 (ix2 r k) * x0 (ix2 r k)) (x0 (ix2 r q)) (x1 (ix2 0 q)) := by
  frame_out
  unfold k0_pay3 k0_pay1 normAt
  pointwise

/-- The norm of every row. -/
def arr (a0 : S2048x2048.Idx → EReal) (a1 : S2048.Idx → EReal) : S2048x2048.Idx → EReal := fun j =>
  normAt (∑ k : Fin 2048, a0 (ix2 (j 0) k) * a0 (ix2 (j 0) k)) (a0 (ix2 (j 0) (j 1))) (a1 (ix1 (j 1)))

/-- The same, transposed. -/
def arrT (a0 : S2048x2048.Idx → EReal) (a1 : S2048.Idx → EReal) : S2048x2048.Idx → EReal := fun j =>
  normAt (∑ k : Fin 2048, a0 (ix2 (j 1) k) * a0 (ix2 (j 1) k)) (a0 (ix2 (j 1) (j 0))) (a1 (ix1 (j 0)))

variable (m : (ℓ : Loc nD τ sig) → Buf (Elt Ideal) ℓ) (c : Dev nD)

theorem gain_read (q : Fin 2048) : V m c main_v1 (ix2 0 q) = m ((c.tc : Thread nD τ).loc main_arg1) (ix1 q) := by
  unfold V
  after_reads_at

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![0, t.val] := by decide +kernel

/-- Row `256 t + r`. -/
abbrev rowOf (t : Fin cfg0.N) (r : Fin 256) : Fin 2048 := ⟨256 * t.val + r.val, by have : t.val < 8 := t.isLt; omega⟩

theorem read_0 (t : Fin cfg0.N) (x : Vec Ideal S256x2048 .f32) (h : x = iblk m c 0 t) (r : Fin 256) (q : Fin 2048) :
    x (ix2 r q) = m ((c.tc : Thread nD τ).loc main_arg0) (ix2 (rowOf t r) q) := by
  rw [← V_main_arg0 m c, h]
  blk_simp [iblk]
  congr 1
  blk_ext [index_0]

theorem read_1 (t : Fin cfg0.N) (x : Vec Ideal S8x2048 .f32) (h : x = iblk m c 1 t) (q : Fin 2048) :
    x (ix2 0 q) = m ((c.tc : Thread nD τ).loc main_arg1) (ix1 q) := by
  rw [← gain_read m c q, h]
  blk_simp [iblk]
  congr 1
  blk_ext [index_1]

/-- What a point computes, from its blocks. -/
theorem point (t : Fin cfg0.N) (x0 : Vec Ideal S256x2048 .f32) (x1 : Vec Ideal S8x2048 .f32) (h0 : x0 = iblk m c 0 t) (h1 : x1 = iblk m c 1 t) (r : Fin 256) (q : Fin 2048) :
    normAt (∑ k : Fin 2048, x0 (ix2 r k) * x0 (ix2 r k)) (x0 (ix2 r q)) (x1 (ix2 0 q)) = arr (m ((c.tc : Thread nD τ).loc main_arg0)) (m ((c.tc : Thread nD τ).loc main_arg1)) (ix2 (rowOf t r) q) := by
  simp only [read_0 m c t x0 h0, read_1 m c t x1 h1]
  rfl

theorem final_2 : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  blk_simp
  rw [after0_2]
  obtain ⟨r, q, rfl⟩ : ∃ (r : Fin 256) (q : Fin 2048), y = ix2 r q := ⟨y 0, y 1, by blk_ext⟩
  refine (block_2 (iblk m c 0 t) (iblk m c 1 t) r q).trans ((point m c t (iblk m c 0 t) (iblk m c 1 t) rfl rfl r q).trans ?_)
  have e : (win0_2.blk t).view.emb (ix2 r q) = ix2 (rowOf t r) q := by blk_ext [index_2]
  refine Eq.trans ?_ (congrArg (arr (m ((c.tc : Thread nD τ).loc main_arg0)) (m ((c.tc : Thread nD τ).loc main_arg1))) e).symm
  rfl

theorem final_3 : (dats m 0 c).arrAt 3 cfg0.N = arrT (m ((c.tc : Thread nD τ).loc main_arg0)) (m ((c.tc : Thread nD τ).loc main_arg1)) := by
  refine (dats m 0 c).arrAt_eq_of_covers 3 _ (by decide +kernel) fun t hfl y => ?_
  blk_simp
  rw [after0_3]
  obtain ⟨q, r, rfl⟩ : ∃ (q : Fin 2048) (r : Fin 256), y = ix2 q r := ⟨y 0, y 1, by blk_ext⟩
  refine (block_3 (iblk m c 0 t) (iblk m c 1 t) r q).trans ((point m c t (iblk m c 0 t) (iblk m c 1 t) rfl rfl r q).trans ?_)
  have e : (win0_3.blk t).view.emb (ix2 q r) = ix2 q (rowOf t r) := by blk_ext [index_3]
  refine Eq.trans ?_ (congrArg (arrT (m ((c.tc : Thread nD τ).loc main_arg0)) (m ((c.tc : Thread nD τ).loc main_arg1))) e).symm
  rfl

open Cert.Reference22Ideal.Read in
theorem ref_0 (a0 : S2048x2048.Idx → EReal) (a1 : S2048.Idx → EReal) : val_main_v13 (F := Ideal) a0 a1 = arr a0 a1 := by
  funext j
  obtain ⟨r, q, rfl⟩ : ∃ (r : Fin 2048) (q : Fin 2048), j = ix2 r q := ⟨j 0, j 1, by blk_ext⟩
  unfold val_main_v13 val_main_v12 val_main_v11 val_main_v10 val_main_v9 val_main_v8 val_main_v7 val_main_v6 val_main_v5 val_main_cst_1 val_main_v4 val_main_v3 val_main_cst_0 val_main_v2 val_main_v1 val_main_cst val_main_v0 arr normAt
  pointwise

open Cert.Reference22Ideal.Read in
theorem ref_1 (a0 : S2048x2048.Idx → EReal) (a1 : S2048.Idx → EReal) : val_main_v14 (F := Ideal) a0 a1 = arrT a0 a1 := by
  funext j
  obtain ⟨r, q, rfl⟩ : ∃ (r : Fin 2048) (q : Fin 2048), j = ix2 r q := ⟨j 0, j 1, by blk_ext⟩
  unfold val_main_v14 val_main_v13 val_main_v12 val_main_v11 val_main_v10 val_main_v9 val_main_v8 val_main_v7 val_main_v6 val_main_v5 val_main_cst_1 val_main_v4 val_main_v3 val_main_cst_0 val_main_v2 val_main_v1 val_main_cst val_main_v0 arrT normAt
  pointwise

end Cert.Proof.RmsFwd

end
-- ==== Proof.GateFwd.lean ====
module

public import proofs.«01_k».proof.Defs
public import proofs.«01_k».proof.Proof.Gen.Kernel23Ideal.Value
public import proofs.«01_k».proof.Proof.Gen.Reference23Ideal.Read
public import Idealize.ShloMosaic.Lib.Pipeline.ValueKit
public import Idealize.ShloMosaic.Lib.StableHlo.ReadAt

/-! The gate of a layer: the branches' outputs times z * sigmoid(z), where z is the last band of the projection. -/

@[expose] public section

set_option maxRecDepth 16384
set_option maxHeartbeats 1000000

noncomputable section

namespace Cert.Proof.GateFwd

open Cert.Kernel23Ideal Cert.Kernel23Ideal.Gen
open Idealize.ShloMosaic Idealize.ShloMosaic.Pipeline
open Idealize.ShloMosaic.TcCoe Idealize.ShloMosaic.Tactic
open scoped BigOperators

/-- The gated value of one element. -/
def gateAt (x z : EReal) : EReal := x * (z * Ideal.div (Ideal.ofBits .f32 0x3F800000#32) (Ideal.ofBits .f32 0x3F800000#32 + Ideal.exp (-z)))

theorem block_at (x0 x1 : Vec Ideal S1024x256 .f32) (r : Fin 1024) (q : Fin 256) : out0_2 x0 x1 (ix2 r q) = gateAt (x0 (ix2 r q)) (x1 (ix2 r q)) := by
  frame_out
  unfold k0_pay1 gateAt
  pointwise
  rw [zero_sub]

/-- The gated branches. -/
def arr (a0 : S2048x4096.Idx → EReal) (a1 : S2048x14336.Idx → EReal) : S2048x4096.Idx → EReal := fun j =>
  gateAt (a0 j) (a1 (ix2 (j 0) ⟨10240 + (j 1).val, Nat.add_lt_add_left (j 1).isLt 10240⟩))

variable (m : (ℓ : Loc nD τ sig) → Buf (Elt Ideal) ℓ) (c : Dev nD)

theorem index_0 : ∀ t : Fin cfg0.N, win0_0.index t = ![t.val % 2, t.val / 2] := by decide +kernel
theorem index_1 : ∀ t : Fin cfg0.N, win0_1.index t = ![t.val % 2, 40 + t.val / 2] := by decide +kernel
theorem index_2 : ∀ t : Fin cfg0.N, win0_2.index t = ![t.val % 2, t.val / 2] := by decide +kernel

/-- A row of a point's blocks. -/
abbrev rowOf (t : Fin cfg0.N) (r : Fin 1024) : Fin 2048 := ⟨1024 * (t.val % 2) + r.val, by omega⟩

/-- A column of a point's blocks. -/
abbrev colOf (t : Fin cfg0.N) (q : Fin 256) : Fin 4096 := ⟨256 * (t.val / 2) + q.val, by have : t.val < 32 := t.isLt; omega⟩

theorem read_0 (t : Fin cfg0.N) (x : Vec Ideal S1024x256 .f32) (h : x = iblk m c 0 t) (r : Fin 1024) (q : Fin 256) :
    x (ix2 r q) = (m ((c.tc : Thread nD τ).loc main_arg0)) (ix2 (rowOf t r) (colOf t q)) := by
  rw [← V_main_arg0 m c, h]
  blk_simp [iblk]
  congr 1
  blk_ext [index_0]

theorem read_1 (t : Fin cfg0.N) (x : Vec Ideal S1024x256 .f32) (h : x = iblk m c 1 t) (r : Fin 1024) (q : Fin 256) :
    x (ix2 r q) = (m ((c.tc : Thread nD τ).loc main_arg1)) (ix2 (rowOf t r) ⟨10240 + (colOf t q).val, Nat.add_lt_add_left (colOf t q).isLt 10240⟩) := by
  rw [← V_main_arg1 m c, h]
  blk_simp [iblk]
  congr 1
  blk_ext [index_1]

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  blk_simp
  rw [after0_2]
  obtain ⟨r, q, rfl⟩ : ∃ (r : Fin 1024) (q : Fin 256), y = ix2 r q := ⟨y 0, y 1, by blk_ext⟩
  refine (block_at (iblk m c 0 t) (iblk m c 1 t) r q).trans ?_
  have e : (win0_2.blk t).view.emb (ix2 r q) = ix2 (rowOf t r) (colOf t q) := by blk_ext [index_2]
  refine Eq.trans ?_ (congrArg (arr (m ((c.tc : Thread nD τ).loc main_arg0)) (m ((c.tc : Thread nD τ).loc main_arg1))) e).symm
  rw [read_0 m c t (iblk m c 0 t) rfl r q, read_1 m c t (iblk m c 1 t) rfl r q]
  rfl

open Cert.Reference23Ideal.Read in
theorem reference_eq (a0 : S2048x4096.Idx → EReal) (a1 : S2048x14336.Idx → EReal) : val_main_v3 (F := Ideal) a0 a1 = arr a0 a1 := by
  funext j
  obtain ⟨r, q, rfl⟩ : ∃ (r : Fin 2048) (q : Fin 4096), j = ix2 r q := ⟨j 0, j 1, by blk_ext⟩
  unfold val_main_v3 val_main_v2 val_main_v1 val_main_call0_v5 val_main_call0_v4 val_main_call0_cst_0 val_main_call0_v3 val_main_call0_v2 val_main_call0_cst val_main_call0_v1 val_main_call0_v0 val_main_v0 arr gateAt
  pointwise

end Cert.Proof.GateFwd

end
-- ==== Proof.MemNorm.lean ====
module

public import proofs.«01_k».proof.Defs
public import proofs.«01_k».proof.Proof.Gen.Kernel25Ideal.Value
public import proofs.«01_k».proof.Proof.Gen.Reference25Ideal.Read
public import Idealize.ShloMosaic.Lib.Pipeline.ValueKit
public import Idealize.ShloMosaic.Lib.StableHlo.ReadAt

/-! The root-mean-square norm of the memory. -/

@[expose] public section

set_option maxRecDepth 16384
set_option maxHeartbeats 1000000

noncomputable section

namespace Cert.Proof.MemNorm

open Cert.Kernel25Ideal Cert.Kernel25Ideal.Gen
open Idealize.ShloMosaic Idealize.ShloMosaic.Pipeline
open Idealize.ShloMosaic.TcCoe Idealize.ShloMosaic.Tactic
open scoped BigOperators

/-- The norm at one element, from the sum of squares of its row. -/
def normAt (T x g : EReal) : EReal := x * Ideal.rsqrt (Ideal.div T (Ideal.ofBits .f32 0x45000000#32) + Ideal.ofBits .f32 0x358637BD#32) * g

theorem block_2 (x0 : Vec Ideal S256x2048 .f32) (x1 : Vec Ideal S8x2048 .f32) (r : Fin 256) (q : Fin 2048) :
    out0_2 x0 x1 (ix2 r q) = normAt (∑ k : Fin 2048, x0 (ix2 r k) * x0 (ix2 r k)) (x0 (ix2 r q)) (x1 (ix2 0 q)) := by
  frame_out
  unfold k0_pay1 normAt
  pointwise

/-- The norm of every row. -/
def arr (a0 : S256x2048.Idx → EReal) (a1 : S2048.Idx → EReal) : S256x2048.Idx → EReal := fun j =>
  normAt (∑ k : Fin 2048, a0 (ix2 (j 0) k) * a0 (ix2 (j 0) k)) (a0 (ix2 (j 0) (j 1))) (a1 (ix1 (j 1)))

variable (m : (ℓ : Loc nD τ sig) → Buf (Elt Ideal) ℓ) (c : Dev nD)

theorem gain_read (q : Fin 2048) : V m c main_v1 (ix2 0 q) = m ((c.tc : Thread nD τ).loc main_arg1) (ix1 q) := by
  unfold V
  after_reads_at

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
/-- Row `256 t + r`; there is one point. -/
abbrev rowOf (t : Fin cfg0.N) (r : Fin 256) : Fin 256 := ⟨256 * t.val + r.val, by have : t.val < 1 := t.isLt; omega⟩

theorem read_0 (t : Fin cfg0.N) (x : Vec Ideal S256x2048 .f32) (h : x = iblk m c 0 t) (r : Fin 256) (q : Fin 2048) :
    x (ix2 r q) = m ((c.tc : Thread nD τ).loc main_arg0) (ix2 (rowOf t r) q) := by
  rw [← V_main_arg0 m c, h]
  blk_simp [iblk]
  congr 1
  blk_ext [index_0]

theorem read_1 (t : Fin cfg0.N) (x : Vec Ideal S8x2048 .f32) (h : x = iblk m c 1 t) (q : Fin 2048) :
    x (ix2 0 q) = m ((c.tc : Thread nD τ).loc main_arg1) (ix1 q) := by
  rw [← gain_read m c q, h]
  blk_simp [iblk]
  congr 1
  blk_ext [index_1]

/-- What a point computes, from its blocks. -/
theorem point (t : Fin cfg0.N) (x0 : Vec Ideal S256x2048 .f32) (x1 : Vec Ideal S8x2048 .f32) (h0 : x0 = iblk m c 0 t) (h1 : x1 = iblk m c 1 t) (r : Fin 256) (q : Fin 2048) :
    normAt (∑ k : Fin 2048, x0 (ix2 r k) * x0 (ix2 r k)) (x0 (ix2 r q)) (x1 (ix2 0 q)) = arr (m ((c.tc : Thread nD τ).loc main_arg0)) (m ((c.tc : Thread nD τ).loc main_arg1)) (ix2 (rowOf t r) q) := by
  simp only [read_0 m c t x0 h0, read_1 m c t x1 h1]
  rfl

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  blk_simp
  rw [after0_2]
  obtain ⟨r, q, rfl⟩ : ∃ (r : Fin 256) (q : Fin 2048), y = ix2 r q := ⟨y 0, y 1, by blk_ext⟩
  refine (block_2 (iblk m c 0 t) (iblk m c 1 t) r q).trans ((point m c t (iblk m c 0 t) (iblk m c 1 t) rfl rfl r q).trans ?_)
  have e : (win0_2.blk t).view.emb (ix2 r q) = ix2 (rowOf t r) q := by blk_ext [index_2]
  refine Eq.trans ?_ (congrArg (arr (m ((c.tc : Thread nD τ).loc main_arg0)) (m ((c.tc : Thread nD τ).loc main_arg1))) e).symm
  rfl

open Cert.Reference25Ideal.Read in
theorem reference_eq (a0 : S256x2048.Idx → EReal) (a1 : S2048.Idx → EReal) : val_main_v13 (F := Ideal) a0 a1 = arr a0 a1 := by
  funext j
  obtain ⟨r, q, rfl⟩ : ∃ (r : Fin 256) (q : Fin 2048), j = ix2 r q := ⟨j 0, j 1, by blk_ext⟩
  unfold val_main_v13 val_main_v12 val_main_v11 val_main_v10 val_main_v9 val_main_v8 val_main_v7 val_main_v6 val_main_v5 val_main_cst_1 val_main_v4 val_main_v3 val_main_cst_0 val_main_v2 val_main_v1 val_main_cst val_main_v0 arr normAt
  pointwise

end Cert.Proof.MemNorm

end
-- ==== Proof.GateFwdDn.lean ====
module

public import proofs.«01_k».proof.Defs
public import proofs.«01_k».proof.Proof.Gen.Kernel26Ideal.Value
public import proofs.«01_k».proof.Proof.Gen.Reference26Ideal.Read
public import Idealize.ShloMosaic.Lib.Pipeline.ValueKit
public import Idealize.ShloMosaic.Lib.StableHlo.ReadAt

/-! The gate of the delta-net layer: the branches' outputs times z * sigmoid(z), where z is the last band of the projection. -/

@[expose] public section

set_option maxRecDepth 16384
set_option maxHeartbeats 1000000

noncomputable section

namespace Cert.Proof.GateFwdDn

open Cert.Kernel26Ideal Cert.Kernel26Ideal.Gen
open Idealize.ShloMosaic Idealize.ShloMosaic.Pipeline
open Idealize.ShloMosaic.TcCoe Idealize.ShloMosaic.Tactic
open scoped BigOperators

/-- The gated value of one element. -/
def gateAt (x z : EReal) : EReal := x * (z * Ideal.div (Ideal.ofBits .f32 0x3F800000#32) (Ideal.ofBits .f32 0x3F800000#32 + Ideal.exp (-z)))

theorem block_at (x0 x1 : Vec Ideal S1024x256 .f32) (r : Fin 1024) (q : Fin 256) : out0_2 x0 x1 (ix2 r q) = gateAt (x0 (ix2 r q)) (x1 (ix2 r q)) := by
  frame_out
  unfold k0_pay1 gateAt
  pointwise
  rw [zero_sub]

/-- The gated branches. -/
def arr (a0 : S2048x4096.Idx → EReal) (a1 : S2048x11520.Idx → EReal) : S2048x4096.Idx → EReal := fun j =>
  gateAt (a0 j) (a1 (ix2 (j 0) ⟨7424 + (j 1).val, Nat.add_lt_add_left (j 1).isLt 7424⟩))

variable (m : (ℓ : Loc nD τ sig) → Buf (Elt Ideal) ℓ) (c : Dev nD)

theorem index_0 : ∀ t : Fin cfg0.N, win0_0.index t = ![t.val % 2, t.val / 2] := by decide +kernel
theorem index_1 : ∀ t : Fin cfg0.N, win0_1.index t = ![t.val % 2, 29 + t.val / 2] := by decide +kernel
theorem index_2 : ∀ t : Fin cfg0.N, win0_2.index t = ![t.val % 2, t.val / 2] := by decide +kernel

/-- A row of a point's blocks. -/
abbrev rowOf (t : Fin cfg0.N) (r : Fin 1024) : Fin 2048 := ⟨1024 * (t.val % 2) + r.val, by omega⟩

/-- A column of a point's blocks. -/
abbrev colOf (t : Fin cfg0.N) (q : Fin 256) : Fin 4096 := ⟨256 * (t.val / 2) + q.val, by have : t.val < 32 := t.isLt; omega⟩

theorem read_0 (t : Fin cfg0.N) (x : Vec Ideal S1024x256 .f32) (h : x = iblk m c 0 t) (r : Fin 1024) (q : Fin 256) :
    x (ix2 r q) = (m ((c.tc : Thread nD τ).loc main_arg0)) (ix2 (rowOf t r) (colOf t q)) := by
  rw [← V_main_arg0 m c, h]
  blk_simp [iblk]
  congr 1
  blk_ext [index_0]

theorem read_1 (t : Fin cfg0.N) (x : Vec Ideal S1024x256 .f32) (h : x = iblk m c 1 t) (r : Fin 1024) (q : Fin 256) :
    x (ix2 r q) = (m ((c.tc : Thread nD τ).loc main_arg1)) (ix2 (rowOf t r) ⟨7424 + (colOf t q).val, Nat.add_lt_add_left (colOf t q).isLt 7424⟩) := by
  rw [← V_main_arg1 m c, h]
  blk_simp [iblk]
  congr 1
  blk_ext [index_1]

theorem final : (dats m 0 c).arrAt 2 cfg0.N = arr (m ((c.tc : Thread nD τ).loc main_arg0)) (m ((c.tc : Thread nD τ).loc main_arg1)) := by
  refine (dats m 0 c).arrAt_eq_of_covers 2 _ (by decide +kernel) fun t hfl y => ?_
  blk_simp
  rw [after0_2]
  obtain ⟨r, q, rfl⟩ : ∃ (r : Fin 1024) (q : Fin 256), y = ix2 r q := ⟨y 0, y 1, by blk_ext⟩
  refine (block_at (iblk m c 0 t) (iblk m c 1 t) r q).trans ?_
  have e : (win0_2.blk t).view.emb (ix2 r q) = ix2 (rowOf t r) (colOf t q) := by blk_ext [index_2]
  refine Eq.trans ?_ (congrArg (arr (m ((c.tc : Thread nD τ).loc main_arg0)) (m ((c.tc : Thread nD τ).loc main_arg1))) e).symm
  rw [read_0 m c t (iblk m c 0 t) rfl r q, read_1 m c t (iblk m c 1 t) rfl r q]
  rfl

open Cert.Reference26Ideal.Read in
theorem reference_eq (a0 : S2048x4096.Idx → EReal) (a1 : S2048x11520.Idx → EReal) : val_main_v3 (F := Ideal) a0 a1 = arr a0 a1 := by
  funext j
  obtain ⟨r, q, rfl⟩ : ∃ (r : Fin 2048) (q : Fin 4096), j = ix2 r q := ⟨j 0, j 1, by blk_ext⟩
  unfold val_main_v3 val_main_v2 val_main_v1 val_main_call0_v5 val_main_call0_v4 val_main_call0_cst_0 val_main_call0_v3 val_main_call0_v2 val_main_call0_cst val_main_call0_v1 val_main_call0_v0 val_main_v0 arr gateAt
  pointwise

end Cert.Proof.GateFwdDn

end
-- ==== Proof.MemNormBwd.lean ====
module

public import proofs.«01_k».proof.Defs
public import proofs.«01_k».proof.Proof.Gen.Kernel27Ideal.Value
public import proofs.«01_k».proof.Proof.Gen.Reference27Ideal.Read
public import proofs.«01_k».proof.Proof.NormCore

/-! The gradient of the root-mean-square norm of the memory: the gradient of its input, and the gradient of its gain in the first row of the result. -/

@[expose] public section

set_option maxRecDepth 16384
set_option maxHeartbeats 1000000

noncomputable section

namespace Cert.Proof.MemNormBwd

open Cert.Kernel27Ideal Cert.Kernel27Ideal.Gen
open Idealize.ShloMosaic Idealize.ShloMosaic.Pipeline
open Idealize.ShloMosaic.TcCoe Idealize.ShloMosaic.Tactic
open scoped BigOperators

/-- The inverse root of the mean square of a row. -/
def inv (T : EReal) : EReal := Ideal.rsqrt (Ideal.div T (Ideal.ofBits .f32 0x45000000#32) + Ideal.ofBits .f32 0x358637BD#32)

/-- The gradient of the input at one element, from the sums over its row. -/
def dxAt (T S x y : EReal) : EReal := inv T * y - x * (inv T * inv T * inv T) * Ideal.div S (Ideal.ofBits .f32 0x45000000#32)

theorem dx_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S8x2048 .f32) (harg5 : arg5.IsWhole) (hc0 : cond0_0 i)
    (x0 : Vec Ideal S256x2048 .f32) (x1 : Vec Ideal S256x2048 .f32) (x2 : Vec Ideal S8x2048 .f32) (r : Fin 256) (q : Fin 2048) :
    out0_A_3 c i arg1 harg1 arg2 harg2 arg3 harg3 arg4 harg4 arg5 harg5 hc0 x0 x1 x2 (ix2 r q)
      = dxAt (∑ k : Fin 2048, x1 (ix2 r k) * x1 (ix2 r k)) (∑ k : Fin 2048, x0 (ix2 r k) * x2 (ix2 0 k) * x1 (ix2 r k)) (x1 (ix2 r q)) (x0 (ix2 r q) * x2 (ix2 0 q)) := by
  unfold dxAt inv
  frame_out
  unfold k0_pay4 k0_pay3
  pointwise

theorem pay_at (p : Vec Ideal S1x2048 .f32) (x0 x1 : Vec Ideal S256x2048 .f32) (q : Fin 2048) :
    k0_pay1 (F := Ideal) (k0_pay5 p) (k0_pay6 x1 x0) (ix2 0 q) = p (ix2 0 q) + ∑ k : Fin 256, x0 (ix2 k q) * x1 (ix2 k q) * inv (∑ l : Fin 2048, x1 (ix2 k l) * x1 (ix2 k l)) := by
  unfold inv k0_pay1 k0_pay5 k0_pay6 k0_pay3
  pointwise

theorem dg_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S8x2048 .f32) (harg5 : arg5.IsWhole) (hc0 : cond0_0 i)
    (x0 : Vec Ideal S256x2048 .f32) (x1 : Vec Ideal S256x2048 .f32) (x2 : Vec Ideal S8x2048 .f32) (q : Fin 2048) :
    out0_A_4 c i arg1 harg1 arg2 harg2 arg3 harg3 arg4 harg4 arg5 harg5 hc0 x0 x1 x2 (ix2 0 q) = ∑ k : Fin 256, x0 (ix2 k q) * x1 (ix2 k q) * inv (∑ l : Fin 2048, x1 (ix2 k l) * x1 (ix2 k l)) := by
  frame_out
  refine (NormCore.canon_row _ _ _ q).trans ((pay_at _ x0 x1 q).trans ?_)
  refine (congrArg (· + _) ((NormCore.readCov_row _ _ _ _ q).trans (?_ : _ = (0 : EReal)))).trans (zero_add _)
  unfold k0_pay2
  pointwise

theorem dg_A_other (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x2048 .f32) (harg3 : arg3.IsWhole) (arg4 : Memref sig .tc .vmem S256x2048 .f32) (harg4 : arg4.IsWhole) (arg5 : Memref sig .tc .vmem S8x2048 .f32) (harg5 : arg5.IsWhole) (hc0 : cond0_0 i)
    (x0 : Vec Ideal S256x2048 .f32) (x1 : Vec Ideal S256x2048 .f32) (x2 : Vec Ideal S8x2048 .f32) (r : Fin 8) (hr : r ≠ 0) (q : Fin 2048) :
    out0_A_4 c i arg1 harg1 arg2 harg2 arg3 harg3 arg4 harg4 arg5 harg5 hc0 x0 x1 x2 (ix2 r q) = 0 := by
  frame_out
  refine (NormCore.canon_other _ _ _ r hr q).trans ?_
  refine (congrFun (View.canon_cons_unit_lit _ _ [] (fun a => by fin_cases a <;> rfl)) _).trans ?_
  unfold k0_pay2
  pointwise

/-! ## The results as arrays -/

/-- The sum of the squares of row `r`. -/
def sq (a1 : S256x2048.Idx → EReal) (r : Fin 256) : EReal := ∑ k : Fin 2048, a1 (ix2 r k) * a1 (ix2 r k)

/-- The gradient of the input. -/
def dxArr (a0 a1 : S256x2048.Idx → EReal) (a2 : S2048.Idx → EReal) : S256x2048.Idx → EReal := fun j =>
  dxAt (sq a1 (j 0)) (∑ k : Fin 2048, a0 (ix2 (j 0) k) * a2 (ix1 k) * a1 (ix2 (j 0) k)) (a1 (ix2 (j 0) (j 1))) (a0 (ix2 (j 0) (j 1)) * a2 (ix1 (j 1)))

/-- A row's term of the gradient of the gain, for any row number. -/
def term (a0 a1 : S256x2048.Idx → EReal) (q : Fin 2048) (r : ℕ) : EReal :=
  if h : r < 256 then a0 (ix2 ⟨r, h⟩ q) * a1 (ix2 ⟨r, h⟩ q) * inv (sq a1 ⟨r, h⟩) else 0

/-- The gradient of the gain in the first of eight rows. -/
def dgArr (a0 a1 : S256x2048.Idx → EReal) : S8x2048.Idx → EReal := fun j =>
  if (j 0).val = 0 then ∑ r ∈ Finset.range 256, term a0 a1 (j 1) r else 0

variable (m : (ℓ : Loc nD τ sig) → Buf (Elt Ideal) ℓ) (c : Dev nD)

theorem gain_read (q : Fin 2048) : V m c main_v1 (ix2 0 q) = m ((c.tc : Thread nD τ).loc main_arg2) (ix1 q) := by
  unfold V
  after_reads_at

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![0, 0] := by decide +kernel
/-- Row `256 t + r`. -/
abbrev rowOf (t : Fin cfg0.N) (r : Fin 256) : Fin 256 := ⟨256 * t.val + r.val, by have : t.val < 1 := t.isLt; omega⟩

theorem blk_0 (t : Fin cfg0.N) (x : Vec Ideal S256x2048 .f32) (h : x = iblk m c 0 t) (r : Fin 256) (q : Fin 2048) :
    x (ix2 r q) = m ((c.tc : Thread nD τ).loc main_arg0) (ix2 (rowOf t r) q) := by
  rw [← V_main_arg0 m c, h]
  blk_simp [iblk]
  congr 1
  blk_ext [index_0]

theorem blk_1 (t : Fin cfg0.N) (x : Vec Ideal S256x2048 .f32) (h : x = iblk m c 1 t) (r : Fin 256) (q : Fin 2048) :
    x (ix2 r q) = m ((c.tc : Thread nD τ).loc main_arg1) (ix2 (rowOf t r) q) := by
  rw [← V_main_arg1 m c, h]
  blk_simp [iblk]
  congr 1
  blk_ext [index_1]

theorem blk_2 (t : Fin cfg0.N) (x : Vec Ideal S8x2048 .f32) (h : x = iblk m c 2 t) (q : Fin 2048) :
    x (ix2 0 q) = m ((c.tc : Thread nD τ).loc main_arg2) (ix1 q) := by
  rw [← gain_read m c q, h]
  blk_simp [iblk]
  congr 1
  blk_ext [index_2]

/-- What a point writes of the gradient of the input, from its blocks. -/
theorem dx_at (t : Fin cfg0.N) (x0 : Vec Ideal S256x2048 .f32) (x1 : Vec Ideal S256x2048 .f32) (x2 : Vec Ideal S8x2048 .f32)
    (h0 : x0 = iblk m c 0 t) (h1 : x1 = iblk m c 1 t) (h2 : x2 = iblk m c 2 t) (r : Fin 256) (q : Fin 2048) :
    dxAt (∑ k : Fin 2048, x1 (ix2 r k) * x1 (ix2 r k)) (∑ k : Fin 2048, x0 (ix2 r k) * x2 (ix2 0 k) * x1 (ix2 r k)) (x1 (ix2 r q)) (x0 (ix2 r q) * x2 (ix2 0 q))
      = dxArr (m ((c.tc : Thread nD τ).loc main_arg0)) (m ((c.tc : Thread nD τ).loc main_arg1)) (m ((c.tc : Thread nD τ).loc main_arg2)) (ix2 (rowOf t r) q) := by
  simp only [blk_0 m c t x0 h0, blk_1 m c t x1 h1, blk_2 m c t x2 h2]
  rfl

/-- What a point adds to the gradient of the gain. -/
theorem part_at (t : Fin cfg0.N) (x0 x1 : Vec Ideal S256x2048 .f32) (h0 : x0 = iblk m c 0 t) (h1 : x1 = iblk m c 1 t) (q : Fin 2048) :
    ∑ k : Fin 256, x0 (ix2 k q) * x1 (ix2 k q) * inv (∑ l : Fin 2048, x1 (ix2 k l) * x1 (ix2 k l)) = ∑ k ∈ Finset.range 256, term (m ((c.tc : Thread nD τ).loc main_arg0)) (m ((c.tc : Thread nD τ).loc main_arg1)) q (256 * t.val + k) := by
  rw [Finset.sum_range]
  refine Finset.sum_congr rfl fun k _ => ?_
  have hk : 256 * t.val + k.val < 256 := (rowOf t k).isLt
  rw [term, dif_pos hk]
  simp only [blk_0 m c t x0 h0, blk_1 m c t x1 h1]
  rfl

theorem dx_pt (t : Fin cfg0.N) (r : Fin 256) (q : Fin 2048) : (outsAt0 m c t).1 (ix2 r q)
    = dxArr (m ((c.tc : Thread nD τ).loc main_arg0)) (m ((c.tc : Thread nD τ).loc main_arg1)) (m ((c.tc : Thread nD τ).loc main_arg2)) (ix2 (rowOf t r) q) := by
  rw [← dx_at m c t (iblk m c 0 t) (iblk m c 1 t) (iblk m c 2 t) rfl rfl rfl r q]
  unfold outsAt0
  dsimp only
  have e := dx_A c (grid0.coords t) (ms0_0 t) (hs0_0 t) (ms0_1 t) (hs0_1 t) (ms0_2 t) (hs0_2 t) (ms0_3 t) (hs0_3 t) (ms0_4 t) (hs0_4 t) (hcond0_0 t) (iblk m c 0 t) (iblk m c 1 t) (iblk m c 2 t) r q
  rw [← e]

theorem first_pt (t : Fin cfg0.N) (q : Fin 2048) : (outsAt0 m c t).2 (ix2 0 q)
    = ∑ k ∈ Finset.range 256, term (m ((c.tc : Thread nD τ).loc main_arg0)) (m ((c.tc : Thread nD τ).loc main_arg1)) q (256 * t.val + k) := by
  rw [← part_at m c t (iblk m c 0 t) (iblk m c 1 t) rfl rfl q]
  unfold outsAt0
  dsimp only
  have e := dg_A c (grid0.coords t) (ms0_0 t) (hs0_0 t) (ms0_1 t) (hs0_1 t) (ms0_2 t) (hs0_2 t) (ms0_3 t) (hs0_3 t) (ms0_4 t) (hs0_4 t) (hcond0_0 t) (iblk m c 0 t) (iblk m c 1 t) (iblk m c 2 t) q
  rw [← e]

theorem first_other (t : Fin cfg0.N) (r : Fin 8) (hr : r ≠ 0) (q : Fin 2048) : (outsAt0 m c t).2 (ix2 r q) = 0 := by
  unfold outsAt0
  dsimp only
  have e := dg_A_other c (grid0.coords t) (ms0_0 t) (hs0_0 t) (ms0_1 t) (hs0_1 t) (ms0_2 t) (hs0_2 t) (ms0_3 t) (hs0_3 t) (ms0_4 t) (hs0_4 t) (hcond0_0 t) (iblk m c 0 t) (iblk m c 1 t) (iblk m c 2 t) r hr q
  rw [← e]

theorem final_3 : (dats m 0 c).arrAt 3 cfg0.N = dxArr (m ((c.tc : Thread nD τ).loc main_arg0)) (m ((c.tc : Thread nD τ).loc main_arg1)) (m ((c.tc : Thread nD τ).loc main_arg2)) := by
  refine (dats m 0 c).arrAt_eq_of_covers 3 _ (by decide +kernel) fun t hfl y => ?_
  blk_simp
  rw [after0_3]
  obtain ⟨r, q, rfl⟩ : ∃ (r : Fin 256) (q : Fin 2048), y = ix2 r q := ⟨y 0, y 1, by blk_ext⟩
  refine (dx_pt m c t r q).trans ?_
  have e : (win0_3.blk t).view.emb (ix2 r q) = ix2 (rowOf t r) q := by blk_ext [index_3]
  exact congrArg (dxArr (m ((c.tc : Thread nD τ).loc main_arg0)) (m ((c.tc : Thread nD τ).loc main_arg1)) (m ((c.tc : Thread nD τ).loc main_arg2))) e.symm

theorem final_4 : (dats m 0 c).arrAt 4 cfg0.N = dgArr (m ((c.tc : Thread nD τ).loc main_arg0)) (m ((c.tc : Thread nD τ).loc main_arg1)) := by
  refine (dats m 0 c).arrAt_eq_of_covers 4 _ (by decide +kernel) fun t hfl y => ?_
  have h7 : t.val = 0 := Nat.lt_one_iff.mp t.isLt
  blk_simp
  rw [after0_4]
  obtain ⟨r, q, rfl⟩ : ∃ (r : Fin 8) (q : Fin 2048), y = ix2 r q := ⟨y 0, y 1, by blk_ext⟩
  have e : (win0_4.blk t).view.emb (ix2 r q) = ix2 r q := by blk_ext [index_4]
  refine Eq.trans ?_ (congrArg (dgArr (m ((c.tc : Thread nD τ).loc main_arg0)) (m ((c.tc : Thread nD τ).loc main_arg1))) e.symm)
  by_cases hr : r = 0
  · subst hr
    refine (first_pt m c t q).trans ?_
    rw [h7]
    simp only [Nat.mul_zero, Nat.zero_add]
    rfl
  · refine (first_other m c t r hr q).trans ?_
    have hv : ¬r.val = 0 := fun h => hr (Fin.ext h)
    exact (if_neg hv).symm

/-! ## The reference -/

open Cert.Reference27Ideal.Read in
theorem ref_dx (a0 a1 : S256x2048.Idx → EReal) (a2 : S2048.Idx → EReal) : val_main_v35 (F := Ideal) a0 a1 a2 = dxArr a0 a1 a2 := by
  funext j
  obtain ⟨r, q, rfl⟩ : ∃ (r : Fin 256) (q : Fin 2048), j = ix2 r q := ⟨j 0, j 1, by blk_ext⟩
  unfold val_main_v35 val_main_v34 val_main_v33 val_main_v32 val_main_v31 val_main_v30 val_main_cst_7 val_main_v29 val_main_v28 val_main_cst_6 val_main_v27 val_main_v26 val_main_v25 val_main_v24 val_main_v23 val_main_cst_5 val_main_v22 val_main_v20 val_main_v19 val_main_v13 val_main_v10 val_main_v9 val_main_cst_2 val_main_v8 val_main_v7 val_main_v6 val_main_v5 val_main_cst_1 val_main_v4 val_main_v3 val_main_cst_0 val_main_v2 val_main_v1 val_main_cst val_main_v0
  pointwise
  simp only [Finset.univ_unique, Finset.sum_const, Finset.card_singleton, one_smul]
  obtain ⟨e, he, hE⟩ := NormCore.eps_pos
  have hT : 0 ≤ ∑ x : Fin 2048, a1 (ix2 r x) * a1 (ix2 r x) := Finset.sum_nonneg fun x _ => NormCore.sq_nonneg' _
  have hS : ∑ x : Fin 2048, a1 (ix2 r x) * (a0 (ix2 r x) * a2 (ix1 x)) = ∑ x : Fin 2048, a0 (ix2 r x) * a2 (ix1 x) * a1 (ix2 r x) :=
    Finset.sum_congr rfl fun x _ => mul_comm _ _
  rw [hS]
  refine (NormCore.grad _ hT _ _ _ 2048 e (by norm_num) he NormCore.word_2048 hE NormCore.word_half _ _ _).symm.trans ?_
  rfl

open Cert.Reference27Ideal.Read in
theorem ref_dg (a0 a1 : S256x2048.Idx → EReal) : val_main_v38 (F := Ideal) a0 a1 = dgArr a0 a1 := by
  funext j
  obtain ⟨r, q, rfl⟩ : ∃ (r : Fin 8) (q : Fin 2048), j = ix2 r q := ⟨j 0, j 1, by blk_ext⟩
  unfold val_main_v38 val_main_v37 val_main_cst_8 val_main_v36 val_main_v21 val_main_cst_4 val_main_v18 val_main_v17 val_main_cst_3 val_main_v16 val_main_v12 val_main_v11 val_main_v7 val_main_v6 val_main_v5 val_main_cst_1 val_main_v4 val_main_v3 val_main_cst_0 val_main_v2 val_main_v1 val_main_cst val_main_v0
  pointwise
  simp only [Finset.univ_unique, Finset.sum_const, Finset.card_singleton, one_smul]
  show _ = if r.val = 0 then ∑ k ∈ Finset.range 256, term a0 a1 q k else 0
  by_cases hr : r.val = 0
  · rw [if_pos hr, dif_pos (show r.val < 1 by omega), Finset.sum_range]
    refine Finset.sum_congr rfl fun k _ => ?_
    rw [term, dif_pos k.isLt, mul_right_comm, mul_comm (a0 _)]
    rfl
  · rw [if_neg hr, dif_neg (show ¬r.val < 1 by omega)]

end Cert.Proof.MemNormBwd

end
-- ==== Proof.Loops.lean ====
module

public import proofs.«01_k».proof.Proof.Gen.KernelIdeal.Loops

/-! The loop over pairs of key tiles: where a trip stands in the arrays, and the arrays it reads and adds to. -/

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A trip of the loop over pairs starts at the tile after the groups of four. -/
theorem k0_off3_eq : ∀ (i : grid0.Coords) (k0_t3 : Fin (k0_t3_loop i).trips), ∀ (r : Fin 2), k0_off3 i k0_t3 (BitVec.ofNat 32 r.val) = ![1024 * (((i 1).val + 1) / 4) + 512 * k0_t3.val + 256 * r.val, 0] := by decide +kernel
instance closedOff_k0_off3_0 (i : grid0.Coords) (k0_t3 : Fin (k0_t3_loop i).trips) : ClosedOff (k0_off3 i k0_t3 (BitVec.ofNat 32 0)) := ⟨_, k0_off3_eq i k0_t3 ⟨0, by decide⟩⟩
instance closedOff_k0_off3_1 (i : grid0.Coords) (k0_t3 : Fin (k0_t3_loop i).trips) : ClosedOff (k0_off3 i k0_t3 (BitVec.ofNat 32 1)) := ⟨_, k0_off3_eq i k0_t3 ⟨1, by decide⟩⟩

/-- What a trip over key tiles holds: the keys, the values, and the two accumulated arrays. -/
abbrev TripHeld (c : Dev nD) (arg3 : Memref sig .tc .vmem S2048x128 .bf16) (arg4 : Memref sig .tc .vmem S2048x128 .bf16) (arg9 : Memref sig .tc .vmem S2048x128 .f32) (arg10 : Memref sig .tc .vmem S2048x128 .f32) (X_arg3 : BufTy.Contents (Elt F) arg3.view.ty) (X_arg4 : BufTy.Contents (Elt F) arg4.view.ty) (f_arg9 : BufTy.Contents (Elt F) arg9.view.ty) (f_arg10 : BufTy.Contents (Elt F) arg10.view.ty) : sProp 𝕄G :=
  iprop((arg3.view.loc (c : Thread nD τ) ↦[arg3.view.set]{fullShare} X_arg3) ∗ (arg4.view.loc (c : Thread nD τ) ↦[arg4.view.set]{fullShare} X_arg4) ∗ (arg9.view.loc (c : Thread nD τ) ↦[arg9.view.set]{fullShare} f_arg9) ∗ (arg10.view.loc (c : Thread nD τ) ↦[arg10.view.set]{fullShare} f_arg10))

end Cert.KernelIdeal.Gen

end
-- ==== Proof.Step.lean ====
module

public import proofs.«01_k».proof.Proof.Loops
public import Idealize.ShloMosaic.Lib.VecWindow
public import Idealize.ShloMosaic.Lib.Tactic

/-! The work of one pair of tiles: a tile of queries against a tile of keys, as a function of the values. The kernel goes
through the key tiles in groups of four, two and one; whatever the group, the work on a tile is this. -/

@[expose] public section

set_option maxRecDepth 16384
set_option maxHeartbeats 4000000

noncomputable section

namespace Cert.Proof.SB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows of key tile `j`. -/
abbrev tOff (j : ℕ) : Fin 2 → ℕ := ![256 * j, 0]

/-- Key tile `j` of an array of 2048 rows (the array's first tile where there is none of that number). -/
def tileOf {α : Type} (x : S2048x128.Idx → α) (j : ℕ) : S256x128.Idx → α :=
  if h : ∀ a, tOff j a + S256x128.size a ≤ S2048x128.size a then VecWindow.window x (tOff j) S256x128.size h
  else VecWindow.window x (tOff 0) S256x128.size (by decide)

/-- What a tile of queries brings to every key tile. -/
structure Ctx (F : FTy → Type) where
  q : Vec F S256x128 .bf16
  g : FVec F S256x128 .bf16
  lt : FVec F S256x1 .f32
  diff : IVec S256x256 32
  upto : FVec F S256x256 .bf16
  before : FVec F S256x256 .bf16
  qi : BitVec 32

/-- What is carried from key tile to key tile: the two row sums, the queries' gradient, and the two accumulated arrays. -/
abbrev Car (F : FTy → Type) := FVec F S256x1 .f32 × FVec F S256x1 .f32 × FVec F S256x128 .f32
abbrev St (F : FTy → Type) := Car F × Vec F S2048x128 .f32 × Vec F S2048x128 .f32

section Tile

/-- The scores. -/
def tZ (q kb : FVec F S256x128 .bf16) : FVec F S256x256 .f32 :=
  mulf (matmul dot_S256x128_S256x128_S256x256_1_1_0_0_n_n none q kb (constant S256x256 .f32 0x00000000#32))
    (broadcast S256x256 (Scalar.ofBits .f32 0x3DB504F3#32))

/-- Which keys come before the query: `qi` and `jw` are the two tiles' numbers. -/
def tM (diff : IVec S256x256 32) (qi jw : BitVec 32) : IVec S256x256 1 :=
  cmpi .slt diff (broadcast S256x256 (Scalar.muli (Scalar.subi qi jw) 256#32))

/-- The logarithm of the sigmoid of the scores. -/
def tLs (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The logarithm of what a key leaves of the stick. -/
def tLr (m : IVec S256x256 1) (ls z : FVec F S256x256 .f32) : FVec F S256x256 .f32 :=
  select m (subf ls z) (broadcast S256x256 (Scalar.ofBits .f32 0x00000000#32))

/-- A product with a matrix of zeros and ones, the left factor in two parts. -/
def tEx (a : FVec F S256x256 .f32) (b : FVec F S256x256 .bf16) : FVec F S256x256 .f32 :=
  addf (matmul dot_S256x256_S256x256_S256x256_1_0_0_1_n_n none (truncf .bf16 a bitsLt_bf16_f32) b (constant S256x256 .f32 0x00000000#32))
    (matmul dot_S256x256_S256x256_S256x256_1_0_0_1_n_n none
      (truncf .bf16 (subf a (extf .f32 (truncf .bf16 a bitsLt_bf16_f32) bitsLt_bf16_f32)) bitsLt_bf16_f32) b
      (constant S256x256 .f32 0x00000000#32))

/-- A row's sum. -/
def tRow (a : FVec F S256x256 .f32) : FVec F S256x1 .f32 :=
  shapeCast S256x1 (multiReduction .add [1] S256 a 0x00000000#32 reduces_S256x256_S256 (.inl rfl) rfl) shapeCasts_S256_S256x1

/-- The weights: `plr` is the row sum of what the earlier key tiles leave. -/
def tW (m : IVec S256x256 1) (ls lr : FVec F S256x256 .f32) (lt plr : FVec F S256x1 .f32) (upto : FVec F S256x256 .bf16) :
    FVec F S256x256 .f32 :=
  select m (exp (addf ls (subf (broadcastTo S256x256 lt broadcasts_S256x1_S256x256)
      (addf (tEx lr upto) (broadcastTo S256x256 plr broadcasts_S256x1_S256x256)))))
    (broadcast S256x256 (Scalar.ofBits .f32 0x00000000#32))

/-- The weights' gradient times the weights. -/
def tDl (g vb : FVec F S256x128 .bf16) (w : FVec F S256x256 .f32) : FVec F S256x256 .f32 :=
  mulf (matmul dot_S256x128_S256x128_S256x256_1_1_0_0_n_n none g vb (constant S256x256 .f32 0x00000000#32)) w

/-- The scores' gradient: `pdl` is the row sum over the earlier key tiles. -/
def tDz (m : IVec S256x256 1) (ls dl : FVec F S256x256 .f32) (pdl : FVec F S256x1 .f32) (before : FVec F S256x256 .bf16) :
    FVec F S256x256 .f32 :=
  mulf (select m (subf (mulf dl (subf (broadcast S256x256 (Scalar.ofBits .f32 0x3F800000#32)) (exp ls)))
      (mulf (exp ls) (addf (tEx dl before) (broadcastTo S256x256 pdl broadcasts_S256x1_S256x256))))
    (broadcast S256x256 (Scalar.ofBits .f32 0x00000000#32))) (broadcast S256x256 (Scalar.ofBits .f32 0x3DB504F3#32))

/-- A tile of an accumulated array after its part of a product is added. -/
def tAdd (y : Vec F S256x128 .f32) (a : FVec F S256x256 .f32) (b : FVec F S256x128 .bf16) : FVec F S256x128 .f32 :=
  addf (shapeCast S256x128 y shapeCasts_S256x128_S256x128)
    (matmul dot_S256x256_S256x128_S256x128_0_0_1_1_n_n none (truncf .bf16 a bitsLt_bf16_f32) b (constant S256x128 .f32 0x00000000#32))

def tDq (dq : FVec F S256x128 .f32) (dz : FVec F S256x256 .f32) (kb : FVec F S256x128 .bf16) : FVec F S256x128 .f32 :=
  addf dq (matmul dot_S256x256_S256x128_S256x128_1_0_0_1_n_n none (truncf .bf16 dz bitsLt_bf16_f32) kb (constant S256x128 .f32 0x00000000#32))

end Tile

namespace Ctx

variable (P : Ctx F) (jw : BitVec 32) (kb vb : Vec F S256x128 .bf16)

def z : FVec F S256x256 .f32 := tZ P.q kb
def m : IVec S256x256 1 := tM P.diff P.qi jw
def ls : FVec F S256x256 .f32 := tLs (P.z kb)
def lr : FVec F S256x256 .f32 := tLr (P.m jw) (P.ls kb) (P.z kb)
def w (plr : FVec F S256x1 .f32) : FVec F S256x256 .f32 := tW (P.m jw) (P.ls kb) (P.lr jw kb) P.lt plr P.upto
def dl (plr : FVec F S256x1 .f32) : FVec F S256x256 .f32 :=
  tDl P.g (shapeCast S256x128 vb shapeCasts_S256x128_S256x128) (P.w jw kb plr)
def dz (plr pdl : FVec F S256x1 .f32) : FVec F S256x256 .f32 := tDz (P.m jw) (P.ls kb) (P.dl jw kb vb plr) pdl P.before

/-- What is carried on from a key tile with keys `kb` and values `vb`. -/
def car (a : Car F) : Car F :=
  (addf a.1 (tRow (P.lr jw kb)), addf a.2.1 (tRow (P.dl jw kb vb a.1)), tDq a.2.2 (P.dz jw kb vb a.1 a.2.1) kb)

/-- The tile of the keys' and of the values' gradient afterwards. -/
def dkT (a : Car F) (y : Vec F S256x128 .f32) : FVec F S256x128 .f32 := tAdd y (P.dz jw kb vb a.1 a.2.1) P.q
def dvT (a : Car F) (y : Vec F S256x128 .f32) : FVec F S256x128 .f32 := tAdd y (P.w jw kb a.1) P.g

/-- The work on key tile `j` (`jw` is its number as a word). -/
def step (k v : Vec F S2048x128 .bf16) (j : ℕ) (s : St F) : St F :=
  (P.car jw (tileOf k j) (tileOf v j) s.1,
    VecWindow.put s.2.1 (tOff j) S256x128.size (P.dkT jw (tileOf k j) (tileOf v j) s.1 (tileOf s.2.1 j)),
    VecWindow.put s.2.2 (tOff j) S256x128.size (P.dvT jw (tileOf k j) s.1 (tileOf s.2.2 j)))

end Ctx

theorem tileOf_eq {α : Type} (x : S2048x128.Idx → α) (j : ℕ) (h : ∀ a, tOff j a + S256x128.size a ≤ S2048x128.size a) :
    tileOf x j = VecWindow.window x (tOff j) S256x128.size h := dif_pos h

/-- A load of a key tile's rows. -/
theorem load_tile {κ : Kind} {sp : Space} {e : EltTy} (v : View sig κ sp S2048x128 e) (f : v.ty.Contents (Elt F)) {off : Fin 2 → ℕ}
    (inb : ∀ a, off a + S256x128.size a ≤ S2048x128.size a) (j : ℕ) (h : off = tOff j) :
    v.readAt (Elt F) (Rect.unit (s := S2048x128) off S256x128.size inb).toLoadRect f = tileOf (v.read (Elt F) f) j := by
  subst h
  rw [tileOf_eq _ j inb]
  exact View.readAt_unit v f inb rfl inb

/-- A load of a tile is not touched by a store over another tile. -/
theorem load_skip {κ : Kind} {sp : Space} {e : EltTy} (v : View sig κ sp S2048x128 e) (f : v.ty.Contents (Elt F)) {off off' : Fin 2 → ℕ}
    (inb : ∀ a, off a + S256x128.size a ≤ S2048x128.size a) (inb' : ∀ a, off' a + S256x128.size a ≤ S2048x128.size a) {j j' : ℕ}
    (h : off = tOff j) (h' : off' = tOff j') (hne : j ≠ j') (w : (Rect.unit (s := S2048x128) off' S256x128.size inb').shape.Idx → Elt F e)
    (L : List (View.Piece (Elt F) S2048x128 e)) :
    v.readAt (Elt F) (Rect.unit (s := S2048x128) off S256x128.size inb).toLoadRect
        (v.writes (Elt F) f (⟨Rect.unit (s := S2048x128) off' S256x128.size inb', w⟩ :: L))
      = v.readAt (Elt F) (Rect.unit (s := S2048x128) off S256x128.size inb).toLoadRect (v.writes (Elt F) f L) := by
  subst h h'
  rw [View.readAt_unit v _ inb rfl inb, View.readAt_unit v _ inb rfl inb, View.read_writes_cons_put v _ inb' _ _ rfl]
  exact VecWindow.window_put_of_disjoint (s := S2048x128) _ (tOff j') S256x128.size (tOff j) S256x128.size inb w (0 : Fin 2)
    (by show 256 * j + 256 ≤ 256 * j' ∨ 256 * j' + 256 ≤ 256 * j; omega)

/-- The work on a key tile, told by what is loaded and stored. -/
theorem step_mem (P : Ctx F) (jw : BitVec 32) (j : ℕ) {κ : Kind} {sp : Space} (v3 v4 : View sig κ sp S2048x128 .bf16)
    (v9 v10 : View sig κ sp S2048x128 .f32) (f3 : v3.ty.Contents (Elt F)) (f4 : v4.ty.Contents (Elt F)) (f9 : v9.ty.Contents (Elt F))
    (f10 : v10.ty.Contents (Elt F)) (a : Car F) (L9 L10 : List (View.Piece (Elt F) S2048x128 .f32)) {off : Fin 2 → ℕ}
    (inb : ∀ a, off a + S256x128.size a ≤ S2048x128.size a) (h : off = tOff j) :
    P.step jw (v3.read (Elt F) f3) (v4.read (Elt F) f4) j (a, v9.read (Elt F) (v9.writes (Elt F) f9 L9), v10.read (Elt F) (v10.writes (Elt F) f10 L10))
      = (P.car jw (v3.readAt (Elt F) (Rect.unit (s := S2048x128) off S256x128.size inb).toLoadRect f3)
          (v4.readAt (Elt F) (Rect.unit (s := S2048x128) off S256x128.size inb).toLoadRect f4) a,
        v9.read (Elt F) (v9.writes (Elt F) f9 (⟨Rect.unit (s := S2048x128) off S256x128.size inb,
          P.dkT jw (v3.readAt (Elt F) (Rect.unit (s := S2048x128) off S256x128.size inb).toLoadRect f3)
            (v4.readAt (Elt F) (Rect.unit (s := S2048x128) off S256x128.size inb).toLoadRect f4) a
            (v9.readAt (Elt F) (Rect.unit (s := S2048x128) off S256x128.size inb).toLoadRect (v9.writes (Elt F) f9 L9))⟩ :: L9)),
        v10.read (Elt F) (v10.writes (Elt F) f10 (⟨Rect.unit (s := S2048x128) off S256x128.size inb,
          P.dvT jw (v3.readAt (Elt F) (Rect.unit (s := S2048x128) off S256x128.size inb).toLoadRect f3) a
            (v10.readAt (Elt F) (Rect.unit (s := S2048x128) off S256x128.size inb).toLoadRect (v10.writes (Elt F) f10 L10))⟩ :: L10))) := by
  rw [View.read_writes_cons_put _ _ _ _ _ h, View.read_writes_cons_put _ _ _ _ _ h, load_tile v3 f3 inb j h, load_tile v4 f4 inb j h,
    load_tile v9 _ inb j h, load_tile v10 _ inb j h]
  rfl

end Cert.Proof.SB

end
-- ==== Proof.Trips.lean ====
module

public import proofs.«01_k».proof.Proof.Step
public import Idealize.ShloMosaic.Lib.Tactic

/-! One trip of each loop over key tiles is the work on its tiles, one after the other. -/

@[expose] public section

set_option maxRecDepth 16384
set_option maxHeartbeats 4000000

noncomputable section

namespace Cert.Proof.SB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off5 : ∀ (i : grid0.Coords) (k : Fin (k0_t5_loop i).trips), k0_off5 i k = tOff (2 * (((i 1).val + 1) / 2) + 1 * k.val + 0) := by
  decide +kernel

/-- One trip over a single tile. -/
theorem trip5 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole)
    (arg1 : BitVec 32) (v3 : Vec F S256x128 .bf16) (v5 : FVec F S256x128 .bf16) (v7 : FVec F S256x1 .f32) (v10 : IVec S256x256 32) (v15 : FVec F S256x256 .bf16) (v20 : FVec F S256x256 .bf16) (v77 : BitVec 32)
    (f3 : BufTy.Contents (Elt F) M3.view.ty) (f4 : BufTy.Contents (Elt F) M4.view.ty) (k : Fin (k0_t5_loop i).trips) (acc : Car F)
    (f9 : BufTy.Contents (Elt F) M9.view.ty) (f10 : BufTy.Contents (Elt F) M10.view.ty) :
    TripHeld (F := F) c M3 M4 M9 M10 f3 f4 f9 f10
      ⊢ wp frame (wpE (defs₀ (F := F)) 𝒱 (c : Thread nD τ) bd) E
          (k0_t5_body (F := F) i M2 h2 M3 h3 M4 h4 M5 h5 M6 h6 M7 h7 M8 h8 M9 h9 M10 h10 arg1 v3 v5 v7 v10 v15 v20 v77 k acc)
          (fun yld => iprop(∃ g9 g10, TripHeld (F := F) c M3 M4 M9 M10 f3 f4 g9 g10
            ∗ ⌜(yld, M9.view.read (Elt F) g9, M10.view.read (Elt F) g10) = (Ctx.step (⟨v3, v5, v7, v10, v15, v20, arg1⟩ : Ctx F) (Scalar.addi (Scalar.addi v77 (Scalar.muli (Scf.iv 0#32 1#32 k) 1#32)) 0#32) (M3.view.read (Elt F) f3) (M4.view.read (Elt F) f4) (2 * (((i 1).val + 1) / 2) + 1 * k.val + 0) (acc, M9.view.read (Elt F) f9, M10.view.read (Elt F) f10))⌝)) := by
  unfold k0_t5_body
  iintro ⟨H3, H4, H9, H10⟩
  sl_exec
  sl_step
  iexists _; iexists _
  isplitl [H3 H4 H9 H10]
  · isplitl [H3]; · iexact H3
    isplitl [H4]; · iexact H4
    isplitl [H9]; · iexact H9
    iexact H10
  ipureintro
  rw [show M9.view.read (Elt F) f9 = M9.view.read (Elt F) (M9.view.writes (Elt F) f9 []) from rfl,
    show M10.view.read (Elt F) f10 = M10.view.read (Elt F) (M10.view.writes (Elt F) f10 []) from rfl,
    step_mem _ _ _ M3.view M4.view M9.view M10.view f3 f4 f9 f10 _ _ _ (k0_off5_inb i k) (off5 i k)]
  rfl

theorem off3 : ∀ (i : grid0.Coords) (k : Fin (k0_t3_loop i).trips) (r : Fin 2), k0_off3 i k (BitVec.ofNat 32 r.val) = tOff (4 * (((i 1).val + 1) / 4) + 2 * k.val + r.val) := by
  decide +kernel

/-- One trip over two tiles. -/
theorem trip3 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole)
    (arg1 : BitVec 32) (v3 : Vec F S256x128 .bf16) (v5 : FVec F S256x128 .bf16) (v7 : FVec F S256x1 .f32) (v10 : IVec S256x256 32) (v15 : FVec F S256x256 .bf16) (v20 : FVec F S256x256 .bf16) (v21 : FVec F S256x1 .f32) (v22 : BitVec 32) (v23 : FVec F S256x128 .f32) (v24 : BitVec 32) (c4_i32 : BitVec 32) (v25 : BitVec 32) (v36 : BitVec 1) (v50 : BitVec 32)
    (f3 : BufTy.Contents (Elt F) M3.view.ty) (f4 : BufTy.Contents (Elt F) M4.view.ty) (k : Fin (k0_t3_loop i).trips) (acc : Car F)
    (f9 : BufTy.Contents (Elt F) M9.view.ty) (f10 : BufTy.Contents (Elt F) M10.view.ty) :
    TripHeld (F := F) c M3 M4 M9 M10 f3 f4 f9 f10
      ⊢ wp frame (wpE (defs₀ (F := F)) 𝒱 (c : Thread nD τ) bd) E
          (k0_t3_body (F := F) i M2 h2 M3 h3 M4 h4 M5 h5 M6 h6 M7 h7 M8 h8 M9 h9 M10 h10 arg1 v3 v5 v7 v10 v15 v20 v21 v22 v23 v24 c4_i32 v25 v36 v50 k acc)
          (fun yld => iprop(∃ g9 g10, TripHeld (F := F) c M3 M4 M9 M10 f3 f4 g9 g10
            ∗ ⌜(yld, M9.view.read (Elt F) g9, M10.view.read (Elt F) g10) = (Ctx.step (⟨v3, v5, v7, v10, v15, v20, arg1⟩ : Ctx F) (Scalar.addi (Scalar.addi v50 (Scalar.muli (Scf.iv 0#32 1#32 k) 2#32)) 1#32) (M3.view.read (Elt F) f3) (M4.view.read (Elt F) f4) (4 * (((i 1).val + 1) / 4) + 2 * k.val + 1) (Ctx.step (⟨v3, v5, v7, v10, v15, v20, arg1⟩ : Ctx F) (Scalar.addi (Scalar.addi v50 (Scalar.muli (Scf.iv 0#32 1#32 k) 2#32)) 0#32) (M3.view.read (Elt F) f3) (M4.view.read (Elt F) f4) (4 * (((i 1).val + 1) / 4) + 2 * k.val + 0) (acc, M9.view.read (Elt F) f9, M10.view.read (Elt F) f10)))⌝)) := by
  unfold k0_t3_body
  iintro ⟨H3, H4, H9, H10⟩
  sl_exec
  sl_step
  iexists _; iexists _
  isplitl [H3 H4 H9 H10]
  · isplitl [H3]; · iexact H3
    isplitl [H4]; · iexact H4
    isplitl [H9]; · iexact H9
    iexact H10
  ipureintro
  have o0 : k0_off3 i k 0#32 = tOff (4 * (((i 1).val + 1) / 4) + 2 * k.val + 0) := off3 i k 0
  have o1 : k0_off3 i k 1#32 = tOff (4 * (((i 1).val + 1) / 4) + 2 * k.val + 1) := off3 i k 1
  rw [show M9.view.read (Elt F) f9 = M9.view.read (Elt F) (M9.view.writes (Elt F) f9 []) from rfl,
    show M10.view.read (Elt F) f10 = M10.view.read (Elt F) (M10.view.writes (Elt F) f10 []) from rfl,
    step_mem _ _ _ M3.view M4.view M9.view M10.view f3 f4 f9 f10 _ _ _ (k0_off3_inb i k 0) o0,
    step_mem _ _ _ M3.view M4.view M9.view M10.view f3 f4 f9 f10 _ _ _ (k0_off3_inb i k 1) o1]
  rfl

theorem off1 : ∀ (i : grid0.Coords) (k : Fin (k0_t1_loop i).trips) (r : Fin 4), k0_off1 i k (BitVec.ofNat 32 r.val) = tOff (0 + 4 * k.val + r.val) := by
  decide +kernel

/-- One trip over four tiles. -/
theorem trip1 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole)
    (arg1 : BitVec 32) (v3 : Vec F S256x128 .bf16) (v5 : FVec F S256x128 .bf16) (v7 : FVec F S256x1 .f32) (v10 : IVec S256x256 32) (v15 : FVec F S256x256 .bf16) (v20 : FVec F S256x256 .bf16) (v21 : FVec F S256x1 .f32) (v22 : BitVec 32) (v23 : FVec F S256x128 .f32) (v24 : BitVec 32) (c4_i32 : BitVec 32) (v25 : BitVec 32) (v36 : BitVec 1)
    (f3 : BufTy.Contents (Elt F) M3.view.ty) (f4 : BufTy.Contents (Elt F) M4.view.ty) (k : Fin (k0_t1_loop i).trips) (acc : Car F)
    (f9 : BufTy.Contents (Elt F) M9.view.ty) (f10 : BufTy.Contents (Elt F) M10.view.ty) :
    TripHeld (F := F) c M3 M4 M9 M10 f3 f4 f9 f10
      ⊢ wp frame (wpE (defs₀ (F := F)) 𝒱 (c : Thread nD τ) bd) E
          (k0_t1_body (F := F) i M2 h2 M3 h3 M4 h4 M5 h5 M6 h6 M7 h7 M8 h8 M9 h9 M10 h10 arg1 v3 v5 v7 v10 v15 v20 v21 v22 v23 v24 c4_i32 v25 v36 k acc)
          (fun yld => iprop(∃ g9 g10, TripHeld (F := F) c M3 M4 M9 M10 f3 f4 g9 g10
            ∗ ⌜(yld, M9.view.read (Elt F) g9, M10.view.read (Elt F) g10) = (Ctx.step (⟨v3, v5, v7, v10, v15, v20, arg1⟩ : Ctx F) (Scalar.addi (Scalar.addi (0#32 : BitVec 32) (Scalar.muli (Scf.iv 0#32 1#32 k) 4#32)) 3#32) (M3.view.read (Elt F) f3) (M4.view.read (Elt F) f4) (0 + 4 * k.val + 3) (Ctx.step (⟨v3, v5, v7, v10, v15, v20, arg1⟩ : Ctx F) (Scalar.addi (Scalar.addi (0#32 : BitVec 32) (Scalar.muli (Scf.iv 0#32 1#32 k) 4#32)) 2#32) (M3.view.read (Elt F) f3) (M4.view.read (Elt F) f4) (0 + 4 * k.val + 2) (Ctx.step (⟨v3, v5, v7, v10, v15, v20, arg1⟩ : Ctx F) (Scalar.addi (Scalar.addi (0#32 : BitVec 32) (Scalar.muli (Scf.iv 0#32 1#32 k) 4#32)) 1#32) (M3.view.read (Elt F) f3) (M4.view.read (Elt F) f4) (0 + 4 * k.val + 1) (Ctx.step (⟨v3, v5, v7, v10, v15, v20, arg1⟩ : Ctx F) (Scalar.addi (Scalar.addi (0#32 : BitVec 32) (Scalar.muli (Scf.iv 0#32 1#32 k) 4#32)) 0#32) (M3.view.read (Elt F) f3) (M4.view.read (Elt F) f4) (0 + 4 * k.val + 0) (acc, M9.view.read (Elt F) f9, M10.view.read (Elt F) f10)))))⌝)) := by
  unfold k0_t1_body
  iintro ⟨H3, H4, H9, H10⟩
  sl_exec
  sl_step
  iexists _; iexists _
  isplitl [H3 H4 H9 H10]
  · isplitl [H3]; · iexact H3
    isplitl [H4]; · iexact H4
    isplitl [H9]; · iexact H9
    iexact H10
  ipureintro
  have o0 : k0_off1 i k 0#32 = tOff (0 + 4 * k.val + 0) := off1 i k 0
  have o1 : k0_off1 i k 1#32 = tOff (0 + 4 * k.val + 1) := off1 i k 1
  have o2 : k0_off1 i k 2#32 = tOff (0 + 4 * k.val + 2) := off1 i k 2
  have o3 : k0_off1 i k 3#32 = tOff (0 + 4 * k.val + 3) := off1 i k 3
  rw [show M9.view.read (Elt F) f9 = M9.view.read (Elt F) (M9.view.writes (Elt F) f9 []) from rfl,
    show M10.view.read (Elt F) f10 = M10.view.read (Elt F) (M10.view.writes (Elt F) f10 []) from rfl,
    step_mem _ _ _ M3.view M4.view M9.view M10.view f3 f4 f9 f10 _ _ _ (k0_off1_inb i k 0) o0,
    step_mem _ _ _ M3.view M4.view M9.view M10.view f3 f4 f9 f10 _ _ _ (k0_off1_inb i k 1) o1,
    step_mem _ _ _ M3.view M4.view M9.view M10.view f3 f4 f9 f10 _ _ _ (k0_off1_inb i k 2) o2,
    step_mem _ _ _ M3.view M4.view M9.view M10.view f3 f4 f9 f10 _ _ _ (k0_off1_inb i k 3) o3]
  simp only [load_skip M9.view f9 (k0_off1_inb i k 1) (k0_off1_inb i k 0) o1 o0 (by omega),
    load_skip M10.view f10 (k0_off1_inb i k 1) (k0_off1_inb i k 0) o1 o0 (by omega),
    load_skip M9.view f9 (k0_off1_inb i k 2) (k0_off1_inb i k 0) o2 o0 (by omega),
    load_skip M10.view f10 (k0_off1_inb i k 2) (k0_off1_inb i k 0) o2 o0 (by omega),
    load_skip M9.view f9 (k0_off1_inb i k 2) (k0_off1_inb i k 1) o2 o1 (by omega),
    load_skip M10.view f10 (k0_off1_inb i k 2) (k0_off1_inb i k 1) o2 o1 (by omega),
    load_skip M9.view f9 (k0_off1_inb i k 3) (k0_off1_inb i k 0) o3 o0 (by omega),
    load_skip M10.view f10 (k0_off1_inb i k 3) (k0_off1_inb i k 0) o3 o0 (by omega),
    load_skip M9.view f9 (k0_off1_inb i k 3) (k0_off1_inb i k 1) o3 o1 (by omega),
    load_skip M10.view f10 (k0_off1_inb i k 3) (k0_off1_inb i k 1) o3 o1 (by omega),
    load_skip M9.view f9 (k0_off1_inb i k 3) (k0_off1_inb i k 2) o3 o2 (by omega),
    load_skip M10.view f10 (k0_off1_inb i k 3) (k0_off1_inb i k 2) o3 o2 (by omega), View.writes_nil]
  rfl

end Cert.Proof.SB

end
-- ==== Proof.LoopInvs.lean ====
module

public import proofs.«01_k».proof.Proof.Trips
public import Idealize.ShloMosaic.Lib.Tactic

/-! The loops over key tiles: the loops over groups of four, two and one do the work on their tiles in order, and the loops
after each of them make no trip. -/

@[expose] public section

set_option maxRecDepth 16384
set_option maxHeartbeats 4000000

noncomputable section

namespace Cert.Proof.SB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The steps `0, …, n - 1`, one after the other. -/
def iter {α : Type} (f : ℕ → α → α) : ℕ → α → α
  | 0, s => s
  | n + 1, s => f n (iter f n s)

/-- The 4 tiles of trip `k`. -/
def grp1 (P : Ctx F) (x3 x4 : Vec F S2048x128 .bf16) (k : ℕ) (s : St F) : St F :=
  (P.step (Scalar.addi (Scalar.addi 0#32 (Scalar.muli (Scf.iv 0#32 1#32 k) 4#32)) 3#32) x3 x4 (0 + 4 * k + 3) (P.step (Scalar.addi (Scalar.addi 0#32 (Scalar.muli (Scf.iv 0#32 1#32 k) 4#32)) 2#32) x3 x4 (0 + 4 * k + 2) (P.step (Scalar.addi (Scalar.addi 0#32 (Scalar.muli (Scf.iv 0#32 1#32 k) 4#32)) 1#32) x3 x4 (0 + 4 * k + 1) (P.step (Scalar.addi (Scalar.addi 0#32 (Scalar.muli (Scf.iv 0#32 1#32 k) 4#32)) 0#32) x3 x4 (0 + 4 * k + 0) s))))

/-- The 2 tiles of trip `k`. -/
def grp3 (P : Ctx F) (x3 x4 : Vec F S2048x128 .bf16) (base : BitVec 32) (j₀ : ℕ) (k : ℕ) (s : St F) : St F :=
  (P.step (Scalar.addi (Scalar.addi base (Scalar.muli (Scf.iv 0#32 1#32 k) 2#32)) 1#32) x3 x4 (j₀ + 2 * k + 1) (P.step (Scalar.addi (Scalar.addi base (Scalar.muli (Scf.iv 0#32 1#32 k) 2#32)) 0#32) x3 x4 (j₀ + 2 * k + 0) s))

/-- The 1 tile of trip `k`. -/
def grp5 (P : Ctx F) (x3 x4 : Vec F S2048x128 .bf16) (base : BitVec 32) (j₀ : ℕ) (k : ℕ) (s : St F) : St F :=
  (P.step (Scalar.addi (Scalar.addi base (Scalar.muli (Scf.iv 0#32 1#32 k) 1#32)) 0#32) x3 x4 (j₀ + 1 * k + 0) s)

set_option warn.classDefReducibility false in
/-- The loop over groups of 4: after `n` trips the work on their tiles is done. -/
@[sl_loop] def loop1 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole) (arg1 : BitVec 32) (v3 : Vec F S256x128 .bf16) (v5 : FVec F S256x128 .bf16) (v7 : FVec F S256x1 .f32) (v10 : IVec S256x256 32) (v15 : FVec F S256x256 .bf16) (v20 : FVec F S256x256 .bf16) (v21 : FVec F S256x1 .f32) (v22 : BitVec 32) (v23 : FVec F S256x128 .f32) (v24 : BitVec 32) (c4_i32 : BitVec 32) (v25 : BitVec 32) (v36 : BitVec 1)
    (X3 : BufTy.Contents (Elt F) M3.view.ty) (X4 : BufTy.Contents (Elt F) M4.view.ty) (Y9 Y10 : Vec F S2048x128 .f32) (init : Car F) :
    LoopInvTy_k0_t1 (F := F) Unit ℕ (UR sig nD τ) ℕ 𝒱 c bd E i M2 h2 M3 h3 M4 h4 M5 h5 M6 h6 M7 h7 M8 h8 M9 h9 M10 h10 arg1 v3 v5 v7 v10 v15 v20 v21 v22 v23 v24 c4_i32 v25 v36 init where
  inv n acc := iprop((M3.view.loc (c : Thread nD τ) ↦[M3.view.set]{fullShare} X3) ∗ (M4.view.loc (c : Thread nD τ) ↦[M4.view.set]{fullShare} X4)
    ∗ (∃ f, (M9.view.loc (c : Thread nD τ) ↦[M9.view.set]{fullShare} f) ∗ ⌜M9.view.read (Elt F) f = (iter (grp1 (⟨v3, v5, v7, v10, v15, v20, arg1⟩ : Ctx F) (M3.view.read (Elt F) X3) (M4.view.read (Elt F) X4)) n (init, Y9, Y10)).2.1⌝)
    ∗ (∃ f, (M10.view.loc (c : Thread nD τ) ↦[M10.view.set]{fullShare} f) ∗ ⌜M10.view.read (Elt F) f = (iter (grp1 (⟨v3, v5, v7, v10, v15, v20, arg1⟩ : Ctx F) (M3.view.read (Elt F) X3) (M4.view.read (Elt F) X4)) n (init, Y9, Y10)).2.2⌝)
    ∗ ⌜acc = (iter (grp1 (⟨v3, v5, v7, v10, v15, v20, arg1⟩ : Ctx F) (M3.view.read (Elt F) X3) (M4.view.read (Elt F) X4)) n (init, Y9, Y10)).1⌝)
  step k acc := by
    iintro ⟨H3, H4, ⟨%f9, H9, %e9⟩, ⟨%f10, H10, %e10⟩, %ea⟩
    iapply (wp_wand_r Idealize.ShloMosaic.frame (wpE (defs₀ (F := F)) 𝒱 (c : Thread nD τ) bd) E)
    isplitl [H3 H4 H9 H10]
    · iapply (trip1 (F := F) 𝒱 c bd E i M2 h2 M3 h3 M4 h4 M5 h5 M6 h6 M7 h7 M8 h8 M9 h9 M10 h10 arg1 v3 v5 v7 v10 v15 v20 v21 v22 v23 v24 c4_i32 v25 v36 X3 X4 k acc f9 f10)
      isplitl [H3]; · iexact H3
      isplitl [H4]; · iexact H4
      isplitl [H9]; · iexact H9
      iexact H10
    · iintro %yld ⟨%g9, %g10, ⟨H3, H4, H9, H10⟩, %h⟩
      have h' : (yld, M9.view.read (Elt F) g9, M10.view.read (Elt F) g10) = (iter (grp1 (⟨v3, v5, v7, v10, v15, v20, arg1⟩ : Ctx F) (M3.view.read (Elt F) X3) (M4.view.read (Elt F) X4)) (k.val + 1) (init, Y9, Y10)) := by
        rw [h, e9, e10, ea]; rfl
      isplitl [H3]; · iexact H3
      isplitl [H4]; · iexact H4
      isplitl [H9]
      · iexists _; isplitl [H9]; · iexact H9
        ipureintro; exact congrArg (fun s => s.2.1) h'
      isplitl [H10]
      · iexists _; isplitl [H10]; · iexact H10
        ipureintro; exact congrArg (fun s => s.2.2) h'
      ipureintro; exact congrArg (fun s => s.1) h'

set_option warn.classDefReducibility false in
/-- The loop over groups of 2: after `n` trips the work on their tiles is done. -/
@[sl_loop] def loop3 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole) (arg1 : BitVec 32) (v3 : Vec F S256x128 .bf16) (v5 : FVec F S256x128 .bf16) (v7 : FVec F S256x1 .f32) (v10 : IVec S256x256 32) (v15 : FVec F S256x256 .bf16) (v20 : FVec F S256x256 .bf16) (v21 : FVec F S256x1 .f32) (v22 : BitVec 32) (v23 : FVec F S256x128 .f32) (v24 : BitVec 32) (c4_i32 : BitVec 32) (v25 : BitVec 32) (v36 : BitVec 1) (v50 : BitVec 32)
    (X3 : BufTy.Contents (Elt F) M3.view.ty) (X4 : BufTy.Contents (Elt F) M4.view.ty) (Y9 Y10 : Vec F S2048x128 .f32) (init : Car F) :
    LoopInvTy_k0_t3 (F := F) Unit ℕ (UR sig nD τ) ℕ 𝒱 c bd E i M2 h2 M3 h3 M4 h4 M5 h5 M6 h6 M7 h7 M8 h8 M9 h9 M10 h10 arg1 v3 v5 v7 v10 v15 v20 v21 v22 v23 v24 c4_i32 v25 v36 v50 init where
  inv n acc := iprop((M3.view.loc (c : Thread nD τ) ↦[M3.view.set]{fullShare} X3) ∗ (M4.view.loc (c : Thread nD τ) ↦[M4.view.set]{fullShare} X4)
    ∗ (∃ f, (M9.view.loc (c : Thread nD τ) ↦[M9.view.set]{fullShare} f) ∗ ⌜M9.view.read (Elt F) f = (iter (grp3 (⟨v3, v5, v7, v10, v15, v20, arg1⟩ : Ctx F) (M3.view.read (Elt F) X3) (M4.view.read (Elt F) X4) v50 (4 * (((i 1).val + 1) / 4))) n (init, Y9, Y10)).2.1⌝)
    ∗ (∃ f, (M10.view.loc (c : Thread nD τ) ↦[M10.view.set]{fullShare} f) ∗ ⌜M10.view.read (Elt F) f = (iter (grp3 (⟨v3, v5, v7, v10, v15, v20, arg1⟩ : Ctx F) (M3.view.read (Elt F) X3) (M4.view.read (Elt F) X4) v50 (4 * (((i 1).val + 1) / 4))) n (init, Y9, Y10)).2.2⌝)
    ∗ ⌜acc = (iter (grp3 (⟨v3, v5, v7, v10, v15, v20, arg1⟩ : Ctx F) (M3.view.read (Elt F) X3) (M4.view.read (Elt F) X4) v50 (4 * (((i 1).val + 1) / 4))) n (init, Y9, Y10)).1⌝)
  step k acc := by
    iintro ⟨H3, H4, ⟨%f9, H9, %e9⟩, ⟨%f10, H10, %e10⟩, %ea⟩
    iapply (wp_wand_r Idealize.ShloMosaic.frame (wpE (defs₀ (F := F)) 𝒱 (c : Thread nD τ) bd) E)
    isplitl [H3 H4 H9 H10]
    · iapply (trip3 (F := F) 𝒱 c bd E i M2 h2 M3 h3 M4 h4 M5 h5 M6 h6 M7 h7 M8 h8 M9 h9 M10 h10 arg1 v3 v5 v7 v10 v15 v20 v21 v22 v23 v24 c4_i32 v25 v36 v50 X3 X4 k acc f9 f10)
      isplitl [H3]; · iexact H3
      isplitl [H4]; · iexact H4
      isplitl [H9]; · iexact H9
      iexact H10
    · iintro %yld ⟨%g9, %g10, ⟨H3, H4, H9, H10⟩, %h⟩
      have h' : (yld, M9.view.read (Elt F) g9, M10.view.read (Elt F) g10) = (iter (grp3 (⟨v3, v5, v7, v10, v15, v20, arg1⟩ : Ctx F) (M3.view.read (Elt F) X3) (M4.view.read (Elt F) X4) v50 (4 * (((i 1).val + 1) / 4))) (k.val + 1) (init, Y9, Y10)) := by
        rw [h, e9, e10, ea]; rfl
      isplitl [H3]; · iexact H3
      isplitl [H4]; · iexact H4
      isplitl [H9]
      · iexists _; isplitl [H9]; · iexact H9
        ipureintro; exact congrArg (fun s => s.2.1) h'
      isplitl [H10]
      · iexists _; isplitl [H10]; · iexact H10
        ipureintro; exact congrArg (fun s => s.2.2) h'
      ipureintro; exact congrArg (fun s => s.1) h'

set_option warn.classDefReducibility false in
/-- The loop over groups of 1: after `n` trips the work on their tiles is done. -/
@[sl_loop] def loop5 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole) (arg1 : BitVec 32) (v3 : Vec F S256x128 .bf16) (v5 : FVec F S256x128 .bf16) (v7 : FVec F S256x1 .f32) (v10 : IVec S256x256 32) (v15 : FVec F S256x256 .bf16) (v20 : FVec F S256x256 .bf16) (v77 : BitVec 32)
    (X3 : BufTy.Contents (Elt F) M3.view.ty) (X4 : BufTy.Contents (Elt F) M4.view.ty) (Y9 Y10 : Vec F S2048x128 .f32) (init : Car F) :
    LoopInvTy_k0_t5 (F := F) Unit ℕ (UR sig nD τ) ℕ 𝒱 c bd E i M2 h2 M3 h3 M4 h4 M5 h5 M6 h6 M7 h7 M8 h8 M9 h9 M10 h10 arg1 v3 v5 v7 v10 v15 v20 v77 init where
  inv n acc := iprop((M3.view.loc (c : Thread nD τ) ↦[M3.view.set]{fullShare} X3) ∗ (M4.view.loc (c : Thread nD τ) ↦[M4.view.set]{fullShare} X4)
    ∗ (∃ f, (M9.view.loc (c : Thread nD τ) ↦[M9.view.set]{fullShare} f) ∗ ⌜M9.view.read (Elt F) f = (iter (grp5 (⟨v3, v5, v7, v10, v15, v20, arg1⟩ : Ctx F) (M3.view.read (Elt F) X3) (M4.view.read (Elt F) X4) v77 (2 * (((i 1).val + 1) / 2))) n (init, Y9, Y10)).2.1⌝)
    ∗ (∃ f, (M10.view.loc (c : Thread nD τ) ↦[M10.view.set]{fullShare} f) ∗ ⌜M10.view.read (Elt F) f = (iter (grp5 (⟨v3, v5, v7, v10, v15, v20, arg1⟩ : Ctx F) (M3.view.read (Elt F) X3) (M4.view.read (Elt F) X4) v77 (2 * (((i 1).val + 1) / 2))) n (init, Y9, Y10)).2.2⌝)
    ∗ ⌜acc = (iter (grp5 (⟨v3, v5, v7, v10, v15, v20, arg1⟩ : Ctx F) (M3.view.read (Elt F) X3) (M4.view.read (Elt F) X4) v77 (2 * (((i 1).val + 1) / 2))) n (init, Y9, Y10)).1⌝)
  step k acc := by
    iintro ⟨H3, H4, ⟨%f9, H9, %e9⟩, ⟨%f10, H10, %e10⟩, %ea⟩
    iapply (wp_wand_r Idealize.ShloMosaic.frame (wpE (defs₀ (F := F)) 𝒱 (c : Thread nD τ) bd) E)
    isplitl [H3 H4 H9 H10]
    · iapply (trip5 (F := F) 𝒱 c bd E i M2 h2 M3 h3 M4 h4 M5 h5 M6 h6 M7 h7 M8 h8 M9 h9 M10 h10 arg1 v3 v5 v7 v10 v15 v20 v77 X3 X4 k acc f9 f10)
      isplitl [H3]; · iexact H3
      isplitl [H4]; · iexact H4
      isplitl [H9]; · iexact H9
      iexact H10
    · iintro %yld ⟨%g9, %g10, ⟨H3, H4, H9, H10⟩, %h⟩
      have h' : (yld, M9.view.read (Elt F) g9, M10.view.read (Elt F) g10) = (iter (grp5 (⟨v3, v5, v7, v10, v15, v20, arg1⟩ : Ctx F) (M3.view.read (Elt F) X3) (M4.view.read (Elt F) X4) v77 (2 * (((i 1).val + 1) / 2))) (k.val + 1) (init, Y9, Y10)) := by
        rw [h, e9, e10, ea]; rfl
      isplitl [H3]; · iexact H3
      isplitl [H4]; · iexact H4
      isplitl [H9]
      · iexists _; isplitl [H9]; · iexact H9
        ipureintro; exact congrArg (fun s => s.2.1) h'
      isplitl [H10]
      · iexists _; isplitl [H10]; · iexact H10
        ipureintro; exact congrArg (fun s => s.2.2) h'
      ipureintro; exact congrArg (fun s => s.1) h'

theorem trips2 : ∀ i : grid0.Coords, (k0_t2_loop i).trips = 0 := by decide +kernel

set_option warn.classDefReducibility false in
/-- The loop after it makes no trip. -/
@[sl_loop] def loop2 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole) (arg1 : BitVec 32) (v3 : Vec F S256x128 .bf16) (v5 : FVec F S256x128 .bf16) (v7 : FVec F S256x1 .f32) (v10 : IVec S256x256 32) (v15 : FVec F S256x256 .bf16) (v20 : FVec F S256x256 .bf16) (v21 : FVec F S256x1 .f32) (v22 : BitVec 32) (v23 : FVec F S256x128 .f32) (v24 : BitVec 32) (c4_i32 : BitVec 32) (v25 : BitVec 32) (v36 : BitVec 1) (v46 : BitVec 32) (init : Car F) :
    LoopInvTy_k0_t2 (F := F) Unit ℕ (UR sig nD τ) ℕ 𝒱 c bd E i M2 h2 M3 h3 M4 h4 M5 h5 M6 h6 M7 h7 M8 h8 M9 h9 M10 h10 arg1 v3 v5 v7 v10 v15 v20 v21 v22 v23 v24 c4_i32 v25 v36 v46 init where
  inv n acc := iprop(⌜acc = init⌝)
  step k acc := absurd k.isLt (Nat.not_lt.2 ((trips2 i).le.trans (Nat.zero_le _)))

theorem trips4 : ∀ i : grid0.Coords, (k0_t4_loop i).trips = 0 := by decide +kernel

set_option warn.classDefReducibility false in
/-- The loop after it makes no trip. -/
@[sl_loop] def loop4 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole) (arg1 : BitVec 32) (v3 : Vec F S256x128 .bf16) (v5 : FVec F S256x128 .bf16) (v7 : FVec F S256x1 .f32) (v10 : IVec S256x256 32) (v15 : FVec F S256x256 .bf16) (v20 : FVec F S256x256 .bf16) (v21 : FVec F S256x1 .f32) (v22 : BitVec 32) (v23 : FVec F S256x128 .f32) (v24 : BitVec 32) (c4_i32 : BitVec 32) (v25 : BitVec 32) (v36 : BitVec 1) (v50 : BitVec 32) (v73 : BitVec 32) (init : Car F) :
    LoopInvTy_k0_t4 (F := F) Unit ℕ (UR sig nD τ) ℕ 𝒱 c bd E i M2 h2 M3 h3 M4 h4 M5 h5 M6 h6 M7 h7 M8 h8 M9 h9 M10 h10 arg1 v3 v5 v7 v10 v15 v20 v21 v22 v23 v24 c4_i32 v25 v36 v50 v73 init where
  inv n acc := iprop(⌜acc = init⌝)
  step k acc := absurd k.isLt (Nat.not_lt.2 ((trips4 i).le.trans (Nat.zero_le _)))

theorem trips6 : ∀ i : grid0.Coords, (k0_t6_loop i).trips = 0 := by decide +kernel

set_option warn.classDefReducibility false in
/-- The loop after it makes no trip. -/
@[sl_loop] def loop6 (𝒱 : Variants) (c : Dev nD) (bd : Option 𝒱.V) (E : Set ℕ) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole) (arg1 : BitVec 32) (v3 : Vec F S256x128 .bf16) (v5 : FVec F S256x128 .bf16) (v7 : FVec F S256x1 .f32) (v10 : IVec S256x256 32) (v15 : FVec F S256x256 .bf16) (v20 : FVec F S256x256 .bf16) (v77 : BitVec 32) (v100 : BitVec 32) (init : Car F) :
    LoopInvTy_k0_t6 (F := F) Unit ℕ (UR sig nD τ) ℕ 𝒱 c bd E i M2 h2 M3 h3 M4 h4 M5 h5 M6 h6 M7 h7 M8 h8 M9 h9 M10 h10 arg1 v3 v5 v7 v10 v15 v20 v77 v100 init where
  inv n acc := iprop(⌜acc = init⌝)
  step k acc := absurd k.isLt (Nat.not_lt.2 ((trips6 i).le.trans (Nat.zero_le _)))

end Cert.Proof.SB

end
-- ==== Proof.Body.lean ====
module

public import proofs.«01_k».proof.Proof.LoopInvs
public import proofs.«01_k».proof.Proof.Gen.KernelIdeal.Frame
public import Idealize.ShloMosaic.Lib.Tactic

/-! What one grid point (a head and a tile of queries) does to the buffers it is given: at a head's first tile of
queries the two accumulated blocks start at zero, at a later one they go on from what they hold. -/

@[expose] public section

set_option maxRecDepth 16384
set_option maxHeartbeats 4000000

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The word the body tests at its start: the tile of queries is the head's first. -/
abbrev cond0 (i : grid0.Coords) : BitVec 1 := Scalar.cmpi .ne (Scalar.extui (Scalar.cmpi .eq (BitVec.ofNat 32 (i 1).val) 0#32) : BitVec 32) 0#32

theorem cond0_iff : ∀ i : grid0.Coords, cond0 i = 1#1 ↔ (i 1).val = 0 := by decide +kernel

/-- What a tile of queries brings to every key tile, from what the body loads. -/
def ctx (i : grid0.Coords) (x2 : Vec F S256x128 .bf16) (x5 : Vec F S256x128 .f32) (x6 : Vec F S1x256x1 .f32) : Ctx F :=
  ⟨x2, truncf .bf16 x5 bitsLt_bf16_f32, shapeCast S256x1 x6 shapeCasts_S1x256x1_S256x1, k0_pay231, k0_pay232, k0_pay233, BitVec.ofNat 32 (i 1).val⟩

/-- The quotient of two words rounded down, as the body computes it. -/
def floorDivW (x d : BitVec 32) : BitVec 32 :=
  Scalar.select
    (Scalar.andi (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The number of the first tile of the groups of two, and of the single tiles, as words. -/
def base3 (i : grid0.Coords) : BitVec 32 :=
  Scalar.addi 0#32 (Scalar.muli (floorDivW (Scalar.subi (Scalar.addi (BitVec.ofNat 32 (i 1).val) 1#32) 0#32) 4#32) 4#32)
def base5 (i : grid0.Coords) : BitVec 32 :=
  Scalar.addi (base3 i) (Scalar.muli (floorDivW (Scalar.subi (Scalar.addi (BitVec.ofNat 32 (i 1).val) 1#32) (base3 i)) 2#32) 2#32)

/-- What is carried when the groups of four, of two and of one are done. -/
def after1 (C : Ctx F) (x3 x4 : Vec F S2048x128 .bf16) (i : grid0.Coords) (s : St F) : St F := iter (grp1 C x3 x4) (k0_t1_loop i).trips s
def after3 (C : Ctx F) (x3 x4 : Vec F S2048x128 .bf16) (i : grid0.Coords) (s : St F) : St F :=
  iter (grp3 C x3 x4 (base3 i) (4 * (((i 1).val + 1) / 4))) (k0_t3_loop i).trips s
def after5 (C : Ctx F) (x3 x4 : Vec F S2048x128 .bf16) (i : grid0.Coords) (s : St F) : St F :=
  iter (grp5 C x3 x4 (base5 i) (2 * (((i 1).val + 1) / 2))) (k0_t5_loop i).trips s

/-- What is carried at the end, the accumulated arrays being `y9` and `y10` at the start. -/
def point (i : grid0.Coords) (x2 : Vec F S256x128 .bf16) (x3 x4 : Vec F S2048x128 .bf16) (x5 : Vec F S256x128 .f32) (x6 : Vec F S1x256x1 .f32)
    (y9 y10 : Vec F S2048x128 .f32) : St F :=
  after5 (ctx i x2 x5 x6) x3 x4 i (after3 (ctx i x2 x5 x6) x3 x4 i (after1 (ctx i x2 x5 x6) x3 x4 i
    ((k0_pay234, k0_pay234, k0_pay235), y9, y10)))

theorem iter_chain (f1 f3 f5 : ℕ → St F → St F) (n1 n3 n5 : ℕ) (s : St F) :
    iter f5 n5 (((iter f3 n3 (((iter f1 n1 s).1.1, (iter f1 n1 s).1.2.1, (iter f1 n1 s).1.2.2), (iter f1 n1 s).2.1, (iter f1 n1 s).2.2)).1.1,
        (iter f3 n3 (((iter f1 n1 s).1.1, (iter f1 n1 s).1.2.1, (iter f1 n1 s).1.2.2), (iter f1 n1 s).2.1, (iter f1 n1 s).2.2)).1.2.1,
        (iter f3 n3 (((iter f1 n1 s).1.1, (iter f1 n1 s).1.2.1, (iter f1 n1 s).1.2.2), (iter f1 n1 s).2.1, (iter f1 n1 s).2.2)).1.2.2),
        (iter f3 n3 (((iter f1 n1 s).1.1, (iter f1 n1 s).1.2.1, (iter f1 n1 s).1.2.2), (iter f1 n1 s).2.1, (iter f1 n1 s).2.2)).2.1,
        (iter f3 n3 (((iter f1 n1 s).1.1, (iter f1 n1 s).1.2.1, (iter f1 n1 s).1.2.2), (iter f1 n1 s).2.1, (iter f1 n1 s).2.2)).2.2)
      = iter f5 n5 (iter f3 n3 (iter f1 n1 s)) := rfl

/-- What the three loops leave, put together: the loops' own words, loads and contents are the values they stand for. -/
theorem point_of (i : grid0.Coords) {x2 : Vec F S256x128 .bf16} {x3 x4 : Vec F S2048x128 .bf16} {x5 : Vec F S256x128 .f32} {x6 : Vec F S1x256x1 .f32}
    {y9 y10 : Vec F S2048x128 .f32} {q g : FVec F S256x128 .bf16} {lt : FVec F S256x1 .f32} {k v : Vec F S2048x128 .bf16} {b3 b5 : BitVec 32}
    {z9 z10 r9 r10 s9 s10 t9 t10 : Vec F S2048x128 .f32} {u0 u1 : FVec F S256x1 .f32} {u2 : FVec F S256x128 .f32}
    (h1 : r9 = (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).2.1) (h2 : r10 = (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).2.2) (h3 : s9 = (iter (grp3 ⟨q, g, lt, k0_pay231, k0_pay232, k0_pay233, BitVec.ofNat 32 (i 1).val⟩ k v b3 (4 * (((i 1).val + 1) / 4))) (Scf.trips (k0_t3_loop i).lb (k0_t3_loop i).ub (k0_t3_loop i).st)
        (((iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.2), r9, r10)).2.1) (h4 : s10 = (iter (grp3 ⟨q, g, lt, k0_pay231, k0_pay232, k0_pay233, BitVec.ofNat 32 (i 1).val⟩ k v b3 (4 * (((i 1).val + 1) / 4))) (Scf.trips (k0_t3_loop i).lb (k0_t3_loop i).ub (k0_t3_loop i).st)
        (((iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.2), r9, r10)).2.2)
    (h5 : t9 = (iter (grp5 ⟨q, g, lt, k0_pay231, k0_pay232, k0_pay233, BitVec.ofNat 32 (i 1).val⟩ k v b5 (2 * (((i 1).val + 1) / 2))) (Scf.trips (k0_t5_loop i).lb (k0_t5_loop i).ub (k0_t5_loop i).st)
        ((u0, u1, u2), s9, s10)).2.1) (h6 : t10 = (iter (grp5 ⟨q, g, lt, k0_pay231, k0_pay232, k0_pay233, BitVec.ofNat 32 (i 1).val⟩ k v b5 (2 * (((i 1).val + 1) / 2))) (Scf.trips (k0_t5_loop i).lb (k0_t5_loop i).ub (k0_t5_loop i).st)
        ((u0, u1, u2), s9, s10)).2.2)
    (hu0 : u0 = (iter (grp3 ⟨q, g, lt, k0_pay231, k0_pay232, k0_pay233, BitVec.ofNat 32 (i 1).val⟩ k v b3 (4 * (((i 1).val + 1) / 4))) (Scf.trips (k0_t3_loop i).lb (k0_t3_loop i).ub (k0_t3_loop i).st)
        (((iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.2), r9, r10)).1.1) (hu1 : u1 = (iter (grp3 ⟨q, g, lt, k0_pay231, k0_pay232, k0_pay233, BitVec.ofNat 32 (i 1).val⟩ k v b3 (4 * (((i 1).val + 1) / 4))) (Scf.trips (k0_t3_loop i).lb (k0_t3_loop i).ub (k0_t3_loop i).st)
        (((iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.2), r9, r10)).1.2.1) (hu2 : u2 = (iter (grp3 ⟨q, g, lt, k0_pay231, k0_pay232, k0_pay233, BitVec.ofNat 32 (i 1).val⟩ k v b3 (4 * (((i 1).val + 1) / 4))) (Scf.trips (k0_t3_loop i).lb (k0_t3_loop i).ub (k0_t3_loop i).st)
        (((iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.1, (iter (grp1 ⟨q, g, lt, k0_pay231, k0_pay232, k0_pay233, BitVec.ofNat 32 (i 1).val⟩ k v) (Scf.trips (k0_t1_loop i).lb (k0_t1_loop i).ub (k0_t1_loop i).st) ((k0_pay234, k0_pay234, k0_pay235), z9, z10)).1.2.2), r9, r10)).1.2.2)
    (hq : q = x2) (hg : g = truncf .bf16 x5 bitsLt_bf16_f32) (hl : lt = shapeCast S256x1 x6 shapeCasts_S1x256x1_S256x1) (hk : k = x3) (hv : v = x4)
    (hz9 : z9 = y9) (hz10 : z10 = y10) (hb3 : b3 = base3 i) (hb5 : b5 = base5 i) :
    (iter (grp5 ⟨q, g, lt, k0_pay231, k0_pay232, k0_pay233, BitVec.ofNat 32 (i 1).val⟩ k v b5 (2 * (((i 1).val + 1) / 2))) (Scf.trips (k0_t5_loop i).lb (k0_t5_loop i).ub (k0_t5_loop i).st)
        ((u0, u1, u2), s9, s10)).1.2.2 = (point i x2 x3 x4 x5 x6 y9 y10).1.2.2 ∧ t9 = (point i x2 x3 x4 x5 x6 y9 y10).2.1
      ∧ t10 = (point i x2 x3 x4 x5 x6 y9 y10).2.2 := by
  subst hq hg hl hk hv hz9 hz10 hb3 hb5 h1 h2 h3 h4 hu0 hu1 hu2
  rw [iter_chain] at h5 h6 ⊢
  unfold point after5 after3 after1 ctx Scf.Loop.trips
  exact ⟨rfl, h5, h6⟩

/-- The body at a head's first tile of queries: the accumulated blocks start at zero. -/
theorem run_first (c : Dev nD) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole)
    (x2 : Vec F S256x128 .bf16) (x3 : Vec F S2048x128 .bf16) (x4 : Vec F S2048x128 .bf16) (x5 : Vec F S256x128 .f32) (x6 : Vec F S1x256x1 .f32) (hc : cond0 i = 1#1) (E : Set ℕ) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ (∃ d, owns (c : Thread nD τ) M8 fullShare d) ∗ (∃ d, owns (c : Thread nD τ) M9 fullShare d) ∗ (∃ d, owns (c : Thread nD τ) M10 fullShare d)
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M8 fullShare (point i x2 x3 x4 x5 x6 k0_pay227 k0_pay228).1.2.2 ∗ owns (c : Thread nD τ) M9 fullShare (point i x2 x3 x4 x5 x6 k0_pay227 k0_pay228).2.1 ∗ owns (c : Thread nD τ) M10 fullShare (point i x2 x3 x4 x5 x6 k0_pay227 k0_pay228).2.2) -∗ K ⟨⟩))
      ⊢ wp frame (wpE (defs₀ (F := F)) 𝒱₀ c none) E (cc0_sb_bwd i M2 h2 M3 h3 M4 h4 M5 h5 M6 h6 M7 h7 M8 h8 M9 h9 M10 h10) K := by
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, Hk⟩
  sl_unfold [cc0_sb_bwd]
  sl_exec (disch := sl_exact hc)
  sl_step
  have hp := point_of i hL3 hL5 hL11 hL13 hL19 hL21 rfl rfl rfl ((View.readAt_full M2.view f2 _).trans hf2)
    (congrArg (fun x => truncf .bf16 x bitsLt_bf16_f32) ((View.readAt_full M5.view f5 inb_S256x128_S256x128_0_0).trans hf5))
    (congrArg (fun x => shapeCast S256x1 x shapeCasts_S1x256x1_S256x1) ((View.readAt_full M6.view f6 inb_S1x256x1_S1x256x1_0_0_0).trans hf6))
    hf3 hf4 (View.read_writes_full M9.view _ _ _ []) (View.read_writes_full M10.view _ _ _ []) rfl rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H8]
  · iexists _; isplitr; swap; · iexact H8
    ipureintro; exact (View.read_writes_full M8.view f8 _ _ []).trans hp.1
  isplitl [H9]
  · iexists _; isplitr; swap; · iexact H9
    ipureintro; exact hp.2.1
  iexists _; isplitr; swap; · iexact H10
  ipureintro; exact hp.2.2

/-- The body at a later tile of queries, going on from the accumulated blocks `y9` and `y10`. -/
theorem run_later (c : Dev nD) (i : grid0.Coords) (M2 : Memref sig .tc .vmem S256x128 .bf16) (h2 : M2.IsWhole) (M3 : Memref sig .tc .vmem S2048x128 .bf16) (h3 : M3.IsWhole) (M4 : Memref sig .tc .vmem S2048x128 .bf16) (h4 : M4.IsWhole) (M5 : Memref sig .tc .vmem S256x128 .f32) (h5 : M5.IsWhole) (M6 : Memref sig .tc .vmem S1x256x1 .f32) (h6 : M6.IsWhole) (M7 : Memref sig .tc .hbm S2048x14336 .f32) (h7 : M7.IsWhole) (M8 : Memref sig .tc .vmem S256x128 .f32) (h8 : M8.IsWhole) (M9 : Memref sig .tc .vmem S2048x128 .f32) (h9 : M9.IsWhole) (M10 : Memref sig .tc .vmem S2048x128 .f32) (h10 : M10.IsWhole)
    (x2 : Vec F S256x128 .bf16) (x3 : Vec F S2048x128 .bf16) (x4 : Vec F S2048x128 .bf16) (x5 : Vec F S256x128 .f32) (x6 : Vec F S1x256x1 .f32) (y9 : Vec F S2048x128 .f32) (y10 : Vec F S2048x128 .f32) (hc : cond0 i ≠ 1#1) (E : Set ℕ) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ (∃ d, owns (c : Thread nD τ) M8 fullShare d) ∗ owns (c : Thread nD τ) M9 fullShare y9 ∗ owns (c : Thread nD τ) M10 fullShare y10
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M8 fullShare (point i x2 x3 x4 x5 x6 y9 y10).1.2.2 ∗ owns (c : Thread nD τ) M9 fullShare (point i x2 x3 x4 x5 x6 y9 y10).2.1 ∗ owns (c : Thread nD τ) M10 fullShare (point i x2 x3 x4 x5 x6 y9 y10).2.2) -∗ K ⟨⟩))
      ⊢ wp frame (wpE (defs₀ (F := F)) 𝒱₀ c none) E (cc0_sb_bwd i M2 h2 M3 h3 M4 h4 M5 h5 M6 h6 M7 h7 M8 h8 M9 h9 M10 h10) K := by
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, ⟨%f10, %hf10, H10⟩, Hk⟩
  sl_unfold [cc0_sb_bwd]
  sl_exec (disch := sl_exact hc)
  sl_step
  have hp := point_of i hL3 hL5 hL11 hL13 hL19 hL21 rfl rfl rfl ((View.readAt_full M2.view f2 _).trans hf2)
    (congrArg (fun x => truncf .bf16 x bitsLt_bf16_f32) ((View.readAt_full M5.view f5 inb_S256x128_S256x128_0_0).trans hf5))
    (congrArg (fun x => shapeCast S256x1 x shapeCasts_S1x256x1_S256x1) ((View.readAt_full M6.view f6 inb_S1x256x1_S1x256x1_0_0_0).trans hf6))
    hf3 hf4 hf9 hf10 rfl rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H8]
  · iexists _; isplitr; swap; · iexact H8
    ipureintro; exact (View.read_writes_full M8.view f8 _ _ []).trans hp.1
  isplitl [H9]
  · iexists _; isplitr; swap; · iexact H9
    ipureintro; exact hp.2.1
  iexists _; isplitr; swap; · iexact H10
  ipureintro; exact hp.2.2

end Cert.Proof.SB

end
-- ==== Proof.Run.lean ====
module

public import proofs.«01_k».proof.Proof.Body

/-!
# The run of the backward kernel

The grid has a point for each head and each query tile. At the first tile of a head the two gradient blocks of the head
start from zero; at every later tile they start from what the point before left. `outsAt` names what a point leaves, by
recursion on the point, and the library's run theorem gives the arrays at the end of @main.
-/

@[expose] public section

set_option maxRecDepth 16384
set_option maxHeartbeats 4000000

noncomputable section

namespace Cert.Proof.SB

open Cert.KernelIdeal Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- What the body leaves at point `t` when it finds the head's two gradient blocks at `y9` and `y10`. -/
def pointAt (c : Dev nD) (t : Fin cfg0.N) (y9 y10 : Vec F S2048x128 .f32) : St F :=
  point (cfg0.grid.coords t) (iblk m c 0 t) (iblk m c 1 t) (iblk m c 2 t) (iblk m c 3 t) (iblk m c 4 t) y9 y10

/-- What the body leaves at the `n`-th point. -/
def outsAt (c : Dev nD) : (n : ℕ) → n < cfg0.N → St F
  | 0, h => pointAt m c ⟨0, h⟩ k0_pay227 k0_pay228
  | n + 1, h =>
    if (n + 1) % 8 = 0 then pointAt m c ⟨n + 1, h⟩ k0_pay227 k0_pay228
    else pointAt m c ⟨n + 1, h⟩ (outsAt c n (Nat.lt_of_succ_lt h)).2.1 (outsAt c n (Nat.lt_of_succ_lt h)).2.2

theorem outsAt_first (c : Dev nD) (t : Fin cfg0.N) (ht : t.val % 8 = 0) :
    outsAt m c t.val t.isLt = pointAt m c t k0_pay227 k0_pay228 := by
  rcases t with ⟨_ | n, h⟩
  · rfl
  · rw [outsAt, if_pos ht]

theorem outsAt_later (c : Dev nD) (t : Fin cfg0.N) (ht : t.val % 8 ≠ 0) (h' : t.val - 1 < cfg0.N) :
    outsAt m c t.val t.isLt = pointAt m c t (outsAt m c (t.val - 1) h').2.1 (outsAt m c (t.val - 1) h').2.2 := by
  rcases t with ⟨_ | n, h⟩
  · exact absurd rfl ht
  · rw [outsAt, if_neg ht]; rfl

/-- The proof data: each input's buffer stays at its block, the three results' buffers are at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1.2.2
    | ⟨6, _⟩ => (outsAt m c t.val t.isLt).2.1
    | ⟨7, _⟩ => (outsAt m c t.val t.isLt).2.2
  Φ _ := Pipeline.ΦA spec0 c
  q w := shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1.2.2 := by dsimp only [dats]
theorem after0_6 (c : Dev nD) (t : Fin cfg0.N) : (dats m 0 c).after 6 t = (outsAt m c t.val t.isLt).2.1 := by dsimp only [dats]
theorem after0_7 (c : Dev nD) (t : Fin cfg0.N) : (dats m 0 c).after 7 t = (outsAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem not_flush (w : Fin cfg0.W) (hw : ∀ t : Fin cfg0.N, (cfg0.win w).flush t = true ↔ t.val % 8 = 7) (t : Fin cfg0.N)
    (ht : t.val % 8 ≠ 0) (h' : t.val - 1 < cfg0.N) : (cfg0.win w).flush ⟨t.val - 1, h'⟩ = false := by
  rw [← Bool.not_eq_true, hw]; show ¬ (t.val - 1) % 8 = 7; omega

/-- At a later tile of a head the two gradient blocks are found as the point before left them. -/
theorem before0_6 (c : Dev nD) (t : Fin cfg0.N) (ht : t.val % 8 ≠ 0) (h' : t.val - 1 < cfg0.N) (d) :
    (dats m 0 c).before 6 t d = (outsAt m c (t.val - 1) h').2.1 :=
  ((dats m 0 c).before_out_kept 6 rfl t (by omega) (not_flush 6 flush0_6 t ht h') (fun _ => rfl) (fun _ _ => rfl) d).trans (after0_6 m c _)
theorem before0_7 (c : Dev nD) (t : Fin cfg0.N) (ht : t.val % 8 ≠ 0) (h' : t.val - 1 < cfg0.N) (d) :
    (dats m 0 c).before 7 t d = (outsAt m c (t.val - 1) h').2.2 :=
  ((dats m 0 c).before_out_kept 7 rfl t (by omega) (not_flush 7 flush0_7 t ht h') (fun _ => rfl) (fun _ _ => rfl) d).trans (after0_7 m c _)

theorem coords_1 : ∀ t : Fin cfg0.N, ((cfg0.grid.coords t) 1).val = t.val % 8 := by decide +kernel
theorem coords_0 : ∀ t : Fin cfg0.N, ((cfg0.grid.coords t) 0).val = t.val / 8 := by decide +kernel

theorem cond_of (t : Fin cfg0.N) : cond0 (cfg0.grid.coords t) = 1#1 ↔ t.val % 8 = 0 := by
  rw [cond0_iff]; exact coords_1 t ▸ Iff.rfl

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4,
    after0_5, after0_6, after0_7]
  by_cases ht : t.val % 8 = 0
  · rw [outsAt_first m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (cfg0.grid.coords t) _ _ _ _ _ _ _ _ _ _ _ _ _ _ _ _ _ _ (iblk m c 0 t) (iblk m c 1 t) (iblk m c 2 t) (iblk m c 3 t) (iblk m c 4 t)
      ((cond_of t).2 ht) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h' : t.val - 1 < cfg0.N := Nat.lt_of_le_of_lt (Nat.sub_le _ _) t.isLt
    rw [outsAt_later m c t ht h']
    simp only [before0_6 m c t ht h', before0_7 m c t ht h']
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (cfg0.grid.coords t) _ _ _ _ _ _ _ _ _ _ _ _ _ _ _ _ _ _ (iblk m c 0 t) (iblk m c 1 t) (iblk m c 2 t) (iblk m c 3 t) (iblk m c 4 t)
      (outsAt m c (t.val - 1) h').2.1 (outsAt m c (t.val - 1) h').2.2 (fun h => ht ((cond_of t).1 h)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

set_option backward.isDefEq.respectTransparency.types false in
/-- Every execution of @main ends with every array of the pipeline at what the library computes from the proof data, and
    with every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

/-- The frame: the run ends, the arguments are as launched and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Proof.SB

end
-- ==== Proof.SameText.lean ====
module

public import proofs.«01_k».proof.Defs
public import proofs.«01_k».proof.Proof.Gen.Kernel
public import proofs.«01_k».proof.Proof.Run

/-! The program as printed for machine numbers and as printed for real numbers is the same text, so that what holds of the
one over any float values holds of the other. -/

@[expose] public section

set_option maxRecDepth 100000
set_option maxHeartbeats 4000000

noncomputable section

namespace Cert.Proof.SB

open Idealize.ShloMosaic Idealize.SL.Sem

theorem same_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l with
  | ⟨0, _⟩ => exact rfl

theorem same_defs : Cert.Kernel.defs (F := Bits) = Cert.KernelIdeal.defs (F := Bits) := by
  unfold Cert.Kernel.defs Cert.KernelIdeal.defs
  exact congrArg (Pipeline.defs _) same_defs₀

theorem same_main : Cert.Kernel.main (F := Bits) = Cert.KernelIdeal.main (F := Bits) := by
  unfold Cert.Kernel.main Cert.KernelIdeal.main
  rfl

theorem frame_kernel : Cert.quiescent_Kernel := fun m ρ _ => by
  have h := frame (F := Bits) m ρ
  rw [← same_defs, ← same_main] at h
  exact h

end Cert.Proof.SB

end
-- ==== Proof.Spec.lean ====
module

public import Idealize.ShloMosaic.PureOps.Ideal.Laws
public import Mathlib.Analysis.SpecialFunctions.Log.Basic

/-!
# The gradients as formulas over the real numbers

One head of the attention: query row `t`, key row `s`, the score `z t s`. A key takes part when it comes strictly before
the query. `ls` is the logarithm of the sigmoid; `lr` the logarithm of what a key leaves of the stick, zero for a key that
takes no part; `w` the weight: what the key breaks off what the keys between it and the query leave. `dl` is the weight
times its gradient, `dz` the score's gradient.
-/

@[expose] public section

noncomputable section

namespace Cert.Proof.SB.Spec

open Idealize.ShloMosaic
open scoped BigOperators

/-- The logarithm of the sigmoid. -/
def ls (x : ℝ) : ℝ := min x 0 - Real.log (1 + Real.exp (0 - max x (-x)))

/-- One head's rows of queries, keys, values and of the output's gradient, and the scale of the scores. -/
structure Head where
  κ : ℝ
  Q : ℕ → ℕ → ℝ
  K : ℕ → ℕ → ℝ
  V : ℕ → ℕ → ℝ
  G : ℕ → ℕ → ℝ

namespace Head

variable (H : Head)

def z (t s : ℕ) : ℝ := (∑ d : Fin 128, H.Q t d.val * H.K s d.val) * H.κ
def lr (t s : ℕ) : ℝ := if s < t then ls (H.z t s) - H.z t s else 0
def lt (t : ℕ) : ℝ := ∑ s ∈ Finset.range 2048, H.lr t s
def w (t s : ℕ) : ℝ :=
  if s < t then Real.exp (ls (H.z t s) + (H.lt t - ∑ j ∈ Finset.range (s + 1), H.lr t j)) else 0
def dl (t s : ℕ) : ℝ := (∑ d : Fin 128, H.G t d.val * H.V s d.val) * H.w t s
def dz (t s : ℕ) : ℝ :=
  (if s < t then H.dl t s * (1 - Real.exp (ls (H.z t s))) - Real.exp (ls (H.z t s)) * ∑ j ∈ Finset.range s, H.dl t j else 0)
    * H.κ
def dq (t d : ℕ) : ℝ := ∑ s ∈ Finset.range 2048, H.dz t s * H.K s d
def dk (s d : ℕ) : ℝ := ∑ t ∈ Finset.range 2048, H.dz t s * H.Q t d
def dv (s d : ℕ) : ℝ := ∑ t ∈ Finset.range 2048, H.w t s * H.G t d

theorem lr_zero {t s : ℕ} (h : t ≤ s) : H.lr t s = 0 := if_neg (by omega)
theorem w_zero {t s : ℕ} (h : t ≤ s) : H.w t s = 0 := if_neg (by omega)
theorem dl_zero {t s : ℕ} (h : t ≤ s) : H.dl t s = 0 := by rw [dl, H.w_zero h, mul_zero]
theorem dz_zero {t s : ℕ} (h : t ≤ s) : H.dz t s = 0 := by rw [dz, if_neg (by omega), zero_mul]

end Head

/-! ## Extended reals that are real -/

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_min (x y : ℝ) : ((min x y : ℝ) : EReal) = min (x : EReal) (y : EReal) := EReal.coe_strictMono.monotone.map_min
theorem coe_max (x y : ℝ) : ((max x y : ℝ) : EReal) = max (x : EReal) (y : EReal) := EReal.coe_strictMono.monotone.map_max
theorem exp_coe (x : ℝ) : Ideal.exp (x : EReal) = ((Real.exp x : ℝ) : EReal) := rfl
theorem log_coe {x : ℝ} (h : 0 < x) : Ideal.log (x : EReal) = ((Real.log x : ℝ) : EReal) := if_neg (not_le.2 h)
theorem coe_ite (p : Prop) [Decidable p] (x y : ℝ) : ((if p then x else y : ℝ) : EReal) = if p then (x : EReal) else (y : EReal) :=
  apply_ite _ _ _ _

/-- The scale the scores are multiplied by. -/
def kappa : ℝ := (Ideal.ofBits .f32 0x3DB504F3#32 : EReal).toReal

theorem kappa_coe : Ideal.ofBits .f32 0x3DB504F3#32 = ((kappa : ℝ) : EReal) := by
  have : ∃ r : ℝ, Ideal.ofBits .f32 0x3DB504F3#32 = (r : EReal) := by
    simp only [Ideal.ofBits, Ideal.ieee]
    rw [if_neg (by decide), if_neg (by decide)]
    exact ⟨_, rfl⟩
  obtain ⟨r, hr⟩ := this
  rw [kappa, hr, EReal.toReal_coe]

theorem one_coe : Ideal.ofBits .f32 0x3F800000#32 = ((1 : ℝ) : EReal) := by
  simp only [Ideal.ofBits, Ideal.ieee]
  rw [if_neg (by decide), if_neg (by decide)]
  congr 1
  rw [show (BitVec.extractLsb' 0 23 (0x3F800000#32)).toNat = 0 from by decide,
    show (BitVec.extractLsb' 23 8 (0x3F800000#32)).toNat = 127 from by decide,
    show (BitVec.extractLsb' (8 + 23) 1 (0x3F800000#32) == 1#1) = false from by decide]
  norm_num

theorem ls_coe (x : ℝ) :
    ((ls x : ℝ) : EReal) = min (x : EReal) ((0 : ℝ) : EReal) - Ideal.log (((1 : ℝ) : EReal) + Ideal.exp (((0 : ℝ) : EReal) - max (x : EReal) (-(x : EReal)))) := by
  rw [← EReal.coe_neg, ← coe_max, ← EReal.coe_sub, exp_coe, ← EReal.coe_add, log_coe (by positivity), ← coe_min, ← EReal.coe_sub, ls]

/-- A sum over the first rows, a tile at a time. -/
theorem sum_tile (f : ℕ → ℝ) (j : ℕ) :
    ∑ s ∈ Finset.range (256 * (j + 1)), f s = (∑ s ∈ Finset.range (256 * j), f s) + ∑ c : Fin 256, f (256 * j + c.val) := by
  rw [show 256 * (j + 1) = 256 * j + 256 by ring, Finset.sum_range_add, Finset.sum_range (fun x => f (256 * j + x))]

/-- A tile's sum up to a row. -/
theorem sum_upto (f : ℕ → ℝ) (n c : ℕ) (h : c ≤ 256) :
    (∑ a : Fin 256, f (n + a.val) * if a.val < c then (1 : ℝ) else 0) + ∑ s ∈ Finset.range n, f s = ∑ s ∈ Finset.range (n + c), f s := by
  rw [Finset.sum_range_add, add_comm]
  congr 1
  rw [← Finset.sum_range (fun a => f (n + a) * if a < c then (1 : ℝ) else 0)]
  simp only [mul_ite, mul_one, mul_zero]
  rw [← Finset.sum_filter]
  refine Finset.sum_congr ?_ fun _ _ => rfl
  ext a
  simp only [Finset.mem_filter, Finset.mem_range]
  omega

end Cert.Proof.SB.Spec

end
-- ==== Proof.Tile.lean ====
module

public import proofs.«01_k».proof.Proof.Body
public import proofs.«01_k».proof.Proof.Spec
public import Idealize.ShloMosaic.Lib.Pointwise

/-! The work on a pair of tiles, read at an index over the extended reals: where the inputs are real numbers, so is every
value, and it is the formula's. -/

@[expose] public section

set_option maxRecDepth 16384
set_option maxHeartbeats 1000000

noncomputable section

namespace Cert.Proof.SB

open Cert.KernelIdeal Cert.KernelIdeal.Gen
open Idealize.ShloMosaic
open Spec (ls kappa)
open scoped BigOperators

/-- A matrix of extended reals that holds the real numbers `f`. -/
def Reals {M N : ℕ} (a : (⟨2, ![M, N]⟩ : Shape).Idx → EReal) (f : ℕ → ℕ → ℝ) : Prop :=
  ∀ (r : Fin M) (c : Fin N), a (ix2 r c) = ((f r.val c.val : ℝ) : EReal)

variable {q kb vb g : FVec Ideal S256x128 .bf16} {Q K V G : ℕ → ℕ → ℝ}

theorem real_sum {n : ℕ} {f : Fin n → EReal} {h : Fin n → ℝ} (e : ∀ x, f x = ((h x : ℝ) : EReal)) : ∑ x, f x = ((∑ x, h x : ℝ) : EReal) := by
  rw [Spec.coe_sum]; exact Finset.sum_congr rfl fun x _ => e x

theorem real_dot {n : ℕ} {f g : Fin n → EReal} {a b : Fin n → ℝ} (e : ∀ x, f x = ((a x : ℝ) : EReal)) (e' : ∀ x, g x = ((b x : ℝ) : EReal)) :
    ∑ x, f x * g x = ((∑ x, a x * b x : ℝ) : EReal) := real_sum fun x => by rw [e, e', EReal.coe_mul]

/-- A one-bit word that says whether `p` holds. -/
def Says (m : BitVec 1) (p : Prop) : Prop := (p → m = 1#1) ∧ (¬ p → m = 0#1)

theorem select_says {α : Type} {m : BitVec 1} {p : Prop} [Decidable p] (h : Says m p) (x y : α) : Scalar.select m x y = if p then x else y := by
  by_cases hp : p
  · rw [h.1 hp, if_pos hp]; rfl
  · rw [h.2 hp, if_neg hp]; rfl

theorem tZ_at (hq : Reals q Q) (hk : Reals kb K) : Reals (tZ q kb) fun r c => (∑ d : Fin 128, Q r d.val * K c d.val) * kappa := by
  intro r c
  unfold tZ
  pointwise
  rw [real_dot (fun x => hq r x) (fun x => hk c x), Spec.kappa_coe, EReal.coe_mul]

theorem tLs_at {z : FVec Ideal S256x256 .f32} {Z : ℕ → ℕ → ℝ} (hz : Reals z Z) : Reals (tLs z) fun r c => ls (Z r c) := by
  intro r c
  unfold tLs
  pointwise
  rw [hz r c, Spec.ls_coe, EReal.coe_zero, EReal.coe_one]; rfl

theorem tLr_at {m : IVec S256x256 1} {l z : FVec Ideal S256x256 .f32} {p : ℕ → ℕ → Prop} [∀ r c, Decidable (p r c)] {L Z : ℕ → ℕ → ℝ}
    (hm : ∀ (r c : Fin 256), Says (m (ix2 r c)) (p r.val c.val)) (hl : Reals l L) (hz : Reals z Z) :
    Reals (tLr m l z) fun r c => if p r c then L r c - Z r c else 0 := by
  intro r c
  unfold tLr
  pointwise
  rw [select_says (hm r c), hl r c, hz r c, Spec.coe_ite, EReal.coe_sub, EReal.coe_zero]

theorem tEx_at {a : FVec Ideal S256x256 .f32} {b : FVec Ideal S256x256 .bf16} {A B : ℕ → ℕ → ℝ}
    (ha : Reals a A) (hb : Reals b B) : Reals (tEx a b) fun r c => ∑ x : Fin 256, A r x.val * B x.val c := by
  intro r c
  unfold tEx
  pointwise
  rw [real_dot (fun x => ha r x) (fun x => hb x c), real_sum (h := fun _ => 0)
    (fun x => by rw [ha r x, ← EReal.coe_sub, sub_self, EReal.coe_zero, zero_mul]), ← EReal.coe_add, Finset.sum_const_zero, add_zero]

theorem tRow_at {a : FVec Ideal S256x256 .f32} {A : ℕ → ℕ → ℝ}
    (ha : Reals a A) : Reals (tRow a) fun r _ => ∑ x : Fin 256, A r x.val := by
  intro r c
  unfold tRow
  pointwise
  exact real_sum fun x => ha r x

theorem tW_at {m : IVec S256x256 1} {l lr : FVec Ideal S256x256 .f32} {lt plr : FVec Ideal S256x1 .f32} {u : FVec Ideal S256x256 .bf16}
    {p : ℕ → ℕ → Prop} [∀ r c, Decidable (p r c)] {L R T P U : ℕ → ℕ → ℝ}
    (hm : ∀ (r c : Fin 256), Says (m (ix2 r c)) (p r.val c.val)) (hl : Reals l L) (hr : Reals lr R) (ht : Reals lt T) (hp : Reals plr P)
    (hu : Reals u U) :
    Reals (tW m l lr lt plr u) fun r c => if p r c then Real.exp (L r c + (T r 0 - ((∑ x : Fin 256, R r x.val * U x.val c) + P r 0))) else 0 := by
  intro r c
  unfold tW
  pointwise
  rw [select_says (hm r c), hl r c, tEx_at hr hu r c, show lt (ix2 r 0) = _ from ht r 0, show plr (ix2 r 0) = _ from hp r 0, Spec.coe_ite, ← EReal.coe_add,
    ← EReal.coe_sub, ← EReal.coe_add, Spec.exp_coe, EReal.coe_zero]
  rfl

theorem tDl_at {w : FVec Ideal S256x256 .f32} {W : ℕ → ℕ → ℝ} (hg : Reals g G) (hv : Reals vb V) (hw : Reals w W) :
    Reals (tDl g vb w) fun r c => (∑ d : Fin 128, G r d.val * V c d.val) * W r c := by
  intro r c
  unfold tDl
  pointwise
  rw [real_dot (fun x => hg r x) (fun x => hv c x), hw r c, EReal.coe_mul]

theorem tDz_at {m : IVec S256x256 1} {l dl : FVec Ideal S256x256 .f32} {pdl : FVec Ideal S256x1 .f32} {b : FVec Ideal S256x256 .bf16}
    {p : ℕ → ℕ → Prop} [∀ r c, Decidable (p r c)] {L D P B : ℕ → ℕ → ℝ}
    (hm : ∀ (r c : Fin 256), Says (m (ix2 r c)) (p r.val c.val)) (hl : Reals l L) (hd : Reals dl D) (hp : Reals pdl P) (hb : Reals b B) :
    Reals (tDz m l dl pdl b) fun r c =>
      (if p r c then D r c * (1 - Real.exp (L r c)) - Real.exp (L r c) * ((∑ x : Fin 256, D r x.val * B x.val c) + P r 0) else 0) * kappa := by
  intro r c
  unfold tDz
  pointwise
  rw [select_says (hm r c), hl r c, hd r c, tEx_at hd hb r c, show pdl (ix2 r 0) = _ from hp r 0, Spec.kappa_coe, Spec.exp_coe, EReal.coe_mul, Spec.coe_ite,
    EReal.coe_sub, EReal.coe_mul, EReal.coe_mul, EReal.coe_sub, EReal.coe_add, EReal.coe_zero, EReal.coe_one]
  by_cases h : p r.val c.val
  · simp only [if_pos h]; rfl
  · simp only [if_neg h, zero_mul]

theorem tAdd_at {y : Vec Ideal S256x128 .f32} {a : FVec Ideal S256x256 .f32} {b : FVec Ideal S256x128 .bf16} {Y A B : ℕ → ℕ → ℝ}
    (hy : Reals y Y) (ha : Reals a A) (hb : Reals b B) : Reals (tAdd y a b) fun r c => Y r c + ∑ x : Fin 256, A x.val r * B x.val c := by
  intro r c
  unfold tAdd
  pointwise
  rw [real_dot (fun x => ha x r) (fun x => hb x c), hy r c, EReal.coe_add]

theorem tDq_at {y : FVec Ideal S256x128 .f32} {a : FVec Ideal S256x256 .f32} {b : FVec Ideal S256x128 .bf16} {Y A B : ℕ → ℕ → ℝ}
    (hy : Reals y Y) (ha : Reals a A) (hb : Reals b B) : Reals (tDq y a b) fun r c => Y r c + ∑ x : Fin 256, A r x.val * B x.val c := by
  intro r c
  unfold tDq
  pointwise
  rw [real_dot (fun x => ha r x) (fun x => hb x c), hy r c, EReal.coe_add]

/-! ## The masks -/

theorem toInt_small (n : ℕ) (h : n < 2 ^ 31) : (BitVec.ofNat 32 n).toInt = n := by
  rw [BitVec.toInt_eq_toNat_of_lt (by rw [BitVec.toNat_ofNat]; omega), BitVec.toNat_ofNat]; omega

theorem pay231_at (r c : Fin 256) : k0_pay231 (ix2 r c) = BitVec.ofNat 32 c.val - BitVec.ofNat 32 r.val := by
  unfold k0_pay231
  pointwise
  rfl

theorem toInt_diff (a b : ℕ) (ha : a < 4096) (hb : b < 4096) : (BitVec.ofNat 32 a - BitVec.ofNat 32 b).toInt = (a : ℤ) - b := by
  rw [BitVec.toInt_sub, toInt_small a (by omega), toInt_small b (by omega), Int.bmod_def]
  omega

theorem toInt_tile (i j : ℕ) (hi : i < 8) (hj : j < 8) :
    (Scalar.muli (Scalar.subi (BitVec.ofNat 32 i) (BitVec.ofNat 32 j)) 256#32).toInt = ((i : ℤ) - j) * 256 := by
  show ((BitVec.ofNat 32 i - BitVec.ofNat 32 j) * 256#32).toInt = _
  rw [BitVec.toInt_mul, toInt_diff i j (by omega) (by omega), show (256#32).toInt = 256 from by decide, Int.bmod_def]
  omega

theorem says_ofBool (p : Prop) [Decidable p] : Says (BitVec.ofBool (decide p)) p := by
  by_cases h : p <;> simp [Says, h]

theorem says_iff {m : BitVec 1} {p q : Prop} (h : Says m p) (e : p ↔ q) : Says m q := ⟨fun x => h.1 (e.2 x), fun x => h.2 fun y => x (e.1 y)⟩

theorem mask_at (i j : ℕ) (hi : i < 8) (hj : j < 8) (r c : Fin 256) :
    Says (tM k0_pay231 (BitVec.ofNat 32 i) (BitVec.ofNat 32 j) (ix2 r c)) (256 * j + c.val < 256 * i + r.val) := by
  unfold tM
  pointwise
  rw [pay231_at]
  refine says_iff (says_ofBool ((BitVec.ofNat 32 c.val - BitVec.ofNat 32 r.val).toInt < (Scalar.muli (Scalar.subi (BitVec.ofNat 32 i) (BitVec.ofNat 32 j)) 256#32).toInt)) ?_
  rw [toInt_diff _ _ (by omega) (by omega), toInt_tile i j hi hj]
  omega

theorem sitofp_says {m : BitVec 1} {p : Prop} [Decidable p] (h : Says m p) :
    FloatOps.sitofp (F := Ideal) .f32 (BitVec.setWidth 32 m) = ((if p then 1 else 0 : ℝ) : EReal) := by
  by_cases hp : p
  · rw [h.1 hp, if_pos hp]
    show ((((BitVec.setWidth 32 1#1 : BitVec 32).toInt : ℝ)) : EReal) = _
    rw [show (BitVec.setWidth 32 1#1 : BitVec 32).toInt = 1 from by decide, Int.cast_one]
  · rw [h.2 hp, if_neg hp]
    show ((((BitVec.setWidth 32 0#1 : BitVec 32).toInt : ℝ)) : EReal) = _
    rw [show (BitVec.setWidth 32 0#1 : BitVec 32).toInt = 0 from by decide, Int.cast_zero]

theorem upto_at : Reals (k0_pay232 (F := Ideal)) fun r c => if r < c + 1 then 1 else 0 := by
  intro r c
  unfold k0_pay232
  pointwise
  rw [pay231_at]
  refine sitofp_says (says_iff (says_ofBool ((0#32).toInt ≤ (BitVec.ofNat 32 c.val - BitVec.ofNat 32 r.val).toInt)) ?_)
  rw [toInt_diff _ _ (by omega) (by omega), show (0#32).toInt = 0 from by decide]
  omega

theorem before_at : Reals (k0_pay233 (F := Ideal)) fun r c => if r < c then 1 else 0 := by
  intro r c
  unfold k0_pay233
  pointwise
  rw [pay231_at]
  refine sitofp_says (says_iff (says_ofBool ((0#32).toInt < (BitVec.ofNat 32 c.val - BitVec.ofNat 32 r.val).toInt)) ?_)
  rw [toInt_diff _ _ (by omega) (by omega), show (0#32).toInt = 0 from by decide]
  omega

end Cert.Proof.SB

end
-- ==== Proof.Inputs.lean ====
module

public import proofs.«01_k».proof.Pre_finite
public import proofs.«01_k».proof.Proof.Tile
public import Idealize.ShloMosaic.Lib.ReduceAll
public import Idealize.ShloMosaic.Lib.Decide

/-! The arguments as rows of real numbers. The precondition says that the queries, keys, values and the output's gradient
are finite; each head's formulas are over their real values. -/

@[expose] public section

set_option maxRecDepth 16384
set_option maxHeartbeats 1000000

noncomputable section

namespace Cert.Proof.SB

open Idealize.ShloMosaic

theorem pre_facts : Cert.Pre_finite.Facts where
  bitsLt_bf16_f32 := by decide
  bcast_S_S2048x6144 := by decide
  reducesTo_S2048x6144_S_d0_1 := by decide
  h_S_ := by decide
  slices_S2048x14336_S2048x3072_0_6144 := by decide
  bcast_S_S2048x3072 := by decide
  reducesTo_S2048x3072_S_d0_1 := by decide
  slices_S2048x4096_S2048x3072_0_0 := by decide

end Cert.Proof.SB

namespace Cert.Proof.SB

open Cert.KernelIdeal
open Idealize.ShloMosaic
open Spec (ls kappa Head)
open scoped BigOperators

/-- An element of a matrix as a real number. -/
def at2 {M N : ℕ} (x : (⟨2, ![M, N]⟩ : Shape).Idx → EReal) (r c : ℕ) : ℝ :=
  if h : r < M ∧ c < N then (x (ix2 ⟨r, h.1⟩ ⟨c, h.2⟩)).toReal else 0

/-- Head `h` of the attention whose queries and keys are `a0`'s columns, whose values are columns of `a1` and whose output's
gradient is columns of `a2`. -/
def headOf (a0 : S2048x6144.Idx → EReal) (a1 : S2048x14336.Idx → EReal) (a2 : S2048x4096.Idx → EReal) (h : ℕ) : Head :=
  ⟨kappa, fun t d => at2 (M := 2048) (N := 6144) a0 t (h * 128 + d), fun s d => at2 (M := 2048) (N := 6144) a0 s (3072 + (h * 128 + d)),
    fun s d => at2 (M := 2048) (N := 14336) a1 s (6144 + (h * 128 + d)), fun t d => at2 (M := 2048) (N := 4096) a2 t (h * 128 + d)⟩

/-- What the formulas read is finite. -/
structure Finite (a0 : S2048x6144.Idx → EReal) (a1 : S2048x14336.Idx → EReal) (a2 : S2048x4096.Idx → EReal) : Prop where
  qk : ∀ (r : Fin 2048) (d : Fin 6144), a0 (ix2 r d) ≠ ⊤ ∧ a0 (ix2 r d) ≠ ⊥
  v : ∀ (r : Fin 2048) (d : Fin 3072), a1 (ix2 r ⟨6144 + d.val, by omega⟩) ≠ ⊤ ∧ a1 (ix2 r ⟨6144 + d.val, by omega⟩) ≠ ⊥
  g : ∀ (r : Fin 2048) (d : Fin 3072), a2 (ix2 r ⟨d.val, by omega⟩) ≠ ⊤ ∧ a2 (ix2 r ⟨d.val, by omega⟩) ≠ ⊥

theorem inf_word : Ideal.ofBits .f32 0x7F800000#32 = ⊤ := by
  simp only [Ideal.ofBits, Ideal.ieee]
  rw [if_pos (by decide), if_pos (by decide), if_neg (by decide)]

theorem finite_of_lt {x : EReal} (h : BitVec.ofBool (decide (max x (-x) < Ideal.ofBits .f32 0x7F800000#32)) = 1#1) : x ≠ ⊤ ∧ x ≠ ⊥ := by
  rw [inf_word] at h
  have h' : max x (-x) < ⊤ := by
    by_contra hn
    simp [hn] at h
  constructor
  · rintro rfl; simp at h'
  · rintro rfl; simp at h'

theorem andi_one {a b : IVec S_ 1} {j : S_.Idx} (h : andi a b j = 1#1) : a j = 1#1 ∧ b j = 1#1 := by
  have h' : (a j) &&& (b j) = 1#1 := h
  generalize a j = x at *
  generalize b j = y at *
  revert x y
  decide

instance : Subsingleton S_.Idx := ⟨fun a b => funext fun i => i.elim0⟩

theorem finite_of_pre (a0 : FVec Ideal S2048x6144 .bf16) (a1 : FVec Ideal S2048x14336 .f32) (a2 : FVec Ideal S2048x4096 .f32)
    (a3 : FVec Ideal S2048x14336 .f32) (h : @Cert.Pre_finite.fn pre_facts Ideal _ a0 a1 a2 a3 = fun _ => 1#1) : Finite a0 a1 a2 := by
  have h0 := congrFun h ix0
  unfold Cert.Pre_finite.fn at h0
  obtain ⟨h1, hg⟩ := andi_one h0
  obtain ⟨hq, hv⟩ := andi_one h1
  refine ⟨fun r d => ?_, fun r d => ?_, fun r d => ?_⟩
  · have := Host.reduce_andi_all _ _ _ _ _ hq (ix2 r d)
    exact finite_of_lt this
  · have := Host.reduce_andi_all _ _ _ _ _ hv (ix2 r d)
    have e : extractStridedSlice Cert.Pre_finite.S2048x3072 ![0, 6144] a1 pre_facts.slices_S2048x14336_S2048x3072_0_6144 (ix2 r d)
      = a1 (ix2 r ⟨6144 + d.val, by omega⟩) := by pointwise
    rw [← e]
    exact finite_of_lt this
  · have := Host.reduce_andi_all _ _ _ _ _ hg (ix2 r d)
    have e : extractStridedSlice Cert.Pre_finite.S2048x3072 ![0, 0] a2 pre_facts.slices_S2048x4096_S2048x3072_0_0 (ix2 r d)
      = a2 (ix2 r ⟨d.val, by omega⟩) := by pointwise
    rw [← e]
    exact finite_of_lt this

theorem at2_coe {M N : ℕ} {x : (⟨2, ![M, N]⟩ : Shape).Idx → EReal} {r : Fin M} {c : Fin N} (h : x (ix2 r c) ≠ ⊤ ∧ x (ix2 r c) ≠ ⊥) :
    x (ix2 r c) = ((at2 x r.val c.val : ℝ) : EReal) := by
  rw [at2, dif_pos ⟨r.isLt, c.isLt⟩, EReal.coe_toReal h.1 h.2]

section

variable {a0 : S2048x6144.Idx → EReal} {a1 : S2048x14336.Idx → EReal} {a2 : S2048x4096.Idx → EReal} (hf : Finite a0 a1 a2)

include hf

theorem q_coe (h : Fin 24) (t : Fin 2048) (d : Fin 128) :
    a0 (ix2 t ⟨h.val * 128 + d.val, by omega⟩) = (((headOf a0 a1 a2 h.val).Q t.val d.val : ℝ) : EReal) :=
  at2_coe (M := 2048) (N := 6144) (hf.qk t ⟨h.val * 128 + d.val, by omega⟩)

theorem k_coe (h : Fin 24) (t : Fin 2048) (d : Fin 128) :
    a0 (ix2 t ⟨3072 + (h.val * 128 + d.val), by omega⟩) = (((headOf a0 a1 a2 h.val).K t.val d.val : ℝ) : EReal) :=
  at2_coe (M := 2048) (N := 6144) (hf.qk t ⟨3072 + (h.val * 128 + d.val), by omega⟩)

theorem v_coe (h : Fin 24) (t : Fin 2048) (d : Fin 128) :
    a1 (ix2 t ⟨6144 + (h.val * 128 + d.val), by omega⟩) = (((headOf a0 a1 a2 h.val).V t.val d.val : ℝ) : EReal) :=
  at2_coe (M := 2048) (N := 14336) (hf.v t ⟨h.val * 128 + d.val, by omega⟩)

theorem g_coe (h : Fin 24) (t : Fin 2048) (d : Fin 128) :
    a2 (ix2 t ⟨h.val * 128 + d.val, by omega⟩) = (((headOf a0 a1 a2 h.val).G t.val d.val : ℝ) : EReal) :=
  at2_coe (M := 2048) (N := 4096) (hf.g t ⟨h.val * 128 + d.val, by omega⟩)

theorem z_coe (h : Fin 24) (t s : Fin 2048) :
    (∑ x : Fin 128, a0 (ix2 t ⟨h.val * 128 + x.val, by omega⟩) * a0 (ix2 s ⟨3072 + (h.val * 128 + x.val), by omega⟩))
      * Ideal.ofBits .f32 0x3DB504F3#32 = (((headOf a0 a1 a2 h.val).z t.val s.val : ℝ) : EReal) := by
  rw [real_dot (q_coe hf h t) (k_coe hf h s), Spec.kappa_coe, ← EReal.coe_mul]
  rfl

end

/-! ## The logarithm of the sigmoid as the host writes it -/

theorem ls_neg (x : ℝ) : ls (-x) = ls x - x := by
  unfold Spec.ls
  rw [neg_neg, max_comm (-x) x]
  rcases le_total x 0 with h | h
  · rw [min_eq_left h, min_eq_right (by linarith)]; ring
  · rw [min_eq_right h, min_eq_left (by linarith)]; ring

/-- The softplus of `-y`, negated, is the logarithm of the sigmoid of `y`. -/
theorem neg_softplus (y : ℝ) : -(max (-y) 0 + Real.log (1 + Real.exp (-(max (-y) (-(-y)))))) = ls y := by
  unfold Spec.ls
  rw [neg_neg, zero_sub, max_comm (-y) y]
  rcases le_total y 0 with h | h
  · rw [min_eq_left h, max_eq_left (by linarith)]; ring
  · rw [min_eq_right h, max_eq_right (by linarith)]; ring

theorem host_softplus (x : ℝ) : max (x : EReal) 0 + Ideal.log1p (Ideal.exp (-(max (x : EReal) (-(x : EReal)))))
    = ((max x 0 + Real.log (1 + Real.exp (-(max x (-x)))) : ℝ) : EReal) := by
  rw [← EReal.coe_neg, ← Spec.coe_max, ← EReal.coe_neg, Spec.exp_coe, ← EReal.coe_zero, ← Spec.coe_max, Ideal.log1p, ← EReal.coe_one, ← EReal.coe_add,
    Spec.log_coe (by positivity), ← EReal.coe_add]

end Cert.Proof.SB

end
-- ==== Proof.Reference.lean ====
module

public import proofs.«01_k».proof.Proof.Inputs
public import proofs.«01_k».proof.Proof.Gen.ReferenceIdeal.Read

/-! The reference's values over the extended reals: the formulas of the heads. -/

@[expose] public section

set_option maxRecDepth 16384
set_option maxHeartbeats 1000000

noncomputable section

namespace Cert.Proof.SB.Ref

open Cert.ReferenceIdeal Cert.ReferenceIdeal.Read
open Idealize.ShloMosaic
open Spec (ls kappa Head)
open scoped BigOperators

/-! ## Running sums -/

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

theorem foldl_finRange {N : ℕ} (f : Fin N → EReal) : (List.finRange N).foldl (fun r n => r + f n) 0 = ∑ n, f n := by
  rw [foldl_sum, zero_add, ← List.ofFn_eq_map, List.sum_ofFn]

theorem sum_from {n : ℕ} (s : ℕ) (f : ℕ → ℝ) (hs : s ≤ n) :
    ∑ k : Fin n, (if s + k.val < n then f (s + k.val) else 0) = ∑ j ∈ Finset.range n, f j - ∑ j ∈ Finset.range s, f j := by
  rw [Fin.sum_univ_eq_sum_range (fun k => if s + k < n then f (s + k) else 0) n, ← Finset.sum_range_add_sum_Ico f hs, add_sub_cancel_left,
    Finset.sum_Ico_eq_sum_range]
  refine (Finset.sum_subset (s₁ := Finset.range (n - s)) (fun x hx => ?_) fun x _ hx => ?_).symm.trans ?_
  · rw [Finset.mem_range] at *; omega
  · rw [Finset.mem_range] at hx; exact if_neg (by omega)
  · exact Finset.sum_congr rfl fun x hx => by rw [Finset.mem_range] at hx; exact if_pos (by omega)

theorem sum_to {n : ℕ} (s : ℕ) (f : ℕ → ℝ) (hs : s < n + 1) :
    ∑ k : Fin (n + 1), (if n ≤ s + k.val then f (s + k.val - n) else 0) = ∑ j ∈ Finset.range (s + 1), f j := by
  rw [Fin.sum_univ_eq_sum_range (fun k => if n ≤ s + k then f (s + k - n) else 0) (n + 1),
    ← Finset.sum_range_add_sum_Ico _ (show n - s ≤ n + 1 by omega), Finset.sum_eq_zero, zero_add, Finset.sum_Ico_eq_sum_range,
    show n + 1 - (n - s) = s + 1 by omega]
  · refine Finset.sum_congr rfl fun x hx => ?_
    rw [if_pos (by omega)]
    congr 1
    omega
  · intro x hx
    rw [Finset.mem_range] at hx
    exact if_neg (by omega)

theorem window_numel (n : ℕ) : n = Shape.numel ⟨3, ![1, 1, n]⟩ := by simp [Shape.numel, Fin.prod_univ_three]

/-- The places of a window along the last axis. -/
theorem window_unflat {n : ℕ} (k : Fin n) :
    (Shape.rowMajor ⟨3, ![1, 1, n]⟩).symm (finCongr (window_numel n) k) = (ix3 0 0 k : (⟨3, ![1, 1, n]⟩ : Shape).Idx) := by
  rw [Equiv.symm_apply_eq]
  apply Fin.ext
  rw [Shape.rowMajor_val_three]
  show k.val = ((0 : Fin 1).val * 1 + (0 : Fin 1).val) * n + k.val
  simp

/-- The last axis summed from each place on. -/
theorem suffix_at {A B n : ℕ} {x : (⟨3, ![A, B, n]⟩ : Shape).Idx → EReal} {f : ℕ → ℝ} {h : Fin A} {t : Fin B}
    (hx : ∀ s : Fin n, x (ix3 h t s) = ((f s.val : ℝ) : EReal)) (s : Fin n) {p : ℕ} (hw) :
    Ideal.hostReduceWindowAdd (s := ⟨3, ![A, B, n]⟩) (t := ⟨3, ![A, B, n]⟩) ![1, 1, n] ![1, 1, 1] ![0, 0, 0] ![0, 0, p] hw x 0 (ix3 h t s)
      = ((∑ j ∈ Finset.range n, f j - ∑ j ∈ Finset.range s.val, f j : ℝ) : EReal) := by
  have hh := h.isLt
  have ht := t.isLt
  have key : Ideal.hostReduceWindowAdd (s := ⟨3, ![A, B, n]⟩) (t := ⟨3, ![A, B, n]⟩) ![1, 1, n] ![1, 1, 1] ![0, 0, 0] ![0, 0, p] hw x 0 (ix3 h t s)
      = ∑ k : Fin n, (((if s.val + k.val < n then f (s.val + k.val) else 0 : ℝ)) : EReal) := by
    unfold Ideal.hostReduceWindowAdd Host.reduceWindow
    dsimp only
    rw [foldl_finRange, ← Equiv.sum_comp (finCongr (window_numel (n)))]
    refine Finset.sum_congr rfl fun k _ => ?_
    have e0 : (((Shape.rowMajor ⟨3, ![1, 1, n]⟩).symm (finCongr (window_numel (n)) k) : (⟨3, ![1, 1, n]⟩ : Shape).Idx) 0).val = 0 := by rw [window_unflat]; rfl
    have e1 : (((Shape.rowMajor ⟨3, ![1, 1, n]⟩).symm (finCongr (window_numel (n)) k) : (⟨3, ![1, 1, n]⟩ : Shape).Idx) 1).val = 0 := by rw [window_unflat]; rfl
    have e2 : (((Shape.rowMajor ⟨3, ![1, 1, n]⟩).symm (finCongr (window_numel (n)) k) : (⟨3, ![1, 1, n]⟩ : Shape).Idx) 2).val = k.val := by rw [window_unflat]; rfl
    have hs := s.isLt
    have hk := k.isLt
    split
    · rename_i hin
      have h2 : 0 ≤ s.val * 1 + ((Shape.rowMajor ⟨3, ![1, 1, n]⟩).symm (finCongr (window_numel (n)) k) 2).val ∧ s.val * 1 + ((Shape.rowMajor ⟨3, ![1, 1, n]⟩).symm (finCongr (window_numel (n)) k) 2).val - 0 < n := hin 2
      rw [e2] at h2
      rw [if_pos (by omega), ← hx ⟨s.val + k.val, by omega⟩]
      congr 1
      funext a
      match a with
      | 0 => apply Fin.ext; show h.val * 1 + ((Shape.rowMajor ⟨3, ![1, 1, n]⟩).symm (finCongr (window_numel (n)) k) 0).val - 0 = h.val; rw [e0]; omega
      | 1 => apply Fin.ext; show t.val * 1 + ((Shape.rowMajor ⟨3, ![1, 1, n]⟩).symm (finCongr (window_numel (n)) k) 1).val - 0 = t.val; rw [e1]; omega
      | 2 => apply Fin.ext; show s.val * 1 + ((Shape.rowMajor ⟨3, ![1, 1, n]⟩).symm (finCongr (window_numel (n)) k) 2).val - 0 = s.val + k.val; rw [e2]; omega
    · rename_i hin
      rw [if_neg, EReal.coe_zero]
      intro hs
      refine hin fun a => ?_
      match a with
      | 0 => show 0 ≤ h.val * 1 + ((Shape.rowMajor ⟨3, ![1, 1, n]⟩).symm (finCongr (window_numel (n)) k) 0).val ∧ h.val * 1 + ((Shape.rowMajor ⟨3, ![1, 1, n]⟩).symm (finCongr (window_numel (n)) k) 0).val - 0 < A; rw [e0]; omega
      | 1 => show 0 ≤ t.val * 1 + ((Shape.rowMajor ⟨3, ![1, 1, n]⟩).symm (finCongr (window_numel (n)) k) 1).val ∧ t.val * 1 + ((Shape.rowMajor ⟨3, ![1, 1, n]⟩).symm (finCongr (window_numel (n)) k) 1).val - 0 < B; rw [e1]; omega
      | 2 => show 0 ≤ s.val * 1 + ((Shape.rowMajor ⟨3, ![1, 1, n]⟩).symm (finCongr (window_numel (n)) k) 2).val ∧ s.val * 1 + ((Shape.rowMajor ⟨3, ![1, 1, n]⟩).symm (finCongr (window_numel (n)) k) 2).val - 0 < n; rw [e2]; omega
  rw [key, ← Spec.coe_sum, sum_from s.val f s.isLt.le]

/-- The last axis summed up to each place, the place itself too. -/
theorem prefix_at {A B p : ℕ} {x : (⟨3, ![A, B, p + 1]⟩ : Shape).Idx → EReal} {f : ℕ → ℝ} {h : Fin A} {t : Fin B}
    (hx : ∀ s : Fin (p + 1), x (ix3 h t s) = ((f s.val : ℝ) : EReal)) (s : Fin (p + 1)) (hw) :
    Ideal.hostReduceWindowAdd (s := ⟨3, ![A, B, p + 1]⟩) (t := ⟨3, ![A, B, p + 1]⟩) ![1, 1, p + 1] ![1, 1, 1] ![0, 0, p] ![0, 0, 0] hw x 0 (ix3 h t s)
      = ((∑ j ∈ Finset.range (s.val + 1), f j : ℝ) : EReal) := by
  have hh := h.isLt
  have ht := t.isLt
  have key : Ideal.hostReduceWindowAdd (s := ⟨3, ![A, B, p + 1]⟩) (t := ⟨3, ![A, B, p + 1]⟩) ![1, 1, p + 1] ![1, 1, 1] ![0, 0, p] ![0, 0, 0] hw x 0 (ix3 h t s)
      = ∑ k : Fin (p + 1), (((if p ≤ s.val + k.val then f (s.val + k.val - p) else 0 : ℝ)) : EReal) := by
    unfold Ideal.hostReduceWindowAdd Host.reduceWindow
    dsimp only
    rw [foldl_finRange, ← Equiv.sum_comp (finCongr (window_numel (p + 1)))]
    refine Finset.sum_congr rfl fun k _ => ?_
    have e0 : (((Shape.rowMajor ⟨3, ![1, 1, p + 1]⟩).symm (finCongr (window_numel (p + 1)) k) : (⟨3, ![1, 1, p + 1]⟩ : Shape).Idx) 0).val = 0 := by rw [window_unflat]; rfl
    have e1 : (((Shape.rowMajor ⟨3, ![1, 1, p + 1]⟩).symm (finCongr (window_numel (p + 1)) k) : (⟨3, ![1, 1, p + 1]⟩ : Shape).Idx) 1).val = 0 := by rw [window_unflat]; rfl
    have e2 : (((Shape.rowMajor ⟨3, ![1, 1, p + 1]⟩).symm (finCongr (window_numel (p + 1)) k) : (⟨3, ![1, 1, p + 1]⟩ : Shape).Idx) 2).val = k.val := by rw [window_unflat]; rfl
    have hs := s.isLt
    have hk := k.isLt
    split
    · rename_i hin
      have h2 : p ≤ s.val * 1 + ((Shape.rowMajor ⟨3, ![1, 1, p + 1]⟩).symm (finCongr (window_numel (p + 1)) k) 2).val ∧ s.val * 1 + ((Shape.rowMajor ⟨3, ![1, 1, p + 1]⟩).symm (finCongr (window_numel (p + 1)) k) 2).val - p < p + 1 := hin 2
      rw [e2] at h2
      rw [if_pos (by omega), ← hx ⟨s.val + k.val - p, by omega⟩]
      congr 1
      funext a
      match a with
      | 0 => apply Fin.ext; show h.val * 1 + ((Shape.rowMajor ⟨3, ![1, 1, p + 1]⟩).symm (finCongr (window_numel (p + 1)) k) 0).val - 0 = h.val; rw [e0]; omega
      | 1 => apply Fin.ext; show t.val * 1 + ((Shape.rowMajor ⟨3, ![1, 1, p + 1]⟩).symm (finCongr (window_numel (p + 1)) k) 1).val - 0 = t.val; rw [e1]; omega
      | 2 => apply Fin.ext; show s.val * 1 + ((Shape.rowMajor ⟨3, ![1, 1, p + 1]⟩).symm (finCongr (window_numel (p + 1)) k) 2).val - p = s.val + k.val - p; rw [e2]; omega
    · rename_i hin
      rw [if_neg, EReal.coe_zero]
      intro hs
      refine hin fun a => ?_
      match a with
      | 0 => show 0 ≤ h.val * 1 + ((Shape.rowMajor ⟨3, ![1, 1, p + 1]⟩).symm (finCongr (window_numel (p + 1)) k) 0).val ∧ h.val * 1 + ((Shape.rowMajor ⟨3, ![1, 1, p + 1]⟩).symm (finCongr (window_numel (p + 1)) k) 0).val - 0 < A; rw [e0]; omega
      | 1 => show 0 ≤ t.val * 1 + ((Shape.rowMajor ⟨3, ![1, 1, p + 1]⟩).symm (finCongr (window_numel (p + 1)) k) 1).val ∧ t.val * 1 + ((Shape.rowMajor ⟨3, ![1, 1, p + 1]⟩).symm (finCongr (window_numel (p + 1)) k) 1).val - 0 < B; rw [e1]; omega
      | 2 => show p ≤ s.val * 1 + ((Shape.rowMajor ⟨3, ![1, 1, p + 1]⟩).symm (finCongr (window_numel (p + 1)) k) 2).val ∧ s.val * 1 + ((Shape.rowMajor ⟨3, ![1, 1, p + 1]⟩).symm (finCongr (window_numel (p + 1)) k) 2).val - p < p + 1; rw [e2]; omega
  rw [key, ← Spec.coe_sum, sum_to s.val f s.isLt]

theorem v24_at {x0 : S2048x6144.Idx → EReal} {f : ℕ → ℝ} {h : Fin 24} {t : Fin 2048}
    (hx : ∀ s : Fin 2048, val_main_v23_0 (F := Ideal) x0 (ix3 h t s) = ((f s.val : ℝ) : EReal)) (s : Fin 2048) :
    val_main_v24 (F := Ideal) x0 (ix3 h t s) = ((∑ j ∈ Finset.range 2048, f j - ∑ j ∈ Finset.range s.val, f j : ℝ) : EReal) := by
  have z : ∀ i, val_main_call2_v0 (F := Ideal) i = 0 := fun i => by
    rw [val_main_call2_v0_apply, val_main_call2_cst_apply]
    exact Ideal.ofBits_zero_f32
  unfold val_main_v24
  rw [Host.reduceWindowAdd, Ideal.hostReduceWindowAdd_def, z]
  exact suffix_at hx s _

theorem v43_at {x0 : S2048x6144.Idx → EReal} {x1 : S2048x14336.Idx → EReal} {x2 : S2048x4096.Idx → EReal} {f : ℕ → ℝ} {h : Fin 24} {t : Fin 2048}
    (hx : ∀ s : Fin 2048, val_main_v40 (F := Ideal) x0 x1 x2 (ix3 h t s) = ((f s.val : ℝ) : EReal)) (s : Fin 2048) :
    val_main_v43 (F := Ideal) x0 x1 x2 (ix3 h t s) = ((∑ j ∈ Finset.range (s.val + 1), f j : ℝ) : EReal) := by
  have z : ∀ i, val_main_call7_v0 (F := Ideal) i = 0 := fun i => by
    rw [val_main_call7_v0_apply, val_main_call7_cst_apply]
    exact Ideal.ofBits_zero_f32
  unfold val_main_v43
  rw [Host.reduceWindowAdd, Ideal.hostReduceWindowAdd_def, z]
  exact prefix_at (p := 2047) hx s _

/-! ## The logarithm of the sigmoid and its residual -/

theorem exp_ls_form (x : ℝ) : Real.exp (ls x) = 1 / (1 + Real.exp (-x)) := by
  unfold Spec.ls
  rw [Real.exp_sub, Real.exp_log (by positivity), zero_sub]
  rcases le_total x 0 with h | h
  · rw [min_eq_left h, max_eq_right (by linarith), neg_neg, div_eq_div_iff (by positivity) (by positivity), mul_add, ← Real.exp_add, add_neg_cancel,
      Real.exp_zero]
    ring
  · rw [min_eq_right h, max_eq_left (by linarith), Real.exp_zero]

/-- A sigmoid and its mirror image make one. -/
theorem exp_ls_neg (x : ℝ) : Real.exp (ls (-x)) = 1 - Real.exp (ls x) := by
  rw [ls_neg, Real.exp_sub, exp_ls_form, Real.exp_neg]
  have := Real.exp_pos x
  field_simp
  ring

theorem coe_ne_top' (y : ℝ) : ¬ ((y : EReal) = Ideal.ofBits .f32 0x7F800000#32) := by
  rw [inf_word]; exact EReal.coe_ne_top y

theorem v22_at {x0 : S2048x6144.Idx → EReal} {i : S24x2048x2048.Idx} {y : ℝ} (h : val_main_v21 (F := Ideal) x0 i = (y : EReal)) :
    val_main_v22_0 (F := Ideal) x0 i = ((ls y : ℝ) : EReal) ∧ val_main_v22_1 (F := Ideal) x0 i = ((Real.exp (ls (-y)) : ℝ) : EReal) := by
  obtain ⟨a, b, c, rfl⟩ : ∃ a b c, i = ix3 a b c := ⟨i 0, i 1, i 2, eq_ix3 _⟩
  have z : val_main_call0_call0_cst (F := Ideal) ix0 = 0 := by
    unfold val_main_call0_call0_cst
    pointwise
  have e : val_main_call0_v1_0 (F := Ideal) x0 (ix3 a b c) = ((-ls y : ℝ) : EReal) := by
    unfold val_main_call0_v1_0 val_main_call0_call0_v4 val_main_call0_call0_v6 val_main_call0_call0_v11 val_main_call0_call0_v3
      val_main_call0_call0_v5 val_main_call0_call0_v1 val_main_call0_call0_v10 val_main_call0_call0_v9 val_main_call0_call0_v8 val_main_call0_call0_v7
      val_main_call0_call0_v3 val_main_call0_call0_v2 val_main_call0_call0_v0 val_main_call0_v0
    pointwise
    rw [z, h, if_neg (fun hn => hn rfl), sub_zero]
    refine (congrArg (fun w => max w 0 + Ideal.log1p (Ideal.exp (-(max w (-w))))) (EReal.coe_neg y).symm).trans ?_
    rw [host_softplus, ← neg_softplus y, neg_neg (max _ _ + _)]
  constructor
  · rw [val_main_v22_0_apply, e]
    refine (EReal.coe_neg _).symm.trans ?_
    rw [neg_neg]
  · unfold val_main_v22_1 val_main_call0_call0_v21 val_main_call0_call0_v16 val_main_call0_call0_v20 val_main_call0_call0_v14 val_main_call0_call0_v18
      val_main_call0_call0_v13 val_main_call0_call0_v17 val_main_call0_call0_cst_0 val_main_call0_call0_cst_2 val_main_call0_v0
    pointwise
    rw [e, h]
    rw [← EReal.coe_neg, if_neg (coe_ne_top' _), if_neg (coe_ne_top' _), ← EReal.coe_sub, Spec.exp_coe, ls_neg]
    congr 2
    ring

theorem v26_at {x0 : S2048x6144.Idx → EReal} {i : S24x2048x2048.Idx} {y : ℝ} (h : val_main_v13 (F := Ideal) x0 i = (y : EReal)) :
    val_main_v26_0 (F := Ideal) x0 i = ((ls y : ℝ) : EReal) ∧ val_main_v26_1 (F := Ideal) x0 i = ((Real.exp (ls (-y)) : ℝ) : EReal) := by
  obtain ⟨a, b, c, rfl⟩ : ∃ a b c, i = ix3 a b c := ⟨i 0, i 1, i 2, eq_ix3 _⟩
  have z : val_main_call3_call0_cst (F := Ideal) ix0 = 0 := by
    unfold val_main_call3_call0_cst
    pointwise
  have e : val_main_call3_v1_0 (F := Ideal) x0 (ix3 a b c) = ((-ls y : ℝ) : EReal) := by
    unfold val_main_call3_v1_0 val_main_call3_call0_v4 val_main_call3_call0_v6 val_main_call3_call0_v11 val_main_call3_call0_v3
      val_main_call3_call0_v5 val_main_call3_call0_v1 val_main_call3_call0_v10 val_main_call3_call0_v9 val_main_call3_call0_v8 val_main_call3_call0_v7
      val_main_call3_call0_v3 val_main_call3_call0_v2 val_main_call3_call0_v0 val_main_call3_v0
    pointwise
    rw [z, h, if_neg (fun hn => hn rfl), sub_zero]
    refine (congrArg (fun w => max w 0 + Ideal.log1p (Ideal.exp (-(max w (-w))))) (EReal.coe_neg y).symm).trans ?_
    rw [host_softplus, ← neg_softplus y, neg_neg (max _ _ + _)]
  constructor
  · rw [val_main_v26_0_apply, e]
    refine (EReal.coe_neg _).symm.trans ?_
    rw [neg_neg]
  · unfold val_main_v26_1 val_main_call3_call0_v21 val_main_call3_call0_v16 val_main_call3_call0_v20 val_main_call3_call0_v14 val_main_call3_call0_v18
      val_main_call3_call0_v13 val_main_call3_call0_v17 val_main_call3_call0_cst_0 val_main_call3_call0_cst_2 val_main_call3_v0
    pointwise
    rw [e, h]
    rw [← EReal.coe_neg, if_neg (coe_ne_top' _), if_neg (coe_ne_top' _), ← EReal.coe_sub, Spec.exp_coe, ls_neg]
    congr 2
    ring

/-! ## The arguments' rows -/

theorem v6_at (x0 : S2048x6144.Idx → EReal) (h : Fin 24) (t : Fin 2048) (d : Fin 128) :
    val_main_v6 (F := Ideal) x0 (ix3 h t d) = x0 (ix2 t ⟨h.val * 128 + d.val, by omega⟩) := by
  unfold val_main_v6 val_main_v5 val_main_v1 val_main_v0
  pointwise

theorem v8_at (x0 : S2048x6144.Idx → EReal) (h : Fin 24) (t : Fin 2048) (d : Fin 128) :
    val_main_v8 (F := Ideal) x0 (ix3 h t d) = x0 (ix2 t ⟨3072 + (h.val * 128 + d.val), by omega⟩) := by
  unfold val_main_v8 val_main_v7 val_main_v3 val_main_v2
  pointwise

theorem v10_at (x1 : S2048x14336.Idx → EReal) (h : Fin 24) (t : Fin 2048) (d : Fin 128) :
    val_main_v10 (F := Ideal) x1 (ix3 h t d) = x1 (ix2 t ⟨6144 + (h.val * 128 + d.val), by omega⟩) := by
  unfold val_main_v10 val_main_v9 val_main_v4
  pointwise

theorem v35_at (x2 : S2048x4096.Idx → EReal) (h : Fin 24) (t : Fin 2048) (d : Fin 128) :
    val_main_v35 (F := Ideal) x2 (ix3 h t d) = x2 (ix2 t ⟨h.val * 128 + d.val, by omega⟩) := by
  unfold val_main_v35 val_main_v34 val_main_v33
  pointwise

end Cert.Proof.SB.Ref

end
-- ==== Proof.HostRead.lean ====
module

public import proofs.«01_k».proof.Proof.Run
public import proofs.«01_k».proof.Proof.Inputs
public import Idealize.ShloMosaic.Lib.StableHlo.ReadAt

/-! What the host prepares before the kernel starts: the values, and each query's sum of logarithms. -/

@[expose] public section

set_option maxRecDepth 16384
set_option maxHeartbeats 4000000

noncomputable section

namespace Cert.Proof.SB

open Cert.KernelIdeal Cert.KernelIdeal.Gen
open Idealize.ShloMosaic
open Idealize.ShloMosaic.TcCoe Idealize.ShloMosaic.Tactic
open Spec (ls kappa Head)
open scoped BigOperators

variable (m : (ℓ : Loc nD τ sig) → Buf (Elt Ideal) ℓ)

theorem v_read (c : Dev nD) (s : Fin 2048) (d : Fin 3072) :
    V m c main_v22 (ix2 s d) = m ((c.tc : Thread nD τ).loc main_arg1) (ix2 s ⟨6144 + d.val, by omega⟩) := by
  unfold V
  after_reads_at

theorem dproj_read (c : Dev nD) : V m c main_v23_2 = m ((c.tc : Thread nD τ).loc main_arg3) := by
  unfold V
  after_reads_simp
  rfl

/-- A word of one bit read signed. -/
theorem slt_says (a b : ℕ) (ha : a < 2048) (hb : b < 2048) :
    Says (IntOp.cmpi CmpIPredicate.slt (BitVec.ofNat 32 a) (BitVec.ofNat 32 b)) (a < b) := by
  refine says_iff (says_ofBool ((BitVec.ofNat 32 a).toInt < (BitVec.ofNat 32 b).toInt)) ?_
  rw [toInt_small a (by omega), toInt_small b (by omega)]
  omega

theorem lt_read (c : Dev nD) {a0 : S2048x6144.Idx → EReal} {a1 : S2048x14336.Idx → EReal} {a2 : S2048x4096.Idx → EReal} (hf : Finite a0 a1 a2)
    (ha : m ((c.tc : Thread nD τ).loc main_arg0) = a0) (h : Fin 24) (t : Fin 2048) :
    V m c main_v20 (ix3 h t 0) = (((headOf a0 a1 a2 h.val).lt t.val : ℝ) : EReal) := by
  unfold V
  after_reads_at
  rw [show m (c, Proc.tc.devRef main_arg0) = a0 from ha, Spec.Head.lt, Finset.sum_range]
  refine real_sum fun s => ?_
  rw [z_coe hf h t s]
  simp only [ne_eq, not_true_eq_false, if_false]
  rw [select_says (slt_says s.val t.val s.isLt t.isLt), ← EReal.coe_neg, ← EReal.coe_neg]
  rw [show FloatOps.absf (F := Ideal) (φ := .f32) ((-(-(headOf a0 a1 a2 h.val).z t.val s.val) : ℝ) : EReal)
    = max ((-(-(headOf a0 a1 a2 h.val).z t.val s.val) : ℝ) : EReal) (-((-(-(headOf a0 a1 a2 h.val).z t.val s.val) : ℝ) : EReal)) from rfl, host_softplus,
    ← EReal.coe_neg, neg_softplus, ls_neg, Spec.Head.lr]
  split
  · rfl
  · show Ideal.ofBits .f32 0x00000000#32 = _
    rw [Ideal.ofBits_zero .f32, EReal.coe_zero]

end Cert.Proof.SB

end
-- ==== Proof.RefValue.lean ====
module

public import proofs.«01_k».proof.Proof.Reference
public import proofs.«01_k».proof.Proof.HostRead

/-! The reference's three gradients, element by element: the heads' formulas. -/

@[expose] public section

set_option maxRecDepth 16384
set_option maxHeartbeats 1000000

noncomputable section

namespace Cert.Proof.SB.Ref

open Cert.ReferenceIdeal Cert.ReferenceIdeal.Read
open Idealize.ShloMosaic
open Spec (ls kappa Head)
open scoped BigOperators

section

variable {x0 : S2048x6144.Idx → EReal} {x1 : S2048x14336.Idx → EReal} {x2 : S2048x4096.Idx → EReal} (hf : Finite x0 x1 x2)

theorem mask_says (h : Fin 24) (t s : Fin 2048) : Says (val_main_v23_1 (F := Ideal) (ix3 h t s)) (s.val < t.val) := by
  rw [val_main_v23_1_apply, val_main_v20_apply, val_main_v18_apply, val_main_v15_apply, val_main_v14_apply, val_main_v19_apply, val_main_v17_apply, val_main_v16_apply]
  exact slt_says s.val t.val s.isLt t.isLt

theorem mask_says' (h : Fin 24) (t s : Fin 2048) : Says (val_main_v29_1 (F := Ideal) (ix3 h t s)) (s.val < t.val) := mask_says h t s

include hf

theorem v13_at (h : Fin 24) (t s : Fin 2048) : val_main_v13 (F := Ideal) x0 (ix3 h t s) = (((headOf x0 x1 x2 h.val).z t.val s.val : ℝ) : EReal) := by
  rw [← z_coe hf]
  unfold val_main_v13 val_main_v11 val_main_v12 val_main_cst
  pointwise
  simp only [v6_at, v8_at]

theorem v21_at (h : Fin 24) (t s : Fin 2048) : val_main_v21 (F := Ideal) x0 (ix3 h t s) = ((-(headOf x0 x1 x2 h.val).z t.val s.val : ℝ) : EReal) := by
  rw [val_main_v21_apply, v13_at hf]
  rfl

/-- The logarithms of what the keys leave. -/
theorem lr_at (h : Fin 24) (t s : Fin 2048) : val_main_v23_0 (F := Ideal) x0 (ix3 h t s) = (((headOf x0 x1 x2 h.val).lr t.val s.val : ℝ) : EReal) := by
  rw [val_main_v23_0_apply, select_says (mask_says h t s), (v22_at (v21_at hf h t s)).1, val_main_call1_v2_apply, val_main_call1_v0_apply, ls_neg]
  unfold Head.lr
  split
  · rfl
  · exact Ideal.ofBits_zero_f32

/-- The logarithm of a weight. -/
theorem v27_at (h : Fin 24) (t s : Fin 2048) : val_main_v27 (F := Ideal) x0 (ix3 h t s)
    = ((ls ((headOf x0 x1 x2 h.val).z t.val s.val) + ((headOf x0 x1 x2 h.val).lt t.val - ∑ j ∈ Finset.range (s.val + 1), (headOf x0 x1 x2 h.val).lr t.val j) : ℝ) : EReal) := by
  rw [val_main_v27_apply, (v26_at (v13_at hf h t s)).1, val_main_v25_apply, v24_at (lr_at hf h t) s, lr_at hf h t s]
  refine (congrArg (fun w => _ + w) (EReal.coe_sub _ _).symm).trans ((EReal.coe_add _ _).symm.trans ?_)
  rw [Finset.sum_range_succ (fun j => (headOf x0 x1 x2 h.val).lr t.val j) s.val, sub_sub]
  rfl

theorem v28_at (h : Fin 24) (t s : Fin 2048) : val_main_v28 (F := Ideal) x0 (ix3 h t s)
    = ((Real.exp (ls ((headOf x0 x1 x2 h.val).z t.val s.val) + ((headOf x0 x1 x2 h.val).lt t.val - ∑ j ∈ Finset.range (s.val + 1), (headOf x0 x1 x2 h.val).lr t.val j)) : ℝ) : EReal) := by
  rw [val_main_v28_apply, v27_at hf]
  rfl

theorem w_at (h : Fin 24) (t s : Fin 2048) : val_main_v29_0 (F := Ideal) x0 (ix3 h t s) = (((headOf x0 x1 x2 h.val).w t.val s.val : ℝ) : EReal) := by
  rw [val_main_v29_0_apply, select_says (mask_says' h t s), v28_at hf, val_main_call4_v2_apply, val_main_call4_v0_apply]
  unfold Head.w
  split
  · rfl
  · exact Ideal.ofBits_zero_f32

theorem v38_at (h : Fin 24) (t s : Fin 2048) : val_main_v38 (F := Ideal) x1 x2 (ix3 h t s)
    = ((∑ d : Fin 128, (headOf x0 x1 x2 h.val).G t.val d.val * (headOf x0 x1 x2 h.val).V s.val d.val : ℝ) : EReal) := by
  unfold val_main_v38
  pointwise
  simp only [v35_at, v10_at]
  exact real_dot (g_coe hf h t) (v_coe hf h s)

/-- The gradients of the weights' logarithms. -/
theorem dl_at (h : Fin 24) (t s : Fin 2048) : val_main_v40 (F := Ideal) x0 x1 x2 (ix3 h t s) = (((headOf x0 x1 x2 h.val).dl t.val s.val : ℝ) : EReal) := by
  rw [val_main_v40_apply, val_main_v39_apply, select_says (mask_says' h t s), v28_at hf, v38_at hf, val_main_call5_v0_apply]
  unfold Head.dl Head.w
  split
  · exact (EReal.coe_mul _ _).symm
  · refine (congrArg (fun w => w * _) (Ideal.ofBits_zero_f32)).trans ?_
    rw [zero_mul, mul_zero]
    rfl

theorem dz_at (h : Fin 24) (t s : Fin 2048) : val_main_v50 (F := Ideal) x0 x1 x2 (ix3 h t s) = (((headOf x0 x1 x2 h.val).dz t.val s.val : ℝ) : EReal) := by
  have e41 : val_main_v41 (F := Ideal) x0 x1 x2 (ix3 h t s)
      = (((headOf x0 x1 x2 h.val).dl t.val s.val * (1 - Real.exp (ls ((headOf x0 x1 x2 h.val).z t.val s.val))) : ℝ) : EReal) := by
    unfold val_main_v41 val_main_call6_v1 val_main_call6_v0
    pointwise
    rw [dl_at hf, (v26_at (v13_at hf h t s)).2, ← EReal.coe_neg, ← EReal.coe_mul, ← EReal.coe_neg, exp_ls_neg]
    congr 1
    ring
  have e44 : val_main_v44 (F := Ideal) x0 x1 x2 (ix3 h t s) = ((∑ j ∈ Finset.range s.val, (headOf x0 x1 x2 h.val).dl t.val j : ℝ) : EReal) := by
    unfold val_main_v44 val_main_v42
    pointwise
    rw [dl_at hf, v43_at (dl_at hf h t) s, ← EReal.coe_neg, ← EReal.coe_add, Finset.sum_range_succ]
    congr 1
    ring
  have e47 : val_main_v47 (F := Ideal) x0 x1 x2 (ix3 h t s)
      = ((if s.val < t.val then -(Real.exp (ls ((headOf x0 x1 x2 h.val).z t.val s.val)) * ∑ j ∈ Finset.range s.val, (headOf x0 x1 x2 h.val).dl t.val j) else 0 : ℝ) : EReal) := by
    unfold val_main_v47 val_main_v46 val_main_call9_v1 val_main_call9_v0
    pointwise
    rw [val_main_v45_apply, select_says (mask_says h t s), e44, (v22_at (v21_at hf h t s)).2, neg_neg, val_main_call8_v0_apply]
    split
    · rw [neg_neg, ← EReal.coe_neg, ← EReal.coe_mul]
      congr 1
      ring
    · rw [show val_main_call8_cst (F := Ideal) _ = 0 from Ideal.ofBits_zero_f32, neg_zero, zero_mul, EReal.coe_zero]
  unfold val_main_v50 val_main_v49 val_main_cst_2 val_main_v48
  pointwise
  rw [e41, e47, Spec.kappa_coe, ← EReal.coe_add, ← EReal.coe_mul]
  congr 1
  unfold Head.dz
  split
  · rw [sub_eq_add_neg]; rfl
  · rw [Head.dl_zero _ (by omega), zero_mul, zero_add]
    rfl

theorem dq_at (t : Fin 2048) (h : Fin 24) (d : Fin 128) : val_main_v58 (F := Ideal) x0 x1 x2 (ix2 t ⟨h.val * 128 + d.val, by omega⟩)
    = (((headOf x0 x1 x2 h.val).dq t.val d.val : ℝ) : EReal) := by
  have e : val_main_v58 (F := Ideal) x0 x1 x2 (ix2 t ⟨h.val * 128 + d.val, by omega⟩) = val_main_v52 (F := Ideal) x0 x1 x2 (ix3 h t d) := by
    unfold val_main_v58 val_main_v57
    pointwise
  rw [e]
  unfold val_main_v52
  pointwise
  simp only [v8_at]
  rw [real_dot (dz_at hf h t) fun s => k_coe hf h s d]
  unfold Head.dq
  rw [Finset.sum_range]

theorem dk_at (s : Fin 2048) (h : Fin 24) (d : Fin 128) : val_main_v56 (F := Ideal) x0 x1 x2 (ix2 s ⟨h.val * 128 + d.val, by omega⟩)
    = (((headOf x0 x1 x2 h.val).dk s.val d.val : ℝ) : EReal) := by
  have e : val_main_v56 (F := Ideal) x0 x1 x2 (ix2 s ⟨h.val * 128 + d.val, by omega⟩) = val_main_v51 (F := Ideal) x0 x1 x2 (ix3 h s d) := by
    unfold val_main_v56 val_main_v55
    pointwise
  rw [e]
  unfold val_main_v51
  pointwise
  simp only [v6_at]
  rw [real_dot (fun t => dz_at hf h t s) fun t => q_coe hf h t d]
  unfold Head.dk
  rw [Finset.sum_range]

theorem dv_at (s : Fin 2048) (h : Fin 24) (d : Fin 128) : val_main_v54 (F := Ideal) x0 x2 (ix2 s ⟨h.val * 128 + d.val, by omega⟩)
    = (((headOf x0 x1 x2 h.val).dv s.val d.val : ℝ) : EReal) := by
  have e : val_main_v54 (F := Ideal) x0 x2 (ix2 s ⟨h.val * 128 + d.val, by omega⟩) = val_main_v36 (F := Ideal) x0 x2 (ix3 h d s) := by
    unfold val_main_v54 val_main_v53 val_main_v37
    pointwise
  rw [e]
  unfold val_main_v36
  pointwise
  simp only [v35_at]
  rw [real_dot (fun t => g_coe hf h t d) fun t => w_at hf h t s]
  unfold Head.dv
  rw [Finset.sum_range]
  congr 1
  exact Finset.sum_congr rfl fun t _ => mul_comm _ _

end

end Cert.Proof.SB.Ref

end
-- ==== Proof.StepValue.lean ====
module

public import proofs.«01_k».proof.Proof.Tile

/-! What the work on the key tiles leaves at one grid point, over the extended reals: the sums of the formulas over the keys
gone through. -/

@[expose] public section

set_option maxRecDepth 16384
set_option maxHeartbeats 1000000

noncomputable section

namespace Cert.Proof.SB

open Cert.KernelIdeal Cert.KernelIdeal.Gen
open Idealize.ShloMosaic
open Spec (ls kappa Head)
open scoped BigOperators

/-- The tile of queries `i` of a head, as it is brought to every key tile. -/
structure CtxIs (H : Head) (i : ℕ) (P : Ctx Ideal) : Prop where
  q : Reals P.q fun r d => H.Q (256 * i + r) d
  g : Reals P.g fun r d => H.G (256 * i + r) d
  lt : Reals P.lt fun r _ => H.lt (256 * i + r)
  diff : P.diff = k0_pay231
  upto : P.upto = k0_pay232
  before : P.before = k0_pay233
  qi : P.qi = BitVec.ofNat 32 i

/-- What is carried once the key tiles before tile `j` are gone through. -/
structure StIs (H : Head) (i : ℕ) (Y9 Y10 : ℕ → ℕ → ℝ) (j : ℕ) (s : St Ideal) : Prop where
  plr : Reals s.1.1 fun r _ => ∑ x ∈ Finset.range (256 * j), H.lr (256 * i + r) x
  pdl : Reals s.1.2.1 fun r _ => ∑ x ∈ Finset.range (256 * j), H.dl (256 * i + r) x
  dq : Reals s.1.2.2 fun r d => ∑ x ∈ Finset.range (256 * j), H.dz (256 * i + r) x * H.K x d
  dk : Reals s.2.1 fun x d => Y9 x d + if x < 256 * j then ∑ r : Fin 256, H.dz (256 * i + r.val) x * H.Q (256 * i + r.val) d else 0
  dv : Reals s.2.2 fun x d => Y10 x d + if x < 256 * j then ∑ r : Fin 256, H.w (256 * i + r.val) x * H.G (256 * i + r.val) d else 0

theorem Reals.congr {M N : ℕ} {a : (⟨2, ![M, N]⟩ : Shape).Idx → EReal} {f g : ℕ → ℕ → ℝ} (h : Reals a f)
    (e : ∀ (r : Fin M) (c : Fin N), f r.val c.val = g r.val c.val) : Reals a g := fun r c => (h r c).trans (by rw [e r c])

theorem tileOf_at {y : S2048x128.Idx → EReal} {Y : ℕ → ℕ → ℝ} (hy : Reals y Y) {j : ℕ} (hj : j < 8) :
    Reals (M := 256) (N := 128) (tileOf y j) fun r c => Y (256 * j + r) c := by
  intro r c
  rw [tileOf_eq y j (by intro a; fin_cases a <;> simp [S256x128, S2048x128] <;> omega)]
  have e := hy ⟨256 * j + r.val, by omega⟩ c
  rw [← e]
  unfold VecWindow.window
  congr 1
  funext a
  fin_cases a
  · exact Fin.ext (by show 256 * j + 1 * r.val = 256 * j + r.val; omega)
  · exact Fin.ext (by show 0 + 1 * c.val = c.val; omega)

theorem put_at {y : S2048x128.Idx → EReal} {x : S256x128.Idx → EReal} {Y X : ℕ → ℕ → ℝ} (hy : Reals y Y)
    (hx : Reals (M := 256) (N := 128) x X) (j : ℕ) :
    Reals (M := 2048) (N := 128) (VecWindow.put (s := S2048x128) y (tOff j) S256x128.size x)
      fun r c => if 256 * j ≤ r ∧ r < 256 * j + 256 then X (r - 256 * j) c else Y r c := by
  intro r c
  unfold VecWindow.put
  beta_reduce
  by_cases h : 256 * j ≤ r.val ∧ r.val < 256 * j + 256
  · have h' : ∀ a, tOff j a ≤ ((ix2 r c : S2048x128.Idx) a).val ∧ ((ix2 r c : S2048x128.Idx) a).val < tOff j a + S256x128.size a := by
      intro a; fin_cases a
      · exact h
      · exact ⟨Nat.zero_le _, by show c.val < 0 + 128; omega⟩
    rw [dif_pos h', if_pos h]
    have e := hx ⟨r.val - 256 * j, by omega⟩ c
    rw [← e]
    congr 1
    funext a; fin_cases a
    · exact Fin.ext rfl
    · exact Fin.ext (by show c.val - 0 = c.val; omega)
  · have h' : ¬ ∀ a, tOff j a ≤ ((ix2 r c : S2048x128.Idx) a).val ∧ ((ix2 r c : S2048x128.Idx) a).val < tOff j a + S256x128.size a :=
      fun k => h (k 0)
    rw [dif_neg h', if_neg h]
    exact hy r c

theorem cast_at {y : S256x128.Idx → EReal} {Y : ℕ → ℕ → ℝ} (hy : Reals (M := 256) (N := 128) y Y) :
    Reals (M := 256) (N := 128) (shapeCast S256x128 y shapeCasts_S256x128_S256x128) Y := by
  intro r c
  pointwise
  exact hy r c

section Step

variable {H : Head} {i j : ℕ} {P : Ctx Ideal} {k v : Vec Ideal S2048x128 .bf16} {Y9 Y10 : ℕ → ℕ → ℝ} {s : St Ideal}

theorem z_at (hκ : H.κ = kappa) (hP : CtxIs H i P) (hk : Reals k H.K) (hj : j < 8) :
    Reals (P.z (tileOf k j)) fun r c => H.z (256 * i + r) (256 * j + c) :=
  (tZ_at hP.q (tileOf_at hk hj)).congr fun r c => by rw [Head.z, hκ]

theorem m_at (hP : CtxIs H i P) (hi : i < 8) (hj : j < 8) (r c : Fin 256) :
    Says (P.m (BitVec.ofNat 32 j) (ix2 r c)) (256 * j + c.val < 256 * i + r.val) := by
  unfold Ctx.m
  rw [hP.diff, hP.qi]
  exact mask_at i j hi hj r c

theorem ls_at (hκ : H.κ = kappa) (hP : CtxIs H i P) (hk : Reals k H.K) (hj : j < 8) :
    Reals (P.ls (tileOf k j)) fun r c => ls (H.z (256 * i + r) (256 * j + c)) := tLs_at (z_at hκ hP hk hj)

theorem lr_at (hκ : H.κ = kappa) (hP : CtxIs H i P) (hk : Reals k H.K) (hi : i < 8) (hj : j < 8) :
    Reals (P.lr (BitVec.ofNat 32 j) (tileOf k j)) fun r c => H.lr (256 * i + r) (256 * j + c) :=
  tLr_at (p := fun r c => 256 * j + c < 256 * i + r) (m_at hP hi hj) (ls_at hκ hP hk hj) (z_at hκ hP hk hj)

theorem w_at (hκ : H.κ = kappa) (hP : CtxIs H i P) (hk : Reals k H.K) (hi : i < 8) (hj : j < 8) (hs : StIs H i Y9 Y10 j s) :
    Reals (P.w (BitVec.ofNat 32 j) (tileOf k j) s.1.1) fun r c => H.w (256 * i + r) (256 * j + c) := by
  refine (tW_at (p := fun r c => 256 * j + c < 256 * i + r) (m_at hP hi hj) (ls_at hκ hP hk hj) (lr_at hκ hP hk hi hj) hP.lt hs.plr
    (hP.upto ▸ upto_at)).congr fun r c => ?_
  rw [Head.w, Spec.sum_upto (fun x => H.lr (256 * i + r.val) x) (256 * j) (c.val + 1) (by omega), Nat.add_assoc]

theorem dl_at (hκ : H.κ = kappa) (hP : CtxIs H i P) (hk : Reals k H.K) (hv : Reals v H.V) (hi : i < 8) (hj : j < 8) (hs : StIs H i Y9 Y10 j s) :
    Reals (P.dl (BitVec.ofNat 32 j) (tileOf k j) (tileOf v j) s.1.1) fun r c => H.dl (256 * i + r) (256 * j + c) :=
  tDl_at hP.g (cast_at (tileOf_at hv hj)) (w_at hκ hP hk hi hj hs)

theorem dz_at (hκ : H.κ = kappa) (hP : CtxIs H i P) (hk : Reals k H.K) (hv : Reals v H.V) (hi : i < 8) (hj : j < 8) (hs : StIs H i Y9 Y10 j s) :
    Reals (P.dz (BitVec.ofNat 32 j) (tileOf k j) (tileOf v j) s.1.1 s.1.2.1) fun r c => H.dz (256 * i + r) (256 * j + c) := by
  refine (tDz_at (p := fun r c => 256 * j + c < 256 * i + r) (m_at hP hi hj) (ls_at hκ hP hk hj) (dl_at hκ hP hk hv hi hj hs) hs.pdl
    (hP.before ▸ before_at)).congr fun r c => ?_
  rw [Head.dz, Spec.sum_upto (fun x => H.dl (256 * i + r.val) x) (256 * j) c.val (by omega), hκ]

theorem acc_eq (Y F : ℕ → ℕ → ℝ) (j : ℕ) (x d : ℕ) :
    (if 256 * j ≤ x ∧ x < 256 * j + 256 then (Y (256 * j + (x - 256 * j)) d + if 256 * j + (x - 256 * j) < 256 * j then F (256 * j + (x - 256 * j)) d else 0)
        + F (256 * j + (x - 256 * j)) d
      else Y x d + if x < 256 * j then F x d else 0) = Y x d + if x < 256 * (j + 1) then F x d else 0 := by
  by_cases h : 256 * j ≤ x ∧ x < 256 * j + 256
  · rw [if_pos h, Nat.add_sub_cancel' h.1, if_neg (by omega), if_pos (by omega), add_zero]
  · rw [if_neg h]
    by_cases h' : x < 256 * j
    · rw [if_pos h', if_pos (by omega)]
    · rw [if_neg h', if_neg (by omega)]

theorem step_at (hκ : H.κ = kappa) (hP : CtxIs H i P) (hk : Reals k H.K) (hv : Reals v H.V) (hi : i < 8) (hj : j < 8) (hs : StIs H i Y9 Y10 j s) :
    StIs H i Y9 Y10 (j + 1) (P.step (BitVec.ofNat 32 j) k v j s) where
  plr := by
    intro r c
    show s.1.1 (ix2 r c) + tRow _ (ix2 r c) = _
    rw [hs.plr r c, tRow_at (lr_at hκ hP hk hi hj) r c, ← EReal.coe_add, ← Spec.sum_tile]
  pdl := by
    intro r c
    show s.1.2.1 (ix2 r c) + tRow _ (ix2 r c) = _
    rw [hs.pdl r c, tRow_at (dl_at hκ hP hk hv hi hj hs) r c, ← EReal.coe_add, ← Spec.sum_tile]
  dq := (tDq_at hs.dq (dz_at hκ hP hk hv hi hj hs) (tileOf_at hk hj)).congr fun r c => by
    rw [← Spec.sum_tile (fun x => H.dz (256 * i + r.val) x * H.K x c.val)]
  dk := (put_at hs.dk (tAdd_at (tileOf_at hs.dk hj) (dz_at hκ hP hk hv hi hj hs) hP.q) j).congr fun r c =>
    acc_eq Y9 (fun x d => ∑ r : Fin 256, H.dz (256 * i + r.val) x * H.Q (256 * i + r.val) d) j r.val c.val
  dv := (put_at hs.dv (tAdd_at (tileOf_at hs.dv hj) (w_at hκ hP hk hi hj hs) hP.g) j).congr fun r c =>
    acc_eq Y10 (fun x d => ∑ r : Fin 256, H.w (256 * i + r.val) x * H.G (256 * i + r.val) d) j r.val c.val

end Step

/-! ## The groups of tiles -/

theorem word_tile : ∀ (b : Fin 8) (k : Fin 8) (g : Fin 5) (o : Fin 4),
    Scalar.addi (Scalar.addi (BitVec.ofNat 32 b.val) (Scalar.muli (Scf.iv 0#32 1#32 k.val) (BitVec.ofNat 32 g.val))) (BitVec.ofNat 32 o.val)
      = BitVec.ofNat 32 (b.val + g.val * k.val + o.val) := by decide +kernel

theorem base3_eq : ∀ i : grid0.Coords, base3 i = BitVec.ofNat 32 (4 * (((i 1).val + 1) / 4)) := by decide +kernel
theorem base5_eq : ∀ i : grid0.Coords, base5 i = BitVec.ofNat 32 (2 * (((i 1).val + 1) / 2)) := by decide +kernel
theorem trips1_eq : ∀ i : grid0.Coords, (k0_t1_loop i).trips = ((i 1).val + 1) / 4 := by decide +kernel
theorem trips3_eq : ∀ i : grid0.Coords, (k0_t3_loop i).trips = (((i 1).val + 1) % 4) / 2 := by decide +kernel
theorem trips5_eq : ∀ i : grid0.Coords, (k0_t5_loop i).trips = ((i 1).val + 1) % 2 := by decide +kernel

theorem iter_keeps {α : Type} (f : ℕ → α → α) (J : ℕ → α → Prop) (n : ℕ) (h : ∀ k < n, ∀ s, J k s → J (k + 1) (f k s)) {s : α} (h0 : J 0 s) :
    J n (iter f n s) := by
  induction n with
  | zero => exact h0
  | succ n ih => exact h n (Nat.lt_succ_self n) _ (ih fun k hk => h k (Nat.lt_succ_of_lt hk))

section Point

variable {H : Head} {i : grid0.Coords} {P : Ctx Ideal} {k v : Vec Ideal S2048x128 .bf16} {Y9 Y10 : ℕ → ℕ → ℝ} {s : St Ideal}

theorem step_word (hκ : H.κ = kappa) (hP : CtxIs H (i 1).val P) (hk : Reals k H.K) (hv : Reals v H.V) {j : ℕ} (hj : j < 8) {jw : BitVec 32}
    (hw : jw = BitVec.ofNat 32 j) (hs : StIs H (i 1).val Y9 Y10 j s) : StIs H (i 1).val Y9 Y10 (j + 1) (P.step jw k v j s) :=
  hw ▸ step_at hκ hP hk hv (i 1).isLt hj hs

theorem after1_at (hκ : H.κ = kappa) (hP : CtxIs H (i 1).val P) (hk : Reals k H.K) (hv : Reals v H.V) (hs : StIs H (i 1).val Y9 Y10 0 s) :
    StIs H (i 1).val Y9 Y10 (4 * (((i 1).val + 1) / 4)) (after1 P k v i s) := by
  have hi : (i 1).val < 8 := (i 1).isLt
  unfold after1
  rw [trips1_eq]
  refine iter_keeps _ (fun n s => StIs H (i 1).val Y9 Y10 (4 * n) s) _ (fun n hn s hs => ?_) hs
  have e : ∀ o : Fin 4, _ := fun o => word_tile 0 ⟨n, by omega⟩ 4 o
  have := step_word hκ hP hk hv (j := 0 + 4 * n + 0) (by omega) (e 0) (by rw [Nat.zero_add]; exact hs)
  have := step_word hκ hP hk hv (j := 0 + 4 * n + 1) (by omega) (e 1) this
  have := step_word hκ hP hk hv (j := 0 + 4 * n + 2) (by omega) (e 2) this
  have := step_word hκ hP hk hv (j := 0 + 4 * n + 3) (by omega) (e 3) this
  rw [show 4 * (n + 1) = 0 + 4 * n + 3 + 1 by ring]
  exact this

theorem after3_at (hκ : H.κ = kappa) (hP : CtxIs H (i 1).val P) (hk : Reals k H.K) (hv : Reals v H.V)
    (hs : StIs H (i 1).val Y9 Y10 (4 * (((i 1).val + 1) / 4)) s) :
    StIs H (i 1).val Y9 Y10 (2 * (((i 1).val + 1) / 2)) (after3 P k v i s) := by
  have hi : (i 1).val < 8 := (i 1).isLt
  unfold after3
  rw [trips3_eq, base3_eq]
  have := iter_keeps (grp3 P k v (BitVec.ofNat 32 (4 * (((i 1).val + 1) / 4))) (4 * (((i 1).val + 1) / 4)))
    (fun n s => StIs H (i 1).val Y9 Y10 (4 * (((i 1).val + 1) / 4) + 2 * n) s) ((((i 1).val + 1) % 4) / 2) (fun n hn s hs => ?_) hs
  · rwa [show 4 * (((i 1).val + 1) / 4) + 2 * ((((i 1).val + 1) % 4) / 2) = 2 * (((i 1).val + 1) / 2) by omega] at this
  have e : ∀ o : Fin 4, _ := fun o => word_tile ⟨4 * (((i 1).val + 1) / 4), by omega⟩ ⟨n, by omega⟩ 2 o
  have := step_word hκ hP hk hv (j := 4 * (((i 1).val + 1) / 4) + 2 * n + 0) (by omega) (e 0) hs
  exact step_word hκ hP hk hv (j := 4 * (((i 1).val + 1) / 4) + 2 * n + 1) (by omega) (e 1) this

theorem after5_at (hκ : H.κ = kappa) (hP : CtxIs H (i 1).val P) (hk : Reals k H.K) (hv : Reals v H.V)
    (hs : StIs H (i 1).val Y9 Y10 (2 * (((i 1).val + 1) / 2)) s) :
    StIs H (i 1).val Y9 Y10 ((i 1).val + 1) (after5 P k v i s) := by
  have hi : (i 1).val < 8 := (i 1).isLt
  unfold after5
  rw [trips5_eq, base5_eq]
  have := iter_keeps (grp5 P k v (BitVec.ofNat 32 (2 * (((i 1).val + 1) / 2))) (2 * (((i 1).val + 1) / 2)))
    (fun n s => StIs H (i 1).val Y9 Y10 (2 * (((i 1).val + 1) / 2) + 1 * n) s) (((i 1).val + 1) % 2) (fun n hn s hs => ?_) hs
  · rwa [show 2 * (((i 1).val + 1) / 2) + 1 * (((i 1).val + 1) % 2) = (i 1).val + 1 by omega] at this
  have e := word_tile ⟨2 * (((i 1).val + 1) / 2), by omega⟩ ⟨n, by omega⟩ 1 0
  exact step_word hκ hP hk hv (j := 2 * (((i 1).val + 1) / 2) + 1 * n + 0) (by omega) e hs

theorem zero_at {M N : ℕ} : Reals (M := M) (N := N) (fun _ => FloatOps.ofBits (F := Ideal) .f32 0x00000000#32) fun _ _ => 0 := fun r c => by
  show Ideal.ofBits .f32 0x00000000#32 = _
  rw [Ideal.ofBits_zero .f32, EReal.coe_zero]

theorem point_st (hκ : H.κ = kappa) {x2 : Vec Ideal S256x128 .bf16} {x5 : Vec Ideal S256x128 .f32} {x6 : Vec Ideal S1x256x1 .f32}
    {y9 y10 : Vec Ideal S2048x128 .f32}
    (h2 : Reals x2 fun r d => H.Q (256 * (i 1).val + r) d) (hk : Reals k H.K) (hv : Reals v H.V)
    (h5 : Reals x5 fun r d => H.G (256 * (i 1).val + r) d) (h6 : ∀ r : Fin 256, x6 (ix3 0 r 0) = ((H.lt (256 * (i 1).val + r.val) : ℝ) : EReal))
    (h9 : Reals y9 Y9) (h10 : Reals y10 Y10) : StIs H (i 1).val Y9 Y10 ((i 1).val + 1) (point i x2 k v x5 x6 y9 y10) := by
  have hP : CtxIs H (i 1).val (ctx i x2 x5 x6) := by
    refine ⟨h2, h5, fun r c => ?_, rfl, rfl, rfl, rfl⟩
    show shapeCast S256x1 x6 shapeCasts_S1x256x1_S256x1 (ix2 r c) = _
    pointwise
    exact h6 r
  refine after5_at hκ hP hk hv (after3_at hκ hP hk hv (after1_at hκ hP hk hv ?_))
  refine ⟨?_, ?_, ?_, h9.congr fun r c => by simp, h10.congr fun r c => by simp⟩
  · exact (zero_at (M := 256) (N := 1)).congr fun r c => by simp
  · exact (zero_at (M := 256) (N := 1)).congr fun r c => by simp
  · exact (zero_at (M := 256) (N := 128)).congr fun r c => by simp

end Point

end Cert.Proof.SB

end
-- ==== Proof.Arrays.lean ====
module

public import proofs.«01_k».proof.Proof.StepValue
public import proofs.«01_k».proof.Proof.HostRead
public import Idealize.ShloMosaic.Lib.Pipeline.ValueKit

/-! The three result arrays at the end of the run, over the extended reals: the formulas' gradients. -/

@[expose] public section

set_option maxRecDepth 16384
set_option maxHeartbeats 1000000

noncomputable section

namespace Cert.Proof.SB

open Cert.KernelIdeal Cert.KernelIdeal.Gen
open Idealize.ShloMosaic Idealize.ShloMosaic.Pipeline
open Idealize.ShloMosaic.TcCoe Idealize.ShloMosaic.Tactic
open Spec (ls kappa Head)
open scoped BigOperators

/-! ## Sums over the tiles -/

namespace Spec.Head

variable (H : Head)

theorem dq_part (t i d : ℕ) (ht : t < 256 * (i + 1)) (hi : i < 8) :
    ∑ x ∈ Finset.range (256 * (i + 1)), H.dz t x * H.K x d = H.dq t d := by
  refine Finset.sum_subset (fun x hx => ?_) fun x _ hx => ?_
  · rw [Finset.mem_range] at *; omega
  · rw [Finset.mem_range] at hx
    rw [H.dz_zero (by omega), zero_mul]

theorem dk_part (x i d : ℕ) :
    (∑ t ∈ Finset.range (256 * i), H.dz t x * H.Q t d) + (if x < 256 * (i + 1) then ∑ r : Fin 256, H.dz (256 * i + r.val) x * H.Q (256 * i + r.val) d else 0)
      = ∑ t ∈ Finset.range (256 * (i + 1)), H.dz t x * H.Q t d := by
  rw [sum_tile (fun t => H.dz t x * H.Q t d)]
  congr 1
  split
  · rfl
  · refine (Finset.sum_eq_zero fun r _ => ?_).symm
    rw [H.dz_zero (by omega), zero_mul]

theorem dv_part (x i d : ℕ) :
    (∑ t ∈ Finset.range (256 * i), H.w t x * H.G t d) + (if x < 256 * (i + 1) then ∑ r : Fin 256, H.w (256 * i + r.val) x * H.G (256 * i + r.val) d else 0)
      = ∑ t ∈ Finset.range (256 * (i + 1)), H.w t x * H.G t d := by
  rw [sum_tile (fun t => H.w t x * H.G t d)]
  congr 1
  split
  · rfl
  · refine (Finset.sum_eq_zero fun r _ => ?_).symm
    rw [H.w_zero (by omega), zero_mul]

end Spec.Head

/-! ## The windows -/

theorem index_0 : ∀ t : Fin cfg0.N, win0_0.index t = ![t.val % 8, t.val / 8] := by decide +kernel
theorem index_1 : ∀ t : Fin cfg0.N, win0_1.index t = ![0, 24 + t.val / 8] := by decide +kernel
theorem index_2 : ∀ t : Fin cfg0.N, win0_2.index t = ![0, t.val / 8] := by decide +kernel
theorem index_3 : ∀ t : Fin cfg0.N, win0_3.index t = ![t.val % 8, t.val / 8] := by decide +kernel
theorem index_4 : ∀ t : Fin cfg0.N, win0_4.index t = ![t.val / 8, t.val % 8, 0] := by decide +kernel
theorem index_5 : ∀ t : Fin cfg0.N, win0_5.index t = ![t.val % 8, t.val / 8] := by decide +kernel
theorem index_6 : ∀ t : Fin cfg0.N, win0_6.index t = ![0, t.val / 8] := by decide +kernel
theorem index_7 : ∀ t : Fin cfg0.N, win0_7.index t = ![0, 48 + t.val / 8] := by decide +kernel
theorem flush_6 : ∀ t : Fin cfg0.N, win0_6.flush t = true → t.val % 8 = 7 := by decide +kernel
theorem flush_7 : ∀ t : Fin cfg0.N, win0_7.flush t = true → t.val % 8 = 7 := by decide +kernel

section

variable (m : (ℓ : Loc nD τ sig) → Buf (Elt Ideal) ℓ) (c : Dev nD)
variable {a0 : S2048x6144.Idx → EReal} {a1 : S2048x14336.Idx → EReal} {a2 : S2048x4096.Idx → EReal} (hf : Finite a0 a1 a2)
variable (ha0 : m ((c.tc : Thread nD τ).loc main_arg0) = a0) (ha1 : m ((c.tc : Thread nD τ).loc main_arg1) = a1)
variable (ha2 : m ((c.tc : Thread nD τ).loc main_arg2) = a2)

theorem t_lt (t : Fin cfg0.N) : t.val / 8 < 24 := by
  have : t.val < 192 := t.isLt
  omega

include hf ha0 in
theorem blk_0 (t : Fin cfg0.N) : Reals (M := 256) (N := 128) (iblk m c 0 t) fun r d => (headOf a0 a1 a2 (t.val / 8)).Q (256 * (t.val % 8) + r) d := by
  intro r d
  have ht := t_lt t
  have e := q_coe hf ⟨t.val / 8, ht⟩ ⟨256 * (t.val % 8) + r.val, by omega⟩ d
  rw [← e, ← ha0, ← V_main_arg0 m c]
  blk_simp [iblk]
  congr 1
  blk_ext [index_0]

include hf ha0 in
theorem blk_1 (t : Fin cfg0.N) : Reals (M := 2048) (N := 128) (iblk m c 1 t) (headOf a0 a1 a2 (t.val / 8)).K := by
  intro r d
  have ht := t_lt t
  have e := k_coe hf ⟨t.val / 8, ht⟩ r d
  rw [← e, ← ha0, ← V_main_arg0 m c]
  blk_simp [iblk]
  congr 1
  blk_ext [index_1]

include hf ha1 in
theorem blk_2 (t : Fin cfg0.N) : Reals (M := 2048) (N := 128) (iblk m c 2 t) (headOf a0 a1 a2 (t.val / 8)).V := by
  intro r d
  have ht := t_lt t
  have e := v_coe hf ⟨t.val / 8, ht⟩ r d
  have e' := v_read m c r ⟨t.val / 8 * 128 + d.val, by omega⟩
  rw [ha1] at e'
  rw [← e, ← e']
  blk_simp [iblk]
  congr 1
  blk_ext [index_2]

include hf ha2 in
theorem blk_3 (t : Fin cfg0.N) : Reals (M := 256) (N := 128) (iblk m c 3 t) fun r d => (headOf a0 a1 a2 (t.val / 8)).G (256 * (t.val % 8) + r) d := by
  intro r d
  have ht := t_lt t
  have e := g_coe hf ⟨t.val / 8, ht⟩ ⟨256 * (t.val % 8) + r.val, by omega⟩ d
  rw [← e, ← ha2, ← V_main_arg2 m c]
  blk_simp [iblk]
  congr 1
  blk_ext [index_3]

include hf ha0 in
theorem blk_4 (t : Fin cfg0.N) (r : Fin 256) : iblk m c 4 t (ix3 0 r 0 : S1x256x1.Idx) = (((headOf a0 a1 a2 (t.val / 8)).lt (256 * (t.val % 8) + r.val) : ℝ) : EReal) := by
  have ht := t_lt t
  have e := lt_read m c hf ha0 ⟨t.val / 8, ht⟩ ⟨256 * (t.val % 8) + r.val, by omega⟩
  rw [← e]
  blk_simp [iblk]
  congr 1
  blk_ext [index_4]

include hf ha0 ha1 ha2 in
theorem pointAt_st (t : Fin cfg0.N) {Y9 Y10 : ℕ → ℕ → ℝ} {y9 y10 : Vec Ideal S2048x128 .f32} (h9 : Reals y9 Y9) (h10 : Reals y10 Y10) :
    StIs (headOf a0 a1 a2 (t.val / 8)) (t.val % 8) Y9 Y10 (t.val % 8 + 1) (pointAt m c t y9 y10) := by
  have e := coords_1 t
  unfold pointAt
  have := point_st (i := cfg0.grid.coords t) (H := headOf a0 a1 a2 (t.val / 8)) rfl (e.symm ▸ blk_0 m c hf ha0 t) (blk_1 m c hf ha0 t) (blk_2 m c hf ha1 t)
    (e.symm ▸ blk_3 m c hf ha2 t) (fun r => by rw [e]; exact blk_4 m c hf ha0 t r) h9 h10
  rw [e] at this
  exact this

include hf ha0 ha1 ha2 in
/-- What a point leaves. -/
theorem outsAt_st : ∀ (n : ℕ) (h : n < cfg0.N),
    StIs (headOf a0 a1 a2 (n / 8)) (n % 8) (fun x d => ∑ t ∈ Finset.range (256 * (n % 8)), (headOf a0 a1 a2 (n / 8)).dz t x * (headOf a0 a1 a2 (n / 8)).Q t d)
      (fun x d => ∑ t ∈ Finset.range (256 * (n % 8)), (headOf a0 a1 a2 (n / 8)).w t x * (headOf a0 a1 a2 (n / 8)).G t d) (n % 8 + 1) (outsAt m c n h)
  | 0, h => by
    refine pointAt_st m c hf ha0 ha1 ha2 ⟨0, h⟩ ?_ ?_
    · exact (zero_at (M := 2048) (N := 128)).congr fun r c => by simp
    · exact (zero_at (M := 2048) (N := 128)).congr fun r c => by simp
  | n + 1, h => by
    rw [outsAt]
    split
    · rename_i hn
      refine pointAt_st m c hf ha0 ha1 ha2 ⟨n + 1, h⟩ ?_ ?_
      · exact (zero_at (M := 2048) (N := 128)).congr fun r c => by simp [hn]
      · exact (zero_at (M := 2048) (N := 128)).congr fun r c => by simp [hn]
    · rename_i hn
      have ih := outsAt_st n (Nat.lt_of_succ_lt h)
      have e1 : (n + 1) / 8 = n / 8 := by omega
      have e2 : (n + 1) % 8 = n % 8 + 1 := by omega
      refine pointAt_st m c hf ha0 ha1 ha2 ⟨n + 1, h⟩ ?_ ?_
      · exact ih.dk.congr fun r c => by rw [e1, e2]; exact Spec.Head.dk_part _ _ _ _
      · exact ih.dv.congr fun r c => by rw [e1, e2]; exact Spec.Head.dv_part _ _ _ _

/-! ## The arrays -/

/-- A matrix of the heads' rows side by side. -/
def wide (f : ℕ → ℕ → ℕ → ℝ) (t c : ℕ) : ℝ := f (c / 128) t (c % 128)

theorem wide_at (f : ℕ → ℕ → ℕ → ℝ) (h t d : ℕ) (hd : d < 128) : wide f t (h * 128 + d) = f h t d := by
  unfold wide
  rw [show (h * 128 + d) / 128 = h by omega, show (h * 128 + d) % 128 = d by omega]

/-- The three gradients as arrays. -/
def dqArr (a0 : S2048x6144.Idx → EReal) (a1 : S2048x14336.Idx → EReal) (a2 : S2048x4096.Idx → EReal) : S2048x3072.Idx → EReal :=
  fun j => ((wide (fun h => (headOf a0 a1 a2 h).dq) (j 0).val (j 1).val : ℝ) : EReal)
def dkArr (a0 : S2048x6144.Idx → EReal) (a1 : S2048x14336.Idx → EReal) (a2 : S2048x4096.Idx → EReal) : S2048x3072.Idx → EReal :=
  fun j => ((wide (fun h => (headOf a0 a1 a2 h).dk) (j 0).val (j 1).val : ℝ) : EReal)
def dvCols (a0 : S2048x6144.Idx → EReal) (a1 : S2048x14336.Idx → EReal) (a2 : S2048x4096.Idx → EReal) : S2048x14336.Idx → EReal :=
  fun j => ((wide (fun h => (headOf a0 a1 a2 (h - 48)).dv) (j 0).val (j 1).val : ℝ) : EReal)
def dvArr (a0 : S2048x6144.Idx → EReal) (a1 : S2048x14336.Idx → EReal) (a2 : S2048x4096.Idx → EReal) (a3 : S2048x14336.Idx → EReal) :
    S2048x14336.Idx → EReal :=
  fun j => if 48 ≤ (j 1).val / 128 ∧ (j 1).val / 128 < 72 then dvCols a0 a1 a2 j else a3 j

include hf ha0 ha1 ha2

theorem final_5 : (dats m 0 c).arrAt 5 cfg0.N = dqArr a0 a1 a2 := by
  refine (dats m 0 c).arrAt_eq_of_covers 5 _ (by decide +kernel) fun t hfl y => ?_
  blk_simp
  rw [after0_5]
  have ht := t_lt t
  obtain ⟨r, d, rfl⟩ : ∃ (r : Fin 256) (d : Fin 128), y = ix2 r d := ⟨y 0, y 1, eq_ix2 _⟩
  refine ((outsAt_st m c hf ha0 ha1 ha2 t.val t.isLt).dq r d).trans ?_
  beta_reduce
  rw [Spec.Head.dq_part _ _ _ _ (by omega) (by omega)]
  have e : (win0_5.blk t).view.emb (ix2 r d) = ix2 (⟨256 * (t.val % 8) + r.val, by omega⟩ : Fin 2048) (⟨t.val / 8 * 128 + d.val, by omega⟩ : Fin 3072) := by
    blk_ext [index_5]
  rw [e]
  exact congrArg _ (wide_at (fun h => (headOf a0 a1 a2 h).dq) (t.val / 8) (256 * (t.val % 8) + r.val) d.val d.isLt).symm

theorem final_6 : (dats m 0 c).arrAt 6 cfg0.N = dkArr a0 a1 a2 := by
  refine (dats m 0 c).arrAt_eq_of_covers 6 _ (by decide +kernel) fun t hfl y => ?_
  have h7 := flush_6 t hfl
  blk_simp
  rw [after0_6]
  have ht := t_lt t
  obtain ⟨r, d, rfl⟩ : ∃ (r : Fin 2048) (d : Fin 128), y = ix2 r d := ⟨y 0, y 1, eq_ix2 _⟩
  refine ((outsAt_st m c hf ha0 ha1 ha2 t.val t.isLt).dk r d).trans ?_
  beta_reduce
  rw [Spec.Head.dk_part, h7]
  have e : (win0_6.blk t).view.emb (ix2 r d) = ix2 r (⟨t.val / 8 * 128 + d.val, by omega⟩ : Fin 3072) := by
    blk_ext [index_6]
  rw [e]
  exact congrArg _ (wide_at (fun h => (headOf a0 a1 a2 h).dk) (t.val / 8) r.val d.val d.isLt).symm

theorem final_7 {a3 : S2048x14336.Idx → EReal} (ha3 : m ((c.tc : Thread nD τ).loc main_arg3) = a3) :
    (dats m 0 c).arrAt 7 cfg0.N = dvArr a0 a1 a2 a3 := by
  refine ((dats m 0 c).arrAt_eq_of_coversWhere (P := fun j : S2048x14336.Idx => 48 ≤ (j 1).val / 128 ∧ (j 1).val / 128 < 72) 7
    (dvCols a0 a1 a2)
    (fun β : Fin 2 → ℕ => 48 ≤ β 1 ∧ β 1 < 72) (by decide +kernel) (fun t hfl y => ?_) (fun j => Iff.rfl)).trans ?_
  · have h7 := flush_7 t hfl
    blk_simp
    rw [after0_7]
    have ht := t_lt t
    obtain ⟨r, d, rfl⟩ : ∃ (r : Fin 2048) (d : Fin 128), y = ix2 r d := ⟨y 0, y 1, eq_ix2 _⟩
    refine ((outsAt_st m c hf ha0 ha1 ha2 t.val t.isLt).dv r d).trans ?_
    beta_reduce
    rw [Spec.Head.dv_part, h7]
    have e : (win0_7.blk t).view.emb (ix2 r d) = ix2 r (⟨(48 + t.val / 8) * 128 + d.val, by omega⟩ : Fin 14336) := by
      blk_ext [index_7]
    rw [e]
    refine congrArg _ ((wide_at (fun h => (headOf a0 a1 a2 (h - 48)).dv) (48 + t.val / 8) r.val d.val d.isLt).trans ?_).symm
    beta_reduce
    rw [show 48 + t.val / 8 - 48 = t.val / 8 by omega]
    rfl
  · funext j
    unfold dvArr
    rw [A_eq, ← ha3, ← dproj_read m c]

end

end Cert.Proof.SB

end
-- ==== Proof.Equal.lean ====
module

public import proofs.«01_k».proof.Proof.RefValue
public import proofs.«01_k».proof.Proof.Arrays

/-! The reference's results are the arrays the kernel leaves. -/

@[expose] public section

set_option maxRecDepth 16384
set_option maxHeartbeats 1000000

noncomputable section

namespace Cert.Proof.SB

open Cert.ReferenceIdeal Cert.ReferenceIdeal.Read
open Idealize.ShloMosaic
open Spec (ls kappa Head)
open scoped BigOperators

variable {x0 : S2048x6144.Idx → EReal} {x1 : S2048x14336.Idx → EReal} {x2 : S2048x4096.Idx → EReal} (hf : Finite x0 x1 x2)

include hf

theorem ref_dq : val_main_v58 (F := Ideal) x0 x1 x2 = dqArr x0 x1 x2 := by
  funext j
  obtain ⟨t, c, rfl⟩ : ∃ (t : Fin 2048) (c : Fin 3072), j = ix2 t c := ⟨j 0, j 1, eq_ix2 _⟩
  have hc := c.isLt
  have e := Ref.dq_at hf t ⟨c.val / 128, by omega⟩ ⟨c.val % 128, by omega⟩
  rw [show (⟨c.val / 128 * 128 + c.val % 128, by omega⟩ : Fin 3072) = c from Fin.ext (by show c.val / 128 * 128 + c.val % 128 = c.val; omega)] at e
  exact e

theorem ref_dk : val_main_v56 (F := Ideal) x0 x1 x2 = dkArr x0 x1 x2 := by
  funext j
  obtain ⟨t, c, rfl⟩ : ∃ (t : Fin 2048) (c : Fin 3072), j = ix2 t c := ⟨j 0, j 1, eq_ix2 _⟩
  have hc := c.isLt
  have e := Ref.dk_at hf t ⟨c.val / 128, by omega⟩ ⟨c.val % 128, by omega⟩
  rw [show (⟨c.val / 128 * 128 + c.val % 128, by omega⟩ : Fin 3072) = c from Fin.ext (by show c.val / 128 * 128 + c.val % 128 = c.val; omega)] at e
  exact e

omit hf in
theorem dvCols_at (x0 : S2048x6144.Idx → EReal) (x1 : S2048x14336.Idx → EReal) (x2 : S2048x4096.Idx → EReal) (t : Fin 2048) (c : Fin 14336) (h : ℕ)
    (hh : h = c.val / 128 - 48) : dvCols x0 x1 x2 (ix2 t c) = (((headOf x0 x1 x2 h).dv t.val (c.val % 128) : ℝ) : EReal) := by
  subst hh
  rfl

theorem ref_dv (x3 : S2048x14336.Idx → EReal) : val_main_v61 (F := Ideal) x0 x2 x3 = dvArr x0 x1 x2 x3 := by
  funext j
  obtain ⟨t, c, rfl⟩ : ∃ (t : Fin 2048) (c : Fin 14336), j = ix2 t c := ⟨j 0, j 1, eq_ix2 _⟩
  have hc := c.isLt
  unfold val_main_v61 val_main_v59 val_main_v60
  pointwise
  show _ = if 48 ≤ c.val / 128 ∧ c.val / 128 < 72 then dvCols x0 x1 x2 (ix2 t c) else x3 (ix2 t c)
  split
  · have hp : ¬ (48 ≤ c.val / 128 ∧ c.val / 128 < 72) := by omega
    rw [if_neg hp]
  · split
    · have hp : 48 ≤ c.val / 128 ∧ c.val / 128 < 72 := by omega
      rw [if_pos hp]
      have e := Ref.dv_at hf t ⟨c.val / 128 - 48, by omega⟩ ⟨c.val % 128, by omega⟩
      rw [show (⟨(c.val / 128 - 48) * 128 + c.val % 128, by omega⟩ : Fin 3072) = ⟨c.val - 6144, by omega⟩ from
        Fin.ext (by show (c.val / 128 - 48) * 128 + c.val % 128 = c.val - 6144; omega)] at e
      exact e.trans (dvCols_at x0 x1 x2 t c (c.val / 128 - 48) rfl).symm
    · have hp : ¬ (48 ≤ c.val / 128 ∧ c.val / 128 < 72) := by omega
      rw [if_neg hp]
      exact congrArg (fun c' => x3 (ix2 t c')) (Fin.ext (show 9216 + (c.val - 6144 - 3072) = c.val by omega))

end Cert.Proof.SB

end
-- ==== Proof.lean ====
/- The claims about the backward kernel of stick-breaking attention, about the matrix products, about the norms and about the optimiser, put together from the modules under `Proof/`. -/
module

public import proofs.«01_k».proof.Defs
public import proofs.«01_k».proof.Proof.Gen.Kernel2.Frame
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.MatDwSb
public import proofs.«01_k».proof.Proof.Gen.Kernel3.Frame
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.MatDhSb
public import proofs.«01_k».proof.Proof.Gen.Kernel4.Frame
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.MatProjSb
public import proofs.«01_k».proof.Proof.Gen.Kernel5.Frame
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.MatDwDn
public import proofs.«01_k».proof.Proof.Gen.Kernel6.Frame
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.MatDwOut
public import proofs.«01_k».proof.Proof.Gen.Kernel7.Frame
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.MatDyOut
public import proofs.«01_k».proof.Proof.Gen.Kernel8.Frame
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.MatOutProj
public import proofs.«01_k».proof.Proof.Gen.Kernel9.Frame
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import proofs.«01_k».proof.Proof.NormBwd
public import proofs.«01_k».proof.Proof.Gen.Kernel10.Frame
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import proofs.«01_k».proof.Proof.MatKv
public import proofs.«01_k».proof.Proof.Gen.Kernel11.Frame
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import proofs.«01_k».proof.Proof.MatDwKv
public import proofs.«01_k».proof.Proof.Gen.Kernel12.Frame
public import proofs.«01_k».proof.Proof.Gen.Kernel12
public import proofs.«01_k».proof.Proof.Gen.Kernel12Ideal.Value
public import proofs.«01_k».proof.Proof.Gen.Reference12Ideal.Run
public import proofs.«01_k».proof.Proof.Gen.Reference12Ideal.Read
public import proofs.«01_k».proof.Proof.MatDmemN
public import proofs.«01_k».proof.Proof.Gen.Kernel13.Frame
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import proofs.«01_k».proof.Proof.MatDmemN1
public import proofs.«01_k».proof.Proof.Gen.Kernel14.Frame
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read
public import proofs.«01_k».proof.Proof.AdamSb
public import proofs.«01_k».proof.Proof.Gen.Kernel15.Frame
public import proofs.«01_k».proof.Proof.Gen.Kernel15
public import proofs.«01_k».proof.Proof.Gen.Kernel15Ideal.Value
public import proofs.«01_k».proof.Proof.Gen.Reference15Ideal.Run
public import proofs.«01_k».proof.Proof.Gen.Reference15Ideal.Read
public import proofs.«01_k».proof.Proof.AdamOut
public import proofs.«01_k».proof.Proof.Gen.Kernel16.Frame
public import proofs.«01_k».proof.Proof.Gen.Kernel16
public import proofs.«01_k».proof.Proof.Gen.Kernel16Ideal.Value
public import proofs.«01_k».proof.Proof.Gen.Reference16Ideal.Run
public import proofs.«01_k».proof.Proof.Gen.Reference16Ideal.Read
public import proofs.«01_k».proof.Proof.AdamKv
public import proofs.«01_k».proof.Proof.Gen.Kernel17.Frame
public import proofs.«01_k».proof.Proof.Gen.Kernel17
public import proofs.«01_k».proof.Proof.Gen.Kernel17Ideal.Value
public import proofs.«01_k».proof.Proof.Gen.Reference17Ideal.Run
public import proofs.«01_k».proof.Proof.Gen.Reference17Ideal.Read
public import proofs.«01_k».proof.Proof.AdamDn
public import proofs.«01_k».proof.Proof.Gen.Kernel18.Frame
public import proofs.«01_k».proof.Proof.Gen.Kernel18
public import proofs.«01_k».proof.Proof.Gen.Kernel18Ideal.Value
public import proofs.«01_k».proof.Proof.Gen.Reference18Ideal.Run
public import proofs.«01_k».proof.Proof.Gen.Reference18Ideal.Read
public import proofs.«01_k».proof.Proof.AdamSmall
public import proofs.«01_k».proof.Proof.Gen.Kernel19.Frame
public import proofs.«01_k».proof.Proof.Gen.Kernel19
public import proofs.«01_k».proof.Proof.Gen.Kernel19Ideal.Value
public import proofs.«01_k».proof.Proof.Gen.Reference19Ideal.Run
public import proofs.«01_k».proof.Proof.Gen.Reference19Ideal.Read
public import proofs.«01_k».proof.Proof.Loss
public import proofs.«01_k».proof.Proof.Gen.Kernel22.Frame
public import proofs.«01_k».proof.Proof.Gen.Kernel22
public import proofs.«01_k».proof.Proof.Gen.Kernel22Ideal.Value
public import proofs.«01_k».proof.Proof.Gen.Reference22Ideal.Run
public import proofs.«01_k».proof.Proof.Gen.Reference22Ideal.Read
public import proofs.«01_k».proof.Proof.RmsFwd
public import proofs.«01_k».proof.Proof.Gen.Kernel23.Frame
public import proofs.«01_k».proof.Proof.Gen.Kernel23
public import proofs.«01_k».proof.Proof.Gen.Kernel23Ideal.Value
public import proofs.«01_k».proof.Proof.Gen.Reference23Ideal.Run
public import proofs.«01_k».proof.Proof.Gen.Reference23Ideal.Read
public import proofs.«01_k».proof.Proof.GateFwd
public import proofs.«01_k».proof.Proof.Gen.Kernel25.Frame
public import proofs.«01_k».proof.Proof.Gen.Kernel25
public import proofs.«01_k».proof.Proof.Gen.Kernel25Ideal.Value
public import proofs.«01_k».proof.Proof.Gen.Reference25Ideal.Run
public import proofs.«01_k».proof.Proof.Gen.Reference25Ideal.Read
public import proofs.«01_k».proof.Proof.MemNorm
public import proofs.«01_k».proof.Proof.Gen.Kernel26.Frame
public import proofs.«01_k».proof.Proof.Gen.Kernel26
public import proofs.«01_k».proof.Proof.Gen.Kernel26Ideal.Value
public import proofs.«01_k».proof.Proof.Gen.Reference26Ideal.Run
public import proofs.«01_k».proof.Proof.Gen.Reference26Ideal.Read
public import proofs.«01_k».proof.Proof.GateFwdDn
public import proofs.«01_k».proof.Proof.Gen.Kernel27.Frame
public import proofs.«01_k».proof.Proof.Gen.Kernel27
public import proofs.«01_k».proof.Proof.Gen.Kernel27Ideal.Value
public import proofs.«01_k».proof.Proof.Gen.Reference27Ideal.Run
public import proofs.«01_k».proof.Proof.Gen.Reference27Ideal.Read
public import proofs.«01_k».proof.Proof.MemNormBwd
public import proofs.«01_k».proof.Proof.SameText
public import proofs.«01_k».proof.Proof.Gen.Kernel
public import proofs.«01_k».proof.Proof.Gen.ReferenceIdeal.Run
public import proofs.«01_k».proof.Proof.Equal

@[expose] public section

noncomputable section

namespace Cert.Proof

open Idealize.ShloMosaic Idealize.SL.Sem

theorem frame_ideal : Cert.quiescent_KernelIdeal := fun m ρ _ => SB.frame (F := Ideal) m ρ

instance : Cert.Pre_finite.Facts := SB.pre_facts

theorem algebraic : Cert.algebraic_KernelIdeal_ReferenceIdeal_pre_finite := by
  intro m g m' g' hpre hag
  have hf := fun c => SB.finite_of_pre _ _ _ _ (hpre c)
  refine ⟨fun c => SB.dqArr (m ((c.tc : Thread _ _).loc Cert.KernelIdeal.main_arg0)) (m ((c.tc : Thread _ _).loc Cert.KernelIdeal.main_arg1)) (m ((c.tc : Thread _ _).loc Cert.KernelIdeal.main_arg2)),
    fun c => SB.dkArr (m ((c.tc : Thread _ _).loc Cert.KernelIdeal.main_arg0)) (m ((c.tc : Thread _ _).loc Cert.KernelIdeal.main_arg1)) (m ((c.tc : Thread _ _).loc Cert.KernelIdeal.main_arg2)),
    fun c => SB.dvArr (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)), ?_, ?_⟩
  · refine (θ_run _ _ _).mono (fun r h c => ?_) (SB.run_main (F := Ideal) m g)
    have h' := h.1 c
    exact ⟨(h'.1 5).trans (SB.final_5 m c (hf c) rfl rfl rfl), (h'.1 6).trans (SB.final_6 m c (hf c) rfl rfl rfl), (h'.1 7).trans (SB.final_7 m c (hf c) rfl rfl rfl rfl),
      (h'.1 1).trans (((SB.dats m 0 c).arrAt_in 1 rfl _).trans (Cert.KernelIdeal.Gen.V_main_arg0 m c)),
      (h'.2 Cert.KernelIdeal.main_arg1 (Pipeline.mem_restRefs_of Cert.KernelIdeal.main_arg1 (by decide) (by decide))).trans (Cert.KernelIdeal.Gen.V_main_arg1 m c),
      (h'.1 3).trans (((SB.dats m 0 c).arrAt_in 3 rfl _).trans (Cert.KernelIdeal.Gen.V_main_arg2 m c)),
      (h'.2 Cert.KernelIdeal.main_arg3 (Pipeline.mem_restRefs_of Cert.KernelIdeal.main_arg3 (by decide) (by decide))).trans (Cert.KernelIdeal.Gen.V_main_arg3 m c)⟩
  · refine (θ_run _ _ _).mono (fun r h c => ?_) (Cert.ReferenceIdeal.Value.run (F := Ideal) m' g')
    obtain ⟨h0, h1, h2, h3⟩ := h c
    obtain ⟨e0, e1, e2, e3⟩ := hag c
    refine ⟨h0.trans ((Cert.ReferenceIdeal.Read.val_main_v58_eq _).trans ?_), h1.trans ((Cert.ReferenceIdeal.Read.val_main_v56_eq _).trans ?_),
      h2.trans ((Cert.ReferenceIdeal.Read.val_main_v61_eq _).trans ?_), h3⟩
    · refine Eq.trans ?_ (SB.ref_dq (hf c))
      rw [← e0, ← e1, ← e2]
    · refine Eq.trans ?_ (SB.ref_dk (hf c))
      rw [← e0, ← e1, ← e2]
    · refine Eq.trans ?_ (SB.ref_dv (hf c) _)
      rw [← e0, ← e2, ← e3]

theorem frame_reference : Cert.quiescent_ReferenceIdeal := fun m ρ _ =>
  (θ_run _ _ _).mono (fun r h => ⟨fun c => (h c).2.2.2, sem_eq_zero_of_no_sems (by decide) r.2⟩) (Cert.ReferenceIdeal.Value.run (F := Ideal) m ρ)

/-- The values of the gradient of the stick-breaking projection matrix. -/
theorem algebraic_2 : Cert.algebraic_Kernel2Ideal_Reference2Ideal := by
  intro m g m' g' _ hag
  refine ⟨fun c => DwSb.arr (m ((c.tc : Thread _ _).loc Cert.Kernel2Ideal.main_arg0)) (m ((c.tc : Thread _ _).loc Cert.Kernel2Ideal.main_arg1)), ?_, ?_⟩
  · exact (θ_run _ _ _).mono (fun r h c => ⟨(h c).1.trans (DwSb.final m c), (h c).2⟩) (Cert.Kernel2Ideal.Value.run_blocks (F := Ideal) m g)
  · refine (θ_run _ _ _).mono (fun r h c => ?_) (Cert.Reference2Ideal.Value.run (F := Ideal) m' g')
    obtain ⟨e0, e1⟩ := hag c
    refine ⟨(h c).1.trans ((Cert.Reference2Ideal.Read.val_main_v7_eq _ _).trans ((DwSb.reference_eq _ _).trans ?_)), (h c).2⟩
    rw [e0, e1]

theorem frame_reference_2 : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- The values of the gradient of the stick-breaking layer's input. -/
theorem algebraic_3 : Cert.algebraic_Kernel3Ideal_Reference3Ideal := by
  intro m g m' g' _ hag
  refine ⟨fun c => DhSb.arr (m ((c.tc : Thread _ _).loc Cert.Kernel3Ideal.main_arg0)) (m ((c.tc : Thread _ _).loc Cert.Kernel3Ideal.main_arg1)), ?_, ?_⟩
  · exact (θ_run _ _ _).mono (fun r h c => ⟨(h c).1.trans (DhSb.final m c), (h c).2⟩) (Cert.Kernel3Ideal.Value.run_blocks (F := Ideal) m g)
  · refine (θ_run _ _ _).mono (fun r h c => ?_) (Cert.Reference3Ideal.Value.run (F := Ideal) m' g')
    obtain ⟨e0, e1⟩ := hag c
    refine ⟨(h c).1.trans ((Cert.Reference3Ideal.Read.val_main_v2_eq _ _).trans ((DhSb.reference_eq _ _).trans ?_)), (h c).2⟩
    rw [e0, e1]

theorem frame_reference_3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The values of the stick-breaking projection. -/
theorem algebraic_4 : Cert.algebraic_Kernel4Ideal_Reference4Ideal := by
  intro m g m' g' _ hag
  refine ⟨fun c => ProjSb.arr (m ((c.tc : Thread _ _).loc Cert.Kernel4Ideal.main_arg0)) (m ((c.tc : Thread _ _).loc Cert.Kernel4Ideal.main_arg1)), ?_, ?_⟩
  · exact (θ_run _ _ _).mono (fun r h c => ⟨(h c).1.trans (ProjSb.final m c), (h c).2⟩) (Cert.Kernel4Ideal.Value.run_blocks (F := Ideal) m g)
  · refine (θ_run _ _ _).mono (fun r h c => ?_) (Cert.Reference4Ideal.Value.run (F := Ideal) m' g')
    obtain ⟨e0, e1⟩ := hag c
    refine ⟨(h c).1.trans ((Cert.Reference4Ideal.Read.val_main_v1_eq _ _).trans ((ProjSb.reference_eq _ _).trans ?_)), (h c).2⟩
    rw [e0, e1]

theorem frame_reference_4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The values of the gradient of the delta-net projection matrix. -/
theorem algebraic_5 : Cert.algebraic_Kernel5Ideal_Reference5Ideal := by
  intro m g m' g' _ hag
  refine ⟨fun c => DwDn.arr (m ((c.tc : Thread _ _).loc Cert.Kernel5Ideal.main_arg0)) (m ((c.tc : Thread _ _).loc Cert.Kernel5Ideal.main_arg1)), ?_, ?_⟩
  · exact (θ_run _ _ _).mono (fun r h c => ⟨(h c).1.trans (DwDn.final m c), (h c).2⟩) (Cert.Kernel5Ideal.Value.run_blocks (F := Ideal) m g)
  · refine (θ_run _ _ _).mono (fun r h c => ?_) (Cert.Reference5Ideal.Value.run (F := Ideal) m' g')
    obtain ⟨e0, e1⟩ := hag c
    refine ⟨(h c).1.trans ((Cert.Reference5Ideal.Read.val_main_v5_eq _ _).trans ((DwDn.reference_eq _ _).trans ?_)), (h c).2⟩
    rw [e0, e1]

theorem frame_reference_5 : Cert.quiescent_Reference5Ideal := fun m ρ _ =>
  (θ_run _ _ _).mono (fun r h => ⟨fun c => (h c).2, sem_eq_zero_of_no_sems (by decide) r.2⟩) (Cert.Reference5Ideal.Value.run (F := Ideal) m ρ)

/-- The values of the gradient of the output matrix. -/
theorem algebraic_6 : Cert.algebraic_Kernel6Ideal_Reference6Ideal := by
  intro m g m' g' _ hag
  refine ⟨fun c => DwOut.arr (m ((c.tc : Thread _ _).loc Cert.Kernel6Ideal.main_arg0)) (m ((c.tc : Thread _ _).loc Cert.Kernel6Ideal.main_arg1)), ?_, ?_⟩
  · exact (θ_run _ _ _).mono (fun r h c => ⟨(h c).1.trans (DwOut.final m c), (h c).2⟩) (Cert.Kernel6Ideal.Value.run_blocks (F := Ideal) m g)
  · refine (θ_run _ _ _).mono (fun r h c => ?_) (Cert.Reference6Ideal.Value.run (F := Ideal) m' g')
    obtain ⟨e0, e1⟩ := hag c
    refine ⟨(h c).1.trans ((Cert.Reference6Ideal.Read.val_main_v5_eq _ _).trans ((DwOut.reference_eq _ _).trans ?_)), (h c).2⟩
    rw [e0, e1]

theorem frame_reference_6 : Cert.quiescent_Reference6Ideal := fun m ρ _ =>
  (θ_run _ _ _).mono (fun r h => ⟨fun c => (h c).2, sem_eq_zero_of_no_sems (by decide) r.2⟩) (Cert.Reference6Ideal.Value.run (F := Ideal) m ρ)

/-- The values of the gradient of the attention output. -/
theorem algebraic_7 : Cert.algebraic_Kernel7Ideal_Reference7Ideal := by
  intro m g m' g' _ hag
  refine ⟨fun c => DyOut.arr (m ((c.tc : Thread _ _).loc Cert.Kernel7Ideal.main_arg0)) (m ((c.tc : Thread _ _).loc Cert.Kernel7Ideal.main_arg1)), ?_, ?_⟩
  · exact (θ_run _ _ _).mono (fun r h c => ⟨(h c).1.trans (DyOut.final m c), (h c).2⟩) (Cert.Kernel7Ideal.Value.run_blocks (F := Ideal) m g)
  · refine (θ_run _ _ _).mono (fun r h c => ?_) (Cert.Reference7Ideal.Value.run (F := Ideal) m' g')
    obtain ⟨e0, e1⟩ := hag c
    refine ⟨(h c).1.trans ((Cert.Reference7Ideal.Read.val_main_v2_eq _ _).trans ((DyOut.reference_eq _ _).trans ?_)), (h c).2⟩
    rw [e0, e1]

theorem frame_reference_7 : Cert.quiescent_Reference7Ideal := fun m ρ _ =>
  (θ_run _ _ _).mono (fun r h => ⟨fun c => (h c).2, sem_eq_zero_of_no_sems (by decide) r.2⟩) (Cert.Reference7Ideal.Value.run (F := Ideal) m ρ)

/-- The values of the output projection. -/
theorem algebraic_8 : Cert.algebraic_Kernel8Ideal_Reference8Ideal := by
  intro m g m' g' _ hag
  refine ⟨fun c => OutProj.arr (m ((c.tc : Thread _ _).loc Cert.Kernel8Ideal.main_arg0)) (m ((c.tc : Thread _ _).loc Cert.Kernel8Ideal.main_arg1)) (m ((c.tc : Thread _ _).loc Cert.Kernel8Ideal.main_arg2)), ?_, ?_⟩
  · exact (θ_run _ _ _).mono (fun r h c => ⟨(h c).1.trans (OutProj.final m c), (h c).2⟩) (Cert.Kernel8Ideal.Value.run_blocks (F := Ideal) m g)
  · refine (θ_run _ _ _).mono (fun r h c => ?_) (Cert.Reference8Ideal.Value.run (F := Ideal) m' g')
    obtain ⟨e0, e1, e2⟩ := hag c
    refine ⟨(h c).1.trans ((Cert.Reference8Ideal.Read.val_main_v2_eq _ _ _).trans ((OutProj.reference_eq _ _ _).trans ?_)), (h c).2⟩
    rw [e0, e1, e2]

theorem frame_reference_8 : Cert.quiescent_Reference8Ideal := fun m ρ _ =>
  (θ_run _ _ _).mono (fun r h => ⟨fun c => (h c).2, sem_eq_zero_of_no_sems (by decide) r.2⟩) (Cert.Reference8Ideal.Value.run (F := Ideal) m ρ)

theorem algebraic_9 : Cert.algebraic_Kernel9Ideal_Reference9Ideal := by
  intro m g m' g' _ hag
  refine ⟨fun c => NormBwd.dxArr (m ((c.tc : Thread _ _).loc Cert.Kernel9Ideal.main_arg0)) (m ((c.tc : Thread _ _).loc Cert.Kernel9Ideal.main_arg1))
      (m ((c.tc : Thread _ _).loc Cert.Kernel9Ideal.main_arg2)) (m ((c.tc : Thread _ _).loc Cert.Kernel9Ideal.main_arg3)),
    fun c => NormBwd.dgArr (m ((c.tc : Thread _ _).loc Cert.Kernel9Ideal.main_arg0)) (m ((c.tc : Thread _ _).loc Cert.Kernel9Ideal.main_arg1)), ?_, ?_⟩
  · exact (θ_run _ _ _).mono (fun r h c => ⟨(h c).1.trans (NormBwd.final_4 m c), (h c).2.1.trans (NormBwd.final_5 m c), (h c).2.2⟩) (Cert.Kernel9Ideal.Value.run_blocks (F := Ideal) m g)
  · refine (θ_run _ _ _).mono (fun r h c => ?_) (Cert.Reference9Ideal.Value.run (F := Ideal) m' g')
    obtain ⟨e0, e1, e2, e3⟩ := hag c
    refine ⟨(h c).1.trans ((Cert.Reference9Ideal.Read.val_main_v36_eq _ _ _ _).trans ((NormBwd.ref_dx _ _ _ _).trans ?_)),
      (h c).2.1.trans ((Cert.Reference9Ideal.Read.val_main_v39_eq _ _).trans ((NormBwd.ref_dg _ _).trans ?_)), (h c).2.2⟩
    · rw [e0, e1, e2, e3]
    · rw [e0, e1]

theorem frame_reference_9 : Cert.quiescent_Reference9Ideal := fun m ρ _ =>
  (θ_run _ _ _).mono (fun r h => ⟨fun c => (h c).2.2, sem_eq_zero_of_no_sems (by decide) r.2⟩) (Cert.Reference9Ideal.Value.run (F := Ideal) m ρ)

theorem algebraic_10 : Cert.algebraic_Kernel10Ideal_Reference10Ideal := by
  intro m g m' g' _ hag
  refine ⟨fun c => Kv.arr (m ((c.tc : Thread _ _).loc Cert.Kernel10Ideal.main_arg0)) (m ((c.tc : Thread _ _).loc Cert.Kernel10Ideal.main_arg1)), ?_, ?_⟩
  · exact (θ_run _ _ _).mono (fun r h c => ⟨(h c).1.trans (Kv.final m c), (h c).2⟩) (Cert.Kernel10Ideal.Value.run_blocks (F := Ideal) m g)
  · refine (θ_run _ _ _).mono (fun r h c => ?_) (Cert.Reference10Ideal.Value.run (F := Ideal) m' g')
    obtain ⟨e0, e1⟩ := hag c
    refine ⟨(h c).1.trans ((Cert.Reference10Ideal.Read.val_main_v1_eq _ _).trans ((Kv.reference_eq _ _).trans ?_)), (h c).2⟩
    rw [e0, e1]

theorem frame_reference_10 : Cert.quiescent_Reference10Ideal := fun m ρ _ =>
  (θ_run _ _ _).mono (fun r h => ⟨fun c => (h c).2, sem_eq_zero_of_no_sems (by decide) r.2⟩) (Cert.Reference10Ideal.Value.run (F := Ideal) m ρ)

theorem algebraic_11 : Cert.algebraic_Kernel11Ideal_Reference11Ideal := by
  intro m g m' g' _ hag
  refine ⟨fun c => DwKv.arr (m ((c.tc : Thread _ _).loc Cert.Kernel11Ideal.main_arg0)) (m ((c.tc : Thread _ _).loc Cert.Kernel11Ideal.main_arg1)), ?_, ?_⟩
  · exact (θ_run _ _ _).mono (fun r h c => ⟨(h c).1.trans (DwKv.final m c), (h c).2⟩) (Cert.Kernel11Ideal.Value.run_blocks (F := Ideal) m g)
  · refine (θ_run _ _ _).mono (fun r h c => ?_) (Cert.Reference11Ideal.Value.run (F := Ideal) m' g')
    obtain ⟨e0, e1⟩ := hag c
    refine ⟨(h c).1.trans ((Cert.Reference11Ideal.Read.val_main_v5_eq _ _).trans ((DwKv.reference_eq _ _).trans ?_)), (h c).2⟩
    rw [e0, e1]

theorem frame_reference_11 : Cert.quiescent_Reference11Ideal := fun m ρ _ =>
  (θ_run _ _ _).mono (fun r h => ⟨fun c => (h c).2, sem_eq_zero_of_no_sems (by decide) r.2⟩) (Cert.Reference11Ideal.Value.run (F := Ideal) m ρ)

theorem algebraic_12 : Cert.algebraic_Kernel12Ideal_Reference12Ideal := by
  intro m g m' g' _ hag
  refine ⟨fun c => DmemN.arr (m ((c.tc : Thread _ _).loc Cert.Kernel12Ideal.main_arg0)) (m ((c.tc : Thread _ _).loc Cert.Kernel12Ideal.main_arg1)), ?_, ?_⟩
  · exact (θ_run _ _ _).mono (fun r h c => ⟨(h c).1.trans (DmemN.final m c), (h c).2⟩) (Cert.Kernel12Ideal.Value.run_blocks (F := Ideal) m g)
  · refine (θ_run _ _ _).mono (fun r h c => ?_) (Cert.Reference12Ideal.Value.run (F := Ideal) m' g')
    obtain ⟨e0, e1⟩ := hag c
    refine ⟨(h c).1.trans ((Cert.Reference12Ideal.Read.val_main_v2_eq _ _).trans ((DmemN.reference_eq _ _).trans ?_)), (h c).2⟩
    rw [e0, e1]

theorem frame_reference_12 : Cert.quiescent_Reference12Ideal := fun m ρ _ =>
  (θ_run _ _ _).mono (fun r h => ⟨fun c => (h c).2, sem_eq_zero_of_no_sems (by decide) r.2⟩) (Cert.Reference12Ideal.Value.run (F := Ideal) m ρ)

theorem algebraic_13 : Cert.algebraic_Kernel13Ideal_Reference13Ideal := by
  intro m g m' g' _ hag
  refine ⟨fun c => DmemN1.arr (m ((c.tc : Thread _ _).loc Cert.Kernel13Ideal.main_arg0)) (m ((c.tc : Thread _ _).loc Cert.Kernel13Ideal.main_arg1)) (m ((c.tc : Thread _ _).loc Cert.Kernel13Ideal.main_arg2)), ?_, ?_⟩
  · exact (θ_run _ _ _).mono (fun r h c => ⟨(h c).1.trans (DmemN1.final m c), (h c).2⟩) (Cert.Kernel13Ideal.Value.run_blocks (F := Ideal) m g)
  · refine (θ_run _ _ _).mono (fun r h c => ?_) (Cert.Reference13Ideal.Value.run (F := Ideal) m' g')
    obtain ⟨e0, e1, e2⟩ := hag c
    refine ⟨(h c).1.trans ((Cert.Reference13Ideal.Read.val_main_v3_eq _ _ _).trans ((DmemN1.reference_eq _ _ _).trans ?_)), (h c).2⟩
    rw [e0, e1, e2]

theorem frame_reference_13 : Cert.quiescent_Reference13Ideal := fun m ρ _ =>
  (θ_run _ _ _).mono (fun r h => ⟨fun c => (h c).2, sem_eq_zero_of_no_sems (by decide) r.2⟩) (Cert.Reference13Ideal.Value.run (F := Ideal) m ρ)

theorem algebraic_14 : Cert.algebraic_Kernel14Ideal_Reference14Ideal := by
  intro m g m' g' _ hag
  refine ⟨fun c => AdamSb.gradArr (m ((c.tc : Thread _ _).loc Cert.Kernel14Ideal.main_arg0)),
    fun c => AdamSb.deltaArr (m ((c.tc : Thread _ _).loc Cert.Kernel14Ideal.main_arg0)) (m ((c.tc : Thread _ _).loc Cert.Kernel14Ideal.main_arg1)) (m ((c.tc : Thread _ _).loc Cert.Kernel14Ideal.main_arg2)) (m ((c.tc : Thread _ _).loc Cert.Kernel14Ideal.main_arg3)),
    fun c => AdamSb.mArr (m ((c.tc : Thread _ _).loc Cert.Kernel14Ideal.main_arg0)) (m ((c.tc : Thread _ _).loc Cert.Kernel14Ideal.main_arg2)),
    fun c => AdamSb.vArr (m ((c.tc : Thread _ _).loc Cert.Kernel14Ideal.main_arg0)) (m ((c.tc : Thread _ _).loc Cert.Kernel14Ideal.main_arg3)), ?_, ?_⟩
  · exact (θ_run _ _ _).mono (fun r h c => ⟨(h c).1.trans (AdamSb.final_4 m c), (h c).2.1.trans (AdamSb.final_5 m c), (h c).2.2.1.trans (AdamSb.final_6 m c), (h c).2.2.2.1.trans (AdamSb.final_7 m c), (h c).2.2.2.2⟩) (Cert.Kernel14Ideal.Value.run_blocks (F := Ideal) m g)
  · refine (θ_run _ _ _).mono (fun r h c => ?_) (Cert.Reference14Ideal.Value.run (F := Ideal) m' g')
    obtain ⟨e0, e1, e2, e3⟩ := hag c
    refine ⟨(h c).1.trans ((Cert.Reference14Ideal.Read.val_main_v1_eq _).trans ((AdamSb.ref_0 (m' ((c.tc : Thread _ _).loc Cert.Reference14Ideal.main_arg0)) (m' ((c.tc : Thread _ _).loc Cert.Reference14Ideal.main_arg1)) (m' ((c.tc : Thread _ _).loc Cert.Reference14Ideal.main_arg2)) (m' ((c.tc : Thread _ _).loc Cert.Reference14Ideal.main_arg3))).trans ?_)),
      (h c).2.1.trans ((Cert.Reference14Ideal.Read.val_main_v25_eq _ _ _ _).trans ((AdamSb.ref_1 (m' ((c.tc : Thread _ _).loc Cert.Reference14Ideal.main_arg0)) (m' ((c.tc : Thread _ _).loc Cert.Reference14Ideal.main_arg1)) (m' ((c.tc : Thread _ _).loc Cert.Reference14Ideal.main_arg2)) (m' ((c.tc : Thread _ _).loc Cert.Reference14Ideal.main_arg3))).trans ?_)),
      (h c).2.2.1.trans ((Cert.Reference14Ideal.Read.val_main_v6_eq _ _).trans ((AdamSb.ref_2 (m' ((c.tc : Thread _ _).loc Cert.Reference14Ideal.main_arg0)) (m' ((c.tc : Thread _ _).loc Cert.Reference14Ideal.main_arg1)) (m' ((c.tc : Thread _ _).loc Cert.Reference14Ideal.main_arg2)) (m' ((c.tc : Thread _ _).loc Cert.Reference14Ideal.main_arg3))).trans ?_)),
      (h c).2.2.2.1.trans ((Cert.Reference14Ideal.Read.val_main_v12_eq _ _).trans ((AdamSb.ref_3 (m' ((c.tc : Thread _ _).loc Cert.Reference14Ideal.main_arg0)) (m' ((c.tc : Thread _ _).loc Cert.Reference14Ideal.main_arg1)) (m' ((c.tc : Thread _ _).loc Cert.Reference14Ideal.main_arg2)) (m' ((c.tc : Thread _ _).loc Cert.Reference14Ideal.main_arg3))).trans ?_)), (h c).2.2.2.2⟩
    · rw [e0]
    · rw [e0, e1, e2, e3]
    · rw [e0, e2]
    · rw [e0, e3]

theorem frame_reference_14 : Cert.quiescent_Reference14Ideal := fun m ρ _ =>
  (θ_run _ _ _).mono (fun r h => ⟨fun c => (h c).2.2.2.2, sem_eq_zero_of_no_sems (by decide) r.2⟩) (Cert.Reference14Ideal.Value.run (F := Ideal) m ρ)

theorem algebraic_15 : Cert.algebraic_Kernel15Ideal_Reference15Ideal := by
  intro m g m' g' _ hag
  refine ⟨fun c => AdamOut.gradArr (m ((c.tc : Thread _ _).loc Cert.Kernel15Ideal.main_arg0)),
    fun c => AdamOut.deltaArr (m ((c.tc : Thread _ _).loc Cert.Kernel15Ideal.main_arg0)) (m ((c.tc : Thread _ _).loc Cert.Kernel15Ideal.main_arg1)) (m ((c.tc : Thread _ _).loc Cert.Kernel15Ideal.main_arg2)) (m ((c.tc : Thread _ _).loc Cert.Kernel15Ideal.main_arg3)),
    fun c => AdamOut.mArr (m ((c.tc : Thread _ _).loc Cert.Kernel15Ideal.main_arg0)) (m ((c.tc : Thread _ _).loc Cert.Kernel15Ideal.main_arg2)),
    fun c => AdamOut.vArr (m ((c.tc : Thread _ _).loc Cert.Kernel15Ideal.main_arg0)) (m ((c.tc : Thread _ _).loc Cert.Kernel15Ideal.main_arg3)), ?_, ?_⟩
  · exact (θ_run _ _ _).mono (fun r h c => ⟨(h c).1.trans (AdamOut.final_4 m c), (h c).2.1.trans (AdamOut.final_5 m c), (h c).2.2.1.trans (AdamOut.final_6 m c), (h c).2.2.2.1.trans (AdamOut.final_7 m c), (h c).2.2.2.2⟩) (Cert.Kernel15Ideal.Value.run_blocks (F := Ideal) m g)
  · refine (θ_run _ _ _).mono (fun r h c => ?_) (Cert.Reference15Ideal.Value.run (F := Ideal) m' g')
    obtain ⟨e0, e1, e2, e3⟩ := hag c
    refine ⟨(h c).1.trans ((Cert.Reference15Ideal.Read.val_main_v1_eq _).trans ((AdamOut.ref_0 (m' ((c.tc : Thread _ _).loc Cert.Reference15Ideal.main_arg0)) (m' ((c.tc : Thread _ _).loc Cert.Reference15Ideal.main_arg1)) (m' ((c.tc : Thread _ _).loc Cert.Reference15Ideal.main_arg2)) (m' ((c.tc : Thread _ _).loc Cert.Reference15Ideal.main_arg3))).trans ?_)),
      (h c).2.1.trans ((Cert.Reference15Ideal.Read.val_main_v25_eq _ _ _ _).trans ((AdamOut.ref_1 (m' ((c.tc : Thread _ _).loc Cert.Reference15Ideal.main_arg0)) (m' ((c.tc : Thread _ _).loc Cert.Reference15Ideal.main_arg1)) (m' ((c.tc : Thread _ _).loc Cert.Reference15Ideal.main_arg2)) (m' ((c.tc : Thread _ _).loc Cert.Reference15Ideal.main_arg3))).trans ?_)),
      (h c).2.2.1.trans ((Cert.Reference15Ideal.Read.val_main_v6_eq _ _).trans ((AdamOut.ref_2 (m' ((c.tc : Thread _ _).loc Cert.Reference15Ideal.main_arg0)) (m' ((c.tc : Thread _ _).loc Cert.Reference15Ideal.main_arg1)) (m' ((c.tc : Thread _ _).loc Cert.Reference15Ideal.main_arg2)) (m' ((c.tc : Thread _ _).loc Cert.Reference15Ideal.main_arg3))).trans ?_)),
      (h c).2.2.2.1.trans ((Cert.Reference15Ideal.Read.val_main_v12_eq _ _).trans ((AdamOut.ref_3 (m' ((c.tc : Thread _ _).loc Cert.Reference15Ideal.main_arg0)) (m' ((c.tc : Thread _ _).loc Cert.Reference15Ideal.main_arg1)) (m' ((c.tc : Thread _ _).loc Cert.Reference15Ideal.main_arg2)) (m' ((c.tc : Thread _ _).loc Cert.Reference15Ideal.main_arg3))).trans ?_)), (h c).2.2.2.2⟩
    · rw [e0]
    · rw [e0, e1, e2, e3]
    · rw [e0, e2]
    · rw [e0, e3]

theorem frame_reference_15 : Cert.quiescent_Reference15Ideal := fun m ρ _ =>
  (θ_run _ _ _).mono (fun r h => ⟨fun c => (h c).2.2.2.2, sem_eq_zero_of_no_sems (by decide) r.2⟩) (Cert.Reference15Ideal.Value.run (F := Ideal) m ρ)

theorem algebraic_16 : Cert.algebraic_Kernel16Ideal_Reference16Ideal := by
  intro m g m' g' _ hag
  refine ⟨fun c => AdamKv.gradArr (m ((c.tc : Thread _ _).loc Cert.Kernel16Ideal.main_arg0)),
    fun c => AdamKv.deltaArr (m ((c.tc : Thread _ _).loc Cert.Kernel16Ideal.main_arg0)) (m ((c.tc : Thread _ _).loc Cert.Kernel16Ideal.main_arg1)) (m ((c.tc : Thread _ _).loc Cert.Kernel16Ideal.main_arg2)) (m ((c.tc : Thread _ _).loc Cert.Kernel16Ideal.main_arg3)),
    fun c => AdamKv.mArr (m ((c.tc : Thread _ _).loc Cert.Kernel16Ideal.main_arg0)) (m ((c.tc : Thread _ _).loc Cert.Kernel16Ideal.main_arg2)),
    fun c => AdamKv.vArr (m ((c.tc : Thread _ _).loc Cert.Kernel16Ideal.main_arg0)) (m ((c.tc : Thread _ _).loc Cert.Kernel16Ideal.main_arg3)), ?_, ?_⟩
  · exact (θ_run _ _ _).mono (fun r h c => ⟨(h c).1.trans (AdamKv.final_4 m c), (h c).2.1.trans (AdamKv.final_5 m c), (h c).2.2.1.trans (AdamKv.final_6 m c), (h c).2.2.2.1.trans (AdamKv.final_7 m c), (h c).2.2.2.2⟩) (Cert.Kernel16Ideal.Value.run_blocks (F := Ideal) m g)
  · refine (θ_run _ _ _).mono (fun r h c => ?_) (Cert.Reference16Ideal.Value.run (F := Ideal) m' g')
    obtain ⟨e0, e1, e2, e3⟩ := hag c
    refine ⟨(h c).1.trans ((Cert.Reference16Ideal.Read.val_main_v1_eq _).trans ((AdamKv.ref_0 (m' ((c.tc : Thread _ _).loc Cert.Reference16Ideal.main_arg0)) (m' ((c.tc : Thread _ _).loc Cert.Reference16Ideal.main_arg1)) (m' ((c.tc : Thread _ _).loc Cert.Reference16Ideal.main_arg2)) (m' ((c.tc : Thread _ _).loc Cert.Reference16Ideal.main_arg3))).trans ?_)),
      (h c).2.1.trans ((Cert.Reference16Ideal.Read.val_main_v25_eq _ _ _ _).trans ((AdamKv.ref_1 (m' ((c.tc : Thread _ _).loc Cert.Reference16Ideal.main_arg0)) (m' ((c.tc : Thread _ _).loc Cert.Reference16Ideal.main_arg1)) (m' ((c.tc : Thread _ _).loc Cert.Reference16Ideal.main_arg2)) (m' ((c.tc : Thread _ _).loc Cert.Reference16Ideal.main_arg3))).trans ?_)),
      (h c).2.2.1.trans ((Cert.Reference16Ideal.Read.val_main_v6_eq _ _).trans ((AdamKv.ref_2 (m' ((c.tc : Thread _ _).loc Cert.Reference16Ideal.main_arg0)) (m' ((c.tc : Thread _ _).loc Cert.Reference16Ideal.main_arg1)) (m' ((c.tc : Thread _ _).loc Cert.Reference16Ideal.main_arg2)) (m' ((c.tc : Thread _ _).loc Cert.Reference16Ideal.main_arg3))).trans ?_)),
      (h c).2.2.2.1.trans ((Cert.Reference16Ideal.Read.val_main_v12_eq _ _).trans ((AdamKv.ref_3 (m' ((c.tc : Thread _ _).loc Cert.Reference16Ideal.main_arg0)) (m' ((c.tc : Thread _ _).loc Cert.Reference16Ideal.main_arg1)) (m' ((c.tc : Thread _ _).loc Cert.Reference16Ideal.main_arg2)) (m' ((c.tc : Thread _ _).loc Cert.Reference16Ideal.main_arg3))).trans ?_)), (h c).2.2.2.2⟩
    · rw [e0]
    · rw [e0, e1, e2, e3]
    · rw [e0, e2]
    · rw [e0, e3]

theorem frame_reference_16 : Cert.quiescent_Reference16Ideal := fun m ρ _ =>
  (θ_run _ _ _).mono (fun r h => ⟨fun c => (h c).2.2.2.2, sem_eq_zero_of_no_sems (by decide) r.2⟩) (Cert.Reference16Ideal.Value.run (F := Ideal) m ρ)

theorem algebraic_17 : Cert.algebraic_Kernel17Ideal_Reference17Ideal := by
  intro m g m' g' _ hag
  refine ⟨fun c => AdamDn.gradArr (m ((c.tc : Thread _ _).loc Cert.Kernel17Ideal.main_arg0)),
    fun c => AdamDn.deltaArr (m ((c.tc : Thread _ _).loc Cert.Kernel17Ideal.main_arg0)) (m ((c.tc : Thread _ _).loc Cert.Kernel17Ideal.main_arg1)) (m ((c.tc : Thread _ _).loc Cert.Kernel17Ideal.main_arg2)) (m ((c.tc : Thread _ _).loc Cert.Kernel17Ideal.main_arg3)),
    fun c => AdamDn.mArr (m ((c.tc : Thread _ _).loc Cert.Kernel17Ideal.main_arg0)) (m ((c.tc : Thread _ _).loc Cert.Kernel17Ideal.main_arg2)),
    fun c => AdamDn.vArr (m ((c.tc : Thread _ _).loc Cert.Kernel17Ideal.main_arg0)) (m ((c.tc : Thread _ _).loc Cert.Kernel17Ideal.main_arg3)), ?_, ?_⟩
  · exact (θ_run _ _ _).mono (fun r h c => ⟨(h c).1.trans (AdamDn.final_4 m c), (h c).2.1.trans (AdamDn.final_5 m c), (h c).2.2.1.trans (AdamDn.final_6 m c), (h c).2.2.2.1.trans (AdamDn.final_7 m c), (h c).2.2.2.2⟩) (Cert.Kernel17Ideal.Value.run_blocks (F := Ideal) m g)
  · refine (θ_run _ _ _).mono (fun r h c => ?_) (Cert.Reference17Ideal.Value.run (F := Ideal) m' g')
    obtain ⟨e0, e1, e2, e3⟩ := hag c
    refine ⟨(h c).1.trans ((Cert.Reference17Ideal.Read.val_main_v28_eq _).trans ((AdamDn.ref_0 (m' ((c.tc : Thread _ _).loc Cert.Reference17Ideal.main_arg0)) (m' ((c.tc : Thread _ _).loc Cert.Reference17Ideal.main_arg1)) (m' ((c.tc : Thread _ _).loc Cert.Reference17Ideal.main_arg2)) (m' ((c.tc : Thread _ _).loc Cert.Reference17Ideal.main_arg3))).trans ?_)),
      (h c).2.1.trans ((Cert.Reference17Ideal.Read.val_main_v30_eq _ _ _ _).trans ((AdamDn.ref_1 (m' ((c.tc : Thread _ _).loc Cert.Reference17Ideal.main_arg0)) (m' ((c.tc : Thread _ _).loc Cert.Reference17Ideal.main_arg1)) (m' ((c.tc : Thread _ _).loc Cert.Reference17Ideal.main_arg2)) (m' ((c.tc : Thread _ _).loc Cert.Reference17Ideal.main_arg3))).trans ?_)),
      (h c).2.2.1.trans ((Cert.Reference17Ideal.Read.val_main_v32_eq _ _).trans ((AdamDn.ref_2 (m' ((c.tc : Thread _ _).loc Cert.Reference17Ideal.main_arg0)) (m' ((c.tc : Thread _ _).loc Cert.Reference17Ideal.main_arg1)) (m' ((c.tc : Thread _ _).loc Cert.Reference17Ideal.main_arg2)) (m' ((c.tc : Thread _ _).loc Cert.Reference17Ideal.main_arg3))).trans ?_)),
      (h c).2.2.2.1.trans ((Cert.Reference17Ideal.Read.val_main_v34_eq _ _).trans ((AdamDn.ref_3 (m' ((c.tc : Thread _ _).loc Cert.Reference17Ideal.main_arg0)) (m' ((c.tc : Thread _ _).loc Cert.Reference17Ideal.main_arg1)) (m' ((c.tc : Thread _ _).loc Cert.Reference17Ideal.main_arg2)) (m' ((c.tc : Thread _ _).loc Cert.Reference17Ideal.main_arg3))).trans ?_)), (h c).2.2.2.2⟩
    · rw [e0]
    · rw [e0, e1, e2, e3]
    · rw [e0, e2]
    · rw [e0, e3]

theorem frame_reference_17 : Cert.quiescent_Reference17Ideal := fun m ρ _ =>
  (θ_run _ _ _).mono (fun r h => ⟨fun c => (h c).2.2.2.2, sem_eq_zero_of_no_sems (by decide) r.2⟩) (Cert.Reference17Ideal.Value.run (F := Ideal) m ρ)

theorem algebraic_18 : Cert.algebraic_Kernel18Ideal_Reference18Ideal := by
  intro m g m' g' _ hag
  refine ⟨fun c => AdamSmall.deltaArr (m ((c.tc : Thread _ _).loc Cert.Kernel18Ideal.main_arg0)) (m ((c.tc : Thread _ _).loc Cert.Kernel18Ideal.main_arg1)) (m ((c.tc : Thread _ _).loc Cert.Kernel18Ideal.main_arg2)) (m ((c.tc : Thread _ _).loc Cert.Kernel18Ideal.main_arg3)),
    fun c => AdamSmall.mArr (m ((c.tc : Thread _ _).loc Cert.Kernel18Ideal.main_arg0)) (m ((c.tc : Thread _ _).loc Cert.Kernel18Ideal.main_arg2)),
    fun c => AdamSmall.vArr (m ((c.tc : Thread _ _).loc Cert.Kernel18Ideal.main_arg0)) (m ((c.tc : Thread _ _).loc Cert.Kernel18Ideal.main_arg3)), ?_, ?_⟩
  · exact (θ_run _ _ _).mono (fun r h c => ⟨(h c).1.trans (AdamSmall.final_4 m c), (h c).2.1.trans (AdamSmall.final_5 m c), (h c).2.2.1.trans (AdamSmall.final_6 m c), (h c).2.2.2⟩) (Cert.Kernel18Ideal.Value.run_blocks (F := Ideal) m g)
  · refine (θ_run _ _ _).mono (fun r h c => ?_) (Cert.Reference18Ideal.Value.run (F := Ideal) m' g')
    obtain ⟨e0, e1, e2, e3⟩ := hag c
    refine ⟨(h c).1.trans ((Cert.Reference18Ideal.Read.val_main_v23_eq _ _ _ _).trans ((AdamSmall.ref_0 (m' ((c.tc : Thread _ _).loc Cert.Reference18Ideal.main_arg0)) (m' ((c.tc : Thread _ _).loc Cert.Reference18Ideal.main_arg1)) (m' ((c.tc : Thread _ _).loc Cert.Reference18Ideal.main_arg2)) (m' ((c.tc : Thread _ _).loc Cert.Reference18Ideal.main_arg3))).trans ?_)),
      (h c).2.1.trans ((Cert.Reference18Ideal.Read.val_main_v4_eq _ _).trans ((AdamSmall.ref_1 (m' ((c.tc : Thread _ _).loc Cert.Reference18Ideal.main_arg0)) (m' ((c.tc : Thread _ _).loc Cert.Reference18Ideal.main_arg1)) (m' ((c.tc : Thread _ _).loc Cert.Reference18Ideal.main_arg2)) (m' ((c.tc : Thread _ _).loc Cert.Reference18Ideal.main_arg3))).trans ?_)),
      (h c).2.2.1.trans ((Cert.Reference18Ideal.Read.val_main_v10_eq _ _).trans ((AdamSmall.ref_2 (m' ((c.tc : Thread _ _).loc Cert.Reference18Ideal.main_arg0)) (m' ((c.tc : Thread _ _).loc Cert.Reference18Ideal.main_arg1)) (m' ((c.tc : Thread _ _).loc Cert.Reference18Ideal.main_arg2)) (m' ((c.tc : Thread _ _).loc Cert.Reference18Ideal.main_arg3))).trans ?_)), (h c).2.2.2⟩
    · rw [e0, e1, e2, e3]
    · rw [e0, e2]
    · rw [e0, e3]

theorem frame_reference_18 : Cert.quiescent_Reference18Ideal := fun m ρ _ =>
  (θ_run _ _ _).mono (fun r h => ⟨fun c => (h c).2.2.2, sem_eq_zero_of_no_sems (by decide) r.2⟩) (Cert.Reference18Ideal.Value.run (F := Ideal) m ρ)

theorem algebraic_19 : Cert.algebraic_Kernel19Ideal_Reference19Ideal := by
  intro m g m' g' _ hag
  refine ⟨fun c => Loss.lossArr (m ((c.tc : Thread _ _).loc Cert.Kernel19Ideal.main_arg0)) (m ((c.tc : Thread _ _).loc Cert.Kernel19Ideal.main_arg1)),
    fun c => Loss.dxArr (m ((c.tc : Thread _ _).loc Cert.Kernel19Ideal.main_arg0)) (m ((c.tc : Thread _ _).loc Cert.Kernel19Ideal.main_arg1)), ?_, ?_⟩
  · exact (θ_run _ _ _).mono (fun r h c => ⟨(h c).1.trans (Loss.final_2 m c), (h c).2.1.trans (Loss.final_3 m c), (h c).2.2⟩) (Cert.Kernel19Ideal.Value.run_blocks (F := Ideal) m g)
  · refine (θ_run _ _ _).mono (fun r h c => ?_) (Cert.Reference19Ideal.Value.run (F := Ideal) m' g')
    obtain ⟨e0, e1⟩ := hag c
    refine ⟨(h c).1.trans ((Cert.Reference19Ideal.Read.val_main_v19_eq _ _).trans ((Loss.ref_loss _ _).trans ?_)),
      (h c).2.1.trans ((Cert.Reference19Ideal.Read.val_main_v14_eq _ _).trans ((Loss.ref_dx _ _).trans ?_)), (h c).2.2⟩
    · rw [e0, e1]
    · rw [e0, e1]

theorem frame_reference_19 : Cert.quiescent_Reference19Ideal := fun m ρ _ =>
  (θ_run _ _ _).mono (fun r h => ⟨fun c => (h c).2.2, sem_eq_zero_of_no_sems (by decide) r.2⟩) (Cert.Reference19Ideal.Value.run (F := Ideal) m ρ)

theorem algebraic_22 : Cert.algebraic_Kernel22Ideal_Reference22Ideal := by
  intro m g m' g' _ hag
  refine ⟨fun c => RmsFwd.arr (m ((c.tc : Thread _ _).loc Cert.Kernel22Ideal.main_arg0)) (m ((c.tc : Thread _ _).loc Cert.Kernel22Ideal.main_arg1)),
    fun c => RmsFwd.arrT (m ((c.tc : Thread _ _).loc Cert.Kernel22Ideal.main_arg0)) (m ((c.tc : Thread _ _).loc Cert.Kernel22Ideal.main_arg1)), ?_, ?_⟩
  · exact (θ_run _ _ _).mono (fun r h c => ⟨(h c).1.trans (RmsFwd.final_2 m c), (h c).2.1.trans (RmsFwd.final_3 m c), (h c).2.2⟩) (Cert.Kernel22Ideal.Value.run_blocks (F := Ideal) m g)
  · refine (θ_run _ _ _).mono (fun r h c => ?_) (Cert.Reference22Ideal.Value.run (F := Ideal) m' g')
    obtain ⟨e0, e1⟩ := hag c
    refine ⟨(h c).1.trans ((Cert.Reference22Ideal.Read.val_main_v13_eq _ _).trans ((RmsFwd.ref_0 _ _).trans ?_)),
      (h c).2.1.trans ((Cert.Reference22Ideal.Read.val_main_v14_eq _ _).trans ((RmsFwd.ref_1 _ _).trans ?_)), (h c).2.2⟩
    · rw [e0, e1]
    · rw [e0, e1]

theorem frame_reference_22 : Cert.quiescent_Reference22Ideal := fun m ρ _ =>
  (θ_run _ _ _).mono (fun r h => ⟨fun c => (h c).2.2, sem_eq_zero_of_no_sems (by decide) r.2⟩) (Cert.Reference22Ideal.Value.run (F := Ideal) m ρ)

theorem algebraic_23 : Cert.algebraic_Kernel23Ideal_Reference23Ideal := by
  intro m g m' g' _ hag
  refine ⟨fun c => GateFwd.arr (m ((c.tc : Thread _ _).loc Cert.Kernel23Ideal.main_arg0)) (m ((c.tc : Thread _ _).loc Cert.Kernel23Ideal.main_arg1)), ?_, ?_⟩
  · exact (θ_run _ _ _).mono (fun r h c => ⟨(h c).1.trans (GateFwd.final m c), (h c).2⟩) (Cert.Kernel23Ideal.Value.run_blocks (F := Ideal) m g)
  · refine (θ_run _ _ _).mono (fun r h c => ?_) (Cert.Reference23Ideal.Value.run (F := Ideal) m' g')
    obtain ⟨e0, e1⟩ := hag c
    refine ⟨(h c).1.trans ((Cert.Reference23Ideal.Read.val_main_v3_eq _ _).trans ((GateFwd.reference_eq _ _).trans ?_)), (h c).2⟩
    rw [e0, e1]

theorem frame_reference_23 : Cert.quiescent_Reference23Ideal := fun m ρ _ =>
  (θ_run _ _ _).mono (fun r h => ⟨fun c => (h c).2, sem_eq_zero_of_no_sems (by decide) r.2⟩) (Cert.Reference23Ideal.Value.run (F := Ideal) m ρ)

theorem algebraic_25 : Cert.algebraic_Kernel25Ideal_Reference25Ideal := by
  intro m g m' g' _ hag
  refine ⟨fun c => MemNorm.arr (m ((c.tc : Thread _ _).loc Cert.Kernel25Ideal.main_arg0)) (m ((c.tc : Thread _ _).loc Cert.Kernel25Ideal.main_arg1)), ?_, ?_⟩
  · exact (θ_run _ _ _).mono (fun r h c => ⟨(h c).1.trans (MemNorm.final m c), (h c).2⟩) (Cert.Kernel25Ideal.Value.run_blocks (F := Ideal) m g)
  · refine (θ_run _ _ _).mono (fun r h c => ?_) (Cert.Reference25Ideal.Value.run (F := Ideal) m' g')
    obtain ⟨e0, e1⟩ := hag c
    refine ⟨(h c).1.trans ((Cert.Reference25Ideal.Read.val_main_v13_eq _ _).trans ((MemNorm.reference_eq _ _).trans ?_)), (h c).2⟩
    rw [e0, e1]

theorem frame_reference_25 : Cert.quiescent_Reference25Ideal := fun m ρ _ =>
  (θ_run _ _ _).mono (fun r h => ⟨fun c => (h c).2, sem_eq_zero_of_no_sems (by decide) r.2⟩) (Cert.Reference25Ideal.Value.run (F := Ideal) m ρ)

theorem algebraic_26 : Cert.algebraic_Kernel26Ideal_Reference26Ideal := by
  intro m g m' g' _ hag
  refine ⟨fun c => GateFwdDn.arr (m ((c.tc : Thread _ _).loc Cert.Kernel26Ideal.main_arg0)) (m ((c.tc : Thread _ _).loc Cert.Kernel26Ideal.main_arg1)), ?_, ?_⟩
  · exact (θ_run _ _ _).mono (fun r h c => ⟨(h c).1.trans (GateFwdDn.final m c), (h c).2⟩) (Cert.Kernel26Ideal.Value.run_blocks (F := Ideal) m g)
  · refine (θ_run _ _ _).mono (fun r h c => ?_) (Cert.Reference26Ideal.Value.run (F := Ideal) m' g')
    obtain ⟨e0, e1⟩ := hag c
    refine ⟨(h c).1.trans ((Cert.Reference26Ideal.Read.val_main_v3_eq _ _).trans ((GateFwdDn.reference_eq _ _).trans ?_)), (h c).2⟩
    rw [e0, e1]

theorem frame_reference_26 : Cert.quiescent_Reference26Ideal := fun m ρ _ =>
  (θ_run _ _ _).mono (fun r h => ⟨fun c => (h c).2, sem_eq_zero_of_no_sems (by decide) r.2⟩) (Cert.Reference26Ideal.Value.run (F := Ideal) m ρ)

theorem algebraic_27 : Cert.algebraic_Kernel27Ideal_Reference27Ideal := by
  intro m g m' g' _ hag
  refine ⟨fun c => MemNormBwd.dxArr (m ((c.tc : Thread _ _).loc Cert.Kernel27Ideal.main_arg0)) (m ((c.tc : Thread _ _).loc Cert.Kernel27Ideal.main_arg1)) (m ((c.tc : Thread _ _).loc Cert.Kernel27Ideal.main_arg2)),
    fun c => MemNormBwd.dgArr (m ((c.tc : Thread _ _).loc Cert.Kernel27Ideal.main_arg0)) (m ((c.tc : Thread _ _).loc Cert.Kernel27Ideal.main_arg1)), ?_, ?_⟩
  · exact (θ_run _ _ _).mono (fun r h c => ⟨(h c).1.trans (MemNormBwd.final_3 m c), (h c).2.1.trans (MemNormBwd.final_4 m c), (h c).2.2⟩) (Cert.Kernel27Ideal.Value.run_blocks (F := Ideal) m g)
  · refine (θ_run _ _ _).mono (fun r h c => ?_) (Cert.Reference27Ideal.Value.run (F := Ideal) m' g')
    obtain ⟨e0, e1, e2⟩ := hag c
    refine ⟨(h c).1.trans ((Cert.Reference27Ideal.Read.val_main_v35_eq _ _ _).trans ((MemNormBwd.ref_dx _ _ _).trans ?_)),
      (h c).2.1.trans ((Cert.Reference27Ideal.Read.val_main_v38_eq _ _).trans ((MemNormBwd.ref_dg _ _).trans ?_)), (h c).2.2⟩
    · rw [e0, e1, e2]
    · rw [e0, e1]

theorem frame_reference_27 : Cert.quiescent_Reference27Ideal := fun m ρ _ =>
  (θ_run _ _ _).mono (fun r h => ⟨fun c => (h c).2.2, sem_eq_zero_of_no_sems (by decide) r.2⟩) (Cert.Reference27Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  SB.pre_facts,
  SB.frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference_2,
  fun m ρ _ => Cert.Kernel3.Gen.frame m ρ, fun m ρ _ => Cert.Kernel3Ideal.Gen.frame m ρ, frame_reference_3,
  fun m ρ _ => Cert.Kernel4.Gen.frame m ρ, fun m ρ _ => Cert.Kernel4Ideal.Gen.frame m ρ, frame_reference_4,
  fun m ρ _ => Cert.Kernel5.Gen.frame m ρ, fun m ρ _ => Cert.Kernel5Ideal.Gen.frame m ρ, frame_reference_5,
  fun m ρ _ => Cert.Kernel6.Gen.frame m ρ, fun m ρ _ => Cert.Kernel6Ideal.Gen.frame m ρ, frame_reference_6,
  fun m ρ _ => Cert.Kernel7.Gen.frame m ρ, fun m ρ _ => Cert.Kernel7Ideal.Gen.frame m ρ, frame_reference_7,
  fun m ρ _ => Cert.Kernel8.Gen.frame m ρ, fun m ρ _ => Cert.Kernel8Ideal.Gen.frame m ρ, frame_reference_8,
  fun m ρ _ => Cert.Kernel9.Gen.frame m ρ, fun m ρ _ => Cert.Kernel9Ideal.Gen.frame m ρ, frame_reference_9,
  fun m ρ _ => Cert.Kernel10.Gen.frame m ρ, fun m ρ _ => Cert.Kernel10Ideal.Gen.frame m ρ, frame_reference_10,
  fun m ρ _ => Cert.Kernel11.Gen.frame m ρ, fun m ρ _ => Cert.Kernel11Ideal.Gen.frame m ρ, frame_reference_11,
  fun m ρ _ => Cert.Kernel12.Gen.frame m ρ, fun m ρ _ => Cert.Kernel12Ideal.Gen.frame m ρ, frame_reference_12,
  fun m ρ _ => Cert.Kernel13.Gen.frame m ρ, fun m ρ _ => Cert.Kernel13Ideal.Gen.frame m ρ, frame_reference_13,
  fun m ρ _ => Cert.Kernel14.Gen.frame m ρ, fun m ρ _ => Cert.Kernel14Ideal.Gen.frame m ρ, frame_reference_14,
  fun m ρ _ => Cert.Kernel15.Gen.frame m ρ, fun m ρ _ => Cert.Kernel15Ideal.Gen.frame m ρ, frame_reference_15,
  fun m ρ _ => Cert.Kernel16.Gen.frame m ρ, fun m ρ _ => Cert.Kernel16Ideal.Gen.frame m ρ, frame_reference_16,
  fun m ρ _ => Cert.Kernel17.Gen.frame m ρ, fun m ρ _ => Cert.Kernel17Ideal.Gen.frame m ρ, frame_reference_17,
  fun m ρ _ => Cert.Kernel18.Gen.frame m ρ, fun m ρ _ => Cert.Kernel18Ideal.Gen.frame m ρ, frame_reference_18,
  fun m ρ _ => Cert.Kernel19.Gen.frame m ρ, fun m ρ _ => Cert.Kernel19Ideal.Gen.frame m ρ, frame_reference_19,
  fun m ρ _ => Cert.Kernel22.Gen.frame m ρ, fun m ρ _ => Cert.Kernel22Ideal.Gen.frame m ρ, frame_reference_22,
  fun m ρ _ => Cert.Kernel23.Gen.frame m ρ, fun m ρ _ => Cert.Kernel23Ideal.Gen.frame m ρ, frame_reference_23,
  fun m ρ _ => Cert.Kernel25.Gen.frame m ρ, fun m ρ _ => Cert.Kernel25Ideal.Gen.frame m ρ, frame_reference_25,
  fun m ρ _ => Cert.Kernel26.Gen.frame m ρ, fun m ρ _ => Cert.Kernel26Ideal.Gen.frame m ρ, frame_reference_26,
  fun m ρ _ => Cert.Kernel27.Gen.frame m ρ, fun m ρ _ => Cert.Kernel27Ideal.Gen.frame m ρ, frame_reference_27,
  trivial, algebraic,
  trivial, algebraic_2,
  trivial, algebraic_3,
  trivial, algebraic_4,
  trivial, algebraic_5,
  trivial, algebraic_6,
  trivial, algebraic_7,
  trivial, algebraic_8,
  trivial, algebraic_9,
  trivial, algebraic_10,
  trivial, algebraic_11,
  trivial, algebraic_12,
  trivial, algebraic_13,
  trivial, algebraic_14,
  trivial, algebraic_15,
  trivial, algebraic_16,
  trivial, algebraic_17,
  trivial, algebraic_18,
  trivial, algebraic_19,
  trivial, algebraic_22,
  trivial, algebraic_23,
  trivial, algebraic_25,
  trivial, algebraic_26,
  trivial, algebraic_27⟩

end Cert.Proof

end
